-- ==== Defs.lean ====
def Pre_KernelFin (m : (ℓ : Loc Cert.KernelFin.nD Cert.KernelFin.τ Cert.KernelFin.sig) → Buf (Elt Bits) ℓ) : Prop :=
  True

def Pre_KernelFinIdeal (m : (ℓ : Loc Cert.KernelFinIdeal.nD Cert.KernelFinIdeal.τ Cert.KernelFinIdeal.sig) → Buf (Elt Ideal) ℓ) : Prop :=
  True

def Pre_ReferenceFinIdeal (m : (ℓ : Loc Cert.ReferenceFinIdeal.nD Cert.ReferenceFinIdeal.τ Cert.ReferenceFinIdeal.sig) → Buf (Elt Ideal) ℓ) : Prop :=
  True

def Pre_KernelOpa (m : (ℓ : Loc Cert.KernelOpa.nD Cert.KernelOpa.τ Cert.KernelOpa.sig) → Buf (Elt Bits) ℓ) : Prop :=
  True

def Pre_KernelOpaIdeal (m : (ℓ : Loc Cert.KernelOpaIdeal.nD Cert.KernelOpaIdeal.τ Cert.KernelOpaIdeal.sig) → Buf (Elt Ideal) ℓ) : Prop :=
  True

def Pre_ReferenceOpaIdeal (m : (ℓ : Loc Cert.ReferenceOpaIdeal.nD Cert.ReferenceOpaIdeal.τ Cert.ReferenceOpaIdeal.sig) → Buf (Elt Ideal) ℓ) : Prop :=
  True

def Pre_KernelOpg (m : (ℓ : Loc Cert.KernelOpg.nD Cert.KernelOpg.τ Cert.KernelOpg.sig) → Buf (Elt Bits) ℓ) : Prop :=
  True

def Pre_KernelOpgIdeal (m : (ℓ : Loc Cert.KernelOpgIdeal.nD Cert.KernelOpgIdeal.τ Cert.KernelOpgIdeal.sig) → Buf (Elt Ideal) ℓ) : Prop :=
  True

def Pre_ReferenceOpgIdeal (m : (ℓ : Loc Cert.ReferenceOpgIdeal.nD Cert.ReferenceOpgIdeal.τ Cert.ReferenceOpgIdeal.sig) → Buf (Elt Ideal) ℓ) : Prop :=
  True

def Pre_KernelOpf (m : (ℓ : Loc Cert.KernelOpf.nD Cert.KernelOpf.τ Cert.KernelOpf.sig) → Buf (Elt Bits) ℓ) : Prop :=
  True

def Pre_KernelOpfIdeal (m : (ℓ : Loc Cert.KernelOpfIdeal.nD Cert.KernelOpfIdeal.τ Cert.KernelOpfIdeal.sig) → Buf (Elt Ideal) ℓ) : Prop :=
  True

def Pre_ReferenceOpfIdeal (m : (ℓ : Loc Cert.ReferenceOpfIdeal.nD Cert.ReferenceOpfIdeal.τ Cert.ReferenceOpfIdeal.sig) → Buf (Elt Ideal) ℓ) : Prop :=
  True

def Pre_KernelZ (m : (ℓ : Loc Cert.KernelZ.nD Cert.KernelZ.τ Cert.KernelZ.sig) → Buf (Elt Bits) ℓ) : Prop :=
  True

def Pre_KernelZIdeal (m : (ℓ : Loc Cert.KernelZIdeal.nD Cert.KernelZIdeal.τ Cert.KernelZIdeal.sig) → Buf (Elt Ideal) ℓ) : Prop :=
  True

def Pre_ReferenceZIdeal (m : (ℓ : Loc Cert.ReferenceZIdeal.nD Cert.ReferenceZIdeal.τ Cert.ReferenceZIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelRope (m : (ℓ : Loc Cert.KernelRope.nD Cert.KernelRope.τ Cert.KernelRope.sig) → Buf (Elt Bits) ℓ) : Prop :=
  True

def Pre_KernelRopeIdeal (m : (ℓ : Loc Cert.KernelRopeIdeal.nD Cert.KernelRopeIdeal.τ Cert.KernelRopeIdeal.sig) → Buf (Elt Ideal) ℓ) : Prop :=
  True

def Pre_ReferenceRopeIdeal (m : (ℓ : Loc Cert.ReferenceRopeIdeal.nD Cert.ReferenceRopeIdeal.τ Cert.ReferenceRopeIdeal.sig) → Buf (Elt Ideal) ℓ) : Prop :=
  True

def quiescent_KernelFin [hKernelFin : Cert.KernelFin.Facts] : Prop :=
  ∀ (m : (ℓ : Loc Cert.KernelFin.nD Cert.KernelFin.τ Cert.KernelFin.sig) → Buf (Elt Bits) ℓ) (g : Dev Cert.KernelFin.nD → PrngReg), Pre_KernelFin m →
    θ_run (Cert.KernelFin.defs (F := Bits)) (onTc (τ := Cert.KernelFin.τ) (Cert.KernelFin.main (F := Bits))) ⟨m, fun _ => 0, g⟩ (fun r => (∀ c : Dev Cert.KernelFin.nD,
      r.2.mem ((c.tc : Thread Cert.KernelFin.nD Cert.KernelFin.τ).loc Cert.KernelFin.main_arg0) = m ((c.tc : Thread Cert.KernelFin.nD Cert.KernelFin.τ).loc Cert.KernelFin.main_arg0)
      ∧ r.2.mem ((c.tc : Thread Cert.KernelFin.nD Cert.KernelFin.τ).loc Cert.KernelFin.main_arg1) = m ((c.tc : Thread Cert.KernelFin.nD Cert.KernelFin.τ).loc Cert.KernelFin.main_arg1))
      ∧ r.2.sem = fun _ => 0)

def quiescent_KernelFinIdeal [hKernelFinIdeal : Cert.KernelFinIdeal.Facts] : Prop :=
  ∀ (m : (ℓ : Loc Cert.KernelFinIdeal.nD Cert.KernelFinIdeal.τ Cert.KernelFinIdeal.sig) → Buf (Elt Ideal) ℓ) (g : Dev Cert.KernelFinIdeal.nD → PrngReg), Pre_KernelFinIdeal m →
    θ_run (Cert.KernelFinIdeal.defs (F := Ideal)) (onTc (τ := Cert.KernelFinIdeal.τ) (Cert.KernelFinIdeal.main (F := Ideal))) ⟨m, fun _ => 0, g⟩ (fun r => (∀ c : Dev Cert.KernelFinIdeal.nD,
      r.2.mem ((c.tc : Thread Cert.KernelFinIdeal.nD Cert.KernelFinIdeal.τ).loc Cert.KernelFinIdeal.main_arg0) = m ((c.tc : Thread Cert.KernelFinIdeal.nD Cert.KernelFinIdeal.τ).loc Cert.KernelFinIdeal.main_arg0)
      ∧ r.2.mem ((c.tc : Thread Cert.KernelFinIdeal.nD Cert.KernelFinIdeal.τ).loc Cert.KernelFinIdeal.main_arg1) = m ((c.tc : Thread Cert.KernelFinIdeal.nD Cert.KernelFinIdeal.τ).loc Cert.KernelFinIdeal.main_arg1))
      ∧ r.2.sem = fun _ => 0)

def quiescent_ReferenceFinIdeal [hReferenceFinIdeal : Cert.ReferenceFinIdeal.Facts] : Prop :=
  ∀ (m : (ℓ : Loc Cert.ReferenceFinIdeal.nD Cert.ReferenceFinIdeal.τ Cert.ReferenceFinIdeal.sig) → Buf (Elt Ideal) ℓ) (g : Dev Cert.ReferenceFinIdeal.nD → PrngReg), Pre_ReferenceFinIdeal m →
    θ_run (Cert.ReferenceFinIdeal.defs (F := Ideal)) (onTc (τ := Cert.ReferenceFinIdeal.τ) (Cert.ReferenceFinIdeal.main (F := Ideal))) ⟨m, fun _ => 0, g⟩ (fun r => (∀ c : Dev Cert.ReferenceFinIdeal.nD,
      r.2.mem ((c.tc : Thread Cert.ReferenceFinIdeal.nD Cert.ReferenceFinIdeal.τ).loc Cert.ReferenceFinIdeal.main_arg0) = m ((c.tc : Thread Cert.ReferenceFinIdeal.nD Cert.ReferenceFinIdeal.τ).loc Cert.ReferenceFinIdeal.main_arg0)
      ∧ r.2.mem ((c.tc : Thread Cert.ReferenceFinIdeal.nD Cert.ReferenceFinIdeal.τ).loc Cert.ReferenceFinIdeal.main_arg1) = m ((c.tc : Thread Cert.ReferenceFinIdeal.nD Cert.ReferenceFinIdeal.τ).loc Cert.ReferenceFinIdeal.main_arg1))
      ∧ r.2.sem = fun _ => 0)

def quiescent_KernelOpa [hKernelOpa : Cert.KernelOpa.Facts] : Prop :=
  ∀ (m : (ℓ : Loc Cert.KernelOpa.nD Cert.KernelOpa.τ Cert.KernelOpa.sig) → Buf (Elt Bits) ℓ) (g : Dev Cert.KernelOpa.nD → PrngReg), Pre_KernelOpa m →
    θ_run (Cert.KernelOpa.defs (F := Bits)) (onTc (τ := Cert.KernelOpa.τ) (Cert.KernelOpa.main (F := Bits))) ⟨m, fun _ => 0, g⟩ (fun r => (∀ c : Dev Cert.KernelOpa.nD,
      r.2.mem ((c.tc : Thread Cert.KernelOpa.nD Cert.KernelOpa.τ).loc Cert.KernelOpa.main_arg0) = m ((c.tc : Thread Cert.KernelOpa.nD Cert.KernelOpa.τ).loc Cert.KernelOpa.main_arg0)
      ∧ r.2.mem ((c.tc : Thread Cert.KernelOpa.nD Cert.KernelOpa.τ).loc Cert.KernelOpa.main_arg1) = m ((c.tc : Thread Cert.KernelOpa.nD Cert.KernelOpa.τ).loc Cert.KernelOpa.main_arg1)
      ∧ r.2.mem ((c.tc : Thread Cert.KernelOpa.nD Cert.KernelOpa.τ).loc Cert.KernelOpa.main_arg2) = m ((c.tc : Thread Cert.KernelOpa.nD Cert.KernelOpa.τ).loc Cert.KernelOpa.main_arg2)
      ∧ r.2.mem ((c.tc : Thread Cert.KernelOpa.nD Cert.KernelOpa.τ).loc Cert.KernelOpa.main_arg3) = m ((c.tc : Thread Cert.KernelOpa.nD Cert.KernelOpa.τ).loc Cert.KernelOpa.main_arg3))
      ∧ r.2.sem = fun _ => 0)

def quiescent_KernelOpaIdeal [hKernelOpaIdeal : Cert.KernelOpaIdeal.Facts] : Prop :=
  ∀ (m : (ℓ : Loc Cert.KernelOpaIdeal.nD Cert.KernelOpaIdeal.τ Cert.KernelOpaIdeal.sig) → Buf (Elt Ideal) ℓ) (g : Dev Cert.KernelOpaIdeal.nD → PrngReg), Pre_KernelOpaIdeal m →
    θ_run (Cert.KernelOpaIdeal.defs (F := Ideal)) (onTc (τ := Cert.KernelOpaIdeal.τ) (Cert.KernelOpaIdeal.main (F := Ideal))) ⟨m, fun _ => 0, g⟩ (fun r => (∀ c : Dev Cert.KernelOpaIdeal.nD,
      r.2.mem ((c.tc : Thread Cert.KernelOpaIdeal.nD Cert.KernelOpaIdeal.τ).loc Cert.KernelOpaIdeal.main_arg0) = m ((c.tc : Thread Cert.KernelOpaIdeal.nD Cert.KernelOpaIdeal.τ).loc Cert.KernelOpaIdeal.main_arg0)
      ∧ r.2.mem ((c.tc : Thread Cert.KernelOpaIdeal.nD Cert.KernelOpaIdeal.τ).loc Cert.KernelOpaIdeal.main_arg1) = m ((c.tc : Thread Cert.KernelOpaIdeal.nD Cert.KernelOpaIdeal.τ).loc Cert.KernelOpaIdeal.main_arg1)
      ∧ r.2.mem ((c.tc : Thread Cert.KernelOpaIdeal.nD Cert.KernelOpaIdeal.τ).loc Cert.KernelOpaIdeal.main_arg2) = m ((c.tc : Thread Cert.KernelOpaIdeal.nD Cert.KernelOpaIdeal.τ).loc Cert.KernelOpaIdeal.main_arg2)
      ∧ r.2.mem ((c.tc : Thread Cert.KernelOpaIdeal.nD Cert.KernelOpaIdeal.τ).loc Cert.KernelOpaIdeal.main_arg3) = m ((c.tc : Thread Cert.KernelOpaIdeal.nD Cert.KernelOpaIdeal.τ).loc Cert.KernelOpaIdeal.main_arg3))
      ∧ r.2.sem = fun _ => 0)

def quiescent_ReferenceOpaIdeal [hReferenceOpaIdeal : Cert.ReferenceOpaIdeal.Facts] : Prop :=
  ∀ (m : (ℓ : Loc Cert.ReferenceOpaIdeal.nD Cert.ReferenceOpaIdeal.τ Cert.ReferenceOpaIdeal.sig) → Buf (Elt Ideal) ℓ) (g : Dev Cert.ReferenceOpaIdeal.nD → PrngReg), Pre_ReferenceOpaIdeal m →
    θ_run (Cert.ReferenceOpaIdeal.defs (F := Ideal)) (onTc (τ := Cert.ReferenceOpaIdeal.τ) (Cert.ReferenceOpaIdeal.main (F := Ideal))) ⟨m, fun _ => 0, g⟩ (fun r => (∀ c : Dev Cert.ReferenceOpaIdeal.nD,
      r.2.mem ((c.tc : Thread Cert.ReferenceOpaIdeal.nD Cert.ReferenceOpaIdeal.τ).loc Cert.ReferenceOpaIdeal.main_arg0) = m ((c.tc : Thread Cert.ReferenceOpaIdeal.nD Cert.ReferenceOpaIdeal.τ).loc Cert.ReferenceOpaIdeal.main_arg0)
      ∧ r.2.mem ((c.tc : Thread Cert.ReferenceOpaIdeal.nD Cert.ReferenceOpaIdeal.τ).loc Cert.ReferenceOpaIdeal.main_arg1) = m ((c.tc : Thread Cert.ReferenceOpaIdeal.nD Cert.ReferenceOpaIdeal.τ).loc Cert.ReferenceOpaIdeal.main_arg1)
      ∧ r.2.mem ((c.tc : Thread Cert.ReferenceOpaIdeal.nD Cert.ReferenceOpaIdeal.τ).loc Cert.ReferenceOpaIdeal.main_arg2) = m ((c.tc : Thread Cert.ReferenceOpaIdeal.nD Cert.ReferenceOpaIdeal.τ).loc Cert.ReferenceOpaIdeal.main_arg2)
      ∧ r.2.mem ((c.tc : Thread Cert.ReferenceOpaIdeal.nD Cert.ReferenceOpaIdeal.τ).loc Cert.ReferenceOpaIdeal.main_arg3) = m ((c.tc : Thread Cert.ReferenceOpaIdeal.nD Cert.ReferenceOpaIdeal.τ).loc Cert.ReferenceOpaIdeal.main_arg3))
      ∧ r.2.sem = fun _ => 0)

def quiescent_KernelOpg [hKernelOpg : Cert.KernelOpg.Facts] : Prop :=
  ∀ (m : (ℓ : Loc Cert.KernelOpg.nD Cert.KernelOpg.τ Cert.KernelOpg.sig) → Buf (Elt Bits) ℓ) (g : Dev Cert.KernelOpg.nD → PrngReg), Pre_KernelOpg m →
    θ_run (Cert.KernelOpg.defs (F := Bits)) (onTc (τ := Cert.KernelOpg.τ) (Cert.KernelOpg.main (F := Bits))) ⟨m, fun _ => 0, g⟩ (fun r => (∀ c : Dev Cert.KernelOpg.nD,
      r.2.mem ((c.tc : Thread Cert.KernelOpg.nD Cert.KernelOpg.τ).loc Cert.KernelOpg.main_arg0) = m ((c.tc : Thread Cert.KernelOpg.nD Cert.KernelOpg.τ).loc Cert.KernelOpg.main_arg0)
      ∧ r.2.mem ((c.tc : Thread Cert.KernelOpg.nD Cert.KernelOpg.τ).loc Cert.KernelOpg.main_arg1) = m ((c.tc : Thread Cert.KernelOpg.nD Cert.KernelOpg.τ).loc Cert.KernelOpg.main_arg1)
      ∧ r.2.mem ((c.tc : Thread Cert.KernelOpg.nD Cert.KernelOpg.τ).loc Cert.KernelOpg.main_arg2) = m ((c.tc : Thread Cert.KernelOpg.nD Cert.KernelOpg.τ).loc Cert.KernelOpg.main_arg2)
      ∧ r.2.mem ((c.tc : Thread Cert.KernelOpg.nD Cert.KernelOpg.τ).loc Cert.KernelOpg.main_arg3) = m ((c.tc : Thread Cert.KernelOpg.nD Cert.KernelOpg.τ).loc Cert.KernelOpg.main_arg3))
      ∧ r.2.sem = fun _ => 0)

def quiescent_KernelOpgIdeal [hKernelOpgIdeal : Cert.KernelOpgIdeal.Facts] : Prop :=
  ∀ (m : (ℓ : Loc Cert.KernelOpgIdeal.nD Cert.KernelOpgIdeal.τ Cert.KernelOpgIdeal.sig) → Buf (Elt Ideal) ℓ) (g : Dev Cert.KernelOpgIdeal.nD → PrngReg), Pre_KernelOpgIdeal m →
    θ_run (Cert.KernelOpgIdeal.defs (F := Ideal)) (onTc (τ := Cert.KernelOpgIdeal.τ) (Cert.KernelOpgIdeal.main (F := Ideal))) ⟨m, fun _ => 0, g⟩ (fun r => (∀ c : Dev Cert.KernelOpgIdeal.nD,
      r.2.mem ((c.tc : Thread Cert.KernelOpgIdeal.nD Cert.KernelOpgIdeal.τ).loc Cert.KernelOpgIdeal.main_arg0) = m ((c.tc : Thread Cert.KernelOpgIdeal.nD Cert.KernelOpgIdeal.τ).loc Cert.KernelOpgIdeal.main_arg0)
      ∧ r.2.mem ((c.tc : Thread Cert.KernelOpgIdeal.nD Cert.KernelOpgIdeal.τ).loc Cert.KernelOpgIdeal.main_arg1) = m ((c.tc : Thread Cert.KernelOpgIdeal.nD Cert.KernelOpgIdeal.τ).loc Cert.KernelOpgIdeal.main_arg1)
      ∧ r.2.mem ((c.tc : Thread Cert.KernelOpgIdeal.nD Cert.KernelOpgIdeal.τ).loc Cert.KernelOpgIdeal.main_arg2) = m ((c.tc : Thread Cert.KernelOpgIdeal.nD Cert.KernelOpgIdeal.τ).loc Cert.KernelOpgIdeal.main_arg2)
      ∧ r.2.mem ((c.tc : Thread Cert.KernelOpgIdeal.nD Cert.KernelOpgIdeal.τ).loc Cert.KernelOpgIdeal.main_arg3) = m ((c.tc : Thread Cert.KernelOpgIdeal.nD Cert.KernelOpgIdeal.τ).loc Cert.KernelOpgIdeal.main_arg3))
      ∧ r.2.sem = fun _ => 0)

def quiescent_ReferenceOpgIdeal [hReferenceOpgIdeal : Cert.ReferenceOpgIdeal.Facts] : Prop :=
  ∀ (m : (ℓ : Loc Cert.ReferenceOpgIdeal.nD Cert.ReferenceOpgIdeal.τ Cert.ReferenceOpgIdeal.sig) → Buf (Elt Ideal) ℓ) (g : Dev Cert.ReferenceOpgIdeal.nD → PrngReg), Pre_ReferenceOpgIdeal m →
    θ_run (Cert.ReferenceOpgIdeal.defs (F := Ideal)) (onTc (τ := Cert.ReferenceOpgIdeal.τ) (Cert.ReferenceOpgIdeal.main (F := Ideal))) ⟨m, fun _ => 0, g⟩ (fun r => (∀ c : Dev Cert.ReferenceOpgIdeal.nD,
      r.2.mem ((c.tc : Thread Cert.ReferenceOpgIdeal.nD Cert.ReferenceOpgIdeal.τ).loc Cert.ReferenceOpgIdeal.main_arg0) = m ((c.tc : Thread Cert.ReferenceOpgIdeal.nD Cert.ReferenceOpgIdeal.τ).loc Cert.ReferenceOpgIdeal.main_arg0)
      ∧ r.2.mem ((c.tc : Thread Cert.ReferenceOpgIdeal.nD Cert.ReferenceOpgIdeal.τ).loc Cert.ReferenceOpgIdeal.main_arg1) = m ((c.tc : Thread Cert.ReferenceOpgIdeal.nD Cert.ReferenceOpgIdeal.τ).loc Cert.ReferenceOpgIdeal.main_arg1)
      ∧ r.2.mem ((c.tc : Thread Cert.ReferenceOpgIdeal.nD Cert.ReferenceOpgIdeal.τ).loc Cert.ReferenceOpgIdeal.main_arg2) = m ((c.tc : Thread Cert.ReferenceOpgIdeal.nD Cert.ReferenceOpgIdeal.τ).loc Cert.ReferenceOpgIdeal.main_arg2)
      ∧ r.2.mem ((c.tc : Thread Cert.ReferenceOpgIdeal.nD Cert.ReferenceOpgIdeal.τ).loc Cert.ReferenceOpgIdeal.main_arg3) = m ((c.tc : Thread Cert.ReferenceOpgIdeal.nD Cert.ReferenceOpgIdeal.τ).loc Cert.ReferenceOpgIdeal.main_arg3))
      ∧ r.2.sem = fun _ => 0)

def quiescent_KernelOpf [hKernelOpf : Cert.KernelOpf.Facts] : Prop :=
  ∀ (m : (ℓ : Loc Cert.KernelOpf.nD Cert.KernelOpf.τ Cert.KernelOpf.sig) → Buf (Elt Bits) ℓ) (g : Dev Cert.KernelOpf.nD → PrngReg), Pre_KernelOpf m →
    θ_run (Cert.KernelOpf.defs (F := Bits)) (onTc (τ := Cert.KernelOpf.τ) (Cert.KernelOpf.main (F := Bits))) ⟨m, fun _ => 0, g⟩ (fun r => (∀ c : Dev Cert.KernelOpf.nD,
      r.2.mem ((c.tc : Thread Cert.KernelOpf.nD Cert.KernelOpf.τ).loc Cert.KernelOpf.main_arg0) = m ((c.tc : Thread Cert.KernelOpf.nD Cert.KernelOpf.τ).loc Cert.KernelOpf.main_arg0)
      ∧ r.2.mem ((c.tc : Thread Cert.KernelOpf.nD Cert.KernelOpf.τ).loc Cert.KernelOpf.main_arg1) = m ((c.tc : Thread Cert.KernelOpf.nD Cert.KernelOpf.τ).loc Cert.KernelOpf.main_arg1)
      ∧ r.2.mem ((c.tc : Thread Cert.KernelOpf.nD Cert.KernelOpf.τ).loc Cert.KernelOpf.main_arg2) = m ((c.tc : Thread Cert.KernelOpf.nD Cert.KernelOpf.τ).loc Cert.KernelOpf.main_arg2)
      ∧ r.2.mem ((c.tc : Thread Cert.KernelOpf.nD Cert.KernelOpf.τ).loc Cert.KernelOpf.main_arg3) = m ((c.tc : Thread Cert.KernelOpf.nD Cert.KernelOpf.τ).loc Cert.KernelOpf.main_arg3))
      ∧ r.2.sem = fun _ => 0)

def quiescent_KernelOpfIdeal [hKernelOpfIdeal : Cert.KernelOpfIdeal.Facts] : Prop :=
  ∀ (m : (ℓ : Loc Cert.KernelOpfIdeal.nD Cert.KernelOpfIdeal.τ Cert.KernelOpfIdeal.sig) → Buf (Elt Ideal) ℓ) (g : Dev Cert.KernelOpfIdeal.nD → PrngReg), Pre_KernelOpfIdeal m →
    θ_run (Cert.KernelOpfIdeal.defs (F := Ideal)) (onTc (τ := Cert.KernelOpfIdeal.τ) (Cert.KernelOpfIdeal.main (F := Ideal))) ⟨m, fun _ => 0, g⟩ (fun r => (∀ c : Dev Cert.KernelOpfIdeal.nD,
      r.2.mem ((c.tc : Thread Cert.KernelOpfIdeal.nD Cert.KernelOpfIdeal.τ).loc Cert.KernelOpfIdeal.main_arg0) = m ((c.tc : Thread Cert.KernelOpfIdeal.nD Cert.KernelOpfIdeal.τ).loc Cert.KernelOpfIdeal.main_arg0)
      ∧ r.2.mem ((c.tc : Thread Cert.KernelOpfIdeal.nD Cert.KernelOpfIdeal.τ).loc Cert.KernelOpfIdeal.main_arg1) = m ((c.tc : Thread Cert.KernelOpfIdeal.nD Cert.KernelOpfIdeal.τ).loc Cert.KernelOpfIdeal.main_arg1)
      ∧ r.2.mem ((c.tc : Thread Cert.KernelOpfIdeal.nD Cert.KernelOpfIdeal.τ).loc Cert.KernelOpfIdeal.main_arg2) = m ((c.tc : Thread Cert.KernelOpfIdeal.nD Cert.KernelOpfIdeal.τ).loc Cert.KernelOpfIdeal.main_arg2)
      ∧ r.2.mem ((c.tc : Thread Cert.KernelOpfIdeal.nD Cert.KernelOpfIdeal.τ).loc Cert.KernelOpfIdeal.main_arg3) = m ((c.tc : Thread Cert.KernelOpfIdeal.nD Cert.KernelOpfIdeal.τ).loc Cert.KernelOpfIdeal.main_arg3))
      ∧ r.2.sem = fun _ => 0)

def quiescent_ReferenceOpfIdeal [hReferenceOpfIdeal : Cert.ReferenceOpfIdeal.Facts] : Prop :=
  ∀ (m : (ℓ : Loc Cert.ReferenceOpfIdeal.nD Cert.ReferenceOpfIdeal.τ Cert.ReferenceOpfIdeal.sig) → Buf (Elt Ideal) ℓ) (g : Dev Cert.ReferenceOpfIdeal.nD → PrngReg), Pre_ReferenceOpfIdeal m →
    θ_run (Cert.ReferenceOpfIdeal.defs (F := Ideal)) (onTc (τ := Cert.ReferenceOpfIdeal.τ) (Cert.ReferenceOpfIdeal.main (F := Ideal))) ⟨m, fun _ => 0, g⟩ (fun r => (∀ c : Dev Cert.ReferenceOpfIdeal.nD,
      r.2.mem ((c.tc : Thread Cert.ReferenceOpfIdeal.nD Cert.ReferenceOpfIdeal.τ).loc Cert.ReferenceOpfIdeal.main_arg0) = m ((c.tc : Thread Cert.ReferenceOpfIdeal.nD Cert.ReferenceOpfIdeal.τ).loc Cert.ReferenceOpfIdeal.main_arg0)
      ∧ r.2.mem ((c.tc : Thread Cert.ReferenceOpfIdeal.nD Cert.ReferenceOpfIdeal.τ).loc Cert.ReferenceOpfIdeal.main_arg1) = m ((c.tc : Thread Cert.ReferenceOpfIdeal.nD Cert.ReferenceOpfIdeal.τ).loc Cert.ReferenceOpfIdeal.main_arg1)
      ∧ r.2.mem ((c.tc : Thread Cert.ReferenceOpfIdeal.nD Cert.ReferenceOpfIdeal.τ).loc Cert.ReferenceOpfIdeal.main_arg2) = m ((c.tc : Thread Cert.ReferenceOpfIdeal.nD Cert.ReferenceOpfIdeal.τ).loc Cert.ReferenceOpfIdeal.main_arg2)
      ∧ r.2.mem ((c.tc : Thread Cert.ReferenceOpfIdeal.nD Cert.ReferenceOpfIdeal.τ).loc Cert.ReferenceOpfIdeal.main_arg3) = m ((c.tc : Thread Cert.ReferenceOpfIdeal.nD Cert.ReferenceOpfIdeal.τ).loc Cert.ReferenceOpfIdeal.main_arg3))
      ∧ r.2.sem = fun _ => 0)

def quiescent_KernelZ [hKernelZ : Cert.KernelZ.Facts] : Prop :=
  ∀ (m : (ℓ : Loc Cert.KernelZ.nD Cert.KernelZ.τ Cert.KernelZ.sig) → Buf (Elt Bits) ℓ) (g : Dev Cert.KernelZ.nD → PrngReg), Pre_KernelZ m →
    θ_run (Cert.KernelZ.defs (F := Bits)) (onTc (τ := Cert.KernelZ.τ) (Cert.KernelZ.main (F := Bits))) ⟨m, fun _ => 0, g⟩ (fun r => (∀ c : Dev Cert.KernelZ.nD,
      r.2.mem ((c.tc : Thread Cert.KernelZ.nD Cert.KernelZ.τ).loc Cert.KernelZ.main_arg0) = m ((c.tc : Thread Cert.KernelZ.nD Cert.KernelZ.τ).loc Cert.KernelZ.main_arg0)
      ∧ r.2.mem ((c.tc : Thread Cert.KernelZ.nD Cert.KernelZ.τ).loc Cert.KernelZ.main_arg1) = m ((c.tc : Thread Cert.KernelZ.nD Cert.KernelZ.τ).loc Cert.KernelZ.main_arg1)
      ∧ r.2.mem ((c.tc : Thread Cert.KernelZ.nD Cert.KernelZ.τ).loc Cert.KernelZ.main_arg2) = m ((c.tc : Thread Cert.KernelZ.nD Cert.KernelZ.τ).loc Cert.KernelZ.main_arg2)
      ∧ r.2.mem ((c.tc : Thread Cert.KernelZ.nD Cert.KernelZ.τ).loc Cert.KernelZ.main_arg3) = m ((c.tc : Thread Cert.KernelZ.nD Cert.KernelZ.τ).loc Cert.KernelZ.main_arg3))
      ∧ r.2.sem = fun _ => 0)

def quiescent_KernelZIdeal [hKernelZIdeal : Cert.KernelZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg), Pre_KernelZIdeal m →
    θ_run (Cert.KernelZIdeal.defs (F := Ideal)) (onTc (τ := Cert.KernelZIdeal.τ) (Cert.KernelZIdeal.main (F := Ideal))) ⟨m, fun _ => 0, g⟩ (fun r => (∀ c : Dev Cert.KernelZIdeal.nD,
      r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
      ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1)
      ∧ r.2.mem ((c.tc : Thread Cert.KernelZIdeal.nD Cert.KernelZIdeal.τ).loc Cert.KernelZIdeal.main_arg2) = m ((c.tc : Thread Cert.KernelZIdeal.nD Cert.KernelZIdeal.τ).loc Cert.KernelZIdeal.main_arg2)
      ∧ r.2.mem ((c.tc : Thread Cert.KernelZIdeal.nD Cert.KernelZIdeal.τ).loc Cert.KernelZIdeal.main_arg3) = m ((c.tc : Thread Cert.KernelZIdeal.nD Cert.KernelZIdeal.τ).loc Cert.KernelZIdeal.main_arg3))
      ∧ r.2.sem = fun _ => 0)

def quiescent_ReferenceZIdeal [hReferenceZIdeal : Cert.ReferenceZIdeal.Facts] : Prop :=
  ∀ (m : (ℓ : Loc Cert.ReferenceZIdeal.nD Cert.ReferenceZIdeal.τ Cert.ReferenceZIdeal.sig) → Buf (Elt Ideal) ℓ) (g : Dev Cert.ReferenceZIdeal.nD → PrngReg), Pre_ReferenceZIdeal m →
    θ_run (Cert.ReferenceZIdeal.defs (F := Ideal)) (onTc (τ := Cert.ReferenceZIdeal.τ) (Cert.ReferenceZIdeal.main (F := Ideal))) ⟨m, fun _ => 0, g⟩ (fun r => (∀ c : Dev Cert.ReferenceZIdeal.nD,
      r.2.mem ((c.tc : Thread Cert.ReferenceZIdeal.nD Cert.ReferenceZIdeal.τ).loc Cert.ReferenceZIdeal.main_arg0) = m ((c.tc : Thread Cert.ReferenceZIdeal.nD Cert.ReferenceZIdeal.τ).loc Cert.ReferenceZIdeal.main_arg0)
      ∧ r.2.mem ((c.tc : Thread Cert.ReferenceZIdeal.nD Cert.ReferenceZIdeal.τ).loc Cert.ReferenceZIdeal.main_arg1) = m ((c.tc : Thread Cert.ReferenceZIdeal.nD Cert.ReferenceZIdeal.τ).loc Cert.ReferenceZIdeal.main_arg1)
      ∧ r.2.mem ((c.tc : Thread Cert.ReferenceZIdeal.nD Cert.ReferenceZIdeal.τ).loc Cert.ReferenceZIdeal.main_arg2) = m ((c.tc : Thread Cert.ReferenceZIdeal.nD Cert.ReferenceZIdeal.τ).loc Cert.ReferenceZIdeal.main_arg2)
      ∧ r.2.mem ((c.tc : Thread Cert.ReferenceZIdeal.nD Cert.ReferenceZIdeal.τ).loc Cert.ReferenceZIdeal.main_arg3) = m ((c.tc : Thread Cert.ReferenceZIdeal.nD Cert.ReferenceZIdeal.τ).loc Cert.ReferenceZIdeal.main_arg3))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelRope [hKernelRope : Cert.KernelRope.Facts] : Prop :=
  ∀ (m : (ℓ : Loc Cert.KernelRope.nD Cert.KernelRope.τ Cert.KernelRope.sig) → Buf (Elt Bits) ℓ) (g : Dev Cert.KernelRope.nD → PrngReg), Pre_KernelRope m →
    θ_run (Cert.KernelRope.defs (F := Bits)) (onTc (τ := Cert.KernelRope.τ) (Cert.KernelRope.main (F := Bits))) ⟨m, fun _ => 0, g⟩ (fun r => (∀ c : Dev Cert.KernelRope.nD,
      r.2.mem ((c.tc : Thread Cert.KernelRope.nD Cert.KernelRope.τ).loc Cert.KernelRope.main_arg0) = m ((c.tc : Thread Cert.KernelRope.nD Cert.KernelRope.τ).loc Cert.KernelRope.main_arg0)
      ∧ r.2.mem ((c.tc : Thread Cert.KernelRope.nD Cert.KernelRope.τ).loc Cert.KernelRope.main_arg1) = m ((c.tc : Thread Cert.KernelRope.nD Cert.KernelRope.τ).loc Cert.KernelRope.main_arg1)
      ∧ r.2.mem ((c.tc : Thread Cert.KernelRope.nD Cert.KernelRope.τ).loc Cert.KernelRope.main_arg2) = m ((c.tc : Thread Cert.KernelRope.nD Cert.KernelRope.τ).loc Cert.KernelRope.main_arg2)
      ∧ r.2.mem ((c.tc : Thread Cert.KernelRope.nD Cert.KernelRope.τ).loc Cert.KernelRope.main_arg3) = m ((c.tc : Thread Cert.KernelRope.nD Cert.KernelRope.τ).loc Cert.KernelRope.main_arg3))
      ∧ r.2.sem = fun _ => 0)

def quiescent_KernelRopeIdeal [hKernelRopeIdeal : Cert.KernelRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg), Pre_KernelRopeIdeal m →
    θ_run (Cert.KernelRopeIdeal.defs (F := Ideal)) (onTc (τ := Cert.KernelRopeIdeal.τ) (Cert.KernelRopeIdeal.main (F := Ideal))) ⟨m, fun _ => 0, g⟩ (fun r => (∀ c : Dev Cert.KernelRopeIdeal.nD,
      r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0)
      ∧ r.2.mem ((c.tc : Thread Cert.KernelRopeIdeal.nD Cert.KernelRopeIdeal.τ).loc Cert.KernelRopeIdeal.main_arg1) = m ((c.tc : Thread Cert.KernelRopeIdeal.nD Cert.KernelRopeIdeal.τ).loc Cert.KernelRopeIdeal.main_arg1)
      ∧ r.2.mem ((c.tc : Thread Cert.KernelRopeIdeal.nD Cert.KernelRopeIdeal.τ).loc Cert.KernelRopeIdeal.main_arg2) = m ((c.tc : Thread Cert.KernelRopeIdeal.nD Cert.KernelRopeIdeal.τ).loc Cert.KernelRopeIdeal.main_arg2)
      ∧ r.2.mem ((c.tc : Thread Cert.KernelRopeIdeal.nD Cert.KernelRopeIdeal.τ).loc Cert.KernelRopeIdeal.main_arg3) = m ((c.tc : Thread Cert.KernelRopeIdeal.nD Cert.KernelRopeIdeal.τ).loc Cert.KernelRopeIdeal.main_arg3))
      ∧ r.2.sem = fun _ => 0)

def quiescent_ReferenceRopeIdeal [hReferenceRopeIdeal : Cert.ReferenceRopeIdeal.Facts] : Prop :=
  ∀ (m : (ℓ : Loc Cert.ReferenceRopeIdeal.nD Cert.ReferenceRopeIdeal.τ Cert.ReferenceRopeIdeal.sig) → Buf (Elt Ideal) ℓ) (g : Dev Cert.ReferenceRopeIdeal.nD → PrngReg), Pre_ReferenceRopeIdeal m →
    θ_run (Cert.ReferenceRopeIdeal.defs (F := Ideal)) (onTc (τ := Cert.ReferenceRopeIdeal.τ) (Cert.ReferenceRopeIdeal.main (F := Ideal))) ⟨m, fun _ => 0, g⟩ (fun r => (∀ c : Dev Cert.ReferenceRopeIdeal.nD,
      r.2.mem ((c.tc : Thread Cert.ReferenceRopeIdeal.nD Cert.ReferenceRopeIdeal.τ).loc Cert.ReferenceRopeIdeal.main_arg0) = m ((c.tc : Thread Cert.ReferenceRopeIdeal.nD Cert.ReferenceRopeIdeal.τ).loc Cert.ReferenceRopeIdeal.main_arg0)
      ∧ r.2.mem ((c.tc : Thread Cert.ReferenceRopeIdeal.nD Cert.ReferenceRopeIdeal.τ).loc Cert.ReferenceRopeIdeal.main_arg1) = m ((c.tc : Thread Cert.ReferenceRopeIdeal.nD Cert.ReferenceRopeIdeal.τ).loc Cert.ReferenceRopeIdeal.main_arg1)
      ∧ r.2.mem ((c.tc : Thread Cert.ReferenceRopeIdeal.nD Cert.ReferenceRopeIdeal.τ).loc Cert.ReferenceRopeIdeal.main_arg2) = m ((c.tc : Thread Cert.ReferenceRopeIdeal.nD Cert.ReferenceRopeIdeal.τ).loc Cert.ReferenceRopeIdeal.main_arg2)
      ∧ r.2.mem ((c.tc : Thread Cert.ReferenceRopeIdeal.nD Cert.ReferenceRopeIdeal.τ).loc Cert.ReferenceRopeIdeal.main_arg3) = m ((c.tc : Thread Cert.ReferenceRopeIdeal.nD Cert.ReferenceRopeIdeal.τ).loc Cert.ReferenceRopeIdeal.main_arg3))
      ∧ r.2.sem = fun _ => 0)

def preserves_KernelFin_KernelFinIdeal : Prop :=
  True

def algebraic_KernelFinIdeal_ReferenceFinIdeal [hKernelFinIdeal : Cert.KernelFinIdeal.Facts] [hReferenceFinIdeal : Cert.ReferenceFinIdeal.Facts] : Prop :=
  ∀ (m : (ℓ : Loc Cert.KernelFinIdeal.nD Cert.KernelFinIdeal.τ Cert.KernelFinIdeal.sig) → Buf (Elt Ideal) ℓ) (g : Dev Cert.KernelFinIdeal.nD → PrngReg)
    (m' : (ℓ : Loc Cert.ReferenceFinIdeal.nD Cert.ReferenceFinIdeal.τ Cert.ReferenceFinIdeal.sig) → Buf (Elt Ideal) ℓ) (g' : Dev Cert.ReferenceFinIdeal.nD → PrngReg), Pre_KernelFinIdeal m →
    (∀ c : Dev Cert.KernelFinIdeal.nD,
      m' ((c.tc : Thread Cert.ReferenceFinIdeal.nD Cert.ReferenceFinIdeal.τ).loc Cert.ReferenceFinIdeal.main_arg0) = m ((c.tc : Thread Cert.KernelFinIdeal.nD Cert.KernelFinIdeal.τ).loc Cert.KernelFinIdeal.main_arg0)
      ∧ m' ((c.tc : Thread Cert.ReferenceFinIdeal.nD Cert.ReferenceFinIdeal.τ).loc Cert.ReferenceFinIdeal.main_arg1) = m ((c.tc : Thread Cert.KernelFinIdeal.nD Cert.KernelFinIdeal.τ).loc Cert.KernelFinIdeal.main_arg1)) →
    ∃ (v0 : (c : Dev Cert.KernelFinIdeal.nD) → Buf (Elt Ideal) ((c.tc : Thread Cert.KernelFinIdeal.nD Cert.KernelFinIdeal.τ).loc Cert.KernelFinIdeal.main_v1)),
      θ_run (Cert.KernelFinIdeal.defs (F := Ideal)) (onTc (τ := Cert.KernelFinIdeal.τ) (Cert.KernelFinIdeal.main (F := Ideal))) ⟨m, fun _ => 0, g⟩ (fun r => ∀ c : Dev Cert.KernelFinIdeal.nD,
          r.2.mem ((c.tc : Thread Cert.KernelFinIdeal.nD Cert.KernelFinIdeal.τ).loc Cert.KernelFinIdeal.main_v1) = v0 c
          ∧ r.2.mem ((c.tc : Thread Cert.KernelFinIdeal.nD Cert.KernelFinIdeal.τ).loc Cert.KernelFinIdeal.main_arg0) = m ((c.tc : Thread Cert.KernelFinIdeal.nD Cert.KernelFinIdeal.τ).loc Cert.KernelFinIdeal.main_arg0)
          ∧ r.2.mem ((c.tc : Thread Cert.KernelFinIdeal.nD Cert.KernelFinIdeal.τ).loc Cert.KernelFinIdeal.main_arg1) = m ((c.tc : Thread Cert.KernelFinIdeal.nD Cert.KernelFinIdeal.τ).loc Cert.KernelFinIdeal.main_arg1))
      ∧ θ_run (Cert.ReferenceFinIdeal.defs (F := Ideal)) (onTc (τ := Cert.ReferenceFinIdeal.τ) (Cert.ReferenceFinIdeal.main (F := Ideal))) ⟨m', fun _ => 0, g'⟩ (fun r => ∀ c : Dev Cert.ReferenceFinIdeal.nD,
          r.2.mem ((c.tc : Thread Cert.ReferenceFinIdeal.nD Cert.ReferenceFinIdeal.τ).loc Cert.ReferenceFinIdeal.main_v13) = v0 c
          ∧ r.2.mem ((c.tc : Thread Cert.ReferenceFinIdeal.nD Cert.ReferenceFinIdeal.τ).loc Cert.ReferenceFinIdeal.main_arg0) = m' ((c.tc : Thread Cert.ReferenceFinIdeal.nD Cert.ReferenceFinIdeal.τ).loc Cert.ReferenceFinIdeal.main_arg0)
          ∧ r.2.mem ((c.tc : Thread Cert.ReferenceFinIdeal.nD Cert.ReferenceFinIdeal.τ).loc Cert.ReferenceFinIdeal.main_arg1) = m' ((c.tc : Thread Cert.ReferenceFinIdeal.nD Cert.ReferenceFinIdeal.τ).loc Cert.ReferenceFinIdeal.main_arg1))

def preserves_KernelOpa_KernelOpaIdeal : Prop :=
  True

def algebraic_KernelOpaIdeal_ReferenceOpaIdeal [hKernelOpaIdeal : Cert.KernelOpaIdeal.Facts] [hReferenceOpaIdeal : Cert.ReferenceOpaIdeal.Facts] : Prop :=
  ∀ (m : (ℓ : Loc Cert.KernelOpaIdeal.nD Cert.KernelOpaIdeal.τ Cert.KernelOpaIdeal.sig) → Buf (Elt Ideal) ℓ) (g : Dev Cert.KernelOpaIdeal.nD → PrngReg)
    (m' : (ℓ : Loc Cert.ReferenceOpaIdeal.nD Cert.ReferenceOpaIdeal.τ Cert.ReferenceOpaIdeal.sig) → Buf (Elt Ideal) ℓ) (g' : Dev Cert.ReferenceOpaIdeal.nD → PrngReg), Pre_KernelOpaIdeal m →
    (∀ c : Dev Cert.KernelOpaIdeal.nD,
      m' ((c.tc : Thread Cert.ReferenceOpaIdeal.nD Cert.ReferenceOpaIdeal.τ).loc Cert.ReferenceOpaIdeal.main_arg0) = m ((c.tc : Thread Cert.KernelOpaIdeal.nD Cert.KernelOpaIdeal.τ).loc Cert.KernelOpaIdeal.main_arg0)
      ∧ m' ((c.tc : Thread Cert.ReferenceOpaIdeal.nD Cert.ReferenceOpaIdeal.τ).loc Cert.ReferenceOpaIdeal.main_arg1) = m ((c.tc : Thread Cert.KernelOpaIdeal.nD Cert.KernelOpaIdeal.τ).loc Cert.KernelOpaIdeal.main_arg1)
      ∧ m' ((c.tc : Thread Cert.ReferenceOpaIdeal.nD Cert.ReferenceOpaIdeal.τ).loc Cert.ReferenceOpaIdeal.main_arg2) = m ((c.tc : Thread Cert.KernelOpaIdeal.nD Cert.KernelOpaIdeal.τ).loc Cert.KernelOpaIdeal.main_arg2)
      ∧ m' ((c.tc : Thread Cert.ReferenceOpaIdeal.nD Cert.ReferenceOpaIdeal.τ).loc Cert.ReferenceOpaIdeal.main_arg3) = m ((c.tc : Thread Cert.KernelOpaIdeal.nD Cert.KernelOpaIdeal.τ).loc Cert.KernelOpaIdeal.main_arg3)) →
    ∃ (v0 : (c : Dev Cert.KernelOpaIdeal.nD) → Buf (Elt Ideal) ((c.tc : Thread Cert.KernelOpaIdeal.nD Cert.KernelOpaIdeal.τ).loc Cert.KernelOpaIdeal.main_v1)),
      θ_run (Cert.KernelOpaIdeal.defs (F := Ideal)) (onTc (τ := Cert.KernelOpaIdeal.τ) (Cert.KernelOpaIdeal.main (F := Ideal))) ⟨m, fun _ => 0, g⟩ (fun r => ∀ c : Dev Cert.KernelOpaIdeal.nD,
          r.2.mem ((c.tc : Thread Cert.KernelOpaIdeal.nD Cert.KernelOpaIdeal.τ).loc Cert.KernelOpaIdeal.main_v1) = v0 c
          ∧ r.2.mem ((c.tc : Thread Cert.KernelOpaIdeal.nD Cert.KernelOpaIdeal.τ).loc Cert.KernelOpaIdeal.main_arg0) = m ((c.tc : Thread Cert.KernelOpaIdeal.nD Cert.KernelOpaIdeal.τ).loc Cert.KernelOpaIdeal.main_arg0)
          ∧ r.2.mem ((c.tc : Thread Cert.KernelOpaIdeal.nD Cert.KernelOpaIdeal.τ).loc Cert.KernelOpaIdeal.main_arg1) = m ((c.tc : Thread Cert.KernelOpaIdeal.nD Cert.KernelOpaIdeal.τ).loc Cert.KernelOpaIdeal.main_arg1)
          ∧ r.2.mem ((c.tc : Thread Cert.KernelOpaIdeal.nD Cert.KernelOpaIdeal.τ).loc Cert.KernelOpaIdeal.main_arg2) = m ((c.tc : Thread Cert.KernelOpaIdeal.nD Cert.KernelOpaIdeal.τ).loc Cert.KernelOpaIdeal.main_arg2)
          ∧ r.2.mem ((c.tc : Thread Cert.KernelOpaIdeal.nD Cert.KernelOpaIdeal.τ).loc Cert.KernelOpaIdeal.main_arg3) = m ((c.tc : Thread Cert.KernelOpaIdeal.nD Cert.KernelOpaIdeal.τ).loc Cert.KernelOpaIdeal.main_arg3))
      ∧ θ_run (Cert.ReferenceOpaIdeal.defs (F := Ideal)) (onTc (τ := Cert.ReferenceOpaIdeal.τ) (Cert.ReferenceOpaIdeal.main (F := Ideal))) ⟨m', fun _ => 0, g'⟩ (fun r => ∀ c : Dev Cert.ReferenceOpaIdeal.nD,
          r.2.mem ((c.tc : Thread Cert.ReferenceOpaIdeal.nD Cert.ReferenceOpaIdeal.τ).loc Cert.ReferenceOpaIdeal.main_v15) = v0 c
          ∧ r.2.mem ((c.tc : Thread Cert.ReferenceOpaIdeal.nD Cert.ReferenceOpaIdeal.τ).loc Cert.ReferenceOpaIdeal.main_arg0) = m' ((c.tc : Thread Cert.ReferenceOpaIdeal.nD Cert.ReferenceOpaIdeal.τ).loc Cert.ReferenceOpaIdeal.main_arg0)
          ∧ r.2.mem ((c.tc : Thread Cert.ReferenceOpaIdeal.nD Cert.ReferenceOpaIdeal.τ).loc Cert.ReferenceOpaIdeal.main_arg1) = m' ((c.tc : Thread Cert.ReferenceOpaIdeal.nD Cert.ReferenceOpaIdeal.τ).loc Cert.ReferenceOpaIdeal.main_arg1)
          ∧ r.2.mem ((c.tc : Thread Cert.ReferenceOpaIdeal.nD Cert.ReferenceOpaIdeal.τ).loc Cert.ReferenceOpaIdeal.main_arg2) = m' ((c.tc : Thread Cert.ReferenceOpaIdeal.nD Cert.ReferenceOpaIdeal.τ).loc Cert.ReferenceOpaIdeal.main_arg2)
          ∧ r.2.mem ((c.tc : Thread Cert.ReferenceOpaIdeal.nD Cert.ReferenceOpaIdeal.τ).loc Cert.ReferenceOpaIdeal.main_arg3) = m' ((c.tc : Thread Cert.ReferenceOpaIdeal.nD Cert.ReferenceOpaIdeal.τ).loc Cert.ReferenceOpaIdeal.main_arg3))

def preserves_KernelOpg_KernelOpgIdeal : Prop :=
  True

def algebraic_KernelOpgIdeal_ReferenceOpgIdeal [hKernelOpgIdeal : Cert.KernelOpgIdeal.Facts] [hReferenceOpgIdeal : Cert.ReferenceOpgIdeal.Facts] : Prop :=
  ∀ (m : (ℓ : Loc Cert.KernelOpgIdeal.nD Cert.KernelOpgIdeal.τ Cert.KernelOpgIdeal.sig) → Buf (Elt Ideal) ℓ) (g : Dev Cert.KernelOpgIdeal.nD → PrngReg)
    (m' : (ℓ : Loc Cert.ReferenceOpgIdeal.nD Cert.ReferenceOpgIdeal.τ Cert.ReferenceOpgIdeal.sig) → Buf (Elt Ideal) ℓ) (g' : Dev Cert.ReferenceOpgIdeal.nD → PrngReg), Pre_KernelOpgIdeal m →
    (∀ c : Dev Cert.KernelOpgIdeal.nD,
      m' ((c.tc : Thread Cert.ReferenceOpgIdeal.nD Cert.ReferenceOpgIdeal.τ).loc Cert.ReferenceOpgIdeal.main_arg0) = m ((c.tc : Thread Cert.KernelOpgIdeal.nD Cert.KernelOpgIdeal.τ).loc Cert.KernelOpgIdeal.main_arg0)
      ∧ m' ((c.tc : Thread Cert.ReferenceOpgIdeal.nD Cert.ReferenceOpgIdeal.τ).loc Cert.ReferenceOpgIdeal.main_arg1) = m ((c.tc : Thread Cert.KernelOpgIdeal.nD Cert.KernelOpgIdeal.τ).loc Cert.KernelOpgIdeal.main_arg1)
      ∧ m' ((c.tc : Thread Cert.ReferenceOpgIdeal.nD Cert.ReferenceOpgIdeal.τ).loc Cert.ReferenceOpgIdeal.main_arg2) = m ((c.tc : Thread Cert.KernelOpgIdeal.nD Cert.KernelOpgIdeal.τ).loc Cert.KernelOpgIdeal.main_arg2)
      ∧ m' ((c.tc : Thread Cert.ReferenceOpgIdeal.nD Cert.ReferenceOpgIdeal.τ).loc Cert.ReferenceOpgIdeal.main_arg3) = m ((c.tc : Thread Cert.KernelOpgIdeal.nD Cert.KernelOpgIdeal.τ).loc Cert.KernelOpgIdeal.main_arg3)) →
    ∃ (v0 : (c : Dev Cert.KernelOpgIdeal.nD) → Buf (Elt Ideal) ((c.tc : Thread Cert.KernelOpgIdeal.nD Cert.KernelOpgIdeal.τ).loc Cert.KernelOpgIdeal.main_v1)),
      θ_run (Cert.KernelOpgIdeal.defs (F := Ideal)) (onTc (τ := Cert.KernelOpgIdeal.τ) (Cert.KernelOpgIdeal.main (F := Ideal))) ⟨m, fun _ => 0, g⟩ (fun r => ∀ c : Dev Cert.KernelOpgIdeal.nD,
          r.2.mem ((c.tc : Thread Cert.KernelOpgIdeal.nD Cert.KernelOpgIdeal.τ).loc Cert.KernelOpgIdeal.main_v1) = v0 c
          ∧ r.2.mem ((c.tc : Thread Cert.KernelOpgIdeal.nD Cert.KernelOpgIdeal.τ).loc Cert.KernelOpgIdeal.main_arg0) = m ((c.tc : Thread Cert.KernelOpgIdeal.nD Cert.KernelOpgIdeal.τ).loc Cert.KernelOpgIdeal.main_arg0)
          ∧ r.2.mem ((c.tc : Thread Cert.KernelOpgIdeal.nD Cert.KernelOpgIdeal.τ).loc Cert.KernelOpgIdeal.main_arg1) = m ((c.tc : Thread Cert.KernelOpgIdeal.nD Cert.KernelOpgIdeal.τ).loc Cert.KernelOpgIdeal.main_arg1)
          ∧ r.2.mem ((c.tc : Thread Cert.KernelOpgIdeal.nD Cert.KernelOpgIdeal.τ).loc Cert.KernelOpgIdeal.main_arg2) = m ((c.tc : Thread Cert.KernelOpgIdeal.nD Cert.KernelOpgIdeal.τ).loc Cert.KernelOpgIdeal.main_arg2)
          ∧ r.2.mem ((c.tc : Thread Cert.KernelOpgIdeal.nD Cert.KernelOpgIdeal.τ).loc Cert.KernelOpgIdeal.main_arg3) = m ((c.tc : Thread Cert.KernelOpgIdeal.nD Cert.KernelOpgIdeal.τ).loc Cert.KernelOpgIdeal.main_arg3))
      ∧ θ_run (Cert.ReferenceOpgIdeal.defs (F := Ideal)) (onTc (τ := Cert.ReferenceOpgIdeal.τ) (Cert.ReferenceOpgIdeal.main (F := Ideal))) ⟨m', fun _ => 0, g'⟩ (fun r => ∀ c : Dev Cert.ReferenceOpgIdeal.nD,
          r.2.mem ((c.tc : Thread Cert.ReferenceOpgIdeal.nD Cert.ReferenceOpgIdeal.τ).loc Cert.ReferenceOpgIdeal.main_v15) = v0 c
          ∧ r.2.mem ((c.tc : Thread Cert.ReferenceOpgIdeal.nD Cert.ReferenceOpgIdeal.τ).loc Cert.ReferenceOpgIdeal.main_arg0) = m' ((c.tc : Thread Cert.ReferenceOpgIdeal.nD Cert.ReferenceOpgIdeal.τ).loc Cert.ReferenceOpgIdeal.main_arg0)
          ∧ r.2.mem ((c.tc : Thread Cert.ReferenceOpgIdeal.nD Cert.ReferenceOpgIdeal.τ).loc Cert.ReferenceOpgIdeal.main_arg1) = m' ((c.tc : Thread Cert.ReferenceOpgIdeal.nD Cert.ReferenceOpgIdeal.τ).loc Cert.ReferenceOpgIdeal.main_arg1)
          ∧ r.2.mem ((c.tc : Thread Cert.ReferenceOpgIdeal.nD Cert.ReferenceOpgIdeal.τ).loc Cert.ReferenceOpgIdeal.main_arg2) = m' ((c.tc : Thread Cert.ReferenceOpgIdeal.nD Cert.ReferenceOpgIdeal.τ).loc Cert.ReferenceOpgIdeal.main_arg2)
          ∧ r.2.mem ((c.tc : Thread Cert.ReferenceOpgIdeal.nD Cert.ReferenceOpgIdeal.τ).loc Cert.ReferenceOpgIdeal.main_arg3) = m' ((c.tc : Thread Cert.ReferenceOpgIdeal.nD Cert.ReferenceOpgIdeal.τ).loc Cert.ReferenceOpgIdeal.main_arg3))

def preserves_KernelOpf_KernelOpfIdeal : Prop :=
  True

def algebraic_KernelOpfIdeal_ReferenceOpfIdeal [hKernelOpfIdeal : Cert.KernelOpfIdeal.Facts] [hReferenceOpfIdeal : Cert.ReferenceOpfIdeal.Facts] : Prop :=
  ∀ (m : (ℓ : Loc Cert.KernelOpfIdeal.nD Cert.KernelOpfIdeal.τ Cert.KernelOpfIdeal.sig) → Buf (Elt Ideal) ℓ) (g : Dev Cert.KernelOpfIdeal.nD → PrngReg)
    (m' : (ℓ : Loc Cert.ReferenceOpfIdeal.nD Cert.ReferenceOpfIdeal.τ Cert.ReferenceOpfIdeal.sig) → Buf (Elt Ideal) ℓ) (g' : Dev Cert.ReferenceOpfIdeal.nD → PrngReg), Pre_KernelOpfIdeal m →
    (∀ c : Dev Cert.KernelOpfIdeal.nD,
      m' ((c.tc : Thread Cert.ReferenceOpfIdeal.nD Cert.ReferenceOpfIdeal.τ).loc Cert.ReferenceOpfIdeal.main_arg0) = m ((c.tc : Thread Cert.KernelOpfIdeal.nD Cert.KernelOpfIdeal.τ).loc Cert.KernelOpfIdeal.main_arg0)
      ∧ m' ((c.tc : Thread Cert.ReferenceOpfIdeal.nD Cert.ReferenceOpfIdeal.τ).loc Cert.ReferenceOpfIdeal.main_arg1) = m ((c.tc : Thread Cert.KernelOpfIdeal.nD Cert.KernelOpfIdeal.τ).loc Cert.KernelOpfIdeal.main_arg1)
      ∧ m' ((c.tc : Thread Cert.ReferenceOpfIdeal.nD Cert.ReferenceOpfIdeal.τ).loc Cert.ReferenceOpfIdeal.main_arg2) = m ((c.tc : Thread Cert.KernelOpfIdeal.nD Cert.KernelOpfIdeal.τ).loc Cert.KernelOpfIdeal.main_arg2)
      ∧ m' ((c.tc : Thread Cert.ReferenceOpfIdeal.nD Cert.ReferenceOpfIdeal.τ).loc Cert.ReferenceOpfIdeal.main_arg3) = m ((c.tc : Thread Cert.KernelOpfIdeal.nD Cert.KernelOpfIdeal.τ).loc Cert.KernelOpfIdeal.main_arg3)) →
    ∃ (v0 : (c : Dev Cert.KernelOpfIdeal.nD) → Buf (Elt Ideal) ((c.tc : Thread Cert.KernelOpfIdeal.nD Cert.KernelOpfIdeal.τ).loc Cert.KernelOpfIdeal.main_v2)),
      θ_run (Cert.KernelOpfIdeal.defs (F := Ideal)) (onTc (τ := Cert.KernelOpfIdeal.τ) (Cert.KernelOpfIdeal.main (F := Ideal))) ⟨m, fun _ => 0, g⟩ (fun r => ∀ c : Dev Cert.KernelOpfIdeal.nD,
          r.2.mem ((c.tc : Thread Cert.KernelOpfIdeal.nD Cert.KernelOpfIdeal.τ).loc Cert.KernelOpfIdeal.main_v2) = v0 c
          ∧ r.2.mem ((c.tc : Thread Cert.KernelOpfIdeal.nD Cert.KernelOpfIdeal.τ).loc Cert.KernelOpfIdeal.main_arg0) = m ((c.tc : Thread Cert.KernelOpfIdeal.nD Cert.KernelOpfIdeal.τ).loc Cert.KernelOpfIdeal.main_arg0)
          ∧ r.2.mem ((c.tc : Thread Cert.KernelOpfIdeal.nD Cert.KernelOpfIdeal.τ).loc Cert.KernelOpfIdeal.main_arg1) = m ((c.tc : Thread Cert.KernelOpfIdeal.nD Cert.KernelOpfIdeal.τ).loc Cert.KernelOpfIdeal.main_arg1)
          ∧ r.2.mem ((c.tc : Thread Cert.KernelOpfIdeal.nD Cert.KernelOpfIdeal.τ).loc Cert.KernelOpfIdeal.main_arg2) = m ((c.tc : Thread Cert.KernelOpfIdeal.nD Cert.KernelOpfIdeal.τ).loc Cert.KernelOpfIdeal.main_arg2)
          ∧ r.2.mem ((c.tc : Thread Cert.KernelOpfIdeal.nD Cert.KernelOpfIdeal.τ).loc Cert.KernelOpfIdeal.main_arg3) = m ((c.tc : Thread Cert.KernelOpfIdeal.nD Cert.KernelOpfIdeal.τ).loc Cert.KernelOpfIdeal.main_arg3))
      ∧ θ_run (Cert.ReferenceOpfIdeal.defs (F := Ideal)) (onTc (τ := Cert.ReferenceOpfIdeal.τ) (Cert.ReferenceOpfIdeal.main (F := Ideal))) ⟨m', fun _ => 0, g'⟩ (fun r => ∀ c : Dev Cert.ReferenceOpfIdeal.nD,
          r.2.mem ((c.tc : Thread Cert.ReferenceOpfIdeal.nD Cert.ReferenceOpfIdeal.τ).loc Cert.ReferenceOpfIdeal.main_v16) = v0 c
          ∧ r.2.mem ((c.tc : Thread Cert.ReferenceOpfIdeal.nD Cert.ReferenceOpfIdeal.τ).loc Cert.ReferenceOpfIdeal.main_arg0) = m' ((c.tc : Thread Cert.ReferenceOpfIdeal.nD Cert.ReferenceOpfIdeal.τ).loc Cert.ReferenceOpfIdeal.main_arg0)
          ∧ r.2.mem ((c.tc : Thread Cert.ReferenceOpfIdeal.nD Cert.ReferenceOpfIdeal.τ).loc Cert.ReferenceOpfIdeal.main_arg1) = m' ((c.tc : Thread Cert.ReferenceOpfIdeal.nD Cert.ReferenceOpfIdeal.τ).loc Cert.ReferenceOpfIdeal.main_arg1)
          ∧ r.2.mem ((c.tc : Thread Cert.ReferenceOpfIdeal.nD Cert.ReferenceOpfIdeal.τ).loc Cert.ReferenceOpfIdeal.main_arg2) = m' ((c.tc : Thread Cert.ReferenceOpfIdeal.nD Cert.ReferenceOpfIdeal.τ).loc Cert.ReferenceOpfIdeal.main_arg2)
          ∧ r.2.mem ((c.tc : Thread Cert.ReferenceOpfIdeal.nD Cert.ReferenceOpfIdeal.τ).loc Cert.ReferenceOpfIdeal.main_arg3) = m' ((c.tc : Thread Cert.ReferenceOpfIdeal.nD Cert.ReferenceOpfIdeal.τ).loc Cert.ReferenceOpfIdeal.main_arg3))

def preserves_KernelZ_KernelZIdeal : Prop :=
  True

def algebraic_KernelZIdeal_ReferenceZIdeal [hKernelZIdeal : Cert.KernelZIdeal.Facts] [hReferenceZIdeal : Cert.ReferenceZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg)
    (m' : (ℓ : Loc Cert.ReferenceZIdeal.nD Cert.ReferenceZIdeal.τ Cert.ReferenceZIdeal.sig) → Buf (Elt Ideal) ℓ) (g' : Dev Cert.ReferenceZIdeal.nD → PrngReg), Pre_KernelZIdeal m →
    (∀ c : Dev Cert.KernelZIdeal.nD,
      m' ((c.tc : Thread Cert.ReferenceZIdeal.nD Cert.ReferenceZIdeal.τ).loc Cert.ReferenceZIdeal.main_arg0) = m ((c.tc : Thread Cert.KernelZIdeal.nD Cert.KernelZIdeal.τ).loc Cert.KernelZIdeal.main_arg0)
      ∧ m' ((c.tc : Thread Cert.ReferenceZIdeal.nD Cert.ReferenceZIdeal.τ).loc Cert.ReferenceZIdeal.main_arg1) = m ((c.tc : Thread Cert.KernelZIdeal.nD Cert.KernelZIdeal.τ).loc Cert.KernelZIdeal.main_arg1)
      ∧ m' ((c.tc : Thread Cert.ReferenceZIdeal.nD Cert.ReferenceZIdeal.τ).loc Cert.ReferenceZIdeal.main_arg2) = m ((c.tc : Thread Cert.KernelZIdeal.nD Cert.KernelZIdeal.τ).loc Cert.KernelZIdeal.main_arg2)
      ∧ m' ((c.tc : Thread Cert.ReferenceZIdeal.nD Cert.ReferenceZIdeal.τ).loc Cert.ReferenceZIdeal.main_arg3) = m ((c.tc : Thread Cert.KernelZIdeal.nD Cert.KernelZIdeal.τ).loc Cert.KernelZIdeal.main_arg3)) →
    ∃ (v0 : (c : Dev Cert.KernelZIdeal.nD) → Buf (Elt Ideal) ((c.tc : Thread Cert.KernelZIdeal.nD Cert.KernelZIdeal.τ).loc Cert.KernelZIdeal.main_v2)),
      θ_run (Cert.KernelZIdeal.defs (F := Ideal)) (onTc (τ := Cert.KernelZIdeal.τ) (Cert.KernelZIdeal.main (F := Ideal))) ⟨m, fun _ => 0, g⟩ (fun r => ∀ c : Dev Cert.KernelZIdeal.nD,
          r.2.mem ((c.tc : Thread Cert.KernelZIdeal.nD Cert.KernelZIdeal.τ).loc Cert.KernelZIdeal.main_v2) = v0 c
          ∧ r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
          ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1)
          ∧ r.2.mem ((c.tc : Thread Cert.KernelZIdeal.nD Cert.KernelZIdeal.τ).loc Cert.KernelZIdeal.main_arg2) = m ((c.tc : Thread Cert.KernelZIdeal.nD Cert.KernelZIdeal.τ).loc Cert.KernelZIdeal.main_arg2)
          ∧ r.2.mem ((c.tc : Thread Cert.KernelZIdeal.nD Cert.KernelZIdeal.τ).loc Cert.KernelZIdeal.main_arg3) = m ((c.tc : Thread Cert.KernelZIdeal.nD Cert.KernelZIdeal.τ).loc Cert.KernelZIdeal.main_arg3))
      ∧ θ_run (Cert.ReferenceZIdeal.defs (F := Ideal)) (onTc (τ := Cert.ReferenceZIdeal.τ) (Cert.ReferenceZIdeal.main (F := Ideal))) ⟨m', fun _ => 0, g'⟩ (fun r => ∀ c : Dev Cert.ReferenceZIdeal.nD,
          r.2.mem ((c.tc : Thread Cert.ReferenceZIdeal.nD Cert.ReferenceZIdeal.τ).loc Cert.ReferenceZIdeal.main_v48) = v0 c
          ∧ r.2.mem ((c.tc : Thread Cert.ReferenceZIdeal.nD Cert.ReferenceZIdeal.τ).loc Cert.ReferenceZIdeal.main_arg0) = m' ((c.tc : Thread Cert.ReferenceZIdeal.nD Cert.ReferenceZIdeal.τ).loc Cert.ReferenceZIdeal.main_arg0)
          ∧ r.2.mem ((c.tc : Thread Cert.ReferenceZIdeal.nD Cert.ReferenceZIdeal.τ).loc Cert.ReferenceZIdeal.main_arg1) = m' ((c.tc : Thread Cert.ReferenceZIdeal.nD Cert.ReferenceZIdeal.τ).loc Cert.ReferenceZIdeal.main_arg1)
          ∧ r.2.mem ((c.tc : Thread Cert.ReferenceZIdeal.nD Cert.ReferenceZIdeal.τ).loc Cert.ReferenceZIdeal.main_arg2) = m' ((c.tc : Thread Cert.ReferenceZIdeal.nD Cert.ReferenceZIdeal.τ).loc Cert.ReferenceZIdeal.main_arg2)
          ∧ r.2.mem ((c.tc : Thread Cert.ReferenceZIdeal.nD Cert.ReferenceZIdeal.τ).loc Cert.ReferenceZIdeal.main_arg3) = m' ((c.tc : Thread Cert.ReferenceZIdeal.nD Cert.ReferenceZIdeal.τ).loc Cert.ReferenceZIdeal.main_arg3))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v11)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v11) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v98) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelRope_KernelRopeIdeal : Prop :=
  True

def Claim : Prop :=
  ∃ (hKernelFin : Cert.KernelFin.Facts) (hKernelFinIdeal : Cert.KernelFinIdeal.Facts) (hReferenceFinIdeal : Cert.ReferenceFinIdeal.Facts) (hKernelOpa : Cert.KernelOpa.Facts) (hKernelOpaIdeal : Cert.KernelOpaIdeal.Facts) (hReferenceOpaIdeal : Cert.ReferenceOpaIdeal.Facts) (hKernelOpg : Cert.KernelOpg.Facts) (hKernelOpgIdeal : Cert.KernelOpgIdeal.Facts) (hReferenceOpgIdeal : Cert.ReferenceOpgIdeal.Facts) (hKernelOpf : Cert.KernelOpf.Facts) (hKernelOpfIdeal : Cert.KernelOpfIdeal.Facts) (hReferenceOpfIdeal : Cert.ReferenceOpfIdeal.Facts) (hKernelZ : Cert.KernelZ.Facts) (hKernelZIdeal : Cert.KernelZIdeal.Facts) (hReferenceZIdeal : Cert.ReferenceZIdeal.Facts) (hKernelFfn : Cert.KernelFfn.Facts) (hKernelFfnIdeal : Cert.KernelFfnIdeal.Facts) (hReferenceFfnIdeal : Cert.ReferenceFfnIdeal.Facts) (hKernelRope : Cert.KernelRope.Facts) (hKernelRopeIdeal : Cert.KernelRopeIdeal.Facts) (hReferenceRopeIdeal : Cert.ReferenceRopeIdeal.Facts),
    quiescent_KernelFin (hKernelFin := hKernelFin)
    ∧ quiescent_KernelFinIdeal (hKernelFinIdeal := hKernelFinIdeal)
    ∧ quiescent_ReferenceFinIdeal (hReferenceFinIdeal := hReferenceFinIdeal)
    ∧ quiescent_KernelOpa (hKernelOpa := hKernelOpa)
    ∧ quiescent_KernelOpaIdeal (hKernelOpaIdeal := hKernelOpaIdeal)
    ∧ quiescent_ReferenceOpaIdeal (hReferenceOpaIdeal := hReferenceOpaIdeal)
    ∧ quiescent_KernelOpg (hKernelOpg := hKernelOpg)
    ∧ quiescent_KernelOpgIdeal (hKernelOpgIdeal := hKernelOpgIdeal)
    ∧ quiescent_ReferenceOpgIdeal (hReferenceOpgIdeal := hReferenceOpgIdeal)
    ∧ quiescent_KernelOpf (hKernelOpf := hKernelOpf)
    ∧ quiescent_KernelOpfIdeal (hKernelOpfIdeal := hKernelOpfIdeal)
    ∧ quiescent_ReferenceOpfIdeal (hReferenceOpfIdeal := hReferenceOpfIdeal)
    ∧ quiescent_KernelZ (hKernelZ := hKernelZ)
    ∧ quiescent_KernelZIdeal (hKernelZIdeal := hKernelZIdeal)
    ∧ quiescent_ReferenceZIdeal (hReferenceZIdeal := hReferenceZIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelRope (hKernelRope := hKernelRope)
    ∧ quiescent_KernelRopeIdeal (hKernelRopeIdeal := hKernelRopeIdeal)
    ∧ quiescent_ReferenceRopeIdeal (hReferenceRopeIdeal := hReferenceRopeIdeal)
    ∧ preserves_KernelFin_KernelFinIdeal
    ∧ algebraic_KernelFinIdeal_ReferenceFinIdeal (hKernelFinIdeal := hKernelFinIdeal) (hReferenceFinIdeal := hReferenceFinIdeal)
    ∧ preserves_KernelOpa_KernelOpaIdeal
    ∧ algebraic_KernelOpaIdeal_ReferenceOpaIdeal (hKernelOpaIdeal := hKernelOpaIdeal) (hReferenceOpaIdeal := hReferenceOpaIdeal)
    ∧ preserves_KernelOpg_KernelOpgIdeal
    ∧ algebraic_KernelOpgIdeal_ReferenceOpgIdeal (hKernelOpgIdeal := hKernelOpgIdeal) (hReferenceOpgIdeal := hReferenceOpgIdeal)
    ∧ preserves_KernelOpf_KernelOpfIdeal
    ∧ algebraic_KernelOpfIdeal_ReferenceOpfIdeal (hKernelOpfIdeal := hKernelOpfIdeal) (hReferenceOpfIdeal := hReferenceOpfIdeal)
    ∧ preserves_KernelZ_KernelZIdeal
    ∧ algebraic_KernelZIdeal_ReferenceZIdeal (hKernelZIdeal := hKernelZIdeal) (hReferenceZIdeal := hReferenceZIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelRope_KernelRopeIdeal
-- ==== KernelFin.lean ====
abbrev S8x2304x2048 : Shape := ⟨3, ![8, 2304, 2048]⟩
abbrev S2048 : Shape := ⟨1, ![2048]⟩
abbrev S1x2048 : Shape := ⟨2, ![1, 2048]⟩
abbrev S8x2048x2048 : Shape := ⟨3, ![8, 2048, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8x2304x2048, .f32⟩
  | .hbm, ⟨1, _⟩ => ⟨S2048, .f32⟩
  | .hbm, ⟨2, _⟩ => ⟨S1x2048, .f32⟩
  | .hbm, ⟨3, _⟩ => ⟨S8x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x256x2048, .f32⟩
  | .local _ .vmem, ⟨4, _⟩ => ⟨S1x256x2048, .f32⟩
  | _, _ => ⟨S8x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceFinIdeal.lean ====
abbrev S8x2304x2048 : Shape := ⟨3, ![8, 2304, 2048]⟩
abbrev S2048 : Shape := ⟨1, ![2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8x2304x2048, .f32⟩
  | .hbm, ⟨1, _⟩ => ⟨S2048, .f32⟩
  | .hbm, ⟨2, _⟩ => ⟨S8x2048x2048, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S1x1x2048, .f32⟩
  | .hbm, ⟨17, _⟩ => ⟨S8x2048x2048, .f32⟩
  | .hbm, ⟨18, _⟩ => ⟨S8x2048x2048, .f32⟩
  | _, _ => ⟨S8x2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelOpa.lean ====
abbrev S8x2304x2048 : Shape := ⟨3, ![8, 2304, 2048]⟩
abbrev S2048x2048 : Shape := ⟨2, ![2048, 2048]⟩
abbrev S8x2x2048 : Shape := ⟨3, ![8, 2, 2048]⟩
abbrev S1x1152x2048 : Shape := ⟨3, ![1, 1152, 2048]⟩
abbrev S2048x512 : Shape := ⟨2, ![2048, 512]⟩
abbrev S1x1152x512 : Shape := ⟨3, ![1, 1152, 512]⟩
abbrev S1x2x512 : Shape := ⟨3, ![1, 2, 512]⟩
abbrev S1152x2048 : Shape := ⟨2, ![1152, 2048]⟩
abbrev S1152x512 : Shape := ⟨2, ![1152, 512]⟩
abbrev S1152x1 : Shape := ⟨2, ![1152, 1]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S8x2304x2048, .bf16⟩
  | .hbm, ⟨1, _⟩ => ⟨S2048x2048, .f32⟩
  | .hbm, ⟨2, _⟩ => ⟨S8x2304x2048, .f32⟩
  | .hbm, ⟨3, _⟩ => ⟨S8x2x2048, .f32⟩
  | .hbm, ⟨4, _⟩ => ⟨S2048x2048, .bf16⟩
  | .hbm, ⟨5, _⟩ => ⟨S8x2304x2048, .f32⟩
  | .local _ .vmem, ⟨0, _⟩ => ⟨S1x1152x2048, .bf16⟩
  | .local _ .vmem, ⟨1, _⟩ => ⟨S1x1152x2048, .bf16⟩
  | .local _ .vmem, ⟨2, _⟩ => ⟨S2048x512, .bf16⟩
  | .local _ .vmem, ⟨3, _⟩ => ⟨S2048x512, .bf16⟩
  | .local _ .vmem, ⟨4, _⟩ => ⟨S1x1152x512, .f32⟩
  | .local _ .vmem, ⟨5, _⟩ => ⟨S1x1152x512, .f32⟩
  | .local _ .vmem, ⟨6, _⟩ => ⟨S1x2x512, .f32⟩
  | .local _ .vmem, ⟨7, _⟩ => ⟨S1x2x512, .f32⟩
  | .local _ .vmem, ⟨8, _⟩ => ⟨S1x1152x512, .f32⟩
  | .local _ .vmem, ⟨9, _⟩ => ⟨S1x1152x512, .f32⟩
  | _, _ => ⟨S8x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1152x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1152x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelOpaIdeal.lean ====
abbrev S8x2304x2048 : Shape := ⟨3, ![8, 2304, 2048]⟩
abbrev S2048x2048 : Shape := ⟨2, ![2048, 2048]⟩
abbrev S8x2x2048 : Shape := ⟨3, ![8, 2, 2048]⟩
abbrev S1x1152x2048 : Shape := ⟨3, ![1, 1152, 2048]⟩
abbrev S2048x512 : Shape := ⟨2, ![2048, 512]⟩
abbrev S1x1152x512 : Shape := ⟨3, ![1, 1152, 512]⟩
abbrev S1x2x512 : Shape := ⟨3, ![1, 2, 512]⟩
abbrev S1152x2048 : Shape := ⟨2, ![1152, 2048]⟩
abbrev S1152x512 : Shape := ⟨2, ![1152, 512]⟩
abbrev S1152x1 : Shape := ⟨2, ![1152, 1]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S8x2304x2048, .bf16⟩
  | .hbm, ⟨1, _⟩ => ⟨S2048x2048, .f32⟩
  | .hbm, ⟨2, _⟩ => ⟨S8x2304x2048, .f32⟩
  | .hbm, ⟨3, _⟩ => ⟨S8x2x2048, .f32⟩
  | .hbm, ⟨4, _⟩ => ⟨S2048x2048, .bf16⟩
  | .hbm, ⟨5, _⟩ => ⟨S8x2304x2048, .f32⟩
  | .local _ .vmem, ⟨0, _⟩ => ⟨S1x1152x2048, .bf16⟩
  | .local _ .vmem, ⟨1, _⟩ => ⟨S1x1152x2048, .bf16⟩
  | .local _ .vmem, ⟨2, _⟩ => ⟨S2048x512, .bf16⟩
  | .local _ .vmem, ⟨3, _⟩ => ⟨S2048x512, .bf16⟩
  | .local _ .vmem, ⟨4, _⟩ => ⟨S1x1152x512, .f32⟩
  | .local _ .vmem, ⟨5, _⟩ => ⟨S1x1152x512, .f32⟩
  | .local _ .vmem, ⟨6, _⟩ => ⟨S1x2x512, .f32⟩
  | .local _ .vmem, ⟨7, _⟩ => ⟨S1x2x512, .f32⟩
  | .local _ .vmem, ⟨8, _⟩ => ⟨S1x1152x512, .f32⟩
  | .local _ .vmem, ⟨9, _⟩ => ⟨S1x1152x512, .f32⟩
  | _, _ => ⟨S8x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1152x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1152x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceOpaIdeal.lean ====
abbrev S8x2304x2048 : Shape := ⟨3, ![8, 2304, 2048]⟩
abbrev S2048x2048 : Shape := ⟨2, ![2048, 2048]⟩
abbrev S8x2x2048 : Shape := ⟨3, ![8, 2, 2048]⟩
abbrev S8x256x2048 : Shape := ⟨3, ![8, 256, 2048]⟩
abbrev S8x2048x2048 : Shape := ⟨3, ![8, 2048, 2048]⟩
abbrev S8x1x2048 : Shape := ⟨3, ![8, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8x2304x2048, .bf16⟩
  | .hbm, ⟨1, _⟩ => ⟨S2048x2048, .f32⟩
  | .hbm, ⟨2, _⟩ => ⟨S8x2304x2048, .f32⟩
  | .hbm, ⟨3, _⟩ => ⟨S8x2x2048, .f32⟩
  | .hbm, ⟨4, _⟩ => ⟨S8x2304x2048, .f32⟩
  | .hbm, ⟨5, _⟩ => ⟨S8x256x2048, .f32⟩
  | .hbm, ⟨6, _⟩ => ⟨S8x2048x2048, .f32⟩
  | .hbm, ⟨7, _⟩ => ⟨S8x1x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S8x1x2048, .f32⟩
  | .hbm, ⟨14, _⟩ => ⟨S8x256x2048, .f32⟩
  | .hbm, ⟨15, _⟩ => ⟨S8x256x2048, .f32⟩
  | .hbm, ⟨16, _⟩ => ⟨S8x256x2048, .f32⟩
  | .hbm, ⟨17, _⟩ => ⟨S8x256x2048, .f32⟩
  | .hbm, ⟨18, _⟩ => ⟨S8x256x2048, .f32⟩
  | .hbm, ⟨19, _⟩ => ⟨S8x2304x2048, .f32⟩
  | _, _ => ⟨S8x2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== KernelOpg.lean ====
abbrev S8x2304x4096 : Shape := ⟨3, ![8, 2304, 4096]⟩
abbrev S4096x2048 : Shape := ⟨2, ![4096, 2048]⟩
abbrev S8x2304x2048 : Shape := ⟨3, ![8, 2304, 2048]⟩
abbrev S8x2x2048 : Shape := ⟨3, ![8, 2, 2048]⟩
abbrev S1x1152x4096 : Shape := ⟨3, ![1, 1152, 4096]⟩
abbrev S4096x512 : Shape := ⟨2, ![4096, 512]⟩
abbrev S1x1152x512 : Shape := ⟨3, ![1, 1152, 512]⟩
abbrev S1x2x512 : Shape := ⟨3, ![1, 2, 512]⟩
abbrev S1152x4096 : Shape := ⟨2, ![1152, 4096]⟩
abbrev S1152x512 : Shape := ⟨2, ![1152, 512]⟩
abbrev S1152x1 : Shape := ⟨2, ![1152, 1]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S8x2304x4096, .bf16⟩
  | .hbm, ⟨1, _⟩ => ⟨S4096x2048, .f32⟩
  | .hbm, ⟨2, _⟩ => ⟨S8x2304x2048, .f32⟩
  | .hbm, ⟨3, _⟩ => ⟨S8x2x2048, .f32⟩
  | .hbm, ⟨4, _⟩ => ⟨S4096x2048, .bf16⟩
  | .hbm, ⟨5, _⟩ => ⟨S8x2304x2048, .f32⟩
  | .local _ .vmem, ⟨0, _⟩ => ⟨S1x1152x4096, .bf16⟩
  | .local _ .vmem, ⟨1, _⟩ => ⟨S1x1152x4096, .bf16⟩
  | .local _ .vmem, ⟨2, _⟩ => ⟨S4096x512, .bf16⟩
  | .local _ .vmem, ⟨3, _⟩ => ⟨S4096x512, .bf16⟩
  | .local _ .vmem, ⟨4, _⟩ => ⟨S1x1152x512, .f32⟩
  | .local _ .vmem, ⟨5, _⟩ => ⟨S1x1152x512, .f32⟩
  | .local _ .vmem, ⟨6, _⟩ => ⟨S1x2x512, .f32⟩
  | .local _ .vmem, ⟨7, _⟩ => ⟨S1x2x512, .f32⟩
  | .local _ .vmem, ⟨8, _⟩ => ⟨S1x1152x512, .f32⟩
  | .local _ .vmem, ⟨9, _⟩ => ⟨S1x1152x512, .f32⟩
  | _, _ => ⟨S8x2304x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1152x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1152x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1152x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceOpgIdeal.lean ====
abbrev S8x2304x4096 : Shape := ⟨3, ![8, 2304, 4096]⟩
abbrev S4096x2048 : Shape := ⟨2, ![4096, 2048]⟩
abbrev S8x2304x2048 : Shape := ⟨3, ![8, 2304, 2048]⟩
abbrev S8x2x2048 : Shape := ⟨3, ![8, 2, 2048]⟩
abbrev S8x256x2048 : Shape := ⟨3, ![8, 256, 2048]⟩
abbrev S8x2048x2048 : Shape := ⟨3, ![8, 2048, 2048]⟩
abbrev S8x1x2048 : Shape := ⟨3, ![8, 1, 2048]⟩
abbrev S8x2048x4096 : Shape := ⟨3, ![8, 2048, 4096]⟩
abbrev S8x256x4096 : Shape := ⟨3, ![8, 256, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8x2304x4096, .bf16⟩
  | .hbm, ⟨1, _⟩ => ⟨S4096x2048, .f32⟩
  | .hbm, ⟨2, _⟩ => ⟨S8x2304x2048, .f32⟩
  | .hbm, ⟨3, _⟩ => ⟨S8x2x2048, .f32⟩
  | .hbm, ⟨4, _⟩ => ⟨S8x2304x4096, .f32⟩
  | .hbm, ⟨5, _⟩ => ⟨S8x256x2048, .f32⟩
  | .hbm, ⟨6, _⟩ => ⟨S8x2048x2048, .f32⟩
  | .hbm, ⟨7, _⟩ => ⟨S8x1x2048, .f32⟩
  | .hbm, ⟨8, _⟩ => ⟨S8x2048x4096, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S8x1x2048, .f32⟩
  | .hbm, ⟨14, _⟩ => ⟨S8x256x4096, .f32⟩
  | .hbm, ⟨15, _⟩ => ⟨S8x256x2048, .f32⟩
  | .hbm, ⟨16, _⟩ => ⟨S8x256x2048, .f32⟩
  | .hbm, ⟨17, _⟩ => ⟨S8x256x2048, .f32⟩
  | .hbm, ⟨18, _⟩ => ⟨S8x256x2048, .f32⟩
  | .hbm, ⟨19, _⟩ => ⟨S8x2304x2048, .f32⟩
  | _, _ => ⟨S8x2304x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== KernelOpf.lean ====
abbrev S8x2304x5632 : Shape := ⟨3, ![8, 2304, 5632]⟩
abbrev S5504x2048 : Shape := ⟨2, ![5504, 2048]⟩
abbrev S8x2304x2048 : Shape := ⟨3, ![8, 2304, 2048]⟩
abbrev S8x2x2048 : Shape := ⟨3, ![8, 2, 2048]⟩
abbrev S_ : Shape := ⟨0, ![]⟩
abbrev S5632x2048 : Shape := ⟨2, ![5632, 2048]⟩
abbrev S1x1152x5632 : Shape := ⟨3, ![1, 1152, 5632]⟩
abbrev S5632x512 : Shape := ⟨2, ![5632, 512]⟩
abbrev S1x1152x512 : Shape := ⟨3, ![1, 1152, 512]⟩
abbrev S1x2x512 : Shape := ⟨3, ![1, 2, 512]⟩
abbrev S1152x5632 : Shape := ⟨2, ![1152, 5632]⟩
abbrev S1152x512 : Shape := ⟨2, ![1152, 512]⟩
abbrev S1152x1 : Shape := ⟨2, ![1152, 1]⟩
abbrev S1x1x512 : Shape := ⟨3, ![1, 1, 512]⟩
abbrev S1x512 : Shape := ⟨2, ![1, 512]⟩

abbrev nBuf : Space → Nat
  | .hbm => 9
  | .vmem => 10
  | .smem => 0
  | _ => 0

abbrev bufTy : (tb : Table) → Fin (tcTables nBuf tb) → BufTy
  | .hbm, ⟨0, _⟩ => ⟨S8x2304x5632, .bf16⟩
  | .hbm, ⟨1, _⟩ => ⟨S5504x2048, .f32⟩
  | .hbm, ⟨2, _⟩ => ⟨S8x2304x2048, .f32⟩
  | .hbm, ⟨3, _⟩ => ⟨S8x2x2048, .f32⟩
  | .hbm, ⟨4, _⟩ => ⟨S5504x2048, .bf16⟩
  | .hbm, ⟨5, _⟩ => ⟨S_, .i32⟩
  | .hbm, ⟨6, _⟩ => ⟨S_, .bf16⟩
  | .hbm, ⟨7, _⟩ => ⟨S5632x2048, .bf16⟩
  | .hbm, ⟨8, _⟩ => ⟨S8x2304x2048, .f32⟩
  | .local _ .vmem, ⟨0, _⟩ => ⟨S1x1152x5632, .bf16⟩
  | .local _ .vmem, ⟨1, _⟩ => ⟨S1x1152x5632, .bf16⟩
  | .local _ .vmem, ⟨2, _⟩ => ⟨S5632x512, .bf16⟩
  | .local _ .vmem, ⟨3, _⟩ => ⟨S5632x512, .bf16⟩
  | .local _ .vmem, ⟨4, _⟩ => ⟨S1x1152x512, .f32⟩
  | .local _ .vmem, ⟨5, _⟩ => ⟨S1x1152x512, .f32⟩
  | .local _ .vmem, ⟨6, _⟩ => ⟨S1x2x512, .f32⟩
  | .local _ .vmem, ⟨7, _⟩ => ⟨S1x2x512, .f32⟩
  | .local _ .vmem, ⟨8, _⟩ => ⟨S1x1152x512, .f32⟩
  | .local _ .vmem, ⟨9, _⟩ => ⟨S1x1152x512, .f32⟩
  | _, _ => ⟨S8x2304x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1152x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1152x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1152x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceOpfIdeal.lean ====
abbrev S8x2304x5632 : Shape := ⟨3, ![8, 2304, 5632]⟩
abbrev S5504x2048 : Shape := ⟨2, ![5504, 2048]⟩
abbrev S8x2304x2048 : Shape := ⟨3, ![8, 2304, 2048]⟩
abbrev S8x2x2048 : Shape := ⟨3, ![8, 2, 2048]⟩
abbrev S8x2304x5504 : Shape := ⟨3, ![8, 2304, 5504]⟩
abbrev S8x256x2048 : Shape := ⟨3, ![8, 256, 2048]⟩
abbrev S8x2048x2048 : Shape := ⟨3, ![8, 2048, 2048]⟩
abbrev S8x1x2048 : Shape := ⟨3, ![8, 1, 2048]⟩
abbrev S8x2048x5504 : Shape := ⟨3, ![8, 2048, 5504]⟩
abbrev S8x256x5504 : Shape := ⟨3, ![8, 256, 5504]⟩

abbrev nBuf : Space → Nat
  | .hbm => 21
  | .vmem => 0
  | .smem => 0
  | _ => 0

abbrev bufTy : (tb : Table) → Fin (tcTables nBuf tb) → BufTy
  | .hbm, ⟨0, _⟩ => ⟨S8x2304x5632, .bf16⟩
  | .hbm, ⟨1, _⟩ => ⟨S5504x2048, .f32⟩
  | .hbm, ⟨2, _⟩ => ⟨S8x2304x2048, .f32⟩
  | .hbm, ⟨3, _⟩ => ⟨S8x2x2048, .f32⟩
  | .hbm, ⟨4, _⟩ => ⟨S8x2304x5504, .bf16⟩
  | .hbm, ⟨5, _⟩ => ⟨S8x2304x5504, .f32⟩
  | .hbm, ⟨6, _⟩ => ⟨S8x256x2048, .f32⟩
  | .hbm, ⟨7, _⟩ => ⟨S8x2048x2048, .f32⟩
  | .hbm, ⟨8, _⟩ => ⟨S8x1x2048, .f32⟩
  | .hbm, ⟨9, _⟩ => ⟨S8x2048x5504, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x1x2048, .f32⟩
  | .hbm, ⟨15, _⟩ => ⟨S8x256x5504, .f32⟩
  | .hbm, ⟨16, _⟩ => ⟨S8x256x2048, .f32⟩
  | .hbm, ⟨17, _⟩ => ⟨S8x256x2048, .f32⟩
  | .hbm, ⟨18, _⟩ => ⟨S8x256x2048, .f32⟩
  | .hbm, ⟨19, _⟩ => ⟨S8x256x2048, .f32⟩
  | .hbm, ⟨20, _⟩ => ⟨S8x2304x2048, .f32⟩
  | _, _ => ⟨S8x2304x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== KernelZ.lean ====
abbrev S8x2304x2048 : Shape := ⟨3, ![8, 2304, 2048]⟩
abbrev S8x4x2048 : Shape := ⟨3, ![8, 4, 2048]⟩
abbrev S2048 : Shape := ⟨1, ![2048]⟩
abbrev S2048x12416 : Shape := ⟨2, ![2048, 12416]⟩
abbrev S1x2048 : Shape := ⟨2, ![1, 2048]⟩
abbrev S8x2304x4096 : Shape := ⟨3, ![8, 2304, 4096]⟩
abbrev S1x1152x2048 : Shape := ⟨3, ![1, 1152, 2048]⟩
abbrev S1x4x2048 : Shape := ⟨3, ![1, 4, 2048]⟩
abbrev S2048x1024 : Shape := ⟨2, ![2048, 1024]⟩
abbrev S1x1152x1024 : Shape := ⟨3, ![1, 1152, 1024]⟩
abbrev S1152x2048 : Shape := ⟨2, ![1152, 2048]⟩
abbrev S1152x256 : Shape := ⟨2, ![1152, 256]⟩
abbrev S1x1x2048 : Shape := ⟨3, ![1, 1, 2048]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S2048x256 : Shape := ⟨2, ![2048, 256]⟩
abbrev S128x256 : Shape := ⟨2, ![128, 256]⟩
abbrev S1x128x256 : Shape := ⟨3, ![1, 128, 256]⟩

abbrev nBuf : Space → Nat
  | .hbm => 7
  | .vmem => 14
  | .smem => 0
  | _ => 0

abbrev bufTy : (tb : Table) → Fin (tcTables nBuf tb) → BufTy
  | .hbm, ⟨0, _⟩ => ⟨S8x2304x2048, .f32⟩
  | .hbm, ⟨1, _⟩ => ⟨S8x4x2048, .f32⟩
  | .hbm, ⟨2, _⟩ => ⟨S2048, .f32⟩
  | .hbm, ⟨3, _⟩ => ⟨S2048x12416, .f32⟩
  | .hbm, ⟨4, _⟩ => ⟨S2048x12416, .bf16⟩
  | .hbm, ⟨5, _⟩ => ⟨S1x2048, .f32⟩
  | .hbm, ⟨6, _⟩ => ⟨S8x2304x4096, .bf16⟩
  | .local _ .vmem, ⟨0, _⟩ => ⟨S1x1152x2048, .f32⟩
  | .local _ .vmem, ⟨1, _⟩ => ⟨S1x1152x2048, .f32⟩
  | .local _ .vmem, ⟨2, _⟩ => ⟨S1x4x2048, .f32⟩
  | .local _ .vmem, ⟨3, _⟩ => ⟨S1x4x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1x1152x1024, .bf16⟩
  | .local _ .vmem, ⟨8, _⟩ => ⟨S1x1152x1024, .bf16⟩
  | .local _ .vmem, ⟨9, _⟩ => ⟨S1152x2048, .bf16⟩
  | .local _ .vmem, ⟨10, _⟩ => ⟨S1152x256, .f32⟩
  | .local _ .vmem, ⟨11, _⟩ => ⟨S1152x256, .f32⟩
  | .local _ .vmem, ⟨12, _⟩ => ⟨S1152x256, .f32⟩
  | .local _ .vmem, ⟨13, _⟩ => ⟨S1152x256, .f32⟩
  | _, _ => ⟨S8x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_212 : BitVec 32 := 0#32
  let c72_i32 : BitVec 32 := 72#32
  let v228 : BitVec 32 := Scalar.addi c0_i32_212 c72_i32
  let c1_i32 : BitVec 32 := 1#32
  ⟨c0_i32_212, v228, c1_i32⟩
def k0_mult1 (k0_t1 : Fin k0_t1_loop.trips) : BitVec 32 :=
  let c0_i32_212 : BitVec 32 := 0#32
  let c1_i32 : BitVec 32 := 1#32
  let arg13 : BitVec 32 := Scf.iv c0_i32_212 c1_i32 k0_t1
  let c16_i32 : BitVec 32 := 16#32
  let v229 : BitVec 32 := Scalar.muli arg13 c16_i32
  v229
def k0_off1 (k0_t1 : Fin k0_t1_loop.trips) : Fin 3 → Nat :=
  let c0_214 : Index := 0#32
  let c0_i32_212 : BitVec 32 := 0#32
  let c1_i32 : BitVec 32 := 1#32
  let arg13 : BitVec 32 := Scf.iv c0_i32_212 c1_i32 k0_t1
  let c16_i32 : BitVec 32 := 16#32
  let v229 : BitVec 32 := Scalar.muli arg13 c16_i32
  let v230 : BitVec 32 := v229
  let v231 : Index := Scalar.indexCast v230
  let c0_215 : Index := 0#32
  ![0, v231.toNat, 0]
def k0_off2 (k0_t1 : Fin k0_t1_loop.trips) : Fin 2 → Nat :=
  let c0_i32_219 : BitVec 32 := 0#32
  let c0_i32_212 : BitVec 32 := 0#32
  let c1_i32 : BitVec 32 := 1#32
  let arg13 : BitVec 32 := Scf.iv c0_i32_212 c1_i32 k0_t1
  let c16_i32 : BitVec 32 := 16#32
  let v229 : BitVec 32 := Scalar.muli arg13 c16_i32
  let v230 : BitVec 32 := v229
  let v267 : BitVec 32 := Scalar.addi c0_i32_219 v230
  let v268 : Index := Scalar.indexCast v267
  let c0_220 : Index := 0#32
  ![v268.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1152x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1152x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceZIdeal.lean ====
abbrev S8x2304x2048 : Shape := ⟨3, ![8, 2304, 2048]⟩
abbrev S8x4x2048 : Shape := ⟨3, ![8, 4, 2048]⟩
abbrev S2048 : Shape := ⟨1, ![2048]⟩
abbrev S2048x12416 : Shape := ⟨2, ![2048, 12416]⟩
abbrev S2048x4096 : Shape := ⟨2, ![2048, 4096]⟩
abbrev S8x256x2048 : Shape := ⟨3, ![8, 256, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x1x2048 : Shape := ⟨3, ![8, 1, 2048]⟩
abbrev S8x256 : Shape := ⟨2, ![8, 256]⟩
abbrev S8x256x1 : Shape := ⟨3, ![8, 256, 1]⟩
abbrev S8x256x4096 : Shape := ⟨3, ![8, 256, 4096]⟩
abbrev S8x2048x4096 : Shape := ⟨3, ![8, 2048, 4096]⟩
abbrev S8x2304x4096 : Shape := ⟨3, ![8, 2304, 4096]⟩

abbrev nBuf : Space → Nat
  | .hbm => 61
  | .vmem => 0
  | .smem => 0
  | _ => 0

abbrev bufTy : (tb : Table) → Fin (tcTables nBuf tb) → BufTy
  | .hbm, ⟨0, _⟩ => ⟨S8x2304x2048, .f32⟩
  | .hbm, ⟨1, _⟩ => ⟨S8x4x2048, .f32⟩
  | .hbm, ⟨2, _⟩ => ⟨S2048, .f32⟩
  | .hbm, ⟨3, _⟩ => ⟨S2048x12416, .f32⟩
  | .hbm, ⟨4, _⟩ => ⟨S2048x4096, .f32⟩
  | .hbm, ⟨5, _⟩ => ⟨S8x256x2048, .f32⟩
  | .hbm, ⟨6, _⟩ => ⟨S8x2048x2048, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S1x1x2048, .f32⟩
  | .hbm, ⟨21, _⟩ => ⟨S8x2048x2048, .f32⟩
  | .hbm, ⟨22, _⟩ => ⟨S8x2048x2048, .f32⟩
  | .hbm, ⟨23, _⟩ => ⟨S8x1x2048, .f32⟩
  | .hbm, ⟨24, _⟩ => ⟨S_, .f32⟩
  | .hbm, ⟨25, _⟩ => ⟨S8x1x2048, .f32⟩
  | .hbm, ⟨26, _⟩ => ⟨S8x1x2048, .f32⟩
  | .hbm, ⟨27, _⟩ => ⟨S8x2048x2048, .f32⟩
  | .hbm, ⟨28, _⟩ => ⟨S8x2048x2048, .f32⟩
  | .hbm, ⟨29, _⟩ => ⟨S8x1x2048, .f32⟩
  | .hbm, ⟨30, _⟩ => ⟨S8x2048x2048, .f32⟩
  | .hbm, ⟨31, _⟩ => ⟨S8x2048x2048, .f32⟩
  | .hbm, ⟨32, _⟩ => ⟨S8x256x2048, .f32⟩
  | .hbm, ⟨33, _⟩ => ⟨S_, .f32⟩
  | .hbm, ⟨34, _⟩ => ⟨S8x256, .f32⟩
  | .hbm, ⟨35, _⟩ => ⟨S8x256x1, .f32⟩
  | .hbm, ⟨36, _⟩ => ⟨S_, .f32⟩
  | .hbm, ⟨37, _⟩ => ⟨S8x256x1, .f32⟩
  | .hbm, ⟨38, _⟩ => ⟨S8x256x1, .f32⟩
  | .hbm, ⟨39, _⟩ => ⟨S_, .f32⟩
  | .hbm, ⟨40, _⟩ => ⟨S8x256x1, .f32⟩
  | .hbm, ⟨41, _⟩ => ⟨S8x256x1, .f32⟩
  | .hbm, ⟨42, _⟩ => ⟨S8x256x1, .f32⟩
  | .hbm, ⟨43, _⟩ => ⟨S8x256x2048, .f32⟩
  | .hbm, ⟨44, _⟩ => ⟨S8x256x2048, .f32⟩
  | .hbm, ⟨45, _⟩ => ⟨S1x1x2048, .f32⟩
  | .hbm, ⟨46, _⟩ => ⟨S8x256x2048, .f32⟩
  | .hbm, ⟨47, _⟩ => ⟨S8x256x2048, .f32⟩
  | .hbm, ⟨48, _⟩ => ⟨S8x1x2048, .f32⟩
  | .hbm, ⟨49, _⟩ => ⟨S_, .f32⟩
  | .hbm, ⟨50, _⟩ => ⟨S8x1x2048, .f32⟩
  | .hbm, ⟨51, _⟩ => ⟨S8x1x2048, .f32⟩
  | .hbm, ⟨52, _⟩ => ⟨S8x256x2048, .f32⟩
  | .hbm, ⟨53, _⟩ => ⟨S8x256x2048, .f32⟩
  | .hbm, ⟨54, _⟩ => ⟨S8x1x2048, .f32⟩
  | .hbm, ⟨55, _⟩ => ⟨S8x256x2048, .f32⟩
  | .hbm, ⟨56, _⟩ => ⟨S8x256x2048, .f32⟩
  | .hbm, ⟨57, _⟩ => ⟨S8x256x4096, .f32⟩
  | .hbm, ⟨58, _⟩ => ⟨S8x2048x4096, .f32⟩
  | .hbm, ⟨59, _⟩ => ⟨S8x2304x4096, .f32⟩
  | .hbm, ⟨60, _⟩ => ⟨S8x2304x4096, .bf16⟩
  | _, _ => ⟨S8x2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]
-- ==== KernelFfn.lean ====
abbrev S8x2304x2048 : Shape := ⟨3, ![8, 2304, 2048]⟩
abbrev S8x4x2048 : Shape := ⟨3, ![8, 4, 2048]⟩
abbrev S2048 : Shape := ⟨1, ![2048]⟩
abbrev S2048x11008 : Shape := ⟨2, ![2048, 11008]⟩
abbrev S3x11008 : Shape := ⟨2, ![3, 11008]⟩
abbrev S_ : Shape := ⟨0, ![]⟩
abbrev S2048x128 : Shape := ⟨2, ![2048, 128]⟩
abbrev S2048x5504 : Shape := ⟨2, ![2048, 5504]⟩
abbrev S2048x11264 : Shape := ⟨2, ![2048, 11264]⟩
abbrev S3x128 : Shape := ⟨2, ![3, 128]⟩
abbrev S3x5504 : Shape := ⟨2, ![3, 5504]⟩
abbrev S3x11264 : Shape := ⟨2, ![3, 11264]⟩
abbrev S1x2048 : Shape := ⟨2, ![1, 2048]⟩
abbrev S8x2304x5632 : Shape := ⟨3, ![8, 2304, 5632]⟩
abbrev S1x768x2048 : Shape := ⟨3, ![1, 768, 2048]⟩
abbrev S1x16x2048 : Shape := ⟨3, ![1, 16, 2048]⟩
abbrev S1x4x2048 : Shape := ⟨3, ![1, 4, 2048]⟩
abbrev S2048x512 : Shape := ⟨2, ![2048, 512]⟩
abbrev S3x512 : Shape := ⟨2, ![3, 512]⟩
abbrev S1x768x512 : Shape := ⟨3, ![1, 768, 512]⟩
abbrev S800x2048 : Shape := ⟨2, ![800, 2048]⟩
abbrev S800x512 : Shape := ⟨2, ![800, 512]⟩
abbrev S1x1x2048 : Shape := ⟨3, ![1, 1, 2048]⟩
abbrev S16x2048 : Shape := ⟨2, ![16, 2048]⟩
abbrev S16 : Shape := ⟨1, ![16]⟩
abbrev S16x1 : Shape := ⟨2, ![16, 1]⟩
abbrev S128x512 : Shape := ⟨2, ![128, 512]⟩
abbrev S1x512 : Shape := ⟨2, ![1, 512]⟩
abbrev S1x128x512 : Shape := ⟨3, ![1, 128, 512]⟩
abbrev S32x512 : Shape := ⟨2, ![32, 512]⟩
abbrev S32x1 : Shape := ⟨2, ![32, 1]⟩
abbrev S1x32x512 : Shape := ⟨3, ![1, 32, 512]⟩

abbrev nBuf : Space → Nat
  | .hbm => 19
  | .vmem => 22
  | .smem => 0
  | _ => 0

abbrev bufTy : (tb : Table) → Fin (tcTables nBuf tb) → BufTy
  | .hbm, ⟨0, _⟩ => ⟨S8x2304x2048, .f32⟩
  | .hbm, ⟨1, _⟩ => ⟨S8x4x2048, .f32⟩
  | .hbm, ⟨2, _⟩ => ⟨S2048, .f32⟩
  | .hbm, ⟨3, _⟩ => ⟨S2048x11008, .f32⟩
  | .hbm, ⟨4, _⟩ => ⟨S3x11008, .f32⟩
  | .hbm, ⟨5, _⟩ => ⟨S_, .bf16⟩
  | .hbm, ⟨6, _⟩ => ⟨S2048x128, .bf16⟩
  | .hbm, ⟨7, _⟩ => ⟨S2048x5504, .f32⟩
  | .hbm, ⟨8, _⟩ => ⟨S2048x5504, .bf16⟩
  | .hbm, ⟨9, _⟩ => ⟨S2048x5504, .f32⟩
  | .hbm, ⟨10, _⟩ => ⟨S2048x5504, .bf16⟩
  | .hbm, ⟨11, _⟩ => ⟨S2048x11264, .bf16⟩
  | .hbm, ⟨12, _⟩ => ⟨S_, .f32⟩
  | .hbm, ⟨13, _⟩ => ⟨S3x128, .f32⟩
  | .hbm, ⟨14, _⟩ => ⟨S3x5504, .f32⟩
  | .hbm, ⟨15, _⟩ => ⟨S3x5504, .f32⟩
  | .hbm, ⟨16, _⟩ => ⟨S3x11264, .f32⟩
  | .hbm, ⟨17, _⟩ => ⟨S1x2048, .f32⟩
  | .hbm, ⟨18, _⟩ => ⟨S8x2304x5632, .bf16⟩
  | .local _ .vmem, ⟨0, _⟩ => ⟨S1x768x2048, .f32⟩
  | .local _ .vmem, ⟨1, _⟩ => ⟨S1x768x2048, .f32⟩
  | .local _ .vmem, ⟨2, _⟩ => ⟨S1x16x2048, .f32⟩
  | .local _ .vmem, ⟨3, _⟩ => ⟨S1x16x2048, .f32⟩
  | .local _ .vmem, ⟨4, _⟩ => ⟨S1x16x2048, .f32⟩
  | .local _ .vmem, ⟨5, _⟩ => ⟨S1x16x2048, .f32⟩
  | .local _ .vmem, ⟨6, _⟩ => ⟨S1x4x2048, .f32⟩
  | .local _ .vmem, ⟨7, _⟩ => ⟨S1x4x2048, .f32⟩
  | .local _ .vmem, ⟨8, _⟩ => ⟨S1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S3x512, .f32⟩
  | .local _ .vmem, ⟨14, _⟩ => ⟨S3x512, .f32⟩
  | .local _ .vmem, ⟨15, _⟩ => ⟨S3x512, .f32⟩
  | .local _ .vmem, ⟨16, _⟩ => ⟨S3x512, .f32⟩
  | .local _ .vmem, ⟨17, _⟩ => ⟨S1x768x512, .bf16⟩
  | .local _ .vmem, ⟨18, _⟩ => ⟨S1x768x512, .bf16⟩
  | .local _ .vmem, ⟨19, _⟩ => ⟨S800x2048, .bf16⟩
  | .local _ .vmem, ⟨20, _⟩ => ⟨S800x512, .f32⟩
  | .local _ .vmem, ⟨21, _⟩ => ⟨S800x512, .f32⟩
  | _, _ => ⟨S8x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![8, 3, 11], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_167 : BitVec 32 := 0#32
  let c48_i32 : BitVec 32 := 48#32
  let v283 : BitVec 32 := Scalar.addi c0_i32_167 c48_i32
  let c1_i32 : BitVec 32 := 1#32
  ⟨c0_i32_167, v283, c1_i32⟩
def k0_mult1 (k0_t1 : Fin k0_t1_loop.trips) : BitVec 32 :=
  let c0_i32_167 : BitVec 32 := 0#32
  let c1_i32 : BitVec 32 := 1#32
  let arg16 : BitVec 32 := Scf.iv c0_i32_167 c1_i32 k0_t1
  let c16_i32_203 : BitVec 32 := 16#32
  let v390 : BitVec 32 := Scalar.muli arg16 c16_i32_203
  v390
def k0_off1 (k0_t1 : Fin k0_t1_loop.trips) : Fin 3 → Nat :=
  let c0_204 : Index := 0#32
  let c0_i32_167 : BitVec 32 := 0#32
  let c1_i32 : BitVec 32 := 1#32
  let arg16 : BitVec 32 := Scf.iv c0_i32_167 c1_i32 k0_t1
  let c16_i32_203 : BitVec 32 := 16#32
  let v390 : BitVec 32 := Scalar.muli arg16 c16_i32_203
  let v391 : BitVec 32 := v390
  let v392 : Index := Scalar.indexCast v391
  let c0_205 : Index := 0#32
  ![0, v392.toNat, 0]
def k0_off2 (k0_t1 : Fin k0_t1_loop.trips) : Fin 2 → Nat :=
  let c16_i32_210 : BitVec 32 := 16#32
  let c0_i32_167 : BitVec 32 := 0#32
  let c1_i32 : BitVec 32 := 1#32
  let arg16 : BitVec 32 := Scf.iv c0_i32_167 c1_i32 k0_t1
  let c16_i32_203 : BitVec 32 := 16#32
  let v390 : BitVec 32 := Scalar.muli arg16 c16_i32_203
  let v391 : BitVec 32 := v390
  let v428 : BitVec 32 := Scalar.addi c16_i32_210 v391
  let v429 : Index := Scalar.indexCast v428
  let c0_211 : Index := 0#32
  ![v429.toNat, 0]
def k0_mult2 : BitVec 32 :=
  let c0_i32_178 : BitVec 32 := 0#32
  let c16_i32_179 : BitVec 32 := 16#32
  let v298 : BitVec 32 := Scalar.muli c0_i32_178 c16_i32_179
  v298
def k0_off3 : Fin 3 → Nat :=
  let c0_180 : Index := 0#32
  let c0_i32_178 : BitVec 32 := 0#32
  let c16_i32_179 : BitVec 32 := 16#32
  let v298 : BitVec 32 := Scalar.muli c0_i32_178 c16_i32_179
  let v299 : BitVec 32 := v298
  let v300 : Index := Scalar.indexCast v299
  let c0_181 : Index := 0#32
  ![0, v300.toNat, 0]
def k0_off4 (c0_i32_187 : BitVec 32) : Fin 2 → Nat :=
  let c0_i32_178 : BitVec 32 := 0#32
  let c16_i32_179 : BitVec 32 := 16#32
  let v298 : BitVec 32 := Scalar.muli c0_i32_178 c16_i32_179
  let v299 : BitVec 32 := v298
  let v338 : BitVec 32 := Scalar.addi c0_i32_187 v299
  let v339 : Index := Scalar.indexCast v338
  let c0_188 : Index := 0#32
  ![v339.toNat, 0]
def k0_mult3 : BitVec 32 :=
  let c0_i32_192 : BitVec 32 := 0#32
  let c16_i32_193 : BitVec 32 := 16#32
  let v345 : BitVec 32 := Scalar.muli c0_i32_192 c16_i32_193
  v345
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.muli arg1 c48_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c48_i32 : BitVec 32 := 48#32
  let v1 : BitVec 32 := Scalar.muli v0 c48_i32
  let c143_i32 : BitVec 32 := 143#32
  let v2 : BitVec 32 := Scalar.minsi v1 c143_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S3x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x768x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceFfnIdeal.lean ====
abbrev S8x2304x2048 : Shape := ⟨3, ![8, 2304, 2048]⟩
abbrev S8x4x2048 : Shape := ⟨3, ![8, 4, 2048]⟩
abbrev S2048 : Shape := ⟨1, ![2048]⟩
abbrev S2048x11008 : Shape := ⟨2, ![2048, 11008]⟩
abbrev S3x11008 : Shape := ⟨2, ![3, 11008]⟩
abbrev S8x256x2048 : Shape := ⟨3, ![8, 256, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x1x2048 : Shape := ⟨3, ![8, 1, 2048]⟩
abbrev S8x256 : Shape := ⟨2, ![8, 256]⟩
abbrev S8x256x1 : Shape := ⟨3, ![8, 256, 1]⟩
abbrev S8x256x11008 : Shape := ⟨3, ![8, 256, 11008]⟩
abbrev S8x258x11008 : Shape := ⟨3, ![8, 258, 11008]⟩
abbrev S1x11008 : Shape := ⟨2, ![1, 11008]⟩
abbrev S11008 : Shape := ⟨1, ![11008]⟩
abbrev S1x1x11008 : Shape := ⟨3, ![1, 1, 11008]⟩
abbrev S8x256x5504 : Shape := ⟨3, ![8, 256, 5504]⟩
abbrev S8x2048x11008 : Shape := ⟨3, ![8, 2048, 11008]⟩
abbrev S8x2050x11008 : Shape := ⟨3, ![8, 2050, 11008]⟩
abbrev S8x2048x5504 : Shape := ⟨3, ![8, 2048, 5504]⟩
abbrev S8x2304x5504 : Shape := ⟨3, ![8, 2304, 5504]⟩
abbrev S8x2304x5632 : Shape := ⟨3, ![8, 2304, 5632]⟩

abbrev nBuf : Space → Nat
  | .hbm => 134
  | .vmem => 0
  | .smem => 0
  | _ => 0

abbrev hbmTy0_0 (i : Nat) : BufTy := match i % 128 with
  | 0 => ⟨S8x2304x2048, .f32⟩
  | 1 => ⟨S8x4x2048, .f32⟩
  | 2 => ⟨S2048, .f32⟩
  | 3 => ⟨S2048x11008, .f32⟩
  | 4 => ⟨S3x11008, .f32⟩
  | 5 => ⟨S8x256x2048, .f32⟩
  | 6 => ⟨S8x2048x2048, .f32⟩
  | 7 => ⟨S8x2048x2048, .f32⟩
  | 8 => ⟨S_, .f32⟩
  | 9 => ⟨S8x2048, .f32⟩
  | 10 => ⟨S8x2048x1, .f32⟩
  | 11 => ⟨S_, .f32⟩
  | 12 => ⟨S8x2048x1, .f32⟩
  | 13 => ⟨S8x2048x1, .f32⟩
  | 14 => ⟨S_, .f32⟩
  | 15 => ⟨S8x2048x1, .f32⟩
  | 16 => ⟨S8x2048x1, .f32⟩
  | 17 => ⟨S8x2048x1, .f32⟩
  | 18 => ⟨S8x2048x2048, .f32⟩
  | 19 => ⟨S8x2048x2048, .f32⟩
  | 20 => ⟨S1x1x2048, .f32⟩
  | 21 => ⟨S8x2048x2048, .f32⟩
  | 22 => ⟨S8x2048x2048, .f32⟩
  | 23 => ⟨S8x1x2048, .f32⟩
  | 24 => ⟨S_, .f32⟩
  | 25 => ⟨S8x1x2048, .f32⟩
  | 26 => ⟨S8x1x2048, .f32⟩
  | 27 => ⟨S8x2048x2048, .f32⟩
  | 28 => ⟨S8x2048x2048, .f32⟩
  | 29 => ⟨S8x1x2048, .f32⟩
  | 30 => ⟨S8x2048x2048, .f32⟩
  | 31 => ⟨S8x2048x2048, .f32⟩
  | 32 => ⟨S8x256x2048, .f32⟩
  | 33 => ⟨S_, .f32⟩
  | 34 => ⟨S8x256, .f32⟩
  | 35 => ⟨S8x256x1, .f32⟩
  | 36 => ⟨S_, .f32⟩
  | 37 => ⟨S8x256x1, .f32⟩
  | 38 => ⟨S8x256x1, .f32⟩
  | 39 => ⟨S_, .f32⟩
  | 40 => ⟨S8x256x1, .f32⟩
  | 41 => ⟨S8x256x1, .f32⟩
  | 42 => ⟨S8x256x1, .f32⟩
  | 43 => ⟨S8x256x2048, .f32⟩
  | 44 => ⟨S8x256x2048, .f32⟩
  | 45 => ⟨S1x1x2048, .f32⟩
  | 46 => ⟨S8x256x2048, .f32⟩
  | 47 => ⟨S8x256x2048, .f32⟩
  | 48 => ⟨S8x1x2048, .f32⟩
  | 49 => ⟨S_, .f32⟩
  | 50 => ⟨S8x1x2048, .f32⟩
  | 51 => ⟨S8x1x2048, .f32⟩
  | 52 => ⟨S8x256x2048, .f32⟩
  | 53 => ⟨S8x256x2048, .f32⟩
  | 54 => ⟨S8x1x2048, .f32⟩
  | 55 => ⟨S8x256x2048, .f32⟩
  | 56 => ⟨S8x256x2048, .f32⟩
  | 57 => ⟨S8x256x11008, .f32⟩
  | 58 => ⟨S_, .i32⟩
  | 59 => ⟨S_, .f32⟩
  | 60 => ⟨S8x258x11008, .f32⟩
  | 61 => ⟨S8x256x11008, .f32⟩
  | 62 => ⟨S1x11008, .f32⟩
  | 63 => ⟨S11008, .f32⟩
  | 64 => ⟨S1x1x11008, .f32⟩
  | 65 => ⟨S8x256x11008, .f32⟩
  | 66 => ⟨S8x256x11008, .f32⟩
  | 67 => ⟨S8x256x11008, .f32⟩
  | 68 => ⟨S1x11008, .f32⟩
  | 69 => ⟨S11008, .f32⟩
  | 70 => ⟨S1x1x11008, .f32⟩
  | 71 => ⟨S8x256x11008, .f32⟩
  | 72 => ⟨S8x256x11008, .f32⟩
  | 73 => ⟨S8x256x11008, .f32⟩
  | 74 => ⟨S8x256x11008, .f32⟩
  | 75 => ⟨S1x11008, .f32⟩
  | 76 => ⟨S11008, .f32⟩
  | 77 => ⟨S1x1x11008, .f32⟩
  | 78 => ⟨S8x256x11008, .f32⟩
  | 79 => ⟨S8x256x11008, .f32⟩
  | 80 => ⟨S8x256x11008, .f32⟩
  | 81 => ⟨S8x256x5504, .f32⟩
  | 82 => ⟨S8x256x5504, .f32⟩
  | 83 => ⟨S8x256x5504, .f32⟩
  | 84 => ⟨S8x256x5504, .f32⟩
  | 85 => ⟨S_, .f32⟩
  | 86 => ⟨S8x256x5504, .f32⟩
  | 87 => ⟨S8x256x5504, .f32⟩
  | 88 => ⟨S_, .f32⟩
  | 89 => ⟨S8x256x5504, .f32⟩
  | 90 => ⟨S8x256x5504, .f32⟩
  | 91 => ⟨S8x256x5504, .f32⟩
  | 92 => ⟨S8x256x5504, .f32⟩
  | 93 => ⟨S8x2048x11008, .f32⟩
  | 94 => ⟨S_, .i32⟩
  | 95 => ⟨S_, .f32⟩
  | 96 => ⟨S8x2050x11008, .f32⟩
  | 97 => ⟨S8x2048x11008, .f32⟩
  | 98 => ⟨S1x11008, .f32⟩
  | 99 => ⟨S11008, .f32⟩
  | 100 => ⟨S1x1x11008, .f32⟩
  | 101 => ⟨S8x2048x11008, .f32⟩
  | 102 => ⟨S8x2048x11008, .f32⟩
  | 103 => ⟨S8x2048x11008, .f32⟩
  | 104 => ⟨S1x11008, .f32⟩
  | 105 => ⟨S11008, .f32⟩
  | 106 => ⟨S1x1x11008, .f32⟩
  | 107 => ⟨S8x2048x11008, .f32⟩
  | 108 => ⟨S8x2048x11008, .f32⟩
  | 109 => ⟨S8x2048x11008, .f32⟩
  | 110 => ⟨S8x2048x11008, .f32⟩
  | 111 => ⟨S1x11008, .f32⟩
  | 112 => ⟨S11008, .f32⟩
  | 113 => ⟨S1x1x11008, .f32⟩
  | 114 => ⟨S8x2048x11008, .f32⟩
  | 115 => ⟨S8x2048x11008, .f32⟩
  | 116 => ⟨S8x2048x11008, .f32⟩
  | 117 => ⟨S8x2048x5504, .f32⟩
  | 118 => ⟨S8x2048x5504, .f32⟩
  | 119 => ⟨S8x2048x5504, .f32⟩
  | 120 => ⟨S8x2048x5504, .f32⟩
  | 121 => ⟨S_, .f32⟩
  | 122 => ⟨S8x2048x5504, .f32⟩
  | 123 => ⟨S8x2048x5504, .f32⟩
  | 124 => ⟨S_, .f32⟩
  | 125 => ⟨S8x2048x5504, .f32⟩
  | 126 => ⟨S8x2048x5504, .f32⟩
  | 127 => ⟨S8x2048x5504, .f32⟩
  | _ => ⟨S8x2304x2048, .f32⟩

abbrev hbmTy0_1 (i : Nat) : BufTy := match i % 128 with
  | 0 => ⟨S8x2048x5504, .f32⟩
  | 1 => ⟨S8x2304x5504, .f32⟩
  | 2 => ⟨S_, .i32⟩
  | 3 => ⟨S_, .f32⟩
  | 4 => ⟨S8x2304x5632, .f32⟩
  | 5 => ⟨S8x2304x5632, .bf16⟩
  | _ => ⟨S8x2304x2048, .f32⟩

abbrev hbmTy (i : Nat) : BufTy := match i / 128 with
  | 0 => hbmTy0_0 i
  | 1 => hbmTy0_1 i
  | _ => ⟨S8x2304x2048, .f32⟩

abbrev bufTy : (tb : Table) → Fin (tcTables nBuf tb) → BufTy
  | .hbm, ⟨i, _⟩ => hbmTy i
  | _, _ => ⟨S8x2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c : Ref sig .tc := ⟨.hbm, 58, rfl⟩
abbrev main_call0_v0 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_7 : Ref sig .tc := ⟨.hbm, 94, rfl⟩
abbrev main_call2_v0 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_call3_v0 : Ref sig .tc := ⟨.hbm, 119, rfl⟩
abbrev main_call3_v1 : Ref sig .tc := ⟨.hbm, 120, rfl⟩
abbrev main_call3_cst : Ref sig .tc := ⟨.hbm, 121, rfl⟩
abbrev main_call3_v2 : Ref sig .tc := ⟨.hbm, 122, rfl⟩
abbrev main_call3_v3 : Ref sig .tc := ⟨.hbm, 123, rfl⟩
abbrev main_call3_cst_0 : Ref sig .tc := ⟨.hbm, 124, rfl⟩
abbrev main_call3_v4 : Ref sig .tc := ⟨.hbm, 125, rfl⟩
abbrev main_call3_v5 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_c_8 : Ref sig .tc := ⟨.hbm, 130, rfl⟩
abbrev main_call4_v0 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]
-- ==== KernelRope.lean ====
abbrev S8x2304x2048 : Shape := ⟨3, ![8, 2304, 2048]⟩
abbrev S8x4x2048 : Shape := ⟨3, ![8, 4, 2048]⟩
abbrev S2048 : Shape := ⟨1, ![2048]⟩
abbrev S2048x6144 : Shape := ⟨2, ![2048, 6144]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S256x128 : Shape := ⟨2, ![256, 128]⟩
abbrev S2304x128 : Shape := ⟨2, ![2304, 128]⟩
abbrev S1x2304x1x128 : Shape := ⟨4, ![1, 2304, 1, 128]⟩
abbrev S1x2304x2x128 : Shape := ⟨4, ![1, 2304, 2, 128]⟩
abbrev S2304x256 : Shape := ⟨2, ![2304, 256]⟩
abbrev S1x2048 : Shape := ⟨2, ![1, 2048]⟩
abbrev S8x2304x6144 : Shape := ⟨3, ![8, 2304, 6144]⟩
abbrev S1x1152x2048 : Shape := ⟨3, ![1, 1152, 2048]⟩
abbrev S1x4x2048 : Shape := ⟨3, ![1, 4, 2048]⟩
abbrev S2048x1024 : Shape := ⟨2, ![2048, 1024]⟩
abbrev S1152x256 : Shape := ⟨2, ![1152, 256]⟩
abbrev S1x1152x1024 : Shape := ⟨3, ![1, 1152, 1024]⟩
abbrev S1152x2048 : Shape := ⟨2, ![1152, 2048]⟩
abbrev S1x1x2048 : Shape := ⟨3, ![1, 1, 2048]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S2048x256 : Shape := ⟨2, ![2048, 256]⟩
abbrev S128x256 : Shape := ⟨2, ![128, 256]⟩
abbrev S1x256 : Shape := ⟨2, ![1, 256]⟩
abbrev S1x128x256 : Shape := ⟨3, ![1, 128, 256]⟩

abbrev nBuf : Space → Nat
  | .hbm => 92
  | .vmem => 18
  | .smem => 0
  | _ => 0

abbrev bufTy : (tb : Table) → Fin (tcTables nBuf tb) → BufTy
  | .hbm, ⟨0, _⟩ => ⟨S8x2304x2048, .f32⟩
  | .hbm, ⟨1, _⟩ => ⟨S8x4x2048, .f32⟩
  | .hbm, ⟨2, _⟩ => ⟨S2048, .f32⟩
  | .hbm, ⟨3, _⟩ => ⟨S2048x6144, .f32⟩
  | .hbm, ⟨4, _⟩ => ⟨S2048, .i32⟩
  | .hbm, ⟨5, _⟩ => ⟨S_, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S2048, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S_, .i32⟩
  | .hbm, ⟨39, _⟩ => ⟨S_, .i1⟩
  | .hbm, ⟨40, _⟩ => ⟨S2048, .i1⟩
  | .hbm, ⟨41, _⟩ => ⟨S2048, .i1⟩
  | .hbm, ⟨42, _⟩ => ⟨S2048, .i1⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S2048, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S2048x1, .f32⟩
  | .hbm, ⟨56, _⟩ => ⟨S1x32, .f32⟩
  | .hbm, ⟨57, _⟩ => ⟨S2048x32, .f32⟩
  | .hbm, ⟨58, _⟩ => ⟨S2048x32, .f32⟩
  | .hbm, ⟨59, _⟩ => ⟨S2048x32, .f32⟩
  | .hbm, ⟨60, _⟩ => ⟨S2048x1, .f32⟩
  | .hbm, ⟨61, _⟩ => ⟨S1x32, .f32⟩
  | .hbm, ⟨62, _⟩ => ⟨S2048x32, .f32⟩
  | .hbm, ⟨63, _⟩ => ⟨S2048x32, .f32⟩
  | .hbm, ⟨64, _⟩ => ⟨S2048x32, .f32⟩
  | .hbm, ⟨65, _⟩ => ⟨S2048x32, .f32⟩
  | .hbm, ⟨66, _⟩ => ⟨S2048x32, .f32⟩
  | .hbm, ⟨67, _⟩ => ⟨S2048x32, .f32⟩
  | .hbm, ⟨68, _⟩ => ⟨S2048x32, .f32⟩
  | .hbm, ⟨69, _⟩ => ⟨S2048x128, .f32⟩
  | .hbm, ⟨70, _⟩ => ⟨S2048x32, .f32⟩
  | .hbm, ⟨71, _⟩ => ⟨S2048x32, .f32⟩
  | .hbm, ⟨72, _⟩ => ⟨S2048x32, .f32⟩
  | .hbm, ⟨73, _⟩ => ⟨S2048x32, .f32⟩
  | .hbm, ⟨74, _⟩ => ⟨S2048x32, .f32⟩
  | .hbm, ⟨75, _⟩ => ⟨S2048x32, .f32⟩
  | .hbm, ⟨76, _⟩ => ⟨S2048x128, .f32⟩
  | .hbm, ⟨77, _⟩ => ⟨S_, .f32⟩
  | .hbm, ⟨78, _⟩ => ⟨S256x128, .f32⟩
  | .hbm, ⟨79, _⟩ => ⟨S2304x128, .f32⟩
  | .hbm, ⟨80, _⟩ => ⟨S_, .f32⟩
  | .hbm, ⟨81, _⟩ => ⟨S256x128, .f32⟩
  | .hbm, ⟨82, _⟩ => ⟨S2304x128, .f32⟩
  | .hbm, ⟨83, _⟩ => ⟨S1x2304x1x128, .f32⟩
  | .hbm, ⟨84, _⟩ => ⟨S1x2304x2x128, .f32⟩
  | .hbm, ⟨85, _⟩ => ⟨S2304x256, .f32⟩
  | .hbm, ⟨86, _⟩ => ⟨S1x2304x1x128, .f32⟩
  | .hbm, ⟨87, _⟩ => ⟨S1x2304x2x128, .f32⟩
  | .hbm, ⟨88, _⟩ => ⟨S2304x256, .f32⟩
  | .hbm, ⟨89, _⟩ => ⟨S2048x6144, .bf16⟩
  | .hbm, ⟨90, _⟩ => ⟨S1x2048, .f32⟩
  | .hbm, ⟨91, _⟩ => ⟨S8x2304x6144, .bf16⟩
  | .local _ .vmem, ⟨0, _⟩ => ⟨S1x1152x2048, .f32⟩
  | .local _ .vmem, ⟨1, _⟩ => ⟨S1x1152x2048, .f32⟩
  | .local _ .vmem, ⟨2, _⟩ => ⟨S1x4x2048, .f32⟩
  | .local _ .vmem, ⟨3, _⟩ => ⟨S1x4x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1152x256, .f32⟩
  | .local _ .vmem, ⟨8, _⟩ => ⟨S1152x256, .f32⟩
  | .local _ .vmem, ⟨9, _⟩ => ⟨S1152x256, .f32⟩
  | .local _ .vmem, ⟨10, _⟩ => ⟨S1152x256, .f32⟩
  | .local _ .vmem, ⟨11, _⟩ => ⟨S1x1152x1024, .bf16⟩
  | .local _ .vmem, ⟨12, _⟩ => ⟨S1x1152x1024, .bf16⟩
  | .local _ .vmem, ⟨13, _⟩ => ⟨S1152x2048, .bf16⟩
  | .local _ .vmem, ⟨14, _⟩ => ⟨S1152x256, .f32⟩
  | .local _ .vmem, ⟨15, _⟩ => ⟨S1152x256, .f32⟩
  | .local _ .vmem, ⟨16, _⟩ => ⟨S1152x256, .f32⟩
  | .local _ .vmem, ⟨17, _⟩ => ⟨S1152x256, .f32⟩
  | _, _ => ⟨S8x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_cst : Ref sig .tc := ⟨.hbm, 49, rfl⟩
abbrev main_v7 : Ref sig .tc := ⟨.hbm, 50, rfl⟩
abbrev main_v8 : Ref sig .tc := ⟨.hbm, 51, rfl⟩
abbrev main_cst_1 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_cst_2 : Ref sig .tc := ⟨.hbm, 77, rfl⟩
abbrev main_v33 : Ref sig .tc := ⟨.hbm, 78, rfl⟩
abbrev main_v34 : Ref sig .tc := ⟨.hbm, 79, rfl⟩
abbrev main_cst_3 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 2, 6], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_926 : BitVec 32 := 0#32
  let c72_i32 : BitVec 32 := 72#32
  let v1704 : BitVec 32 := Scalar.addi c0_i32_926 c72_i32
  let c1_i32_927 : BitVec 32 := 1#32
  ⟨c0_i32_926, v1704, c1_i32_927⟩
def k0_mult1 (k0_t1 : Fin k0_t1_loop.trips) : BitVec 32 :=
  let c0_i32_926 : BitVec 32 := 0#32
  let c1_i32_927 : BitVec 32 := 1#32
  let arg15 : BitVec 32 := Scf.iv c0_i32_926 c1_i32_927 k0_t1
  let c16_i32 : BitVec 32 := 16#32
  let v1705 : BitVec 32 := Scalar.muli arg15 c16_i32
  v1705
def k0_off1 (k0_t1 : Fin k0_t1_loop.trips) : Fin 3 → Nat :=
  let c0_929 : Index := 0#32
  let c0_i32_926 : BitVec 32 := 0#32
  let c1_i32_927 : BitVec 32 := 1#32
  let arg15 : BitVec 32 := Scf.iv c0_i32_926 c1_i32_927 k0_t1
  let c16_i32 : BitVec 32 := 16#32
  let v1705 : BitVec 32 := Scalar.muli arg15 c16_i32
  let v1706 : BitVec 32 := v1705
  let v1707 : Index := Scalar.indexCast v1706
  let c0_930 : Index := 0#32
  ![0, v1707.toNat, 0]
def k0_off2 (k0_t1 : Fin k0_t1_loop.trips) : Fin 2 → Nat :=
  let c0_i32_934 : BitVec 32 := 0#32
  let c0_i32_926 : BitVec 32 := 0#32
  let c1_i32_927 : BitVec 32 := 1#32
  let arg15 : BitVec 32 := Scf.iv c0_i32_926 c1_i32_927 k0_t1
  let c16_i32 : BitVec 32 := 16#32
  let v1705 : BitVec 32 := Scalar.muli arg15 c16_i32
  let v1706 : BitVec 32 := v1705
  let v1743 : BitVec 32 := Scalar.addi c0_i32_934 v1706
  let v1744 : Index := Scalar.indexCast v1743
  let c0_935 : Index := 0#32
  ![v1744.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1152x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1152x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1152x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1152x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceRopeIdeal.lean ====
abbrev S8x2304x2048 : Shape := ⟨3, ![8, 2304, 2048]⟩
abbrev S8x4x2048 : Shape := ⟨3, ![8, 4, 2048]⟩
abbrev S2048 : Shape := ⟨1, ![2048]⟩
abbrev S2048x6144 : Shape := ⟨2, ![2048, 6144]⟩
abbrev S8x256x2048 : Shape := ⟨3, ![8, 256, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x1x2048 : Shape := ⟨3, ![8, 1, 2048]⟩
abbrev S8x256 : Shape := ⟨2, ![8, 256]⟩
abbrev S8x256x1 : Shape := ⟨3, ![8, 256, 1]⟩
abbrev S8x256x6144 : Shape := ⟨3, ![8, 256, 6144]⟩
abbrev S8x256x16x128 : Shape := ⟨4, ![8, 256, 16, 128]⟩
abbrev S8x2048x6144 : Shape := ⟨3, ![8, 2048, 6144]⟩
abbrev S8x2048x16x128 : Shape := ⟨4, ![8, 2048, 16, 128]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S2048x2x32 : Shape := ⟨3, ![2048, 2, 32]⟩
abbrev S2048x1x2x32 : Shape := ⟨4, ![2048, 1, 2, 32]⟩
abbrev S8x2048x16x2x2x32 : Shape := ⟨6, ![8, 2048, 16, 2, 2, 32]⟩
abbrev S8x2048x16x2x1x32 : Shape := ⟨6, ![8, 2048, 16, 2, 1, 32]⟩
abbrev S8x2048x16x2x32 : Shape := ⟨5, ![8, 2048, 16, 2, 32]⟩
abbrev S1x2048x1x2x32 : Shape := ⟨5, ![1, 2048, 1, 2, 32]⟩
abbrev S8x2304x16x128 : Shape := ⟨4, ![8, 2304, 16, 128]⟩
abbrev S8x2304x6144 : Shape := ⟨3, ![8, 2304, 6144]⟩

abbrev nBuf : Space → Nat
  | .hbm => 260
  | .vmem => 0
  | .smem => 0
  | _ => 0

abbrev hbmTy0_0 (i : Nat) : BufTy := match i % 128 with
  | 0 => ⟨S8x2304x2048, .f32⟩
  | 1 => ⟨S8x4x2048, .f32⟩
  | 2 => ⟨S2048, .f32⟩
  | 3 => ⟨S2048x6144, .f32⟩
  | 4 => ⟨S8x256x2048, .f32⟩
  | 5 => ⟨S8x2048x2048, .f32⟩
  | 6 => ⟨S8x2048x2048, .f32⟩
  | 7 => ⟨S_, .f32⟩
  | 8 => ⟨S8x2048, .f32⟩
  | 9 => ⟨S8x2048x1, .f32⟩
  | 10 => ⟨S_, .f32⟩
  | 11 => ⟨S8x2048x1, .f32⟩
  | 12 => ⟨S8x2048x1, .f32⟩
  | 13 => ⟨S_, .f32⟩
  | 14 => ⟨S8x2048x1, .f32⟩
  | 15 => ⟨S8x2048x1, .f32⟩
  | 16 => ⟨S8x2048x1, .f32⟩
  | 17 => ⟨S8x2048x2048, .f32⟩
  | 18 => ⟨S8x2048x2048, .f32⟩
  | 19 => ⟨S1x1x2048, .f32⟩
  | 20 => ⟨S8x2048x2048, .f32⟩
  | 21 => ⟨S8x2048x2048, .f32⟩
  | 22 => ⟨S8x1x2048, .f32⟩
  | 23 => ⟨S_, .f32⟩
  | 24 => ⟨S8x1x2048, .f32⟩
  | 25 => ⟨S8x1x2048, .f32⟩
  | 26 => ⟨S8x2048x2048, .f32⟩
  | 27 => ⟨S8x2048x2048, .f32⟩
  | 28 => ⟨S8x1x2048, .f32⟩
  | 29 => ⟨S8x2048x2048, .f32⟩
  | 30 => ⟨S8x2048x2048, .f32⟩
  | 31 => ⟨S8x256x2048, .f32⟩
  | 32 => ⟨S_, .f32⟩
  | 33 => ⟨S8x256, .f32⟩
  | 34 => ⟨S8x256x1, .f32⟩
  | 35 => ⟨S_, .f32⟩
  | 36 => ⟨S8x256x1, .f32⟩
  | 37 => ⟨S8x256x1, .f32⟩
  | 38 => ⟨S_, .f32⟩
  | 39 => ⟨S8x256x1, .f32⟩
  | 40 => ⟨S8x256x1, .f32⟩
  | 41 => ⟨S8x256x1, .f32⟩
  | 42 => ⟨S8x256x2048, .f32⟩
  | 43 => ⟨S8x256x2048, .f32⟩
  | 44 => ⟨S1x1x2048, .f32⟩
  | 45 => ⟨S8x256x2048, .f32⟩
  | 46 => ⟨S8x256x2048, .f32⟩
  | 47 => ⟨S8x1x2048, .f32⟩
  | 48 => ⟨S_, .f32⟩
  | 49 => ⟨S8x1x2048, .f32⟩
  | 50 => ⟨S8x1x2048, .f32⟩
  | 51 => ⟨S8x256x2048, .f32⟩
  | 52 => ⟨S8x256x2048, .f32⟩
  | 53 => ⟨S8x1x2048, .f32⟩
  | 54 => ⟨S8x256x2048, .f32⟩
  | 55 => ⟨S8x256x2048, .f32⟩
  | 56 => ⟨S8x256x6144, .f32⟩
  | 57 => ⟨S8x256x2048, .f32⟩
  | 58 => ⟨S8x256x2048, .f32⟩
  | 59 => ⟨S8x256x2048, .f32⟩
  | 60 => ⟨S8x256x16x128, .f32⟩
  | 61 => ⟨S8x256x16x128, .f32⟩
  | 62 => ⟨S8x2048x6144, .f32⟩
  | 63 => ⟨S8x2048x2048, .f32⟩
  | 64 => ⟨S8x2048x2048, .f32⟩
  | 65 => ⟨S8x2048x2048, .f32⟩
  | 66 => ⟨S8x2048x16x128, .f32⟩
  | 67 => ⟨S8x2048x16x128, .f32⟩
  | 68 => ⟨S2048, .i32⟩
  | 69 => ⟨S_, .i32⟩
  | 70 => ⟨S_, .i32⟩
  | 71 => ⟨S2048, .i32⟩
  | 72 => ⟨S2048, .i32⟩
  | 73 => ⟨S2048, .i32⟩
  | 74 => ⟨S_, .i32⟩
  | 75 => ⟨S2048, .i32⟩
  | 76 => ⟨S2048, .i1⟩
  | 77 => ⟨S2048, .i32⟩
  | 78 => ⟨S2048, .i32⟩
  | 79 => ⟨S_, .i32⟩
  | 80 => ⟨S2048, .i32⟩
  | 81 => ⟨S2048, .i1⟩
  | 82 => ⟨S2048, .i1⟩
  | 83 => ⟨S_, .i32⟩
  | 84 => ⟨S2048, .i32⟩
  | 85 => ⟨S2048, .i32⟩
  | 86 => ⟨S2048, .i32⟩
  | 87 => ⟨S2048, .f32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S2048, .i32⟩
  | 95 => ⟨S2048, .i32⟩
  | 96 => ⟨S_, .i32⟩
  | 97 => ⟨S2048, .i32⟩
  | 98 => ⟨S2048, .i1⟩
  | 99 => ⟨S_, .i32⟩
  | 100 => ⟨S2048, .i32⟩
  | 101 => ⟨S2048, .i1⟩
  | 102 => ⟨S_, .i32⟩
  | 103 => ⟨S_, .i1⟩
  | 104 => ⟨S2048, .i1⟩
  | 105 => ⟨S2048, .i1⟩
  | 106 => ⟨S2048, .i1⟩
  | 107 => ⟨S2048, .i32⟩
  | 108 => ⟨S2048, .i32⟩
  | 109 => ⟨S2048, .i32⟩
  | 110 => ⟨S2048, .f32⟩
  | 111 => ⟨S32, .f32⟩
  | 112 => ⟨S32, .f32⟩
  | 113 => ⟨S_, .f32⟩
  | 114 => ⟨S32, .f32⟩
  | 115 => ⟨S32, .f32⟩
  | 116 => ⟨S_, .f32⟩
  | 117 => ⟨S32, .f32⟩
  | 118 => ⟨S32, .f32⟩
  | 119 => ⟨S2048x1, .f32⟩
  | 120 => ⟨S1x32, .f32⟩
  | 121 => ⟨S2048x32, .f32⟩
  | 122 => ⟨S2048x32, .f32⟩
  | 123 => ⟨S2048x32, .f32⟩
  | 124 => ⟨S2048x1, .f32⟩
  | 125 => ⟨S1x32, .f32⟩
  | 126 => ⟨S2048x32, .f32⟩
  | 127 => ⟨S2048x32, .f32⟩
  | _ => ⟨S8x2304x2048, .f32⟩

abbrev hbmTy0_1 (i : Nat) : BufTy := match i % 128 with
  | 0 => ⟨S2048x32, .f32⟩
  | 1 => ⟨S2048x1x32, .f32⟩
  | 2 => ⟨S2048x1x32, .f32⟩
  | 3 => ⟨S2048x2x32, .f32⟩
  | 4 => ⟨S2048x2x32, .f32⟩
  | 5 => ⟨S2048x1x2x32, .f32⟩
  | 6 => ⟨S2048x2x32, .f32⟩
  | 7 => ⟨S2048x1x2x32, .f32⟩
  | 8 => ⟨S8x2048x16x2x2x32, .f32⟩
  | 9 => ⟨S8x2048x16x2x1x32, .f32⟩
  | 10 => ⟨S8x2048x16x2x32, .f32⟩
  | 11 => ⟨S8x2048x16x2x1x32, .f32⟩
  | 12 => ⟨S8x2048x16x2x32, .f32⟩
  | 13 => ⟨S1x2048x1x2x32, .f32⟩
  | 14 => ⟨S8x2048x16x2x32, .f32⟩
  | 15 => ⟨S8x2048x16x2x32, .f32⟩
  | 16 => ⟨S1x2048x1x2x32, .f32⟩
  | 17 => ⟨S8x2048x16x2x32, .f32⟩
  | 18 => ⟨S8x2048x16x2x32, .f32⟩
  | 19 => ⟨S8x2048x16x2x32, .f32⟩
  | 20 => ⟨S1x2048x1x2x32, .f32⟩
  | 21 => ⟨S8x2048x16x2x32, .f32⟩
  | 22 => ⟨S8x2048x16x2x32, .f32⟩
  | 23 => ⟨S1x2048x1x2x32, .f32⟩
  | 24 => ⟨S8x2048x16x2x32, .f32⟩
  | 25 => ⟨S8x2048x16x2x32, .f32⟩
  | 26 => ⟨S8x2048x16x2x32, .f32⟩
  | 27 => ⟨S8x2048x16x2x1x32, .f32⟩
  | 28 => ⟨S8x2048x16x2x1x32, .f32⟩
  | 29 => ⟨S8x2048x16x2x2x32, .f32⟩
  | 30 => ⟨S8x2048x16x128, .f32⟩
  | 31 => ⟨S8x2304x16x128, .f32⟩
  | 32 => ⟨S_, .f32⟩
  | 33 => ⟨S8x2304x16x128, .f32⟩
  | 34 => ⟨S8x2304x16x128, .f32⟩
  | 35 => ⟨S2048, .i32⟩
  | 36 => ⟨S_, .i32⟩
  | 37 => ⟨S_, .i32⟩
  | 38 => ⟨S2048, .i32⟩
  | 39 => ⟨S2048, .i32⟩
  | 40 => ⟨S2048, .i32⟩
  | 41 => ⟨S_, .i32⟩
  | 42 => ⟨S2048, .i32⟩
  | 43 => ⟨S2048, .i1⟩
  | 44 => ⟨S2048, .i32⟩
  | 45 => ⟨S2048, .i32⟩
  | 46 => ⟨S_, .i32⟩
  | 47 => ⟨S2048, .i32⟩
  | 48 => ⟨S2048, .i1⟩
  | 49 => ⟨S2048, .i1⟩
  | 50 => ⟨S_, .i32⟩
  | 51 => ⟨S2048, .i32⟩
  | 52 => ⟨S2048, .i32⟩
  | 53 => ⟨S2048, .i32⟩
  | 54 => ⟨S2048, .f32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S2048, .i32⟩
  | 62 => ⟨S2048, .i32⟩
  | 63 => ⟨S_, .i32⟩
  | 64 => ⟨S2048, .i32⟩
  | 65 => ⟨S2048, .i1⟩
  | 66 => ⟨S_, .i32⟩
  | 67 => ⟨S2048, .i32⟩
  | 68 => ⟨S2048, .i1⟩
  | 69 => ⟨S_, .i32⟩
  | 70 => ⟨S_, .i1⟩
  | 71 => ⟨S2048, .i1⟩
  | 72 => ⟨S2048, .i1⟩
  | 73 => ⟨S2048, .i1⟩
  | 74 => ⟨S2048, .i32⟩
  | 75 => ⟨S2048, .i32⟩
  | 76 => ⟨S2048, .i32⟩
  | 77 => ⟨S2048, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S2048x1, .f32⟩
  | 87 => ⟨S1x32, .f32⟩
  | 88 => ⟨S2048x32, .f32⟩
  | 89 => ⟨S2048x32, .f32⟩
  | 90 => ⟨S2048x32, .f32⟩
  | 91 => ⟨S2048x1, .f32⟩
  | 92 => ⟨S1x32, .f32⟩
  | 93 => ⟨S2048x32, .f32⟩
  | 94 => ⟨S2048x32, .f32⟩
  | 95 => ⟨S2048x32, .f32⟩
  | 96 => ⟨S2048x1x32, .f32⟩
  | 97 => ⟨S2048x1x32, .f32⟩
  | 98 => ⟨S2048x2x32, .f32⟩
  | 99 => ⟨S2048x2x32, .f32⟩
  | 100 => ⟨S2048x1x2x32, .f32⟩
  | 101 => ⟨S2048x2x32, .f32⟩
  | 102 => ⟨S2048x1x2x32, .f32⟩
  | 103 => ⟨S8x2048x16x2x2x32, .f32⟩
  | 104 => ⟨S8x2048x16x2x1x32, .f32⟩
  | 105 => ⟨S8x2048x16x2x32, .f32⟩
  | 106 => ⟨S8x2048x16x2x1x32, .f32⟩
  | 107 => ⟨S8x2048x16x2x32, .f32⟩
  | 108 => ⟨S1x2048x1x2x32, .f32⟩
  | 109 => ⟨S8x2048x16x2x32, .f32⟩
  | 110 => ⟨S8x2048x16x2x32, .f32⟩
  | 111 => ⟨S1x2048x1x2x32, .f32⟩
  | 112 => ⟨S8x2048x16x2x32, .f32⟩
  | 113 => ⟨S8x2048x16x2x32, .f32⟩
  | 114 => ⟨S8x2048x16x2x32, .f32⟩
  | 115 => ⟨S1x2048x1x2x32, .f32⟩
  | 116 => ⟨S8x2048x16x2x32, .f32⟩
  | 117 => ⟨S8x2048x16x2x32, .f32⟩
  | 118 => ⟨S1x2048x1x2x32, .f32⟩
  | 119 => ⟨S8x2048x16x2x32, .f32⟩
  | 120 => ⟨S8x2048x16x2x32, .f32⟩
  | 121 => ⟨S8x2048x16x2x32, .f32⟩
  | 122 => ⟨S8x2048x16x2x1x32, .f32⟩
  | 123 => ⟨S8x2048x16x2x1x32, .f32⟩
  | 124 => ⟨S8x2048x16x2x2x32, .f32⟩
  | 125 => ⟨S8x2048x16x128, .f32⟩
  | 126 => ⟨S8x2304x16x128, .f32⟩
  | 127 => ⟨S8x2304x2048, .f32⟩
  | _ => ⟨S8x2304x2048, .f32⟩

abbrev hbmTy0_2 (i : Nat) : BufTy := match i % 128 with
  | 0 => ⟨S8x2304x2048, .f32⟩
  | 1 => ⟨S8x2304x2048, .f32⟩
  | 2 => ⟨S8x2304x6144, .f32⟩
  | 3 => ⟨S8x2304x6144, .bf16⟩
  | _ => ⟨S8x2304x2048, .f32⟩

abbrev hbmTy (i : Nat) : BufTy := match i / 128 with
  | 0 => hbmTy0_0 i
  | 1 => hbmTy0_1 i
  | 2 => hbmTy0_2 i
  | _ => ⟨S8x2304x2048, .f32⟩

abbrev bufTy : (tb : Table) → Fin (tcTables nBuf tb) → BufTy
  | .hbm, ⟨i, _⟩ => hbmTy i
  | _, _ => ⟨S8x2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_c : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_c : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_c_0 : Ref sig .tc := ⟨.hbm, 83, rfl⟩
abbrev main_call0_v12 : Ref sig .tc := ⟨.hbm, 84, rfl⟩
abbrev main_call0_v13 : Ref sig .tc := ⟨.hbm, 85, rfl⟩
abbrev main_v57 : Ref sig .tc := ⟨.hbm, 86, rfl⟩
abbrev main_v58 : Ref sig .tc := ⟨.hbm, 87, rfl⟩
abbrev main_c_7 : Ref sig .tc := ⟨.hbm, 88, rfl⟩
abbrev main_call1_v0 : Ref sig .tc := ⟨.hbm, 89, rfl⟩
abbrev main_call1_c : Ref sig .tc := ⟨.hbm, 90, rfl⟩
abbrev main_call1_v1 : Ref sig .tc := ⟨.hbm, 91, rfl⟩
abbrev main_call1_c_0 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_c_1 : Ref sig .tc := ⟨.hbm, 96, rfl⟩
abbrev main_call1_v5 : Ref sig .tc := ⟨.hbm, 97, rfl⟩
abbrev main_call1_v6 : Ref sig .tc := ⟨.hbm, 98, rfl⟩
abbrev main_call1_c_2 : Ref sig .tc := ⟨.hbm, 99, rfl⟩
abbrev main_call1_v7 : Ref sig .tc := ⟨.hbm, 100, rfl⟩
abbrev main_call1_v8 : Ref sig .tc := ⟨.hbm, 101, rfl⟩
abbrev main_call1_c_3 : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_call1_v12 : Ref sig .tc := ⟨.hbm, 106, rfl⟩
abbrev main_call1_v13 : Ref sig .tc := ⟨.hbm, 107, rfl⟩
abbrev main_call1_v14 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_cst_8 : Ref sig .tc := ⟨.hbm, 113, rfl⟩
abbrev main_v63 : Ref sig .tc := ⟨.hbm, 114, rfl⟩
abbrev main_v64 : Ref sig .tc := ⟨.hbm, 115, rfl⟩
abbrev main_cst_9 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_10 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_c_11 : Ref sig .tc := ⟨.hbm, 164, rfl⟩
abbrev main_call2_v0 : Ref sig .tc := ⟨.hbm, 165, rfl⟩
abbrev main_call2_v1 : Ref sig .tc := ⟨.hbm, 166, rfl⟩
abbrev main_call2_v2 : Ref sig .tc := ⟨.hbm, 167, rfl⟩
abbrev main_call2_v3 : Ref sig .tc := ⟨.hbm, 168, rfl⟩
abbrev main_call2_v4 : Ref sig .tc := ⟨.hbm, 169, rfl⟩
abbrev main_call2_v5 : Ref sig .tc := ⟨.hbm, 170, rfl⟩
abbrev main_call2_v6 : Ref sig .tc := ⟨.hbm, 171, rfl⟩
abbrev main_call2_v7 : Ref sig .tc := ⟨.hbm, 172, rfl⟩
abbrev main_call2_v8 : Ref sig .tc := ⟨.hbm, 173, rfl⟩
abbrev main_call2_c : Ref sig .tc := ⟨.hbm, 174, rfl⟩
abbrev main_call2_v9 : Ref sig .tc := ⟨.hbm, 175, rfl⟩
abbrev main_call2_v10 : Ref sig .tc := ⟨.hbm, 176, rfl⟩
abbrev main_call2_v11 : Ref sig .tc := ⟨.hbm, 177, rfl⟩
abbrev main_call2_c_0 : Ref sig .tc := ⟨.hbm, 178, rfl⟩
abbrev main_call2_v12 : Ref sig .tc := ⟨.hbm, 179, rfl⟩
abbrev main_call2_v13 : Ref sig .tc := ⟨.hbm, 180, rfl⟩
abbrev main_v111 : Ref sig .tc := ⟨.hbm, 181, rfl⟩
abbrev main_v112 : Ref sig .tc := ⟨.hbm, 182, rfl⟩
abbrev main_c_12 : Ref sig .tc := ⟨.hbm, 183, rfl⟩
abbrev main_call3_v0 : Ref sig .tc := ⟨.hbm, 184, rfl⟩
abbrev main_call3_c : Ref sig .tc := ⟨.hbm, 185, rfl⟩
abbrev main_call3_v1 : Ref sig .tc := ⟨.hbm, 186, rfl⟩
abbrev main_call3_c_0 : Ref sig .tc := ⟨.hbm, 187, rfl⟩
abbrev main_call3_v2 : Ref sig .tc := ⟨.hbm, 188, rfl⟩
abbrev main_call3_v3 : Ref sig .tc := ⟨.hbm, 189, rfl⟩
abbrev main_call3_v4 : Ref sig .tc := ⟨.hbm, 190, rfl⟩
abbrev main_call3_c_1 : Ref sig .tc := ⟨.hbm, 191, rfl⟩
abbrev main_call3_v5 : Ref sig .tc := ⟨.hbm, 192, rfl⟩
abbrev main_call3_v6 : Ref sig .tc := ⟨.hbm, 193, rfl⟩
abbrev main_call3_c_2 : Ref sig .tc := ⟨.hbm, 194, rfl⟩
abbrev main_call3_v7 : Ref sig .tc := ⟨.hbm, 195, rfl⟩
abbrev main_call3_v8 : Ref sig .tc := ⟨.hbm, 196, rfl⟩
abbrev main_call3_c_3 : Ref sig .tc := ⟨.hbm, 197, rfl⟩
abbrev main_call3_v9 : Ref sig .tc := ⟨.hbm, 198, rfl⟩
abbrev main_call3_v10 : Ref sig .tc := ⟨.hbm, 199, rfl⟩
abbrev main_call3_v11 : Ref sig .tc := ⟨.hbm, 200, rfl⟩
abbrev main_call3_v12 : Ref sig .tc := ⟨.hbm, 201, rfl⟩
abbrev main_call3_v13 : Ref sig .tc := ⟨.hbm, 202, rfl⟩
abbrev main_call3_v14 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_cst_13 : Ref sig .tc := ⟨.hbm, 208, rfl⟩
abbrev main_v117 : Ref sig .tc := ⟨.hbm, 209, rfl⟩
abbrev main_v118 : Ref sig .tc := ⟨.hbm, 210, rfl⟩
abbrev main_cst_14 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩

abbrev nD : Nat := 1
abbrev τ : Topo := Topo.v7x

variable {F : FTy → Type} [FloatOps F]
-- ==== Proof.RunARope.lean ====
module

public import proofs.«01_k».proof.Proof.Gen.KernelRopeIdeal.Frame.Runs

@[expose] public section

set_option maxRecDepth 16384

noncomputable section

namespace Cert.KernelRopeIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelRopeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.proofsInPublic true in
set_option maxHeartbeats 1588000 in
/-- The body at the first column block of a row tile: the pieces it leaves in the output and the scratch, and its run. -/
noncomputable def kernelRun0_A (c : Dev nD) (i : grid0.Coords) (arg3 : Memref sig .tc .vmem S1x1152x2048 .f32) (harg3 : arg3.IsWhole) (arg4 : Memref sig .tc .vmem S1x4x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S1152x256 .f32) (harg7 : arg7.IsWhole) (arg8 : Memref sig .tc .vmem S1152x256 .f32) (harg8 : arg8.IsWhole) (arg9 : Memref sig .tc .vmem S1x1152x1024 .bf16) (harg9 : arg9.IsWhole) (arg10 : Memref sig .tc .vmem S1152x2048 .bf16) (harg10 : arg10.IsWhole) (arg11 : Memref sig .tc .vmem S1152x256 .f32) (harg11 : arg11.IsWhole) (arg12 : Memref sig .tc .vmem S1152x256 .f32) (harg12 : arg12.IsWhole) (arg13 : Memref sig .tc .vmem S1152x256 .f32) (harg13 : arg13.IsWhole) (arg14 : Memref sig .tc .vmem S1152x256 .f32) (harg14 : arg14.IsWhole) (hc0 : cond0_0 i)
    (x0 : Vec F S1x1152x2048 .f32) (x1 : Vec F S1x4x2048 .f32) (x2 : Vec F S1x2048 .f32) (x3 : Vec F S2048x1024 .bf16) (x4 : Vec F S1152x256 .f32) (x5 : Vec F S1152x256 .f32) :
    Σ' (L6 : List (View.Piece (Elt F) S1x1152x1024 .bf16)), Σ' (LS0 : List (View.Piece (Elt F) S1152x2048 .bf16)), Σ' (LT1 : List (View.Piece (Elt F) S1152x256 .f32)), Σ' (LT2 : List (View.Piece (Elt F) S1152x256 .f32)), Σ' (LT3 : List (View.Piece (Elt F) S1152x256 .f32)), { LT4 : List (View.Piece (Elt F) S1152x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_norm_proj_rope i arg3 harg3 arg4 harg4 arg5 harg5 arg6 harg6 arg7 harg7 arg8 harg8 arg9 harg9 arg10 harg10 arg11 harg11 arg12 harg12 arg13 harg13 arg14 harg14) K } := by
  refine ⟨?_, ?_, [], [], [], [], fun E K => ?run⟩
  case run =>
    simp only [cc0_norm_proj_rope_eq_skeleton]; unfold cc0_norm_proj_rope_skel
    simp only [k0_part45_eq_skeleton]; unfold k0_part45_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    have hrd0 : ∀ (𝒱 : Variants) (c : Dev nD) (bd : Option 𝒱.V) (i : grid0.Coords) (arg3 : Memref sig .tc .vmem S1x1152x2048 .f32) (harg3 : arg3.IsWhole) (arg4 : Memref sig .tc .vmem S1x4x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S1152x256 .f32) (harg7 : arg7.IsWhole) (arg8 : Memref sig .tc .vmem S1152x256 .f32) (harg8 : arg8.IsWhole) (arg9 : Memref sig .tc .vmem S1x1152x1024 .bf16) (harg9 : arg9.IsWhole) (arg10 : Memref sig .tc .vmem S1152x2048 .bf16) (harg10 : arg10.IsWhole) (arg11 : Memref sig .tc .vmem S1152x256 .f32) (harg11 : arg11.IsWhole) (arg12 : Memref sig .tc .vmem S1152x256 .f32) (harg12 : arg12.IsWhole) (arg13 : Memref sig .tc .vmem S1152x256 .f32) (harg13 : arg13.IsWhole) (arg14 : Memref sig .tc .vmem S1152x256 .f32) (harg14 : arg14.IsWhole) (k0_h1 : k0_cond1 i = 1#1) (v1687 : Vec F S1x2048 .f32) (v1689 : Vec F S1x1x2048 .f32) (v1694 : Vec F S1x1x2048 .f32) (v1699 : Vec F S1x1x2048 .f32) (v1701 : Vec F S1x1x2048 .f32) (X_arg3 : BufTy.Contents (Elt F) arg3.view.ty) (hrdF : BufTy.Contents (Elt F) arg10.view.ty) (hrdB : LoadRect S1152x2048), arg10.view.readAt (Elt F) hrdB (arg10.view.writes (Elt F) hrdF (pb_k0_t1 (F := F) 𝒱 c bd i arg3 harg3 arg4 harg4 arg5 harg5 arg6 harg6 arg7 harg7 arg8 harg8 arg9 harg9 arg10 harg10 arg11 harg11 arg12 harg12 arg13 harg13 arg14 harg14 k0_h1 v1687 v1689 v1694 v1699 v1701 X_arg3 (Scf.trips k0_t1_loop.lb k0_t1_loop.ub k0_t1_loop.st))) = arg10.view.readCov (pb_k0_t1 (F := F) 𝒱 c bd i arg3 harg3 arg4 harg4 arg5 harg5 arg6 harg6 arg7 harg7 arg8 harg8 arg9 harg9 arg10 harg10 arg11 harg11 arg12 harg12 arg13 harg13 arg14 harg14 k0_h1 v1687 v1689 v1694 v1699 v1701 X_arg3 (Scf.trips k0_t1_loop.lb k0_t1_loop.ub k0_t1_loop.st)) hrdB := fun 𝒱 c bd i arg3 harg3 arg4 harg4 arg5 harg5 arg6 harg6 arg7 harg7 arg8 harg8 arg9 harg9 arg10 harg10 arg11 harg11 arg12 harg12 arg13 harg13 arg14 harg14 k0_h1 v1687 v1689 v1694 v1699 v1701 X_arg3 hrdF hrdB => View.readAt_writes_of_cover _ hrdF _ hrdB (fun hrdJ => View.cover_of_tiledL (pb_k0_t1 (F := F) 𝒱 c bd i arg3 harg3 arg4 harg4 arg5 harg5 arg6 harg6 arg7 harg7 arg8 harg8 arg9 harg9 arg10 harg10 arg11 harg11 arg12 harg12 arg13 harg13 arg14 harg14 k0_h1 v1687 v1689 v1694 v1699 v1701 X_arg3 (Scf.trips k0_t1_loop.lb k0_t1_loop.ub k0_t1_loop.st)) S16x2048.size (by sl_kernel_rfl) (hrdB.idx hrdJ))
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelRopeIdeal.Body

end
-- ==== Proof.RunBRope.lean ====
module

public import proofs.«01_k».proof.Proof.Gen.KernelRopeIdeal.Frame.Runs

@[expose] public section

set_option maxRecDepth 16384

noncomputable section

namespace Cert.KernelRopeIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelRopeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1504000 in
/-- The body at a later column block: the pieces it leaves in the output, and its run. -/
noncomputable def kernelRun0_B (c : Dev nD) (i : grid0.Coords) (arg3 : Memref sig .tc .vmem S1x1152x2048 .f32) (harg3 : arg3.IsWhole) (arg4 : Memref sig .tc .vmem S1x4x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S1152x256 .f32) (harg7 : arg7.IsWhole) (arg8 : Memref sig .tc .vmem S1152x256 .f32) (harg8 : arg8.IsWhole) (arg9 : Memref sig .tc .vmem S1x1152x1024 .bf16) (harg9 : arg9.IsWhole) (arg10 : Memref sig .tc .vmem S1152x2048 .bf16) (harg10 : arg10.IsWhole) (arg11 : Memref sig .tc .vmem S1152x256 .f32) (harg11 : arg11.IsWhole) (arg12 : Memref sig .tc .vmem S1152x256 .f32) (harg12 : arg12.IsWhole) (arg13 : Memref sig .tc .vmem S1152x256 .f32) (harg13 : arg13.IsWhole) (arg14 : Memref sig .tc .vmem S1152x256 .f32) (harg14 : arg14.IsWhole) (hc0 : ¬cond0_0 i)
    (x0 : Vec F S1x1152x2048 .f32) (x1 : Vec F S1x4x2048 .f32) (x2 : Vec F S1x2048 .f32) (x3 : Vec F S2048x1024 .bf16) (x4 : Vec F S1152x256 .f32) (x5 : Vec F S1152x256 .f32) (xs0 : Vec F S1152x2048 .bf16) :
    Σ' (L6 : List (View.Piece (Elt F) S1x1152x1024 .bf16)), Σ' (LS0 : List (View.Piece (Elt F) S1152x2048 .bf16)), Σ' (LT1 : List (View.Piece (Elt F) S1152x256 .f32)), Σ' (LT2 : List (View.Piece (Elt F) S1152x256 .f32)), Σ' (LT3 : List (View.Piece (Elt F) S1152x256 .f32)), { LT4 : List (View.Piece (Elt F) S1152x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xs0 ∗ (∃ f, arg11.view.loc (c : Thread nD τ) ↦[arg11.view.set]{fullShare} arg11.view.writes (Elt F) f LT1) ∗ (∃ f, arg12.view.loc (c : Thread nD τ) ↦[arg12.view.set]{fullShare} arg12.view.writes (Elt F) f LT2) ∗ (∃ f, arg13.view.loc (c : Thread nD τ) ↦[arg13.view.set]{fullShare} arg13.view.writes (Elt F) f LT3) ∗ (∃ f, arg14.view.loc (c : Thread nD τ) ↦[arg14.view.set]{fullShare} arg14.view.writes (Elt F) f LT4)) -∗ K ⟨⟩))
          ⊢ wp frame (wpE (defs₀ (F := F)) Variants.none c none) E (cc0_norm_proj_rope i arg3 harg3 arg4 harg4 arg5 harg5 arg6 harg6 arg7 harg7 arg8 harg8 arg9 harg9 arg10 harg10 arg11 harg11 arg12 harg12 arg13 harg13 arg14 harg14) K } := by
  refine ⟨?_, [], ?_, ?_, ?_, ?_, fun E K => ?run⟩
  case run =>
    simp only [cc0_norm_proj_rope_eq_skeleton]; unfold cc0_norm_proj_rope_skel
    simp only [k0_part45_eq_skeleton]; unfold k0_part45_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]
    · iexists _; isplitr; · ipureintro; exact harg10.read_unread _
      iexact HS0
    isplitl [HS1]; · iexists _; iexact HS1
    isplitl [HS2]; · iexists _; iexact HS2
    isplitl [HS3]; · iexists _; iexact HS3
    iexists _; iexact HS4

end Cert.KernelRopeIdeal.Body

end
-- ==== Proof.FrameRope.lean ====
module

public import proofs.«01_k».proof.Proof.RunARope
public import proofs.«01_k».proof.Proof.RunBRope

public import Idealize.ShloMosaic.Lib.Claim

@[expose] public section

set_option maxRecDepth 16384

noncomputable section

namespace Cert.KernelRopeIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelRopeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_6 (c : Dev nD) (i : grid0.Coords) (arg3 : Memref sig .tc .vmem S1x1152x2048 .f32) (harg3 : arg3.IsWhole) (arg4 : Memref sig .tc .vmem S1x4x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S1152x256 .f32) (harg7 : arg7.IsWhole) (arg8 : Memref sig .tc .vmem S1152x256 .f32) (harg8 : arg8.IsWhole) (arg9 : Memref sig .tc .vmem S1x1152x1024 .bf16) (harg9 : arg9.IsWhole) (arg10 : Memref sig .tc .vmem S1152x2048 .bf16) (harg10 : arg10.IsWhole) (arg11 : Memref sig .tc .vmem S1152x256 .f32) (harg11 : arg11.IsWhole) (arg12 : Memref sig .tc .vmem S1152x256 .f32) (harg12 : arg12.IsWhole) (arg13 : Memref sig .tc .vmem S1152x256 .f32) (harg13 : arg13.IsWhole) (arg14 : Memref sig .tc .vmem S1152x256 .f32) (harg14 : arg14.IsWhole) (hc0 : cond0_0 i)
    (x0 : Vec F S1x1152x2048 .f32) (x1 : Vec F S1x4x2048 .f32) (x2 : Vec F S1x2048 .f32) (x3 : Vec F S2048x1024 .bf16) (x4 : Vec F S1152x256 .f32) (x5 : Vec F S1152x256 .f32) (y : S1x1152x1024.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5).1 S1x128x256.size (by sl_kernel_rfl) y

def out0_A_6 (c : Dev nD) (i : grid0.Coords) (arg3 : Memref sig .tc .vmem S1x1152x2048 .f32) (harg3 : arg3.IsWhole) (arg4 : Memref sig .tc .vmem S1x4x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S1152x256 .f32) (harg7 : arg7.IsWhole) (arg8 : Memref sig .tc .vmem S1152x256 .f32) (harg8 : arg8.IsWhole) (arg9 : Memref sig .tc .vmem S1x1152x1024 .bf16) (harg9 : arg9.IsWhole) (arg10 : Memref sig .tc .vmem S1152x2048 .bf16) (harg10 : arg10.IsWhole) (arg11 : Memref sig .tc .vmem S1152x256 .f32) (harg11 : arg11.IsWhole) (arg12 : Memref sig .tc .vmem S1152x256 .f32) (harg12 : arg12.IsWhole) (arg13 : Memref sig .tc .vmem S1152x256 .f32) (harg13 : arg13.IsWhole) (arg14 : Memref sig .tc .vmem S1152x256 .f32) (harg14 : arg14.IsWhole) (hc0 : cond0_0 i)
    (x0 : Vec F S1x1152x2048 .f32) (x1 : Vec F S1x4x2048 .f32) (x2 : Vec F S1x2048 .f32) (x3 : Vec F S2048x1024 .bf16) (x4 : Vec F S1152x256 .f32) (x5 : Vec F S1152x256 .f32) : Vec F S1x1152x1024 .bf16 :=
  VO0_6.read (Elt F) (VO0_6.writes (Elt F) VO0_6.junk (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5).1)

theorem scover0_A_0 (c : Dev nD) (i : grid0.Coords) (arg3 : Memref sig .tc .vmem S1x1152x2048 .f32) (harg3 : arg3.IsWhole) (arg4 : Memref sig .tc .vmem S1x4x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S1152x256 .f32) (harg7 : arg7.IsWhole) (arg8 : Memref sig .tc .vmem S1152x256 .f32) (harg8 : arg8.IsWhole) (arg9 : Memref sig .tc .vmem S1x1152x1024 .bf16) (harg9 : arg9.IsWhole) (arg10 : Memref sig .tc .vmem S1152x2048 .bf16) (harg10 : arg10.IsWhole) (arg11 : Memref sig .tc .vmem S1152x256 .f32) (harg11 : arg11.IsWhole) (arg12 : Memref sig .tc .vmem S1152x256 .f32) (harg12 : arg12.IsWhole) (arg13 : Memref sig .tc .vmem S1152x256 .f32) (harg13 : arg13.IsWhole) (arg14 : Memref sig .tc .vmem S1152x256 .f32) (harg14 : arg14.IsWhole) (hc0 : cond0_0 i)
    (x0 : Vec F S1x1152x2048 .f32) (x1 : Vec F S1x4x2048 .f32) (x2 : Vec F S1x2048 .f32) (x3 : Vec F S2048x1024 .bf16) (x4 : Vec F S1152x256 .f32) (x5 : Vec F S1152x256 .f32) (y : S1152x2048.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5).2.1 S16x2048.size (by sl_kernel_rfl) y

def sout0_A_0 (c : Dev nD) (i : grid0.Coords) (arg3 : Memref sig .tc .vmem S1x1152x2048 .f32) (harg3 : arg3.IsWhole) (arg4 : Memref sig .tc .vmem S1x4x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S1152x256 .f32) (harg7 : arg7.IsWhole) (arg8 : Memref sig .tc .vmem S1152x256 .f32) (harg8 : arg8.IsWhole) (arg9 : Memref sig .tc .vmem S1x1152x1024 .bf16) (harg9 : arg9.IsWhole) (arg10 : Memref sig .tc .vmem S1152x2048 .bf16) (harg10 : arg10.IsWhole) (arg11 : Memref sig .tc .vmem S1152x256 .f32) (harg11 : arg11.IsWhole) (arg12 : Memref sig .tc .vmem S1152x256 .f32) (harg12 : arg12.IsWhole) (arg13 : Memref sig .tc .vmem S1152x256 .f32) (harg13 : arg13.IsWhole) (arg14 : Memref sig .tc .vmem S1152x256 .f32) (harg14 : arg14.IsWhole) (hc0 : cond0_0 i)
    (x0 : Vec F S1x1152x2048 .f32) (x1 : Vec F S1x4x2048 .f32) (x2 : Vec F S1x2048 .f32) (x3 : Vec F S2048x1024 .bf16) (x4 : Vec F S1152x256 .f32) (x5 : Vec F S1152x256 .f32) : Vec F S1152x2048 .bf16 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5).2.1)

theorem cover0_B_6 (c : Dev nD) (i : grid0.Coords) (arg3 : Memref sig .tc .vmem S1x1152x2048 .f32) (harg3 : arg3.IsWhole) (arg4 : Memref sig .tc .vmem S1x4x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S1152x256 .f32) (harg7 : arg7.IsWhole) (arg8 : Memref sig .tc .vmem S1152x256 .f32) (harg8 : arg8.IsWhole) (arg9 : Memref sig .tc .vmem S1x1152x1024 .bf16) (harg9 : arg9.IsWhole) (arg10 : Memref sig .tc .vmem S1152x2048 .bf16) (harg10 : arg10.IsWhole) (arg11 : Memref sig .tc .vmem S1152x256 .f32) (harg11 : arg11.IsWhole) (arg12 : Memref sig .tc .vmem S1152x256 .f32) (harg12 : arg12.IsWhole) (arg13 : Memref sig .tc .vmem S1152x256 .f32) (harg13 : arg13.IsWhole) (arg14 : Memref sig .tc .vmem S1152x256 .f32) (harg14 : arg14.IsWhole) (hc0 : ¬cond0_0 i)
    (x0 : Vec F S1x1152x2048 .f32) (x1 : Vec F S1x4x2048 .f32) (x2 : Vec F S1x2048 .f32) (x3 : Vec F S2048x1024 .bf16) (x4 : Vec F S1152x256 .f32) (x5 : Vec F S1152x256 .f32) (xs0 : Vec F S1152x2048 .bf16) (y : S1x1152x1024.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 hc0 x0 x1 x2 x3 x4 x5 xs0).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 hc0 x0 x1 x2 x3 x4 x5 xs0).1 S1x128x256.size (by sl_kernel_rfl) y

def out0_B_6 (c : Dev nD) (i : grid0.Coords) (arg3 : Memref sig .tc .vmem S1x1152x2048 .f32) (harg3 : arg3.IsWhole) (arg4 : Memref sig .tc .vmem S1x4x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S1152x256 .f32) (harg7 : arg7.IsWhole) (arg8 : Memref sig .tc .vmem S1152x256 .f32) (harg8 : arg8.IsWhole) (arg9 : Memref sig .tc .vmem S1x1152x1024 .bf16) (harg9 : arg9.IsWhole) (arg10 : Memref sig .tc .vmem S1152x2048 .bf16) (harg10 : arg10.IsWhole) (arg11 : Memref sig .tc .vmem S1152x256 .f32) (harg11 : arg11.IsWhole) (arg12 : Memref sig .tc .vmem S1152x256 .f32) (harg12 : arg12.IsWhole) (arg13 : Memref sig .tc .vmem S1152x256 .f32) (harg13 : arg13.IsWhole) (arg14 : Memref sig .tc .vmem S1152x256 .f32) (harg14 : arg14.IsWhole) (hc0 : ¬cond0_0 i)
    (x0 : Vec F S1x1152x2048 .f32) (x1 : Vec F S1x4x2048 .f32) (x2 : Vec F S1x2048 .f32) (x3 : Vec F S2048x1024 .bf16) (x4 : Vec F S1152x256 .f32) (x5 : Vec F S1152x256 .f32) (xs0 : Vec F S1152x2048 .bf16) : Vec F S1x1152x1024 .bf16 :=
  VO0_6.read (Elt F) (VO0_6.writes (Elt F) VO0_6.junk (kernelRun0_B c i arg3 harg3 arg4 harg4 arg5 harg5 arg6 harg6 arg7 harg7 arg8 harg8 arg9 harg9 arg10 harg10 arg11 harg11 arg12 harg12 arg13 harg13 arg14 harg14 hc0 x0 x1 x2 x3 x4 x5 xs0).1)

def sout0_B_0 (c : Dev nD) (i : grid0.Coords) (arg3 : Memref sig .tc .vmem S1x1152x2048 .f32) (harg3 : arg3.IsWhole) (arg4 : Memref sig .tc .vmem S1x4x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S1152x256 .f32) (harg7 : arg7.IsWhole) (arg8 : Memref sig .tc .vmem S1152x256 .f32) (harg8 : arg8.IsWhole) (arg9 : Memref sig .tc .vmem S1x1152x1024 .bf16) (harg9 : arg9.IsWhole) (arg10 : Memref sig .tc .vmem S1152x2048 .bf16) (harg10 : arg10.IsWhole) (arg11 : Memref sig .tc .vmem S1152x256 .f32) (harg11 : arg11.IsWhole) (arg12 : Memref sig .tc .vmem S1152x256 .f32) (harg12 : arg12.IsWhole) (arg13 : Memref sig .tc .vmem S1152x256 .f32) (harg13 : arg13.IsWhole) (arg14 : Memref sig .tc .vmem S1152x256 .f32) (harg14 : arg14.IsWhole) (hc0 : ¬cond0_0 i)
    (x0 : Vec F S1x1152x2048 .f32) (x1 : Vec F S1x4x2048 .f32) (x2 : Vec F S1x2048 .f32) (x3 : Vec F S2048x1024 .bf16) (x4 : Vec F S1152x256 .f32) (x5 : Vec F S1152x256 .f32) (xs0 : Vec F S1152x2048 .bf16) : Vec F S1152x2048 .bf16 := xs0

def outsAt0 (c : Dev nD) : (n : ℕ) → n < cfg0.N → Vec F S1x1152x1024 .bf16 × Vec F S1152x2048 .bf16
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 6 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)

theorem outsAt0_A (c : Dev nD) (t : Fin cfg0.N) (h0 : t.val % 6 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

theorem outsAt0_B (c : Dev nD) (t : Fin cfg0.N) (h0 : ¬t.val % 6 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 96 := lt_of_lt_of_eq t.isLt (show cfg0.N = 96 from N_0)
  by_cases h0 : t.val % 6 = 0
  · by_cases hz : t.val = 0
    · rw [PhiS_castSucc m c t, PhiS_zero m c _ _ hz, PhiA0_eq]
      rw [outsAt0_A m c t h0]
      unfold out0_A_6 sout0_A_0; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, ⟨%e6, H6⟩, ⟨%es0, HS0⟩, HS1, HS2, HS3, HS4⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_6 sout0_A_0; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      isplitl [HS1]; · iexact HS1
      isplitl [HS2]; · iexact HS2
      isplitl [HS3]; · iexact HS3
      isplitl [HS4]; · iexact HS4
      iintro ⟨H0, H1, H2, H3, H4, H5, ⟨%e6, H6⟩, ⟨%es0, HS0⟩, HS1, HS2, HS3, HS4⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _ _)
  · by_cases hz : t.val = 0
    · exfalso; have hN : t.val < 96 := lt_of_lt_of_eq t.isLt (show cfg0.N = 96 from N_0); omega
    · rw [PhiS_castSucc m c t, PhiS_pos m c _ _ hz]
      rw [outsAt0_B m c t h0]
      unfold out0_B_6 sout0_B_0; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, ⟨%e6, H6⟩, HS0, ⟨%fT1, HS1⟩, ⟨%fT2, HS2⟩, ⟨%fT3, HS3⟩, ⟨%fT4, HS4⟩⟩
      isplitl [HS0 HS1 HS2 HS3 HS4 Hg]
      · isplitl [HS0 HS1 HS2 HS3 HS4]
        · isplitl [HS0]
          · iexact HS0
          isplitl [HS1]
          · iexists _; unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexact HS2
    isplitl [HS3]
    · iexact HS3
    iexact HS4
  iexact Hg

theorem hout (c : Dev nD) : (dats m 0 c).Φ (Fin.last cfg0.N) ⊢ Pipeline.ΦA spec0 c :=
  Phi_out m c _ (by rw [Fin.val_last]; have : cfg0.N = 96 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelRopeIdeal.Body

end
-- ==== Proof.RefFin.lean ====
module

public import proofs.«01_k».proof.Proof.Gen.ReferenceFinIdeal
public import Idealize.ShloMosaic.Lib.Pointwise

@[expose] public section

set_option maxRecDepth 16384

noncomputable section

open Idealize.ShloMosaic Idealize.ShloMosaic.TcCoe Idealize.SL.Sem

/-! The values of the reference's operations, one by one, as functions of its arguments. -/
namespace Cert.ReferenceFinIdeal.Val

open Cert.ReferenceFinIdeal Cert.ReferenceFinIdeal.Gen

def v0 (a0 : FVec Ideal S8x2304x2048 .f32) (a1 : FVec Ideal S2048 .f32) : FVec Ideal S8x2048x2048 .f32 :=
  ((extractStridedSlice S8x2048x2048 ![0, 256, 0] · slices_S8x2304x2048_S8x2048x2048_0_256_0) : FVec Ideal S8x2304x2048 .f32 → FVec Ideal S8x2048x2048 .f32) a0

def v1 (a0 : FVec Ideal S8x2304x2048 .f32) (a1 : FVec Ideal S2048 .f32) : FVec Ideal S8x2048x2048 .f32 :=
  (mulf : FVec Ideal S8x2048x2048 .f32 → FVec Ideal S8x2048x2048 .f32 → FVec Ideal S8x2048x2048 .f32) (v0 a0 a1) (v0 a0 a1)

def cst (a0 : FVec Ideal S8x2304x2048 .f32) (a1 : FVec Ideal S2048 .f32) : FVec Ideal S_ .f32 :=
  (constant S_ .f32 0x00000000#32)

def v2 (a0 : FVec Ideal S8x2304x2048 .f32) (a1 : FVec Ideal S2048 .f32) : FVec Ideal S8x2048 .f32 :=
  ((fun x v => Host.reduceAdd x v reducesTo_S8x2048x2048_S8x2048_d2 h_S_) : FVec Ideal S8x2048x2048 .f32 → FVec Ideal S_ .f32 → FVec Ideal S8x2048 .f32) (v1 a0 a1) (cst a0 a1)

def v3 (a0 : FVec Ideal S8x2304x2048 .f32) (a1 : FVec Ideal S2048 .f32) : FVec Ideal S8x2048x1 .f32 :=
  (broadcastInDim S8x2048x1 ![0, 1] bcast_S8x2048_S8x2048x1_0_1 : FVec Ideal S8x2048 .f32 → FVec Ideal S8x2048x1 .f32) (v2 a0 a1)

def cst_0 (a0 : FVec Ideal S8x2304x2048 .f32) (a1 : FVec Ideal S2048 .f32) : FVec Ideal S_ .f32 :=
  (constant S_ .f32 0x45000000#32)

def v4 (a0 : FVec Ideal S8x2304x2048 .f32) (a1 : FVec Ideal S2048 .f32) : FVec Ideal S8x2048x1 .f32 :=
  (broadcastInDim S8x2048x1 ![] bcast_S_S8x2048x1 : FVec Ideal S_ .f32 → FVec Ideal S8x2048x1 .f32) (cst_0 a0 a1)

def v5 (a0 : FVec Ideal S8x2304x2048 .f32) (a1 : FVec Ideal S2048 .f32) : FVec Ideal S8x2048x1 .f32 :=
  (Host.divf : FVec Ideal S8x2048x1 .f32 → FVec Ideal S8x2048x1 .f32 → FVec Ideal S8x2048x1 .f32) (v3 a0 a1) (v4 a0 a1)

def cst_1 (a0 : FVec Ideal S8x2304x2048 .f32) (a1 : FVec Ideal S2048 .f32) : FVec Ideal S_ .f32 :=
  (constant S_ .f32 0x358637BD#32)

def v6 (a0 : FVec Ideal S8x2304x2048 .f32) (a1 : FVec Ideal S2048 .f32) : FVec Ideal S8x2048x1 .f32 :=
  (broadcastInDim S8x2048x1 ![] bcast_S_S8x2048x1 : FVec Ideal S_ .f32 → FVec Ideal S8x2048x1 .f32) (cst_1 a0 a1)

def v7 (a0 : FVec Ideal S8x2304x2048 .f32) (a1 : FVec Ideal S2048 .f32) : FVec Ideal S8x2048x1 .f32 :=
  (addf : FVec Ideal S8x2048x1 .f32 → FVec Ideal S8x2048x1 .f32 → FVec Ideal S8x2048x1 .f32) (v5 a0 a1) (v6 a0 a1)

def v8 (a0 : FVec Ideal S8x2304x2048 .f32) (a1 : FVec Ideal S2048 .f32) : FVec Ideal S8x2048x1 .f32 :=
  (Host.rsqrt : FVec Ideal S8x2048x1 .f32 → FVec Ideal S8x2048x1 .f32) (v7 a0 a1)

def v9 (a0 : FVec Ideal S8x2304x2048 .f32) (a1 : FVec Ideal S2048 .f32) : FVec Ideal S8x2048x2048 .f32 :=
  (broadcastInDim S8x2048x2048 ![0, 1, 2] bcast_S8x2048x1_S8x2048x2048_0_1_2 : FVec Ideal S8x2048x1 .f32 → FVec Ideal S8x2048x2048 .f32) (v8 a0 a1)

def v10 (a0 : FVec Ideal S8x2304x2048 .f32) (a1 : FVec Ideal S2048 .f32) : FVec Ideal S8x2048x2048 .f32 :=
  (mulf : FVec Ideal S8x2048x2048 .f32 → FVec Ideal S8x2048x2048 .f32 → FVec Ideal S8x2048x2048 .f32) (v0 a0 a1) (v9 a0 a1)

def v11 (a0 : FVec Ideal S8x2304x2048 .f32) (a1 : FVec Ideal S2048 .f32) : FVec Ideal S1x1x2048 .f32 :=
  (broadcastInDim S1x1x2048 ![2] bcast_S2048_S1x1x2048_2 : FVec Ideal S2048 .f32 → FVec Ideal S1x1x2048 .f32) a1

def v12 (a0 : FVec Ideal S8x2304x2048 .f32) (a1 : FVec Ideal S2048 .f32) : FVec Ideal S8x2048x2048 .f32 :=
  (broadcastInDim S8x2048x2048 ![0, 1, 2] bcast_S1x1x2048_S8x2048x2048_0_1_2 : FVec Ideal S1x1x2048 .f32 → FVec Ideal S8x2048x2048 .f32) (v11 a0 a1)

def v13 (a0 : FVec Ideal S8x2304x2048 .f32) (a1 : FVec Ideal S2048 .f32) : FVec Ideal S8x2048x2048 .f32 :=
  (mulf : FVec Ideal S8x2048x2048 .f32 → FVec Ideal S8x2048x2048 .f32 → FVec Ideal S8x2048x2048 .f32) (v10 a0 a1) (v12 a0 a1)

end Cert.ReferenceFinIdeal.Val

end
-- ==== Proof.ValFin.lean ====
module

public import proofs.«01_k».proof.Proof.Gen.KernelFinIdeal.Frame
public import proofs.«01_k».proof.Proof.RefFin
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelFinIdeal.Value

open Cert.KernelFinIdeal Cert.KernelFinIdeal.Gen

variable (m : (ℓ : Loc nD τ sig) → Buf (Elt Ideal) ℓ)

theorem idx_val : ∀ t : Fin cfg0.N, win0_0.index t = ![t.val / 8, (t.val % 8) + 1, 0]
    ∧ win0_1.index t = ![0, 0]
    ∧ win0_2.index t = ![t.val / 8, t.val % 8, 0] :=
  (by decide +kernel : ∀ t : Fin grid0.N, _)

/-- What a point stores at an index of its block is the reference at the index of the array that lies there. -/
theorem point (c : Dev nD) (t : Fin cfg0.N) (y) :
    k0_pay1 (iblk m c 0 t) (iblk m c 1 t) y
      = Cert.ReferenceFinIdeal.Val.v13 (m ((c : Thread nD τ).loc main_arg0)) (m ((c : Thread nD τ).loc main_arg1)) (((cfg0.win 2).blk t).view.emb y) := by
  pointwise [k0_pay1, Cert.ReferenceFinIdeal.Val.v13, Cert.ReferenceFinIdeal.Val.v12, Cert.ReferenceFinIdeal.Val.v11, Cert.ReferenceFinIdeal.Val.v10, Cert.ReferenceFinIdeal.Val.v9, Cert.ReferenceFinIdeal.Val.v8, Cert.ReferenceFinIdeal.Val.v7, Cert.ReferenceFinIdeal.Val.v6, Cert.ReferenceFinIdeal.Val.cst_1, Cert.ReferenceFinIdeal.Val.v5, Cert.ReferenceFinIdeal.Val.v4, Cert.ReferenceFinIdeal.Val.cst_0, Cert.ReferenceFinIdeal.Val.v3, Cert.ReferenceFinIdeal.Val.v2, Cert.ReferenceFinIdeal.Val.cst, Cert.ReferenceFinIdeal.Val.v1, Cert.ReferenceFinIdeal.Val.v0]
  blk_point [iblk, V, idx_val t]

/-- The result array after the run. -/
theorem final (c : Dev nD) : (dats m 0 c).arrAt 2 (cfgs 0).N = Cert.ReferenceFinIdeal.Val.v13 (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.KernelFinIdeal.Value

end
-- ==== Proof.AlgFin.lean ====
module

public import proofs.«01_k».proof.Defs
public import proofs.«01_k».proof.Proof.ValFin
public import proofs.«01_k».proof.Proof.Gen.KernelFinIdeal.Frame
public import proofs.«01_k».proof.Proof.Gen.ReferenceFinIdeal
public import Idealize.ShloMosaic.Lib.Claim

@[expose] public section

set_option maxRecDepth 16384

noncomputable section

open Idealize.ShloMosaic Idealize.SL.Sem

/-! The claims about the final norm at the exact numbers. -/
namespace Cert.Proof

set_option maxHeartbeats 1600000 in
theorem quiescent_ReferenceFinIdeal : Cert.quiescent_ReferenceFinIdeal := by
  intro m g _
  refine (θ_run _ _ _).mono (fun r h => ⟨h, sem_eq_zero_of_no_sems (by decide) r.2⟩) ?_
  hlo_run

set_option maxHeartbeats 1600000 in
theorem algebraic_Fin : Cert.algebraic_KernelFinIdeal_ReferenceFinIdeal := by
  pair_intro
  · run_from Cert.KernelFinIdeal.Gen.run_main m g
    all_goals first | exact Cert.KernelFinIdeal.Gen.V_main_arg0 m c | exact Cert.KernelFinIdeal.Gen.V_main_arg1 m c
  · hlo_run
    try rw [(hagree c).2]
    exact (Cert.KernelFinIdeal.Value.final m c).symm

end Cert.Proof

end
-- ==== Proof.RefOpa.lean ====
module

public import proofs.«01_k».proof.Proof.Gen.ReferenceOpaIdeal
public import Idealize.ShloMosaic.Lib.Pointwise

@[expose] public section

set_option maxRecDepth 16384

noncomputable section

open Idealize.ShloMosaic Idealize.ShloMosaic.TcCoe Idealize.SL.Sem

/-! The values of the reference's operations, one by one, as functions of its arguments. -/
namespace Cert.ReferenceOpaIdeal.Val

open Cert.ReferenceOpaIdeal Cert.ReferenceOpaIdeal.Gen

def v0 (a0 : FVec Ideal S8x2304x2048 .bf16) (a1 : FVec Ideal S2048x2048 .f32) (a2 : FVec Ideal S8x2304x2048 .f32) (a3 : FVec Ideal S8x2x2048 .f32) : FVec Ideal S8x2304x2048 .f32 :=
  ((extf .f32 · bitsLt_bf16_f32) : FVec Ideal S8x2304x2048 .bf16 → FVec Ideal S8x2304x2048 .f32) a0

def v1 (a0 : FVec Ideal S8x2304x2048 .bf16) (a1 : FVec Ideal S2048x2048 .f32) (a2 : FVec Ideal S8x2304x2048 .f32) (a3 : FVec Ideal S8x2x2048 .f32) : FVec Ideal S8x256x2048 .f32 :=
  ((extractStridedSlice S8x256x2048 ![0, 0, 0] · slices_S8x2304x2048_S8x256x2048_0_0_0) : FVec Ideal S8x2304x2048 .f32 → FVec Ideal S8x256x2048 .f32) a2

def v2 (a0 : FVec Ideal S8x2304x2048 .bf16) (a1 : FVec Ideal S2048x2048 .f32) (a2 : FVec Ideal S8x2304x2048 .f32) (a3 : FVec Ideal S8x2x2048 .f32) : FVec Ideal S8x2048x2048 .f32 :=
  ((extractStridedSlice S8x2048x2048 ![0, 256, 0] · slices_S8x2304x2048_S8x2048x2048_0_256_0) : FVec Ideal S8x2304x2048 .f32 → FVec Ideal S8x2048x2048 .f32) a2

def v3 (a0 : FVec Ideal S8x2304x2048 .bf16) (a1 : FVec Ideal S2048x2048 .f32) (a2 : FVec Ideal S8x2304x2048 .f32) (a3 : FVec Ideal S8x2x2048 .f32) : FVec Ideal S8x1x2048 .f32 :=
  ((extractStridedSlice S8x1x2048 ![0, 0, 0] · slices_S8x2x2048_S8x1x2048_0_0_0) : FVec Ideal S8x2x2048 .f32 → FVec Ideal S8x1x2048 .f32) a3

def v4 (a0 : FVec Ideal S8x2304x2048 .bf16) (a1 : FVec Ideal S2048x2048 .f32) (a2 : FVec Ideal S8x2304x2048 .f32) (a3 : FVec Ideal S8x2x2048 .f32) : FVec Ideal S8x2048x2048 .f32 :=
  ((extractStridedSlice S8x2048x2048 ![0, 256, 0] · slices_S8x2304x2048_S8x2048x2048_0_256_0) : FVec Ideal S8x2304x2048 .f32 → FVec Ideal S8x2048x2048 .f32) (v0 a0 a1 a2 a3)

def v5 (a0 : FVec Ideal S8x2304x2048 .bf16) (a1 : FVec Ideal S2048x2048 .f32) (a2 : FVec Ideal S8x2304x2048 .f32) (a3 : FVec Ideal S8x2x2048 .f32) : FVec Ideal S8x2048x2048 .f32 :=
  ((fun l r => Host.dotGeneral dot_S8x2048x2048_S2048x2048_S8x2048x2048_2_0_01_1_n_n none l r) : FVec Ideal S8x2048x2048 .f32 → FVec Ideal S2048x2048 .f32 → FVec Ideal S8x2048x2048 .f32) (v4 a0 a1 a2 a3) a1

def v6 (a0 : FVec Ideal S8x2304x2048 .bf16) (a1 : FVec Ideal S2048x2048 .f32) (a2 : FVec Ideal S8x2304x2048 .f32) (a3 : FVec Ideal S8x2x2048 .f32) : FVec Ideal S8x2048x2048 .f32 :=
  (broadcastInDim S8x2048x2048 ![0, 1, 2] bcast_S8x1x2048_S8x2048x2048_0_1_2 : FVec Ideal S8x1x2048 .f32 → FVec Ideal S8x2048x2048 .f32) (v3 a0 a1 a2 a3)

def v7 (a0 : FVec Ideal S8x2304x2048 .bf16) (a1 : FVec Ideal S2048x2048 .f32) (a2 : FVec Ideal S8x2304x2048 .f32) (a3 : FVec Ideal S8x2x2048 .f32) : FVec Ideal S8x2048x2048 .f32 :=
  (mulf : FVec Ideal S8x2048x2048 .f32 → FVec Ideal S8x2048x2048 .f32 → FVec Ideal S8x2048x2048 .f32) (v6 a0 a1 a2 a3) (v5 a0 a1 a2 a3)

def v8 (a0 : FVec Ideal S8x2304x2048 .bf16) (a1 : FVec Ideal S2048x2048 .f32) (a2 : FVec Ideal S8x2304x2048 .f32) (a3 : FVec Ideal S8x2x2048 .f32) : FVec Ideal S8x2048x2048 .f32 :=
  (addf : FVec Ideal S8x2048x2048 .f32 → FVec Ideal S8x2048x2048 .f32 → FVec Ideal S8x2048x2048 .f32) (v2 a0 a1 a2 a3) (v7 a0 a1 a2 a3)

def v9 (a0 : FVec Ideal S8x2304x2048 .bf16) (a1 : FVec Ideal S2048x2048 .f32) (a2 : FVec Ideal S8x2304x2048 .f32) (a3 : FVec Ideal S8x2x2048 .f32) : FVec Ideal S8x1x2048 .f32 :=
  ((extractStridedSlice S8x1x2048 ![0, 1, 0] · slices_S8x2x2048_S8x1x2048_0_1_0) : FVec Ideal S8x2x2048 .f32 → FVec Ideal S8x1x2048 .f32) a3

def v10 (a0 : FVec Ideal S8x2304x2048 .bf16) (a1 : FVec Ideal S2048x2048 .f32) (a2 : FVec Ideal S8x2304x2048 .f32) (a3 : FVec Ideal S8x2x2048 .f32) : FVec Ideal S8x256x2048 .f32 :=
  ((extractStridedSlice S8x256x2048 ![0, 0, 0] · slices_S8x2304x2048_S8x256x2048_0_0_0) : FVec Ideal S8x2304x2048 .f32 → FVec Ideal S8x256x2048 .f32) (v0 a0 a1 a2 a3)

def v11 (a0 : FVec Ideal S8x2304x2048 .bf16) (a1 : FVec Ideal S2048x2048 .f32) (a2 : FVec Ideal S8x2304x2048 .f32) (a3 : FVec Ideal S8x2x2048 .f32) : FVec Ideal S8x256x2048 .f32 :=
  ((fun l r => Host.dotGeneral dot_S8x256x2048_S2048x2048_S8x256x2048_2_0_01_1_n_n none l r) : FVec Ideal S8x256x2048 .f32 → FVec Ideal S2048x2048 .f32 → FVec Ideal S8x256x2048 .f32) (v10 a0 a1 a2 a3) a1

def v12 (a0 : FVec Ideal S8x2304x2048 .bf16) (a1 : FVec Ideal S2048x2048 .f32) (a2 : FVec Ideal S8x2304x2048 .f32) (a3 : FVec Ideal S8x2x2048 .f32) : FVec Ideal S8x256x2048 .f32 :=
  (broadcastInDim S8x256x2048 ![0, 1, 2] bcast_S8x1x2048_S8x256x2048_0_1_2 : FVec Ideal S8x1x2048 .f32 → FVec Ideal S8x256x2048 .f32) (v9 a0 a1 a2 a3)

def v13 (a0 : FVec Ideal S8x2304x2048 .bf16) (a1 : FVec Ideal S2048x2048 .f32) (a2 : FVec Ideal S8x2304x2048 .f32) (a3 : FVec Ideal S8x2x2048 .f32) : FVec Ideal S8x256x2048 .f32 :=
  (mulf : FVec Ideal S8x256x2048 .f32 → FVec Ideal S8x256x2048 .f32 → FVec Ideal S8x256x2048 .f32) (v12 a0 a1 a2 a3) (v11 a0 a1 a2 a3)

def v14 (a0 : FVec Ideal S8x2304x2048 .bf16) (a1 : FVec Ideal S2048x2048 .f32) (a2 : FVec Ideal S8x2304x2048 .f32) (a3 : FVec Ideal S8x2x2048 .f32) : FVec Ideal S8x256x2048 .f32 :=
  (addf : FVec Ideal S8x256x2048 .f32 → FVec Ideal S8x256x2048 .f32 → FVec Ideal S8x256x2048 .f32) (v1 a0 a1 a2 a3) (v13 a0 a1 a2 a3)

def v15 (a0 : FVec Ideal S8x2304x2048 .bf16) (a1 : FVec Ideal S2048x2048 .f32) (a2 : FVec Ideal S8x2304x2048 .f32) (a3 : FVec Ideal S8x2x2048 .f32) : FVec Ideal S8x2304x2048 .f32 :=
  ((fun a b => concatenate S8x2304x2048 1 [⟨S8x256x2048, a⟩, ⟨S8x2048x2048, b⟩] concatenates_S8x256x2048_S8x2048x2048_S8x2304x2048_d1) : FVec Ideal S8x256x2048 .f32 → FVec Ideal S8x2048x2048 .f32 → FVec Ideal S8x2304x2048 .f32) (v14 a0 a1 a2 a3) (v8 a0 a1 a2 a3)

end Cert.ReferenceOpaIdeal.Val

end
-- ==== Proof.Words.lean ====
module

public import Idealize.ShloMosaic.Lib.WordCmp
public import Idealize.ShloMosaic.Lib.Pointwise

@[expose] public section

open Idealize.ShloMosaic

/-! Comparisons of row numbers held in 32-bit words, for numbers that fit. -/
namespace Cert.Words

theorem sel_lt {α : Type} (p n q k : ℕ) (h : p * n + q < 2 ^ 31) (hk : k < 2 ^ 31) (a b : α) :
    Scalar.select (IntOp.cmpi .slt
      (IntOp.addi (Scalar.muli (BitVec.ofNat 32 p) (BitVec.ofNat 32 n)) (BitVec.ofNat 32 q)) (BitVec.ofNat 32 k)) a b
      = if p * n + q < k then a else b := by
  have e : IntOp.addi (Scalar.muli (BitVec.ofNat 32 p) (BitVec.ofNat 32 n)) (BitVec.ofNat 32 q)
      = BitVec.ofNat 32 (p * n + q) := by
    rw [BitVec.ofNat_add, BitVec.ofNat_mul]; rfl
  rw [e]
  unfold Scalar.select
  have e2 := WordCmp.cmpi_slt_ofNat_eq_one_iff (w := 32) (a := p * n + q) (b := k) h hk
  by_cases hlt : p * n + q < k
  · rw [if_pos hlt]; exact if_pos (e2.mpr hlt)
  · rw [if_neg hlt]; exact if_neg fun e => hlt (e2.mp e)

end Cert.Words
-- ==== Proof.ValOpa.lean ====
module

public import proofs.«01_k».proof.Proof.Gen.KernelOpaIdeal.Frame
public import proofs.«01_k».proof.Proof.RefOpa
public import proofs.«01_k».proof.Proof.Words
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelOpaIdeal.Value

open Cert.KernelOpaIdeal Cert.KernelOpaIdeal.Gen

variable (m : (ℓ : Loc nD τ sig) → Buf (Elt Ideal) ℓ)

theorem idx_val : ∀ t : Fin cfg0.N, win0_0.index t = ![t.val / 8, t.val / 4 % 2, 0]
    ∧ win0_1.index t = ![0, t.val % 4]
    ∧ win0_2.index t = ![t.val / 8, t.val / 4 % 2, t.val % 4]
    ∧ win0_3.index t = ![t.val / 8, 0, t.val % 4]
    ∧ win0_4.index t = ![t.val / 8, t.val / 4 % 2, t.val % 4] :=
  (by decide +kernel : ∀ t : Fin grid0.N, _)

theorem coord : ∀ t : Fin cfg0.N, (grid0.coords t 1).val = t.val / 4 % 2 :=
  (by decide +kernel : ∀ t : Fin grid0.N, _)

/-- What a point stores at an index of its block is the reference at the index of the array that lies there. -/
theorem point (c : Dev nD) (t : Fin cfg0.N) (y) :
    k0_pay1 (grid0.coords t) (iblk m c 0 t) (iblk m c 1 t) (iblk m c 2 t) (View.ld (iblk m c 3 t) r0_3) (View.ld (iblk m c 3 t) r0_4) y
      = Cert.ReferenceOpaIdeal.Val.v15 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, Cert.ReferenceOpaIdeal.Val.v15, Cert.ReferenceOpaIdeal.Val.v14, Cert.ReferenceOpaIdeal.Val.v13, Cert.ReferenceOpaIdeal.Val.v12, Cert.ReferenceOpaIdeal.Val.v11, Cert.ReferenceOpaIdeal.Val.v10, Cert.ReferenceOpaIdeal.Val.v9, Cert.ReferenceOpaIdeal.Val.v8, Cert.ReferenceOpaIdeal.Val.v7, Cert.ReferenceOpaIdeal.Val.v6, Cert.ReferenceOpaIdeal.Val.v5, Cert.ReferenceOpaIdeal.Val.v4, Cert.ReferenceOpaIdeal.Val.v3, Cert.ReferenceOpaIdeal.Val.v2, Cert.ReferenceOpaIdeal.Val.v1, Cert.ReferenceOpaIdeal.Val.v0]
  have hy := (y 1).isLt
  have hc := coord t
  rw [coord t, Words.sel_lt _ 1152 _ 256 (by simp at hy ⊢; omega) (by norm_num)]
  have e1 : (((View.whole main_v1).slice ((win0 4).rect t)).emb y 1 : ℕ) = t.val / 4 % 2 * 1152 + (y 1).val := by
    blk_simp [idx_val t]
  by_cases h : t.val / 4 % 2 * 1152 + (y 1).val < 256
  · rw [if_pos h, dif_pos (e1 ▸ h)]
    blk_point [iblk, V, idx_val t]
  · rw [if_neg h, dif_neg (e1 ▸ h)]
    blk_point [iblk, V, idx_val t]

/-- The result array after the run. -/
theorem final (c : Dev nD) : (dats m 0 c).arrAt 4 (cfgs 0).N = Cert.ReferenceOpaIdeal.Val.v15 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point m c t y

end Cert.KernelOpaIdeal.Value

end
-- ==== Proof.AlgOpa.lean ====
module

public import proofs.«01_k».proof.Defs
public import proofs.«01_k».proof.Proof.ValOpa
public import proofs.«01_k».proof.Proof.Gen.KernelOpaIdeal.Frame
public import proofs.«01_k».proof.Proof.Gen.ReferenceOpaIdeal
public import Idealize.ShloMosaic.Lib.Claim

@[expose] public section

set_option maxRecDepth 16384

noncomputable section

open Idealize.ShloMosaic Idealize.SL.Sem

/-! The claims about the output projection of attention at the exact numbers. -/
namespace Cert.Proof

set_option maxHeartbeats 1600000 in
theorem quiescent_ReferenceOpaIdeal : Cert.quiescent_ReferenceOpaIdeal := by
  intro m g _
  refine (θ_run _ _ _).mono (fun r h => ⟨h, sem_eq_zero_of_no_sems (by decide) r.2⟩) ?_
  hlo_run

set_option maxHeartbeats 1600000 in
theorem algebraic_Opa : Cert.algebraic_KernelOpaIdeal_ReferenceOpaIdeal := by
  pair_intro
  · run_from Cert.KernelOpaIdeal.Gen.run_main m g
    all_goals first | exact Cert.KernelOpaIdeal.Gen.V_main_arg0 m c | exact Cert.KernelOpaIdeal.Gen.V_main_arg1 m c | exact Cert.KernelOpaIdeal.Gen.V_main_arg2 m c | exact Cert.KernelOpaIdeal.Gen.V_main_arg3 m c
  · hlo_run
    try rw [(hagree c).2.2.2]
    exact (Cert.KernelOpaIdeal.Value.final m c).symm

end Cert.Proof

end
-- ==== Proof.RefOpg.lean ====
module

public import proofs.«01_k».proof.Proof.Gen.ReferenceOpgIdeal
public import Idealize.ShloMosaic.Lib.Pointwise

@[expose] public section

set_option maxRecDepth 16384

noncomputable section

open Idealize.ShloMosaic Idealize.ShloMosaic.TcCoe Idealize.SL.Sem

/-! The values of the reference's operations, one by one, as functions of its arguments. -/
namespace Cert.ReferenceOpgIdeal.Val

open Cert.ReferenceOpgIdeal Cert.ReferenceOpgIdeal.Gen

def v0 (a0 : FVec Ideal S8x2304x4096 .bf16) (a1 : FVec Ideal S4096x2048 .f32) (a2 : FVec Ideal S8x2304x2048 .f32) (a3 : FVec Ideal S8x2x2048 .f32) : FVec Ideal S8x2304x4096 .f32 :=
  ((extf .f32 · bitsLt_bf16_f32) : FVec Ideal S8x2304x4096 .bf16 → FVec Ideal S8x2304x4096 .f32) a0

def v1 (a0 : FVec Ideal S8x2304x4096 .bf16) (a1 : FVec Ideal S4096x2048 .f32) (a2 : FVec Ideal S8x2304x2048 .f32) (a3 : FVec Ideal S8x2x2048 .f32) : FVec Ideal S8x256x2048 .f32 :=
  ((extractStridedSlice S8x256x2048 ![0, 0, 0] · slices_S8x2304x2048_S8x256x2048_0_0_0) : FVec Ideal S8x2304x2048 .f32 → FVec Ideal S8x256x2048 .f32) a2

def v2 (a0 : FVec Ideal S8x2304x4096 .bf16) (a1 : FVec Ideal S4096x2048 .f32) (a2 : FVec Ideal S8x2304x2048 .f32) (a3 : FVec Ideal S8x2x2048 .f32) : FVec Ideal S8x2048x2048 .f32 :=
  ((extractStridedSlice S8x2048x2048 ![0, 256, 0] · slices_S8x2304x2048_S8x2048x2048_0_256_0) : FVec Ideal S8x2304x2048 .f32 → FVec Ideal S8x2048x2048 .f32) a2

def v3 (a0 : FVec Ideal S8x2304x4096 .bf16) (a1 : FVec Ideal S4096x2048 .f32) (a2 : FVec Ideal S8x2304x2048 .f32) (a3 : FVec Ideal S8x2x2048 .f32) : FVec Ideal S8x1x2048 .f32 :=
  ((extractStridedSlice S8x1x2048 ![0, 0, 0] · slices_S8x2x2048_S8x1x2048_0_0_0) : FVec Ideal S8x2x2048 .f32 → FVec Ideal S8x1x2048 .f32) a3

def v4 (a0 : FVec Ideal S8x2304x4096 .bf16) (a1 : FVec Ideal S4096x2048 .f32) (a2 : FVec Ideal S8x2304x2048 .f32) (a3 : FVec Ideal S8x2x2048 .f32) : FVec Ideal S8x2048x4096 .f32 :=
  ((extractStridedSlice S8x2048x4096 ![0, 256, 0] · slices_S8x2304x4096_S8x2048x4096_0_256_0) : FVec Ideal S8x2304x4096 .f32 → FVec Ideal S8x2048x4096 .f32) (v0 a0 a1 a2 a3)

def v5 (a0 : FVec Ideal S8x2304x4096 .bf16) (a1 : FVec Ideal S4096x2048 .f32) (a2 : FVec Ideal S8x2304x2048 .f32) (a3 : FVec Ideal S8x2x2048 .f32) : FVec Ideal S8x2048x2048 .f32 :=
  ((fun l r => Host.dotGeneral dot_S8x2048x4096_S4096x2048_S8x2048x2048_2_0_01_1_n_n none l r) : FVec Ideal S8x2048x4096 .f32 → FVec Ideal S4096x2048 .f32 → FVec Ideal S8x2048x2048 .f32) (v4 a0 a1 a2 a3) a1

def v6 (a0 : FVec Ideal S8x2304x4096 .bf16) (a1 : FVec Ideal S4096x2048 .f32) (a2 : FVec Ideal S8x2304x2048 .f32) (a3 : FVec Ideal S8x2x2048 .f32) : FVec Ideal S8x2048x2048 .f32 :=
  (broadcastInDim S8x2048x2048 ![0, 1, 2] bcast_S8x1x2048_S8x2048x2048_0_1_2 : FVec Ideal S8x1x2048 .f32 → FVec Ideal S8x2048x2048 .f32) (v3 a0 a1 a2 a3)

def v7 (a0 : FVec Ideal S8x2304x4096 .bf16) (a1 : FVec Ideal S4096x2048 .f32) (a2 : FVec Ideal S8x2304x2048 .f32) (a3 : FVec Ideal S8x2x2048 .f32) : FVec Ideal S8x2048x2048 .f32 :=
  (mulf : FVec Ideal S8x2048x2048 .f32 → FVec Ideal S8x2048x2048 .f32 → FVec Ideal S8x2048x2048 .f32) (v6 a0 a1 a2 a3) (v5 a0 a1 a2 a3)

def v8 (a0 : FVec Ideal S8x2304x4096 .bf16) (a1 : FVec Ideal S4096x2048 .f32) (a2 : FVec Ideal S8x2304x2048 .f32) (a3 : FVec Ideal S8x2x2048 .f32) : FVec Ideal S8x2048x2048 .f32 :=
  (addf : FVec Ideal S8x2048x2048 .f32 → FVec Ideal S8x2048x2048 .f32 → FVec Ideal S8x2048x2048 .f32) (v2 a0 a1 a2 a3) (v7 a0 a1 a2 a3)

def v9 (a0 : FVec Ideal S8x2304x4096 .bf16) (a1 : FVec Ideal S4096x2048 .f32) (a2 : FVec Ideal S8x2304x2048 .f32) (a3 : FVec Ideal S8x2x2048 .f32) : FVec Ideal S8x1x2048 .f32 :=
  ((extractStridedSlice S8x1x2048 ![0, 1, 0] · slices_S8x2x2048_S8x1x2048_0_1_0) : FVec Ideal S8x2x2048 .f32 → FVec Ideal S8x1x2048 .f32) a3

def v10 (a0 : FVec Ideal S8x2304x4096 .bf16) (a1 : FVec Ideal S4096x2048 .f32) (a2 : FVec Ideal S8x2304x2048 .f32) (a3 : FVec Ideal S8x2x2048 .f32) : FVec Ideal S8x256x4096 .f32 :=
  ((extractStridedSlice S8x256x4096 ![0, 0, 0] · slices_S8x2304x4096_S8x256x4096_0_0_0) : FVec Ideal S8x2304x4096 .f32 → FVec Ideal S8x256x4096 .f32) (v0 a0 a1 a2 a3)

def v11 (a0 : FVec Ideal S8x2304x4096 .bf16) (a1 : FVec Ideal S4096x2048 .f32) (a2 : FVec Ideal S8x2304x2048 .f32) (a3 : FVec Ideal S8x2x2048 .f32) : FVec Ideal S8x256x2048 .f32 :=
  ((fun l r => Host.dotGeneral dot_S8x256x4096_S4096x2048_S8x256x2048_2_0_01_1_n_n none l r) : FVec Ideal S8x256x4096 .f32 → FVec Ideal S4096x2048 .f32 → FVec Ideal S8x256x2048 .f32) (v10 a0 a1 a2 a3) a1

def v12 (a0 : FVec Ideal S8x2304x4096 .bf16) (a1 : FVec Ideal S4096x2048 .f32) (a2 : FVec Ideal S8x2304x2048 .f32) (a3 : FVec Ideal S8x2x2048 .f32) : FVec Ideal S8x256x2048 .f32 :=
  (broadcastInDim S8x256x2048 ![0, 1, 2] bcast_S8x1x2048_S8x256x2048_0_1_2 : FVec Ideal S8x1x2048 .f32 → FVec Ideal S8x256x2048 .f32) (v9 a0 a1 a2 a3)

def v13 (a0 : FVec Ideal S8x2304x4096 .bf16) (a1 : FVec Ideal S4096x2048 .f32) (a2 : FVec Ideal S8x2304x2048 .f32) (a3 : FVec Ideal S8x2x2048 .f32) : FVec Ideal S8x256x2048 .f32 :=
  (mulf : FVec Ideal S8x256x2048 .f32 → FVec Ideal S8x256x2048 .f32 → FVec Ideal S8x256x2048 .f32) (v12 a0 a1 a2 a3) (v11 a0 a1 a2 a3)

def v14 (a0 : FVec Ideal S8x2304x4096 .bf16) (a1 : FVec Ideal S4096x2048 .f32) (a2 : FVec Ideal S8x2304x2048 .f32) (a3 : FVec Ideal S8x2x2048 .f32) : FVec Ideal S8x256x2048 .f32 :=
  (addf : FVec Ideal S8x256x2048 .f32 → FVec Ideal S8x256x2048 .f32 → FVec Ideal S8x256x2048 .f32) (v1 a0 a1 a2 a3) (v13 a0 a1 a2 a3)

def v15 (a0 : FVec Ideal S8x2304x4096 .bf16) (a1 : FVec Ideal S4096x2048 .f32) (a2 : FVec Ideal S8x2304x2048 .f32) (a3 : FVec Ideal S8x2x2048 .f32) : FVec Ideal S8x2304x2048 .f32 :=
  ((fun a b => concatenate S8x2304x2048 1 [⟨S8x256x2048, a⟩, ⟨S8x2048x2048, b⟩] concatenates_S8x256x2048_S8x2048x2048_S8x2304x2048_d1) : FVec Ideal S8x256x2048 .f32 → FVec Ideal S8x2048x2048 .f32 → FVec Ideal S8x2304x2048 .f32) (v14 a0 a1 a2 a3) (v8 a0 a1 a2 a3)

end Cert.ReferenceOpgIdeal.Val

end
-- ==== Proof.ValOpg.lean ====
module

public import proofs.«01_k».proof.Proof.Gen.KernelOpgIdeal.Frame
public import proofs.«01_k».proof.Proof.RefOpg
public import proofs.«01_k».proof.Proof.Words
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelOpgIdeal.Value

open Cert.KernelOpgIdeal Cert.KernelOpgIdeal.Gen

variable (m : (ℓ : Loc nD τ sig) → Buf (Elt Ideal) ℓ)

theorem idx_val : ∀ t : Fin cfg0.N, win0_0.index t = ![t.val / 8, t.val / 4 % 2, 0]
    ∧ win0_1.index t = ![0, t.val % 4]
    ∧ win0_2.index t = ![t.val / 8, t.val / 4 % 2, t.val % 4]
    ∧ win0_3.index t = ![t.val / 8, 0, t.val % 4]
    ∧ win0_4.index t = ![t.val / 8, t.val / 4 % 2, t.val % 4] :=
  (by decide +kernel : ∀ t : Fin grid0.N, _)

theorem coord : ∀ t : Fin cfg0.N, (grid0.coords t 1).val = t.val / 4 % 2 :=
  (by decide +kernel : ∀ t : Fin grid0.N, _)

/-- What a point stores at an index of its block is the reference at the index of the array that lies there. -/
theorem point (c : Dev nD) (t : Fin cfg0.N) (y) :
    k0_pay1 (grid0.coords t) (iblk m c 0 t) (iblk m c 1 t) (iblk m c 2 t) (View.ld (iblk m c 3 t) r0_3) (View.ld (iblk m c 3 t) r0_4) y
      = Cert.ReferenceOpgIdeal.Val.v15 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, Cert.ReferenceOpgIdeal.Val.v15, Cert.ReferenceOpgIdeal.Val.v14, Cert.ReferenceOpgIdeal.Val.v13, Cert.ReferenceOpgIdeal.Val.v12, Cert.ReferenceOpgIdeal.Val.v11, Cert.ReferenceOpgIdeal.Val.v10, Cert.ReferenceOpgIdeal.Val.v9, Cert.ReferenceOpgIdeal.Val.v8, Cert.ReferenceOpgIdeal.Val.v7, Cert.ReferenceOpgIdeal.Val.v6, Cert.ReferenceOpgIdeal.Val.v5, Cert.ReferenceOpgIdeal.Val.v4, Cert.ReferenceOpgIdeal.Val.v3, Cert.ReferenceOpgIdeal.Val.v2, Cert.ReferenceOpgIdeal.Val.v1, Cert.ReferenceOpgIdeal.Val.v0]
  have hy := (y 1).isLt
  have hc := coord t
  rw [coord t, Words.sel_lt _ 1152 _ 256 (by simp at hy ⊢; omega) (by norm_num)]
  have e1 : (((View.whole main_v1).slice ((win0 4).rect t)).emb y 1 : ℕ) = t.val / 4 % 2 * 1152 + (y 1).val := by
    blk_simp [idx_val t]
  by_cases h : t.val / 4 % 2 * 1152 + (y 1).val < 256
  · rw [if_pos h, dif_pos (e1 ▸ h)]
    blk_point [iblk, V, idx_val t]
  · rw [if_neg h, dif_neg (e1 ▸ h)]
    blk_point [iblk, V, idx_val t]

/-- The result array after the run. -/
theorem final (c : Dev nD) : (dats m 0 c).arrAt 4 (cfgs 0).N = Cert.ReferenceOpgIdeal.Val.v15 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point m c t y

end Cert.KernelOpgIdeal.Value

end
-- ==== Proof.AlgOpg.lean ====
module

public import proofs.«01_k».proof.Defs
public import proofs.«01_k».proof.Proof.ValOpg
public import proofs.«01_k».proof.Proof.Gen.KernelOpgIdeal.Frame
public import proofs.«01_k».proof.Proof.Gen.ReferenceOpgIdeal
public import Idealize.ShloMosaic.Lib.Claim

@[expose] public section

set_option maxRecDepth 16384

noncomputable section

open Idealize.ShloMosaic Idealize.SL.Sem

/-! The claims about the output projection of the recurrence at the exact numbers. -/
namespace Cert.Proof

set_option maxHeartbeats 1600000 in
theorem quiescent_ReferenceOpgIdeal : Cert.quiescent_ReferenceOpgIdeal := by
  intro m g _
  refine (θ_run _ _ _).mono (fun r h => ⟨h, sem_eq_zero_of_no_sems (by decide) r.2⟩) ?_
  hlo_run

set_option maxHeartbeats 1600000 in
theorem algebraic_Opg : Cert.algebraic_KernelOpgIdeal_ReferenceOpgIdeal := by
  pair_intro
  · run_from Cert.KernelOpgIdeal.Gen.run_main m g
    all_goals first | exact Cert.KernelOpgIdeal.Gen.V_main_arg0 m c | exact Cert.KernelOpgIdeal.Gen.V_main_arg1 m c | exact Cert.KernelOpgIdeal.Gen.V_main_arg2 m c | exact Cert.KernelOpgIdeal.Gen.V_main_arg3 m c
  · hlo_run
    try rw [(hagree c).2.2.2]
    exact (Cert.KernelOpgIdeal.Value.final m c).symm

end Cert.Proof

end
-- ==== Proof.RefOpf.lean ====
module

public import proofs.«01_k».proof.Proof.Gen.ReferenceOpfIdeal
public import Idealize.ShloMosaic.Lib.Pointwise

@[expose] public section

set_option maxRecDepth 16384

noncomputable section

open Idealize.ShloMosaic Idealize.ShloMosaic.TcCoe Idealize.SL.Sem

/-! The values of the reference's operations, one by one, as functions of its arguments. -/
namespace Cert.ReferenceOpfIdeal.Val

open Cert.ReferenceOpfIdeal Cert.ReferenceOpfIdeal.Gen

def v0 (a0 : FVec Ideal S8x2304x5632 .bf16) (a1 : FVec Ideal S5504x2048 .f32) (a2 : FVec Ideal S8x2304x2048 .f32) (a3 : FVec Ideal S8x2x2048 .f32) : FVec Ideal S8x2304x5504 .bf16 :=
  ((extractStridedSlice S8x2304x5504 ![0, 0, 0] · slices_S8x2304x5632_S8x2304x5504_0_0_0) : FVec Ideal S8x2304x5632 .bf16 → FVec Ideal S8x2304x5504 .bf16) a0

def v1 (a0 : FVec Ideal S8x2304x5632 .bf16) (a1 : FVec Ideal S5504x2048 .f32) (a2 : FVec Ideal S8x2304x2048 .f32) (a3 : FVec Ideal S8x2x2048 .f32) : FVec Ideal S8x2304x5504 .f32 :=
  ((extf .f32 · bitsLt_bf16_f32) : FVec Ideal S8x2304x5504 .bf16 → FVec Ideal S8x2304x5504 .f32) (v0 a0 a1 a2 a3)

def v2 (a0 : FVec Ideal S8x2304x5632 .bf16) (a1 : FVec Ideal S5504x2048 .f32) (a2 : FVec Ideal S8x2304x2048 .f32) (a3 : FVec Ideal S8x2x2048 .f32) : FVec Ideal S8x256x2048 .f32 :=
  ((extractStridedSlice S8x256x2048 ![0, 0, 0] · slices_S8x2304x2048_S8x256x2048_0_0_0) : FVec Ideal S8x2304x2048 .f32 → FVec Ideal S8x256x2048 .f32) a2

def v3 (a0 : FVec Ideal S8x2304x5632 .bf16) (a1 : FVec Ideal S5504x2048 .f32) (a2 : FVec Ideal S8x2304x2048 .f32) (a3 : FVec Ideal S8x2x2048 .f32) : FVec Ideal S8x2048x2048 .f32 :=
  ((extractStridedSlice S8x2048x2048 ![0, 256, 0] · slices_S8x2304x2048_S8x2048x2048_0_256_0) : FVec Ideal S8x2304x2048 .f32 → FVec Ideal S8x2048x2048 .f32) a2

def v4 (a0 : FVec Ideal S8x2304x5632 .bf16) (a1 : FVec Ideal S5504x2048 .f32) (a2 : FVec Ideal S8x2304x2048 .f32) (a3 : FVec Ideal S8x2x2048 .f32) : FVec Ideal S8x1x2048 .f32 :=
  ((extractStridedSlice S8x1x2048 ![0, 0, 0] · slices_S8x2x2048_S8x1x2048_0_0_0) : FVec Ideal S8x2x2048 .f32 → FVec Ideal S8x1x2048 .f32) a3

def v5 (a0 : FVec Ideal S8x2304x5632 .bf16) (a1 : FVec Ideal S5504x2048 .f32) (a2 : FVec Ideal S8x2304x2048 .f32) (a3 : FVec Ideal S8x2x2048 .f32) : FVec Ideal S8x2048x5504 .f32 :=
  ((extractStridedSlice S8x2048x5504 ![0, 256, 0] · slices_S8x2304x5504_S8x2048x5504_0_256_0) : FVec Ideal S8x2304x5504 .f32 → FVec Ideal S8x2048x5504 .f32) (v1 a0 a1 a2 a3)

def v6 (a0 : FVec Ideal S8x2304x5632 .bf16) (a1 : FVec Ideal S5504x2048 .f32) (a2 : FVec Ideal S8x2304x2048 .f32) (a3 : FVec Ideal S8x2x2048 .f32) : FVec Ideal S8x2048x2048 .f32 :=
  ((fun l r => Host.dotGeneral dot_S8x2048x5504_S5504x2048_S8x2048x2048_2_0_01_1_n_n none l r) : FVec Ideal S8x2048x5504 .f32 → FVec Ideal S5504x2048 .f32 → FVec Ideal S8x2048x2048 .f32) (v5 a0 a1 a2 a3) a1

def v7 (a0 : FVec Ideal S8x2304x5632 .bf16) (a1 : FVec Ideal S5504x2048 .f32) (a2 : FVec Ideal S8x2304x2048 .f32) (a3 : FVec Ideal S8x2x2048 .f32) : FVec Ideal S8x2048x2048 .f32 :=
  (broadcastInDim S8x2048x2048 ![0, 1, 2] bcast_S8x1x2048_S8x2048x2048_0_1_2 : FVec Ideal S8x1x2048 .f32 → FVec Ideal S8x2048x2048 .f32) (v4 a0 a1 a2 a3)

def v8 (a0 : FVec Ideal S8x2304x5632 .bf16) (a1 : FVec Ideal S5504x2048 .f32) (a2 : FVec Ideal S8x2304x2048 .f32) (a3 : FVec Ideal S8x2x2048 .f32) : FVec Ideal S8x2048x2048 .f32 :=
  (mulf : FVec Ideal S8x2048x2048 .f32 → FVec Ideal S8x2048x2048 .f32 → FVec Ideal S8x2048x2048 .f32) (v7 a0 a1 a2 a3) (v6 a0 a1 a2 a3)

def v9 (a0 : FVec Ideal S8x2304x5632 .bf16) (a1 : FVec Ideal S5504x2048 .f32) (a2 : FVec Ideal S8x2304x2048 .f32) (a3 : FVec Ideal S8x2x2048 .f32) : FVec Ideal S8x2048x2048 .f32 :=
  (addf : FVec Ideal S8x2048x2048 .f32 → FVec Ideal S8x2048x2048 .f32 → FVec Ideal S8x2048x2048 .f32) (v3 a0 a1 a2 a3) (v8 a0 a1 a2 a3)

def v10 (a0 : FVec Ideal S8x2304x5632 .bf16) (a1 : FVec Ideal S5504x2048 .f32) (a2 : FVec Ideal S8x2304x2048 .f32) (a3 : FVec Ideal S8x2x2048 .f32) : FVec Ideal S8x1x2048 .f32 :=
  ((extractStridedSlice S8x1x2048 ![0, 1, 0] · slices_S8x2x2048_S8x1x2048_0_1_0) : FVec Ideal S8x2x2048 .f32 → FVec Ideal S8x1x2048 .f32) a3

def v11 (a0 : FVec Ideal S8x2304x5632 .bf16) (a1 : FVec Ideal S5504x2048 .f32) (a2 : FVec Ideal S8x2304x2048 .f32) (a3 : FVec Ideal S8x2x2048 .f32) : FVec Ideal S8x256x5504 .f32 :=
  ((extractStridedSlice S8x256x5504 ![0, 0, 0] · slices_S8x2304x5504_S8x256x5504_0_0_0) : FVec Ideal S8x2304x5504 .f32 → FVec Ideal S8x256x5504 .f32) (v1 a0 a1 a2 a3)

def v12 (a0 : FVec Ideal S8x2304x5632 .bf16) (a1 : FVec Ideal S5504x2048 .f32) (a2 : FVec Ideal S8x2304x2048 .f32) (a3 : FVec Ideal S8x2x2048 .f32) : FVec Ideal S8x256x2048 .f32 :=
  ((fun l r => Host.dotGeneral dot_S8x256x5504_S5504x2048_S8x256x2048_2_0_01_1_n_n none l r) : FVec Ideal S8x256x5504 .f32 → FVec Ideal S5504x2048 .f32 → FVec Ideal S8x256x2048 .f32) (v11 a0 a1 a2 a3) a1

def v13 (a0 : FVec Ideal S8x2304x5632 .bf16) (a1 : FVec Ideal S5504x2048 .f32) (a2 : FVec Ideal S8x2304x2048 .f32) (a3 : FVec Ideal S8x2x2048 .f32) : FVec Ideal S8x256x2048 .f32 :=
  (broadcastInDim S8x256x2048 ![0, 1, 2] bcast_S8x1x2048_S8x256x2048_0_1_2 : FVec Ideal S8x1x2048 .f32 → FVec Ideal S8x256x2048 .f32) (v10 a0 a1 a2 a3)

def v14 (a0 : FVec Ideal S8x2304x5632 .bf16) (a1 : FVec Ideal S5504x2048 .f32) (a2 : FVec Ideal S8x2304x2048 .f32) (a3 : FVec Ideal S8x2x2048 .f32) : FVec Ideal S8x256x2048 .f32 :=
  (mulf : FVec Ideal S8x256x2048 .f32 → FVec Ideal S8x256x2048 .f32 → FVec Ideal S8x256x2048 .f32) (v13 a0 a1 a2 a3) (v12 a0 a1 a2 a3)

def v15 (a0 : FVec Ideal S8x2304x5632 .bf16) (a1 : FVec Ideal S5504x2048 .f32) (a2 : FVec Ideal S8x2304x2048 .f32) (a3 : FVec Ideal S8x2x2048 .f32) : FVec Ideal S8x256x2048 .f32 :=
  (addf : FVec Ideal S8x256x2048 .f32 → FVec Ideal S8x256x2048 .f32 → FVec Ideal S8x256x2048 .f32) (v2 a0 a1 a2 a3) (v14 a0 a1 a2 a3)

def v16 (a0 : FVec Ideal S8x2304x5632 .bf16) (a1 : FVec Ideal S5504x2048 .f32) (a2 : FVec Ideal S8x2304x2048 .f32) (a3 : FVec Ideal S8x2x2048 .f32) : FVec Ideal S8x2304x2048 .f32 :=
  ((fun a b => concatenate S8x2304x2048 1 [⟨S8x256x2048, a⟩, ⟨S8x2048x2048, b⟩] concatenates_S8x256x2048_S8x2048x2048_S8x2304x2048_d1) : FVec Ideal S8x256x2048 .f32 → FVec Ideal S8x2048x2048 .f32 → FVec Ideal S8x2304x2048 .f32) (v15 a0 a1 a2 a3) (v9 a0 a1 a2 a3)

end Cert.ReferenceOpfIdeal.Val

end
-- ==== Proof.ValOpf.lean ====
module

public import proofs.«01_k».proof.Proof.Gen.KernelOpfIdeal.Frame
public import proofs.«01_k».proof.Proof.RefOpf
public import proofs.«01_k».proof.Proof.Words
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelOpfIdeal.Value

open Cert.KernelOpfIdeal Cert.KernelOpfIdeal.Gen

variable (m : (ℓ : Loc nD τ sig) → Buf (Elt Ideal) ℓ)

theorem idx_val : ∀ t : Fin cfg0.N, win0_0.index t = ![t.val / 8, t.val / 4 % 2, 0]
    ∧ win0_1.index t = ![0, t.val % 4]
    ∧ win0_2.index t = ![t.val / 8, t.val / 4 % 2, t.val % 4]
    ∧ win0_3.index t = ![t.val / 8, 0, t.val % 4]
    ∧ win0_4.index t = ![t.val / 8, t.val / 4 % 2, t.val % 4] :=
  (by decide +kernel : ∀ t : Fin grid0.N, _)

theorem coord : ∀ t : Fin cfg0.N, (grid0.coords t 1).val = t.val / 4 % 2 :=
  (by decide +kernel : ∀ t : Fin grid0.N, _)

theorem sum_pad (f : Fin 5632 → EReal) (h : ∀ x : Fin 5632, 5504 ≤ x.val → f x = 0) :
    ∑ x, f x = ∑ x : Fin 5504, f ⟨x.val, by omega⟩ := by
  have e := Fin.sum_univ_add (a := 5504) (b := 128) f
  rw [e, Finset.sum_eq_zero (s := Finset.univ (α := Fin 128)) fun x _ => h _ (by simp), add_zero]
  rfl

/-- The padded down weights at an index. -/
theorem weights (c : Dev nD) (k : Fin 5632) (j : Fin 2048) :
    V m c main_v1 (ix2 k j) = if h : k.val < 5504 then m ((c : Thread nD τ).loc main_arg1) (ix2 ⟨k.val, h⟩ j) else (0 : EReal) := by
  entry_read
  simp only [hostOps0, hostOps0_1, List.flatten_cons, List.flatten_nil, List.cons_append, List.nil_append, List.append_nil]
  after_results
  show pad S5632x2048 ![0, 0] ![128, 0] ![0, 0] (truncf .bf16 (m (c, Proc.tc.devRef main_arg1) : FVec Ideal S5504x2048 .f32) bitsLt_bf16_f32 : FVec Ideal S5504x2048 .bf16) (sitofp .bf16 (constantI S_ 32 0#32) : FVec Ideal S_ .bf16) pads_S5504x2048_S5632x2048_01280_000 h_S_ (ix2 k j) = _
  pointwise []
  have z : (FloatOps.sitofp (F := Ideal) FTy.bf16 0#32 : EReal) = 0 := by
    show (((0#32 : BitVec 32).toInt : ℝ) : EReal) = 0
    simp
  rw [← z]

/-- A block of the padded weights. -/
theorem block1 (c : Dev nD) (t : Fin cfg0.N) (x : Fin 5632) (j : Fin 512) :
    iblk m c 1 t (ix2 x j) = if h : x.val < 5504 then m ((c : Thread nD τ).loc main_arg1) (ix2 ⟨x.val, h⟩ ⟨t.val % 4 * 512 + j.val, by omega⟩) else (0 : EReal) := by
  rw [← weights]
  blk_point [iblk, idx_val t]

theorem block1_lo (c : Dev nD) (t : Fin cfg0.N) (x : Fin 5504) (h : x.val < 5632) (j : Fin 512) :
    iblk m c 1 t (ix2 ⟨x.val, h⟩ j) = m ((c : Thread nD τ).loc main_arg1) (ix2 x ⟨t.val % 4 * 512 + j.val, by omega⟩) := by
  rw [block1]; exact dif_pos x.isLt

theorem block1_hi (c : Dev nD) (t : Fin cfg0.N) (x : Fin 5632) (h : 5504 ≤ x.val) (j : Fin 512) :
    iblk m c 1 t (ix2 x j) = (0 : EReal) := by
  rw [block1]; exact dif_neg (by omega)

/-- What a point stores at an index of its block is the reference at the index of the array that lies there. -/
theorem point (c : Dev nD) (t : Fin cfg0.N) (y) :
    k0_pay1 (grid0.coords t) (iblk m c 0 t) (iblk m c 1 t) (iblk m c 2 t) (View.ld (iblk m c 3 t) r0_3) (View.ld (iblk m c 3 t) r0_4) y
      = Cert.ReferenceOpfIdeal.Val.v16 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, Cert.ReferenceOpfIdeal.Val.v16, Cert.ReferenceOpfIdeal.Val.v15, Cert.ReferenceOpfIdeal.Val.v14, Cert.ReferenceOpfIdeal.Val.v13, Cert.ReferenceOpfIdeal.Val.v12, Cert.ReferenceOpfIdeal.Val.v11, Cert.ReferenceOpfIdeal.Val.v10, Cert.ReferenceOpfIdeal.Val.v9, Cert.ReferenceOpfIdeal.Val.v8, Cert.ReferenceOpfIdeal.Val.v7, Cert.ReferenceOpfIdeal.Val.v6, Cert.ReferenceOpfIdeal.Val.v5, Cert.ReferenceOpfIdeal.Val.v4, Cert.ReferenceOpfIdeal.Val.v3, Cert.ReferenceOpfIdeal.Val.v2, Cert.ReferenceOpfIdeal.Val.v1, Cert.ReferenceOpfIdeal.Val.v0]
  have hy := (y 1).isLt
  have hc := coord t
  rw [coord t, Words.sel_lt _ 1152 _ 256 (by simp at hy ⊢; omega) (by norm_num)]
  have e1 : (((View.whole main_v2).slice ((win0 4).rect t)).emb y 1 : ℕ) = t.val / 4 % 2 * 1152 + (y 1).val := by
    blk_simp [idx_val t]
  rw [sum_pad _ fun x hx => by
    refine (congrArg (fun z : EReal => (id (iblk m c 0 t (ix3 0 (y 1) x)) : EReal) * z) (block1_hi m c t x hx (y 2))).trans (mul_zero _)]
  by_cases h : t.val / 4 % 2 * 1152 + (y 1).val < 256
  · rw [if_pos h, dif_pos (e1 ▸ h)]
    blk_point [iblk, V_main_arg0, V_main_arg2, V_main_arg3, idx_val t]
    exact (block1_lo m c t x _ (y 2)).trans (by blk_ext [idx_val t])
  · rw [if_neg h, dif_neg (e1 ▸ h)]
    blk_point [iblk, V_main_arg0, V_main_arg2, V_main_arg3, idx_val t]
    exact (block1_lo m c t x _ (y 2)).trans (by blk_ext [idx_val t])

/-- The result array after the run. -/
theorem final (c : Dev nD) : (dats m 0 c).arrAt 4 (cfgs 0).N = Cert.ReferenceOpfIdeal.Val.v16 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point m c t y

end Cert.KernelOpfIdeal.Value

end
-- ==== Proof.AlgOpf.lean ====
module

public import proofs.«01_k».proof.Defs
public import proofs.«01_k».proof.Proof.ValOpf
public import proofs.«01_k».proof.Proof.Gen.KernelOpfIdeal.Frame
public import proofs.«01_k».proof.Proof.Gen.ReferenceOpfIdeal
public import Idealize.ShloMosaic.Lib.Claim

@[expose] public section

set_option maxRecDepth 16384

noncomputable section

open Idealize.ShloMosaic Idealize.SL.Sem

/-! The claims about the down projection of the feed-forward at the exact numbers. -/
namespace Cert.Proof

set_option maxHeartbeats 1600000 in
theorem quiescent_ReferenceOpfIdeal : Cert.quiescent_ReferenceOpfIdeal := by
  intro m g _
  refine (θ_run _ _ _).mono (fun r h => ⟨h, sem_eq_zero_of_no_sems (by decide) r.2⟩) ?_
  hlo_run

set_option maxHeartbeats 1600000 in
theorem algebraic_Opf : Cert.algebraic_KernelOpfIdeal_ReferenceOpfIdeal := by
  pair_intro
  · run_from Cert.KernelOpfIdeal.Gen.run_main m g
    all_goals first | exact Cert.KernelOpfIdeal.Gen.V_main_arg0 m c | exact Cert.KernelOpfIdeal.Gen.V_main_arg1 m c | exact Cert.KernelOpfIdeal.Gen.V_main_arg2 m c | exact Cert.KernelOpfIdeal.Gen.V_main_arg3 m c
  · hlo_run
    try rw [(hagree c).2.2.2]
    exact (Cert.KernelOpfIdeal.Value.final m c).symm

end Cert.Proof

end
-- ==== Proof.Rows.lean ====
module

public import Idealize.ShloMosaic.Lib.Pipeline.ValueKit
public import Idealize.ShloMosaic.Lib.Pointwise
public import proofs.«01_k».proof.Proof.Words

@[expose] public section

noncomputable section

open Idealize.ShloMosaic Idealize.ShloMosaic.TcCoe Idealize.SL.Sem

/-! One row of the normalised and modulated input of a projection. -/
namespace Cert.Rows

/-- One over the root mean square of a row of 2048 numbers. -/
def inv (x : Fin 2048 → EReal) : EReal :=
  Ideal.rsqrt (Ideal.div (∑ k, x k * x k) (Ideal.ofBits .f32 0x45000000#32) + Ideal.ofBits .f32 0x358637BD#32)

/-- An entry `xk` of the row `x`, normalised, scaled by the weight and by one plus the modulation, and shifted. -/
def out (x : Fin 2048 → EReal) (xk w sc sh : EReal) : EReal := xk * inv x * (w * (1 + sc)) + sh

/-- A choice by whether row `16 k + j` of tile `p` of 1152 rows lies before row 256. -/
theorem sel (p k j : ℕ) (hp : p < 2) (hk : k < 72) (hj : j < 16) (a b : EReal) :
    Scalar.select (IntOp.cmpi .slt
      (IntOp.addi (Scalar.addi (Scalar.muli (BitVec.ofNat 32 p) 1152#32) (Scalar.muli (Scf.iv 0#32 1#32 k) 16#32))
        (BitVec.ofNat 32 j)) 256#32) a b
      = if p * 1152 + (16 * k + j) < 256 then a else b := by
  rw [← Words.sel_lt p 1152 (16 * k + j) 256 (by omega) (by norm_num)]
  congr 2
  refine (BitVec.add_assoc _ _ _).trans (congrArg (fun z : BitVec 32 => Scalar.muli (BitVec.ofNat 32 p) 1152#32 + z) ?_)
  rw [BitVec.ofNat_add, BitVec.ofNat_mul]
  refine congrArg (fun z : BitVec 32 => z + BitVec.ofNat 32 j) ?_
  show (0#32 + BitVec.ofNat 32 k * 1#32) * 16#32 = _
  rw [BitVec.zero_add, BitVec.mul_one, BitVec.mul_comm]

/-- The normalised and modulated input at batch `b`, row `r`, column `k`: the first 256 rows take modulation rows 2 and 3,
the later ones rows 0 and 1. -/
def H (x : Fin 8 → Fin 2304 → Fin 2048 → EReal) (mv : Fin 8 → Fin 4 → Fin 2048 → EReal) (w : Fin 2048 → EReal)
    (b : Fin 8) (r : Fin 2304) (k : Fin 2048) : EReal :=
  if r.val < 256 then out (x b r) (x b r k) (w k) (mv b 3 k) (mv b 2 k)
  else out (x b r) (x b r k) (w k) (mv b 1 k) (mv b 0 k)

theorem H_lo (x mv w b) (r : Fin 2304) (k) (h : r.val < 256) :
    H x mv w b r k = out (x b r) (x b r k) (w k) (mv b 3 k) (mv b 2 k) := if_pos h

theorem H_hi (x mv w b) (r : Fin 2304) (k) (h : ¬ r.val < 256) :
    H x mv w b r k = out (x b r) (x b r k) (w k) (mv b 1 k) (mv b 0 k) := if_neg h

end Cert.Rows

end
-- ==== Proof.RowsZ.lean ====
module

public import proofs.«01_k».proof.Proof.Gen.KernelZIdeal.Frame
public import proofs.«01_k».proof.Proof.Rows
public import Idealize.ShloMosaic.Lib.WholeRead
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelZIdeal.Value

open Cert.KernelZIdeal Cert.KernelZIdeal.Gen

variable (m : (ℓ : Loc nD τ sig) → Buf (Elt Ideal) ℓ)

/-- The normalised and modulated rows of one tile, from the tile `X` of the input, the weights `w`, and the scales and shifts
`s0 b0` of the later rows and `s1 b1` of the first 256. -/
def rows (p : ℕ) (w : Vec Ideal S1x2048 .f32) (s0 s1 b0 b1 : Vec Ideal S1x1x2048 .f32) (X : Vec Ideal S1x1152x2048 .f32)
    (r : Fin 1152) (k : Fin 2048) : EReal :=
  if p * 1152 + r.val < 256 then
    Rows.out (fun k => X (ix3 0 r k)) (X (ix3 0 r k)) (w (ix2 0 k)) (s1 (ix3 0 0 k)) (b1 (ix3 0 0 k))
  else
    Rows.out (fun k => X (ix3 0 r k)) (X (ix3 0 r k)) (w (ix2 0 k)) (s0 (ix3 0 0 k)) (b0 (ix3 0 0 k))

theorem trip_pieces (𝒱 : Variants) (c : Dev nD) (bd : Option 𝒱.V) (i : grid0.Coords) (arg3 : Memref sig .tc .vmem S1x1152x2048 .f32) (harg3 : arg3.IsWhole) (arg4 : Memref sig .tc .vmem S1x4x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S1x1152x1024 .bf16) (harg7 : arg7.IsWhole) (arg8 : Memref sig .tc .vmem S1152x2048 .bf16) (harg8 : arg8.IsWhole) (arg9 : Memref sig .tc .vmem S1152x256 .f32) (harg9 : arg9.IsWhole) (arg10 : Memref sig .tc .vmem S1152x256 .f32) (harg10 : arg10.IsWhole) (arg11 : Memref sig .tc .vmem S1152x256 .f32) (harg11 : arg11.IsWhole) (arg12 : Memref sig .tc .vmem S1152x256 .f32) (harg12 : arg12.IsWhole) (k0_h1 : k0_cond1 i = 1#1) (v211 : Vec Ideal S1x2048 .f32) (v213 : Vec Ideal S1x1x2048 .f32) (v218 : Vec Ideal S1x1x2048 .f32) (v223 : Vec Ideal S1x1x2048 .f32) (v225 : Vec Ideal S1x1x2048 .f32) (X : Vec Ideal S1x1152x2048 .f32) (k : Fin k0_t1_loop.trips) :
    tripL_k0_t1 (F := Ideal) 𝒱 c bd i arg3 harg3 arg4 harg4 arg5 harg5 arg6 harg6 arg7 harg7 arg8 harg8 arg9 harg9 arg10 harg10 arg11 harg11 arg12 harg12 k0_h1 v211 v213 v218 v223 v225 (harg3.unread X) k = [⟨Rect.unit (s := S1152x2048) (k0_off2 k) S16x2048.size (k0_off2_inb i k k0_h1), k0_pay5 i v211 v213 v218 v223 v225 k (View.readAt (Elt Ideal) arg3.view (Rect.unit (s := S1x1152x2048) (k0_off1 k) S1x16x2048.size (k0_off1_inb i k k0_h1)).toLoadRect (harg3.unread X))⟩] := by
  unfold tripL_k0_t1 trip_k0_t1
  rfl

theorem trip_val (𝒱 : Variants) (c : Dev nD) (bd : Option 𝒱.V) (i : grid0.Coords) (arg3 : Memref sig .tc .vmem S1x1152x2048 .f32) (harg3 : arg3.IsWhole) (arg4 : Memref sig .tc .vmem S1x4x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S1x1152x1024 .bf16) (harg7 : arg7.IsWhole) (arg8 : Memref sig .tc .vmem S1152x2048 .bf16) (harg8 : arg8.IsWhole) (arg9 : Memref sig .tc .vmem S1152x256 .f32) (harg9 : arg9.IsWhole) (arg10 : Memref sig .tc .vmem S1152x256 .f32) (harg10 : arg10.IsWhole) (arg11 : Memref sig .tc .vmem S1152x256 .f32) (harg11 : arg11.IsWhole) (arg12 : Memref sig .tc .vmem S1152x256 .f32) (harg12 : arg12.IsWhole) (k0_h1 : k0_cond1 i = 1#1) (v211 : Vec Ideal S1x2048 .f32) (v213 : Vec Ideal S1x1x2048 .f32) (v218 : Vec Ideal S1x1x2048 .f32) (v223 : Vec Ideal S1x1x2048 .f32) (v225 : Vec Ideal S1x1x2048 .f32) (X : Vec Ideal S1x1152x2048 .f32) (k : Fin k0_t1_loop.trips) (j : S16x2048.Idx) :
   k0_pay5 i v211 v213 v218 v223 v225 k (View.readAt (Elt Ideal) arg3.view (Rect.unit (s := S1x1152x2048) (k0_off1 k) S1x16x2048.size (k0_off1_inb i k k0_h1)).toLoadRect (harg3.unread X)) j = rows (i 1).val v211 v213 v218 v223 v225 X ⟨16 * k.val + (j 0).val, by
     have := k.isLt; have := (j 0).isLt; simp at this; have h72 : k0_t1_loop.trips = 72 := by decide
     omega⟩ (j 1) := by
  have h72 : k0_t1_loop.trips = 72 := by decide
  have hk : k.val < 72 := lt_of_lt_of_eq k.isLt h72
  obtain ⟨a, b, rfl⟩ : ∃ (a : Fin 16) (b : Fin 2048), j = ix2 a b := ⟨j 0, j 1, by funext d; fin_cases d <;> rfl⟩
  have hj := a.isLt
  have e (a : Fin 16) (b : Fin 2048) (h) : (View.readAt (Elt Ideal) arg3.view (Rect.unit (s := S1x1152x2048) (k0_off1 k) S1x16x2048.size (k0_off1_inb i k k0_h1)).toLoadRect (harg3.unread X)) (ix3 0 a b) = X (ix3 0 ⟨16 * k.val + a.val, h⟩ b) := by
    rw [harg3.readAt_unread]
    congr 1
    funext d
    apply Fin.ext
    fin_cases d <;> simp [Rect.unit, LoadRect.idx, Rect.toLoadRect, k0_off1_eq, ix3]
  generalize (View.readAt (Elt Ideal) arg3.view (Rect.unit (s := S1x1152x2048) (k0_off1 k) S1x16x2048.size (k0_off1_inb i k k0_h1)).toLoadRect (harg3.unread X)) = w at e ⊢
  pointwise [k0_pay5]
  rw [Rows.sel _ _ _ (i 1).isLt hk hj, Rows.sel _ _ _ (i 1).isLt hk hj]
  have hl (a : Fin 16) : 16 * k.val + a.val < 1152 := by omega
  simp only [fun a b => e a b (hl a)]
  unfold rows Rows.out Rows.inv
  by_cases h : (i 1).val * 1152 + (16 * k.val + a.val) < 256
  · rw [if_pos h, if_pos h, if_pos h]
  · rw [if_neg h, if_neg h, if_neg h]

theorem pieces (𝒱 : Variants) (c : Dev nD) (bd : Option 𝒱.V) (i : grid0.Coords) (arg3 : Memref sig .tc .vmem S1x1152x2048 .f32) (harg3 : arg3.IsWhole) (arg4 : Memref sig .tc .vmem S1x4x2048 .f32) (harg4 : arg4.IsWhole) (arg5 : Memref sig .tc .vmem S1x2048 .f32) (harg5 : arg5.IsWhole) (arg6 : Memref sig .tc .vmem S2048x1024 .bf16) (harg6 : arg6.IsWhole) (arg7 : Memref sig .tc .vmem S1x1152x1024 .bf16) (harg7 : arg7.IsWhole) (arg8 : Memref sig .tc .vmem S1152x2048 .bf16) (harg8 : arg8.IsWhole) (arg9 : Memref sig .tc .vmem S1152x256 .f32) (harg9 : arg9.IsWhole) (arg10 : Memref sig .tc .vmem S1152x256 .f32) (harg10 : arg10.IsWhole) (arg11 : Memref sig .tc .vmem S1152x256 .f32) (harg11 : arg11.IsWhole) (arg12 : Memref sig .tc .vmem S1152x256 .f32) (harg12 : arg12.IsWhole) (k0_h1 : k0_cond1 i = 1#1) (v211 : Vec Ideal S1x2048 .f32) (v213 : Vec Ideal S1x1x2048 .f32) (v218 : Vec Ideal S1x1x2048 .f32) (v223 : Vec Ideal S1x1x2048 .f32) (v225 : Vec Ideal S1x1x2048 .f32) (X : Vec Ideal S1x1152x2048 .f32) : ∀ n ≤ 72,
    (∀ p ∈ pb_k0_t1 (F := Ideal) 𝒱 c bd i arg3 harg3 arg4 harg4 arg5 harg5 arg6 harg6 arg7 harg7 arg8 harg8 arg9 harg9 arg10 harg10 arg11 harg11 arg12 harg12 k0_h1 v211 v213 v218 v223 v225 (harg3.unread X) n, ∀ x : p.1.shape.Idx, p.2 x = (fun y : S1152x2048.Idx => rows (i 1).val v211 v213 v218 v223 v225 X (y 0) (y 1)) (p.1.emb x))
    ∧ ∀ y : S1152x2048.Idx, (y 0).val < 16 * n → ∃ p ∈ pb_k0_t1 (F := Ideal) 𝒱 c bd i arg3 harg3 arg4 harg4 arg5 harg5 arg6 harg6 arg7 harg7 arg8 harg8 arg9 harg9 arg10 harg10 arg11 harg11 arg12 harg12 k0_h1 v211 v213 v218 v223 v225 (harg3.unread X) n, y ∈ p.1.set := by
  intro n
  induction n with
  | zero =>
    intro _
    refine ⟨fun p hp => ?_, fun y hy => absurd hy (by omega)⟩
    simp [pb_k0_t1] at hp
  | succ n ih =>
    intro hn
    obtain ⟨ih1, ih2⟩ := ih (by omega)
    have h72 : k0_t1_loop.trips = 72 := by decide
    have e := pb_k0_t1_succ (F := Ideal) 𝒱 c bd i arg3 harg3 arg4 harg4 arg5 harg5 arg6 harg6 arg7 harg7 arg8 harg8 arg9 harg9 arg10 harg10 arg11 harg11 arg12 harg12 k0_h1 v211 v213 v218 v223 v225 (harg3.unread X) ⟨n, by omega⟩
    rw [trip_pieces] at e
    simp only at e
    rw [e]
    refine ⟨fun p hp => ?_, fun y hy => ?_⟩
    · rcases List.mem_append.mp hp with hp | hp
      · rcases List.mem_singleton.mp hp with rfl
        intro x
        refine (trip_val 𝒱 c bd i arg3 harg3 arg4 harg4 arg5 harg5 arg6 harg6 arg7 harg7 arg8 harg8 arg9 harg9 arg10 harg10 arg11 harg11 arg12 harg12 k0_h1 v211 v213 v218 v223 v225 X ⟨n, by omega⟩ x).trans ?_
        simp only
        congr 1
        · apply Fin.ext
          simp [Rect.emb, Rect.unit, k0_off2_eq]
        · apply Fin.ext
          simp [Rect.emb, Rect.unit, k0_off2_eq]
      · exact ih1 p hp
    · by_cases h : (y 0).val < 16 * n
      · obtain ⟨p, hp, hy'⟩ := ih2 y h
        exact ⟨p, List.mem_append_right _ hp, hy'⟩
      · refine ⟨_, List.mem_append_left _ (List.mem_singleton_self _), ?_⟩
        rw [Rect.mem_set_unit]
        simp only [k0_off2_eq]
        intro a
        fin_cases a
        · simp; omega
        · have := (y 1).isLt; simp at this ⊢; omega

variable (m : (ℓ : Loc nD τ sig) → Buf (Elt Ideal) ℓ)

/-- The normalised rows of the tile of a grid point. -/
def tile (c : Dev nD) (t : Fin cfg0.N) : S1152x2048.Idx → EReal :=
  fun y => rows (grid0.coords t 1).val (iblk m c 2 t) (View.ld (iblk m c 1 t) (Rect.unit (s := S1x4x2048) ![0, 1, 0] ![1, 1, 2048] inb_S1x4x2048_S1x1x2048_0_1_0) : S1x1x2048.Idx → EReal) (View.ld (iblk m c 1 t) (Rect.unit (s := S1x4x2048) ![0, 3, 0] ![1, 1, 2048] inb_S1x4x2048_S1x1x2048_0_3_0) : S1x1x2048.Idx → EReal) (View.ld (iblk m c 1 t) (Rect.unit (s := S1x4x2048) ![0, 0, 0] ![1, 1, 2048] inb_S1x4x2048_S1x1x2048_0_0_0) : S1x1x2048.Idx → EReal) (View.ld (iblk m c 1 t) (Rect.unit (s := S1x4x2048) ![0, 2, 0] ![1, 1, 2048] inb_S1x4x2048_S1x1x2048_0_2_0) : S1x1x2048.Idx → EReal) (iblk m c 0 t) (y 0) (y 1)

/-- The rows a tile's first point leaves in the scratch. -/
theorem scratchA (c : Dev nD) (t : Fin cfg0.N) (h0 : t.val % 4 = 0) (y : S1152x2048.Idx) :
    (outsAt0 m c t.val t.isLt).2 y = tile m c t y := by
  rw [outsAt0_A m c t h0]
  dsimp only
  frame_out
  have hp := pieces Variants.none c none (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) ((hcond0_0 t).mpr h0) (iblk m c 2 t) (View.ld (iblk m c 1 t) (Rect.unit (s := S1x4x2048) ![0, 1, 0] ![1, 1, 2048] inb_S1x4x2048_S1x1x2048_0_1_0) : S1x1x2048.Idx → EReal) (View.ld (iblk m c 1 t) (Rect.unit (s := S1x4x2048) ![0, 3, 0] ![1, 1, 2048] inb_S1x4x2048_S1x1x2048_0_3_0) : S1x1x2048.Idx → EReal) (View.ld (iblk m c 1 t) (Rect.unit (s := S1x4x2048) ![0, 0, 0] ![1, 1, 2048] inb_S1x4x2048_S1x1x2048_0_0_0) : S1x1x2048.Idx → EReal) (View.ld (iblk m c 1 t) (Rect.unit (s := S1x4x2048) ![0, 2, 0] ![1, 1, 2048] inb_S1x4x2048_S1x1x2048_0_2_0) : S1x1x2048.Idx → EReal) (iblk m c 0 t) 72 (le_refl 72)
  refine (View.canon_apply_of_pieces (tile m c t) _ hp.1 y (hp.2 y ?_)).trans ?_
  · exact (y 0).isLt
  · rfl

theorem outB (c : Dev nD) (t : Fin cfg0.N) (h0 : ¬ t.val % 4 = 0) (q : S1x1152x1024.Idx) :
    (outsAt0 m c t.val t.isLt).1 q = ∑ k : Fin 2048, (outsAt0 m c (t.val - 1) (by omega)).2 (ix2 (q 1) k) * X0_3 m c t (ix2 k (q 2)) := by
  rw [outsAt0_B m c t h0]
  dsimp only
  frame_out
  generalize (outsAt0 m c (t.val - 1) _).2 = S
  clear h0
  canon_tiles y h
  all_goals
    rw [View.readCov_fill _ _ _ _ _ (by decide), read_unread_whole]
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, h0, h1, h2]
    refine Finset.sum_congr rfl fun k _ => congrArg₂ (fun a b : EReal => a * b) (congrArg S ?_) (congrArg (X0_3 m c t) ?_) <;>
      (funext d; fin_cases d <;> first | rfl | exact Fin.ext h1.symm | exact Fin.ext h2.symm)

/-- What a load of the normalised scratch reads after stores whose canon is known. -/
theorem readCov_of (L : List (View.Piece (Elt Ideal) S1152x2048 .bf16)) (B : LoadRect S1152x2048) (G : B.shape.Idx → Elt Ideal .bf16)
    (h : ∀ j, View.canon L (B.idx j) = G j) : (View.whole cc0_scratch0).readCov L B = G :=
  (View.readCov_eq_canon' _ _ _).trans (funext h)

theorem outA (c : Dev nD) (t : Fin cfg0.N) (a0 : t.val % 4 = 0) (q : S1x1152x1024.Idx) :
    (outsAt0 m c t.val t.isLt).1 q = ∑ k : Fin 2048, (outsAt0 m c t.val t.isLt).2 (ix2 (q 1) k) * X0_3 m c t (ix2 k (q 2)) := by
  have hs (y : S1152x2048.Idx) := scratchA m c t a0 y
  generalize (outsAt0 m c t.val t.isLt).2 = S at hs ⊢
  rw [outsAt0_A m c t a0]
  dsimp only
  frame_out
  have hp := pieces Variants.none c none (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) ((hcond0_0 t).mpr a0) (iblk m c 2 t) (View.ld (iblk m c 1 t) (Rect.unit (s := S1x4x2048) ![0, 1, 0] ![1, 1, 2048] inb_S1x4x2048_S1x1x2048_0_1_0) : S1x1x2048.Idx → EReal) (View.ld (iblk m c 1 t) (Rect.unit (s := S1x4x2048) ![0, 3, 0] ![1, 1, 2048] inb_S1x4x2048_S1x1x2048_0_3_0) : S1x1x2048.Idx → EReal) (View.ld (iblk m c 1 t) (Rect.unit (s := S1x4x2048) ![0, 0, 0] ![1, 1, 2048] inb_S1x4x2048_S1x1x2048_0_0_0) : S1x1x2048.Idx → EReal) (View.ld (iblk m c 1 t) (Rect.unit (s := S1x4x2048) ![0, 2, 0] ![1, 1, 2048] inb_S1x4x2048_S1x1x2048_0_2_0) : S1x1x2048.Idx → EReal) (iblk m c 0 t) 72 (le_refl 72)
  rw [readCov_of _ _ S]
  rotate_left
  · intro j
    rw [hs]
    have e : (Rect.unit (s := S1152x2048) ![0, 0] ![1152, 2048] inb_S1152x2048_S1152x2048_0_0).toLoadRect.idx j = j := by
      funext d; fin_cases d <;> exact Fin.ext (by simp [LoadRect.idx, Rect.unit, Rect.toLoadRect])
    have hT := View.canon_apply_of_pieces (tile m c t) _ hp.1 j (hp.2 j (j 0).isLt)
    exact (congrArg (View.canon _) e).trans hT
  clear hp hs
  canon_tiles y h
  all_goals
    rw [View.readCov_fill _ _ _ _ _ (by decide)]
    pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, h0, h1, h2]
    refine Finset.sum_congr rfl fun k _ => congrArg₂ (fun a b : EReal => a * b) (congrArg S ?_) (congrArg (X0_3 m c t) ?_) <;>
      (funext d; fin_cases d <;> first | rfl | exact Fin.ext h1.symm | exact Fin.ext h2.symm)

end Cert.KernelZIdeal.Value

end
-- ==== Proof.RefZ.lean ====
module

public import proofs.«01_k».proof.Proof.Gen.ReferenceZIdeal
public import Idealize.ShloMosaic.Lib.Pointwise

@[expose] public section

set_option maxRecDepth 16384

noncomputable section

open Idealize.ShloMosaic Idealize.ShloMosaic.TcCoe Idealize.SL.Sem

/-! The values of the reference's operations, one by one, as functions of its arguments. -/
namespace Cert.ReferenceZIdeal.Val

open Cert.ReferenceZIdeal Cert.ReferenceZIdeal.Gen

def v0 (a0 : FVec Ideal S8x2304x2048 .f32) (a1 : FVec Ideal S8x4x2048 .f32) (a2 : FVec Ideal S2048 .f32) (a3 : FVec Ideal S2048x12416 .f32) : FVec Ideal S2048x4096 .f32 :=
  ((extractStridedSlice S2048x4096 ![0, 8192] · slices_S2048x12416_S2048x4096_0_8192) : FVec Ideal S2048x12416 .f32 → FVec Ideal S2048x4096 .f32) a3

def v1 (a0 : FVec Ideal S8x2304x2048 .f32) (a1 : FVec Ideal S8x4x2048 .f32) (a2 : FVec Ideal S2048 .f32) (a3 : FVec Ideal S2048x12416 .f32) : FVec Ideal S8x256x2048 .f32 :=
  ((extractStridedSlice S8x256x2048 ![0, 0, 0] · slices_S8x2304x2048_S8x256x2048_0_0_0) : FVec Ideal S8x2304x2048 .f32 → FVec Ideal S8x256x2048 .f32) a0

def v2 (a0 : FVec Ideal S8x2304x2048 .f32) (a1 : FVec Ideal S8x4x2048 .f32) (a2 : FVec Ideal S2048 .f32) (a3 : FVec Ideal S2048x12416 .f32) : FVec Ideal S8x2048x2048 .f32 :=
  ((extractStridedSlice S8x2048x2048 ![0, 256, 0] · slices_S8x2304x2048_S8x2048x2048_0_256_0) : FVec Ideal S8x2304x2048 .f32 → FVec Ideal S8x2048x2048 .f32) a0

def v3 (a0 : FVec Ideal S8x2304x2048 .f32) (a1 : FVec Ideal S8x4x2048 .f32) (a2 : FVec Ideal S2048 .f32) (a3 : FVec Ideal S2048x12416 .f32) : FVec Ideal S8x2048x2048 .f32 :=
  (mulf : FVec Ideal S8x2048x2048 .f32 → FVec Ideal S8x2048x2048 .f32 → FVec Ideal S8x2048x2048 .f32) (v2 a0 a1 a2 a3) (v2 a0 a1 a2 a3)

def cst (a0 : FVec Ideal S8x2304x2048 .f32) (a1 : FVec Ideal S8x4x2048 .f32) (a2 : FVec Ideal S2048 .f32) (a3 : FVec Ideal S2048x12416 .f32) : FVec Ideal S_ .f32 :=
  (constant S_ .f32 0x00000000#32)

def v4 (a0 : FVec Ideal S8x2304x2048 .f32) (a1 : FVec Ideal S8x4x2048 .f32) (a2 : FVec Ideal S2048 .f32) (a3 : FVec Ideal S2048x12416 .f32) : FVec Ideal S8x2048 .f32 :=
  ((fun x v => Host.reduceAdd x v reducesTo_S8x2048x2048_S8x2048_d2 h_S_) : FVec Ideal S8x2048x2048 .f32 → FVec Ideal S_ .f32 → FVec Ideal S8x2048 .f32) (v3 a0 a1 a2 a3) (cst a0 a1 a2 a3)

def v5 (a0 : FVec Ideal S8x2304x2048 .f32) (a1 : FVec Ideal S8x4x2048 .f32) (a2 : FVec Ideal S2048 .f32) (a3 : FVec Ideal S2048x12416 .f32) : FVec Ideal S8x2048x1 .f32 :=
  (broadcastInDim S8x2048x1 ![0, 1] bcast_S8x2048_S8x2048x1_0_1 : FVec Ideal S8x2048 .f32 → FVec Ideal S8x2048x1 .f32) (v4 a0 a1 a2 a3)

def cst_0 (a0 : FVec Ideal S8x2304x2048 .f32) (a1 : FVec Ideal S8x4x2048 .f32) (a2 : FVec Ideal S2048 .f32) (a3 : FVec Ideal S2048x12416 .f32) : FVec Ideal S_ .f32 :=
  (constant S_ .f32 0x45000000#32)

def v6 (a0 : FVec Ideal S8x2304x2048 .f32) (a1 : FVec Ideal S8x4x2048 .f32) (a2 : FVec Ideal S2048 .f32) (a3 : FVec Ideal S2048x12416 .f32) : FVec Ideal S8x2048x1 .f32 :=
  (broadcastInDim S8x2048x1 ![] bcast_S_S8x2048x1 : FVec Ideal S_ .f32 → FVec Ideal S8x2048x1 .f32) (cst_0 a0 a1 a2 a3)

def v7 (a0 : FVec Ideal S8x2304x2048 .f32) (a1 : FVec Ideal S8x4x2048 .f32) (a2 : FVec Ideal S2048 .f32) (a3 : FVec Ideal S2048x12416 .f32) : FVec Ideal S8x2048x1 .f32 :=
  (Host.divf : FVec Ideal S8x2048x1 .f32 → FVec Ideal S8x2048x1 .f32 → FVec Ideal S8x2048x1 .f32) (v5 a0 a1 a2 a3) (v6 a0 a1 a2 a3)

def cst_1 (a0 : FVec Ideal S8x2304x2048 .f32) (a1 : FVec Ideal S8x4x2048 .f32) (a2 : FVec Ideal S2048 .f32) (a3 : FVec Ideal S2048x12416 .f32) : FVec Ideal S_ .f32 :=
  (constant S_ .f32 0x358637BD#32)

def v8 (a0 : FVec Ideal S8x2304x2048 .f32) (a1 : FVec Ideal S8x4x2048 .f32) (a2 : FVec Ideal S2048 .f32) (a3 : FVec Ideal S2048x12416 .f32) : FVec Ideal S8x2048x1 .f32 :=
  (broadcastInDim S8x2048x1 ![] bcast_S_S8x2048x1 : FVec Ideal S_ .f32 → FVec Ideal S8x2048x1 .f32) (cst_1 a0 a1 a2 a3)

def v9 (a0 : FVec Ideal S8x2304x2048 .f32) (a1 : FVec Ideal S8x4x2048 .f32) (a2 : FVec Ideal S2048 .f32) (a3 : FVec Ideal S2048x12416 .f32) : FVec Ideal S8x2048x1 .f32 :=
  (addf : FVec Ideal S8x2048x1 .f32 → FVec Ideal S8x2048x1 .f32 → FVec Ideal S8x2048x1 .f32) (v7 a0 a1 a2 a3) (v8 a0 a1 a2 a3)

def v10 (a0 : FVec Ideal S8x2304x2048 .f32) (a1 : FVec Ideal S8x4x2048 .f32) (a2 : FVec Ideal S2048 .f32) (a3 : FVec Ideal S2048x12416 .f32) : FVec Ideal S8x2048x1 .f32 :=
  (Host.rsqrt : FVec Ideal S8x2048x1 .f32 → FVec Ideal S8x2048x1 .f32) (v9 a0 a1 a2 a3)

def v11 (a0 : FVec Ideal S8x2304x2048 .f32) (a1 : FVec Ideal S8x4x2048 .f32) (a2 : FVec Ideal S2048 .f32) (a3 : FVec Ideal S2048x12416 .f32) : FVec Ideal S8x2048x2048 .f32 :=
  (broadcastInDim S8x2048x2048 ![0, 1, 2] bcast_S8x2048x1_S8x2048x2048_0_1_2 : FVec Ideal S8x2048x1 .f32 → FVec Ideal S8x2048x2048 .f32) (v10 a0 a1 a2 a3)

def v12 (a0 : FVec Ideal S8x2304x2048 .f32) (a1 : FVec Ideal S8x4x2048 .f32) (a2 : FVec Ideal S2048 .f32) (a3 : FVec Ideal S2048x12416 .f32) : FVec Ideal S8x2048x2048 .f32 :=
  (mulf : FVec Ideal S8x2048x2048 .f32 → FVec Ideal S8x2048x2048 .f32 → FVec Ideal S8x2048x2048 .f32) (v2 a0 a1 a2 a3) (v11 a0 a1 a2 a3)

def v13 (a0 : FVec Ideal S8x2304x2048 .f32) (a1 : FVec Ideal S8x4x2048 .f32) (a2 : FVec Ideal S2048 .f32) (a3 : FVec Ideal S2048x12416 .f32) : FVec Ideal S1x1x2048 .f32 :=
  (broadcastInDim S1x1x2048 ![2] bcast_S2048_S1x1x2048_2 : FVec Ideal S2048 .f32 → FVec Ideal S1x1x2048 .f32) a2

def v14 (a0 : FVec Ideal S8x2304x2048 .f32) (a1 : FVec Ideal S8x4x2048 .f32) (a2 : FVec Ideal S2048 .f32) (a3 : FVec Ideal S2048x12416 .f32) : FVec Ideal S8x2048x2048 .f32 :=
  (broadcastInDim S8x2048x2048 ![0, 1, 2] bcast_S1x1x2048_S8x2048x2048_0_1_2 : FVec Ideal S1x1x2048 .f32 → FVec Ideal S8x2048x2048 .f32) (v13 a0 a1 a2 a3)

def v15 (a0 : FVec Ideal S8x2304x2048 .f32) (a1 : FVec Ideal S8x4x2048 .f32) (a2 : FVec Ideal S2048 .f32) (a3 : FVec Ideal S2048x12416 .f32) : FVec Ideal S8x2048x2048 .f32 :=
  (mulf : FVec Ideal S8x2048x2048 .f32 → FVec Ideal S8x2048x2048 .f32 → FVec Ideal S8x2048x2048 .f32) (v12 a0 a1 a2 a3) (v14 a0 a1 a2 a3)

def v16 (a0 : FVec Ideal S8x2304x2048 .f32) (a1 : FVec Ideal S8x4x2048 .f32) (a2 : FVec Ideal S2048 .f32) (a3 : FVec Ideal S2048x12416 .f32) : FVec Ideal S8x1x2048 .f32 :=
  ((extractStridedSlice S8x1x2048 ![0, 1, 0] · slices_S8x4x2048_S8x1x2048_0_1_0) : FVec Ideal S8x4x2048 .f32 → FVec Ideal S8x1x2048 .f32) a1

def cst_2 (a0 : FVec Ideal S8x2304x2048 .f32) (a1 : FVec Ideal S8x4x2048 .f32) (a2 : FVec Ideal S2048 .f32) (a3 : FVec Ideal S2048x12416 .f32) : FVec Ideal S_ .f32 :=
  (constant S_ .f32 0x3F800000#32)

def v17 (a0 : FVec Ideal S8x2304x2048 .f32) (a1 : FVec Ideal S8x4x2048 .f32) (a2 : FVec Ideal S2048 .f32) (a3 : FVec Ideal S2048x12416 .f32) : FVec Ideal S8x1x2048 .f32 :=
  (broadcastInDim S8x1x2048 ![] bcast_S_S8x1x2048 : FVec Ideal S_ .f32 → FVec Ideal S8x1x2048 .f32) (cst_2 a0 a1 a2 a3)

def v18 (a0 : FVec Ideal S8x2304x2048 .f32) (a1 : FVec Ideal S8x4x2048 .f32) (a2 : FVec Ideal S2048 .f32) (a3 : FVec Ideal S2048x12416 .f32) : FVec Ideal S8x1x2048 .f32 :=
  (addf : FVec Ideal S8x1x2048 .f32 → FVec Ideal S8x1x2048 .f32 → FVec Ideal S8x1x2048 .f32) (v17 a0 a1 a2 a3) (v16 a0 a1 a2 a3)

def v19 (a0 : FVec Ideal S8x2304x2048 .f32) (a1 : FVec Ideal S8x4x2048 .f32) (a2 : FVec Ideal S2048 .f32) (a3 : FVec Ideal S2048x12416 .f32) : FVec Ideal S8x2048x2048 .f32 :=
  (broadcastInDim S8x2048x2048 ![0, 1, 2] bcast_S8x1x2048_S8x2048x2048_0_1_2 : FVec Ideal S8x1x2048 .f32 → FVec Ideal S8x2048x2048 .f32) (v18 a0 a1 a2 a3)

def v20 (a0 : FVec Ideal S8x2304x2048 .f32) (a1 : FVec Ideal S8x4x2048 .f32) (a2 : FVec Ideal S2048 .f32) (a3 : FVec Ideal S2048x12416 .f32) : FVec Ideal S8x2048x2048 .f32 :=
  (mulf : FVec Ideal S8x2048x2048 .f32 → FVec Ideal S8x2048x2048 .f32 → FVec Ideal S8x2048x2048 .f32) (v15 a0 a1 a2 a3) (v19 a0 a1 a2 a3)

def v21 (a0 : FVec Ideal S8x2304x2048 .f32) (a1 : FVec Ideal S8x4x2048 .f32) (a2 : FVec Ideal S2048 .f32) (a3 : FVec Ideal S2048x12416 .f32) : FVec Ideal S8x1x2048 .f32 :=
  ((extractStridedSlice S8x1x2048 ![0, 0, 0] · slices_S8x4x2048_S8x1x2048_0_0_0) : FVec Ideal S8x4x2048 .f32 → FVec Ideal S8x1x2048 .f32) a1

def v22 (a0 : FVec Ideal S8x2304x2048 .f32) (a1 : FVec Ideal S8x4x2048 .f32) (a2 : FVec Ideal S2048 .f32) (a3 : FVec Ideal S2048x12416 .f32) : FVec Ideal S8x2048x2048 .f32 :=
  (broadcastInDim S8x2048x2048 ![0, 1, 2] bcast_S8x1x2048_S8x2048x2048_0_1_2 : FVec Ideal S8x1x2048 .f32 → FVec Ideal S8x2048x2048 .f32) (v21 a0 a1 a2 a3)

def v23 (a0 : FVec Ideal S8x2304x2048 .f32) (a1 : FVec Ideal S8x4x2048 .f32) (a2 : FVec Ideal S2048 .f32) (a3 : FVec Ideal S2048x12416 .f32) : FVec Ideal S8x2048x2048 .f32 :=
  (addf : FVec Ideal S8x2048x2048 .f32 → FVec Ideal S8x2048x2048 .f32 → FVec Ideal S8x2048x2048 .f32) (v20 a0 a1 a2 a3) (v22 a0 a1 a2 a3)

def v24 (a0 : FVec Ideal S8x2304x2048 .f32) (a1 : FVec Ideal S8x4x2048 .f32) (a2 : FVec Ideal S2048 .f32) (a3 : FVec Ideal S2048x12416 .f32) : FVec Ideal S8x256x2048 .f32 :=
  (mulf : FVec Ideal S8x256x2048 .f32 → FVec Ideal S8x256x2048 .f32 → FVec Ideal S8x256x2048 .f32) (v1 a0 a1 a2 a3) (v1 a0 a1 a2 a3)

def cst_3 (a0 : FVec Ideal S8x2304x2048 .f32) (a1 : FVec Ideal S8x4x2048 .f32) (a2 : FVec Ideal S2048 .f32) (a3 : FVec Ideal S2048x12416 .f32) : FVec Ideal S_ .f32 :=
  (constant S_ .f32 0x00000000#32)

def v25 (a0 : FVec Ideal S8x2304x2048 .f32) (a1 : FVec Ideal S8x4x2048 .f32) (a2 : FVec Ideal S2048 .f32) (a3 : FVec Ideal S2048x12416 .f32) : FVec Ideal S8x256 .f32 :=
  ((fun x v => Host.reduceAdd x v reducesTo_S8x256x2048_S8x256_d2 h_S_) : FVec Ideal S8x256x2048 .f32 → FVec Ideal S_ .f32 → FVec Ideal S8x256 .f32) (v24 a0 a1 a2 a3) (cst_3 a0 a1 a2 a3)

def v26 (a0 : FVec Ideal S8x2304x2048 .f32) (a1 : FVec Ideal S8x4x2048 .f32) (a2 : FVec Ideal S2048 .f32) (a3 : FVec Ideal S2048x12416 .f32) : FVec Ideal S8x256x1 .f32 :=
  (broadcastInDim S8x256x1 ![0, 1] bcast_S8x256_S8x256x1_0_1 : FVec Ideal S8x256 .f32 → FVec Ideal S8x256x1 .f32) (v25 a0 a1 a2 a3)

def cst_4 (a0 : FVec Ideal S8x2304x2048 .f32) (a1 : FVec Ideal S8x4x2048 .f32) (a2 : FVec Ideal S2048 .f32) (a3 : FVec Ideal S2048x12416 .f32) : FVec Ideal S_ .f32 :=
  (constant S_ .f32 0x45000000#32)

def v27 (a0 : FVec Ideal S8x2304x2048 .f32) (a1 : FVec Ideal S8x4x2048 .f32) (a2 : FVec Ideal S2048 .f32) (a3 : FVec Ideal S2048x12416 .f32) : FVec Ideal S8x256x1 .f32 :=
  (broadcastInDim S8x256x1 ![] bcast_S_S8x256x1 : FVec Ideal S_ .f32 → FVec Ideal S8x256x1 .f32) (cst_4 a0 a1 a2 a3)

def v28 (a0 : FVec Ideal S8x2304x2048 .f32) (a1 : FVec Ideal S8x4x2048 .f32) (a2 : FVec Ideal S2048 .f32) (a3 : FVec Ideal S2048x12416 .f32) : FVec Ideal S8x256x1 .f32 :=
  (Host.divf : FVec Ideal S8x256x1 .f32 → FVec Ideal S8x256x1 .f32 → FVec Ideal S8x256x1 .f32) (v26 a0 a1 a2 a3) (v27 a0 a1 a2 a3)

def cst_5 (a0 : FVec Ideal S8x2304x2048 .f32) (a1 : FVec Ideal S8x4x2048 .f32) (a2 : FVec Ideal S2048 .f32) (a3 : FVec Ideal S2048x12416 .f32) : FVec Ideal S_ .f32 :=
  (constant S_ .f32 0x358637BD#32)

def v29 (a0 : FVec Ideal S8x2304x2048 .f32) (a1 : FVec Ideal S8x4x2048 .f32) (a2 : FVec Ideal S2048 .f32) (a3 : FVec Ideal S2048x12416 .f32) : FVec Ideal S8x256x1 .f32 :=
  (broadcastInDim S8x256x1 ![] bcast_S_S8x256x1 : FVec Ideal S_ .f32 → FVec Ideal S8x256x1 .f32) (cst_5 a0 a1 a2 a3)

def v30 (a0 : FVec Ideal S8x2304x2048 .f32) (a1 : FVec Ideal S8x4x2048 .f32) (a2 : FVec Ideal S2048 .f32) (a3 : FVec Ideal S2048x12416 .f32) : FVec Ideal S8x256x1 .f32 :=
  (addf : FVec Ideal S8x256x1 .f32 → FVec Ideal S8x256x1 .f32 → FVec Ideal S8x256x1 .f32) (v28 a0 a1 a2 a3) (v29 a0 a1 a2 a3)

def v31 (a0 : FVec Ideal S8x2304x2048 .f32) (a1 : FVec Ideal S8x4x2048 .f32) (a2 : FVec Ideal S2048 .f32) (a3 : FVec Ideal S2048x12416 .f32) : FVec Ideal S8x256x1 .f32 :=
  (Host.rsqrt : FVec Ideal S8x256x1 .f32 → FVec Ideal S8x256x1 .f32) (v30 a0 a1 a2 a3)

def v32 (a0 : FVec Ideal S8x2304x2048 .f32) (a1 : FVec Ideal S8x4x2048 .f32) (a2 : FVec Ideal S2048 .f32) (a3 : FVec Ideal S2048x12416 .f32) : FVec Ideal S8x256x2048 .f32 :=
  (broadcastInDim S8x256x2048 ![0, 1, 2] bcast_S8x256x1_S8x256x2048_0_1_2 : FVec Ideal S8x256x1 .f32 → FVec Ideal S8x256x2048 .f32) (v31 a0 a1 a2 a3)

def v33 (a0 : FVec Ideal S8x2304x2048 .f32) (a1 : FVec Ideal S8x4x2048 .f32) (a2 : FVec Ideal S2048 .f32) (a3 : FVec Ideal S2048x12416 .f32) : FVec Ideal S8x256x2048 .f32 :=
  (mulf : FVec Ideal S8x256x2048 .f32 → FVec Ideal S8x256x2048 .f32 → FVec Ideal S8x256x2048 .f32) (v1 a0 a1 a2 a3) (v32 a0 a1 a2 a3)

def v34 (a0 : FVec Ideal S8x2304x2048 .f32) (a1 : FVec Ideal S8x4x2048 .f32) (a2 : FVec Ideal S2048 .f32) (a3 : FVec Ideal S2048x12416 .f32) : FVec Ideal S1x1x2048 .f32 :=
  (broadcastInDim S1x1x2048 ![2] bcast_S2048_S1x1x2048_2 : FVec Ideal S2048 .f32 → FVec Ideal S1x1x2048 .f32) a2

def v35 (a0 : FVec Ideal S8x2304x2048 .f32) (a1 : FVec Ideal S8x4x2048 .f32) (a2 : FVec Ideal S2048 .f32) (a3 : FVec Ideal S2048x12416 .f32) : FVec Ideal S8x256x2048 .f32 :=
  (broadcastInDim S8x256x2048 ![0, 1, 2] bcast_S1x1x2048_S8x256x2048_0_1_2 : FVec Ideal S1x1x2048 .f32 → FVec Ideal S8x256x2048 .f32) (v34 a0 a1 a2 a3)

def v36 (a0 : FVec Ideal S8x2304x2048 .f32) (a1 : FVec Ideal S8x4x2048 .f32) (a2 : FVec Ideal S2048 .f32) (a3 : FVec Ideal S2048x12416 .f32) : FVec Ideal S8x256x2048 .f32 :=
  (mulf : FVec Ideal S8x256x2048 .f32 → FVec Ideal S8x256x2048 .f32 → FVec Ideal S8x256x2048 .f32) (v33 a0 a1 a2 a3) (v35 a0 a1 a2 a3)

def v37 (a0 : FVec Ideal S8x2304x2048 .f32) (a1 : FVec Ideal S8x4x2048 .f32) (a2 : FVec Ideal S2048 .f32) (a3 : FVec Ideal S2048x12416 .f32) : FVec Ideal S8x1x2048 .f32 :=
  ((extractStridedSlice S8x1x2048 ![0, 3, 0] · slices_S8x4x2048_S8x1x2048_0_3_0) : FVec Ideal S8x4x2048 .f32 → FVec Ideal S8x1x2048 .f32) a1

def cst_6 (a0 : FVec Ideal S8x2304x2048 .f32) (a1 : FVec Ideal S8x4x2048 .f32) (a2 : FVec Ideal S2048 .f32) (a3 : FVec Ideal S2048x12416 .f32) : FVec Ideal S_ .f32 :=
  (constant S_ .f32 0x3F800000#32)

def v38 (a0 : FVec Ideal S8x2304x2048 .f32) (a1 : FVec Ideal S8x4x2048 .f32) (a2 : FVec Ideal S2048 .f32) (a3 : FVec Ideal S2048x12416 .f32) : FVec Ideal S8x1x2048 .f32 :=
  (broadcastInDim S8x1x2048 ![] bcast_S_S8x1x2048 : FVec Ideal S_ .f32 → FVec Ideal S8x1x2048 .f32) (cst_6 a0 a1 a2 a3)

def v39 (a0 : FVec Ideal S8x2304x2048 .f32) (a1 : FVec Ideal S8x4x2048 .f32) (a2 : FVec Ideal S2048 .f32) (a3 : FVec Ideal S2048x12416 .f32) : FVec Ideal S8x1x2048 .f32 :=
  (addf : FVec Ideal S8x1x2048 .f32 → FVec Ideal S8x1x2048 .f32 → FVec Ideal S8x1x2048 .f32) (v38 a0 a1 a2 a3) (v37 a0 a1 a2 a3)

def v40 (a0 : FVec Ideal S8x2304x2048 .f32) (a1 : FVec Ideal S8x4x2048 .f32) (a2 : FVec Ideal S2048 .f32) (a3 : FVec Ideal S2048x12416 .f32) : FVec Ideal S8x256x2048 .f32 :=
  (broadcastInDim S8x256x2048 ![0, 1, 2] bcast_S8x1x2048_S8x256x2048_0_1_2 : FVec Ideal S8x1x2048 .f32 → FVec Ideal S8x256x2048 .f32) (v39 a0 a1 a2 a3)

def v41 (a0 : FVec Ideal S8x2304x2048 .f32) (a1 : FVec Ideal S8x4x2048 .f32) (a2 : FVec Ideal S2048 .f32) (a3 : FVec Ideal S2048x12416 .f32) : FVec Ideal S8x256x2048 .f32 :=
  (mulf : FVec Ideal S8x256x2048 .f32 → FVec Ideal S8x256x2048 .f32 → FVec Ideal S8x256x2048 .f32) (v36 a0 a1 a2 a3) (v40 a0 a1 a2 a3)

def v42 (a0 : FVec Ideal S8x2304x2048 .f32) (a1 : FVec Ideal S8x4x2048 .f32) (a2 : FVec Ideal S2048 .f32) (a3 : FVec Ideal S2048x12416 .f32) : FVec Ideal S8x1x2048 .f32 :=
  ((extractStridedSlice S8x1x2048 ![0, 2, 0] · slices_S8x4x2048_S8x1x2048_0_2_0) : FVec Ideal S8x4x2048 .f32 → FVec Ideal S8x1x2048 .f32) a1

def v43 (a0 : FVec Ideal S8x2304x2048 .f32) (a1 : FVec Ideal S8x4x2048 .f32) (a2 : FVec Ideal S2048 .f32) (a3 : FVec Ideal S2048x12416 .f32) : FVec Ideal S8x256x2048 .f32 :=
  (broadcastInDim S8x256x2048 ![0, 1, 2] bcast_S8x1x2048_S8x256x2048_0_1_2 : FVec Ideal S8x1x2048 .f32 → FVec Ideal S8x256x2048 .f32) (v42 a0 a1 a2 a3)

def v44 (a0 : FVec Ideal S8x2304x2048 .f32) (a1 : FVec Ideal S8x4x2048 .f32) (a2 : FVec Ideal S2048 .f32) (a3 : FVec Ideal S2048x12416 .f32) : FVec Ideal S8x256x2048 .f32 :=
  (addf : FVec Ideal S8x256x2048 .f32 → FVec Ideal S8x256x2048 .f32 → FVec Ideal S8x256x2048 .f32) (v41 a0 a1 a2 a3) (v43 a0 a1 a2 a3)

def v45 (a0 : FVec Ideal S8x2304x2048 .f32) (a1 : FVec Ideal S8x4x2048 .f32) (a2 : FVec Ideal S2048 .f32) (a3 : FVec Ideal S2048x12416 .f32) : FVec Ideal S8x256x4096 .f32 :=
  ((fun l r => Host.dotGeneral dot_S8x256x2048_S2048x4096_S8x256x4096_2_0_01_1_n_n none l r) : FVec Ideal S8x256x2048 .f32 → FVec Ideal S2048x4096 .f32 → FVec Ideal S8x256x4096 .f32) (v44 a0 a1 a2 a3) (v0 a0 a1 a2 a3)

def v46 (a0 : FVec Ideal S8x2304x2048 .f32) (a1 : FVec Ideal S8x4x2048 .f32) (a2 : FVec Ideal S2048 .f32) (a3 : FVec Ideal S2048x12416 .f32) : FVec Ideal S8x2048x4096 .f32 :=
  ((fun l r => Host.dotGeneral dot_S8x2048x2048_S2048x4096_S8x2048x4096_2_0_01_1_n_n none l r) : FVec Ideal S8x2048x2048 .f32 → FVec Ideal S2048x4096 .f32 → FVec Ideal S8x2048x4096 .f32) (v23 a0 a1 a2 a3) (v0 a0 a1 a2 a3)

def v47 (a0 : FVec Ideal S8x2304x2048 .f32) (a1 : FVec Ideal S8x4x2048 .f32) (a2 : FVec Ideal S2048 .f32) (a3 : FVec Ideal S2048x12416 .f32) : FVec Ideal S8x2304x4096 .f32 :=
  ((fun a b => concatenate S8x2304x4096 1 [⟨S8x256x4096, a⟩, ⟨S8x2048x4096, b⟩] concatenates_S8x256x4096_S8x2048x4096_S8x2304x4096_d1) : FVec Ideal S8x256x4096 .f32 → FVec Ideal S8x2048x4096 .f32 → FVec Ideal S8x2304x4096 .f32) (v45 a0 a1 a2 a3) (v46 a0 a1 a2 a3)

def v48 (a0 : FVec Ideal S8x2304x2048 .f32) (a1 : FVec Ideal S8x4x2048 .f32) (a2 : FVec Ideal S2048 .f32) (a3 : FVec Ideal S2048x12416 .f32) : FVec Ideal S8x2304x4096 .bf16 :=
  ((truncf .bf16 · bitsLt_bf16_f32) : FVec Ideal S8x2304x4096 .f32 → FVec Ideal S8x2304x4096 .bf16) (v47 a0 a1 a2 a3)

end Cert.ReferenceZIdeal.Val

end
-- ==== Proof.ValZ.lean ====
module

public import proofs.«01_k».proof.Proof.Gen.KernelZIdeal.Frame
public import proofs.«01_k».proof.Proof.RowsZ
public import proofs.«01_k».proof.Proof.RefZ
public import Idealize.ShloMosaic.Lib.WholeRead
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelZIdeal.Value

open Cert.KernelZIdeal Cert.KernelZIdeal.Gen

variable (m : (ℓ : Loc nD τ sig) → Buf (Elt Ideal) ℓ)

theorem idx_val : ∀ t : Fin cfg0.N, win0_0.index t = ![t.val / 8, t.val / 4 % 2, 0]
    ∧ win0_1.index t = ![t.val / 8, 0, 0]
    ∧ win0_2.index t = ![0, 0]
    ∧ win0_3.index t = ![0, 8 + t.val % 4]
    ∧ win0_4.index t = ![t.val / 8, t.val / 4 % 2, t.val % 4] :=
  (by decide +kernel : ∀ t : Fin grid0.N, _)

theorem coord : ∀ t : Fin cfg0.N, (grid0.coords t 1).val = t.val / 4 % 2 :=
  (by decide +kernel : ∀ t : Fin grid0.N, _)

/-- The batch a grid point works on. -/
def batch (t : Fin cfg0.N) : Fin 8 := ⟨t.val / 8, by
  have := t.isLt
  have e : cfg0.N = 64 := by decide
  omega⟩

theorem ref_val (a0 : FVec Ideal Cert.ReferenceZIdeal.S8x2304x2048 .f32) (a1 : FVec Ideal Cert.ReferenceZIdeal.S8x4x2048 .f32) (a2 : FVec Ideal Cert.ReferenceZIdeal.S2048 .f32) (a3 : FVec Ideal Cert.ReferenceZIdeal.S2048x12416 .f32) (b : Fin 8) (r : Fin 2304) (n : Fin 4096) :
    Cert.ReferenceZIdeal.Val.v48 a0 a1 a2 a3 (ix3 b r n) = ∑ k : Fin 2048, Rows.H (fun b r k => a0 (ix3 b r k)) (fun b r k => a1 (ix3 b r k)) (fun k => a2 (ix1 k)) b r k * a3 (ix2 k ⟨8192 + n.val, by omega⟩) := by
  pointwise [Cert.ReferenceZIdeal.Val.v48, Cert.ReferenceZIdeal.Val.v47, Cert.ReferenceZIdeal.Val.v46, Cert.ReferenceZIdeal.Val.v45, Cert.ReferenceZIdeal.Val.v44, Cert.ReferenceZIdeal.Val.v43, Cert.ReferenceZIdeal.Val.v42, Cert.ReferenceZIdeal.Val.v41, Cert.ReferenceZIdeal.Val.v40, Cert.ReferenceZIdeal.Val.v39, Cert.ReferenceZIdeal.Val.v38, Cert.ReferenceZIdeal.Val.cst_6, Cert.ReferenceZIdeal.Val.v37, Cert.ReferenceZIdeal.Val.v36, Cert.ReferenceZIdeal.Val.v35, Cert.ReferenceZIdeal.Val.v34, Cert.ReferenceZIdeal.Val.v33, Cert.ReferenceZIdeal.Val.v32, Cert.ReferenceZIdeal.Val.v31, Cert.ReferenceZIdeal.Val.v30, Cert.ReferenceZIdeal.Val.v29, Cert.ReferenceZIdeal.Val.cst_5, Cert.ReferenceZIdeal.Val.v28, Cert.ReferenceZIdeal.Val.v27, Cert.ReferenceZIdeal.Val.cst_4, Cert.ReferenceZIdeal.Val.v26, Cert.ReferenceZIdeal.Val.v25, Cert.ReferenceZIdeal.Val.cst_3, Cert.ReferenceZIdeal.Val.v24, Cert.ReferenceZIdeal.Val.v23, Cert.ReferenceZIdeal.Val.v22, Cert.ReferenceZIdeal.Val.v21, Cert.ReferenceZIdeal.Val.v20, Cert.ReferenceZIdeal.Val.v19, Cert.ReferenceZIdeal.Val.v18, Cert.ReferenceZIdeal.Val.v17, Cert.ReferenceZIdeal.Val.cst_2, Cert.ReferenceZIdeal.Val.v16, Cert.ReferenceZIdeal.Val.v15, Cert.ReferenceZIdeal.Val.v14, Cert.ReferenceZIdeal.Val.v13, Cert.ReferenceZIdeal.Val.v12, Cert.ReferenceZIdeal.Val.v11, Cert.ReferenceZIdeal.Val.v10, Cert.ReferenceZIdeal.Val.v9, Cert.ReferenceZIdeal.Val.v8, Cert.ReferenceZIdeal.Val.cst_1, Cert.ReferenceZIdeal.Val.v7, Cert.ReferenceZIdeal.Val.v6, Cert.ReferenceZIdeal.Val.cst_0, Cert.ReferenceZIdeal.Val.v5, Cert.ReferenceZIdeal.Val.v4, Cert.ReferenceZIdeal.Val.cst, Cert.ReferenceZIdeal.Val.v3, Cert.ReferenceZIdeal.Val.v2, Cert.ReferenceZIdeal.Val.v1, Cert.ReferenceZIdeal.Val.v0]
  by_cases h : r.val < 256
  · rw [dif_pos h]
    refine Finset.sum_congr rfl fun k _ => ?_
    rw [Rows.H_lo _ _ _ _ _ _ h, Rows.out, Rows.inv, mul_assoc _ (a2 (ix1 k)) _]
  · rw [dif_neg h]
    refine Finset.sum_congr rfl fun k _ => ?_
    have e : ∀ h', (⟨256 + (r.val - 256), h'⟩ : Fin 2304) = r := fun h' => Fin.ext (by simp; omega)
    rw [Rows.H_hi _ _ _ _ _ _ h, Rows.out, Rows.inv, mul_assoc _ (a2 (ix1 k)) _]
    simp only [e]

theorem entry_w (c : Dev nD) (k : Fin 2048) (n : Fin 12416) :
    V m c main_v0 (ix2 k n) = m ((c : Thread nD τ).loc main_arg3) (ix2 k n) := by
  entry_read
  pointwise []

theorem entry_n (c : Dev nD) (k : Fin 2048) :
    V m c main_v1 (ix2 0 k) = m ((c : Thread nD τ).loc main_arg2) (ix1 k) := by
  entry_read
  pointwise []

/-- The weights a point reads. -/
theorem weights (c : Dev nD) (t : Fin cfg0.N) (k : Fin 2048) (n : Fin 1024) :
    X0_3 m c t (ix2 k n) = m ((c : Thread nD τ).loc main_arg3) (ix2 k ⟨8192 + (t.val % 4 * 1024 + n.val), by omega⟩) := by
  unfold X0_3 Pipeline.Window.fill
  rw [dif_pos (moved0_3 t _)]
  refine Eq.trans ?_ (entry_w m c _ _)
  blk_point [iblk, idx_val t]

theorem tile_val (c : Dev nD) (t : Fin cfg0.N) (r : Fin 1152) (k : Fin 2048) :
    tile m c t (ix2 r k) = Rows.H (fun b r k => m ((c : Thread nD τ).loc main_arg0) (ix3 b r k)) (fun b r k => m ((c : Thread nD τ).loc main_arg1) (ix3 b r k)) (fun k => m ((c : Thread nD τ).loc main_arg2) (ix1 k))
      (batch t) ⟨t.val / 4 % 2 * 1152 + r.val, by omega⟩ k := by
  have x (r : Fin 1152) (k : Fin 2048) : iblk m c 0 t (ix3 0 r k) = m ((c : Thread nD τ).loc main_arg0) (ix3 (batch t) ⟨t.val / 4 % 2 * 1152 + r.val, by omega⟩ k) := by
    blk_point [iblk, V_main_arg0, idx_val t]
    rfl
  have w (k : Fin 2048) : iblk m c 2 t (ix2 0 k) = m ((c : Thread nD τ).loc main_arg2) (ix1 k) := by
    refine Eq.trans ?_ (entry_n m c _)
    blk_point [iblk, idx_val t]
  have mv (n : Fin 4) (k : Fin 2048) : iblk m c 1 t (ix3 0 n k) = m ((c : Thread nD τ).loc main_arg1) (ix3 (batch t) n k) := by
    blk_point [iblk, V_main_arg1, idx_val t]
    rfl
  unfold tile rows
  rw [coord t]
  pointwise []
  simp only [x, w, mv]
  rfl

/-- A later point of a tile leaves the scratch as it was. -/
theorem keep (c : Dev nD) (t : Fin cfg0.N) (h0 : ¬ t.val % 4 = 0) (y : S1152x2048.Idx) :
    (outsAt0 m c t.val t.isLt).2 y = (outsAt0 m c (t.val - 1) (by omega)).2 y := by
  rw [outsAt0_B m c t h0]
  rfl

/-- The scratch holds the tile's normalised rows at every point. -/
theorem scratch (c : Dev nD) : ∀ (n : ℕ) (h : n < cfg0.N) (r : Fin 1152) (k : Fin 2048),
    (outsAt0 m c n h).2 (ix2 r k) = tile m c ⟨n, h⟩ (ix2 r k) := by
  intro n
  induction n with
  | zero => intro h r k; exact scratchA m c ⟨0, h⟩ rfl _
  | succ n ih =>
    intro h r k
    by_cases h0 : (n + 1) % 4 = 0
    · exact scratchA m c ⟨n + 1, h⟩ h0 _
    · refine (keep m c ⟨n + 1, h⟩ h0 _).trans ?_
      have ih' := ih (by omega) r k
      rw [tile_val] at ih' ⊢
      have e1 : batch ⟨n + 1, h⟩ = batch ⟨n, by omega⟩ := Fin.ext (by simp only [batch]; omega)
      have e2 : (n + 1) / 4 % 2 = n / 4 % 2 := by omega
      simp only [e1, e2]
      exact ih'

/-- What a point stores. -/
theorem out (c : Dev nD) (t : Fin cfg0.N) (q : S1x1152x1024.Idx) :
    (outsAt0 m c t.val t.isLt).1 q = ∑ k : Fin 2048, tile m c t (ix2 (q 1) k) * X0_3 m c t (ix2 k (q 2)) := by
  by_cases h0 : t.val % 4 = 0
  · rw [outA m c t h0 q]
    exact Finset.sum_congr rfl fun k _ => congrArg (fun z : EReal => z * X0_3 m c t (ix2 k (q 2))) (scratch m c t.val t.isLt (q 1) k)
  · rw [outB m c t h0 q]
    exact Finset.sum_congr rfl fun k _ => congrArg (fun z : EReal => z * X0_3 m c t (ix2 k (q 2))) ((keep m c t h0 _).symm.trans (scratch m c t.val t.isLt (q 1) k))

/-- The result array after the run. -/
theorem final (c : Dev nD) : (dats m 0 c).arrAt 4 (cfgs 0).N = Cert.ReferenceZIdeal.Val.v48 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have e : ((cfg0.win 4).blk t).view.emb y = (ix3 (batch t) ⟨t.val / 4 % 2 * 1152 + (y 1).val, by have := (y 1).isLt; simp at this; omega⟩ ⟨t.val % 4 * 1024 + (y 2).val, by have := (y 2).isLt; simp at this; omega⟩ : S8x2304x4096.Idx) := by
    blk_ext [idx_val t]
    rfl
  blk_simp; rw [after0_4]
  refine (out m c t y).trans (Eq.trans ?_ (congrArg _ e.symm))
  rw [ref_val]
  refine Finset.sum_congr rfl fun k _ => ?_
  exact congrArg₂ (fun a b : EReal => a * b) (tile_val m c t (y 1) k) (weights m c t k (y 2))

end Cert.KernelZIdeal.Value

end
-- ==== Proof.AlgZ.lean ====
module

public import proofs.«01_k».proof.Defs
public import proofs.«01_k».proof.Proof.ValZ
public import proofs.«01_k».proof.Proof.Gen.KernelZIdeal.Frame
public import proofs.«01_k».proof.Proof.Gen.ReferenceZIdeal
public import Idealize.ShloMosaic.Lib.Claim

@[expose] public section

set_option maxRecDepth 16384

noncomputable section

open Idealize.ShloMosaic Idealize.SL.Sem

/-! The claims about the gate projection at the exact numbers. -/
namespace Cert.Proof

set_option maxHeartbeats 1600000 in
theorem quiescent_ReferenceZIdeal : Cert.quiescent_ReferenceZIdeal := by
  intro m g _
  refine (θ_run _ _ _).mono (fun r h => ⟨h, sem_eq_zero_of_no_sems (by decide) r.2⟩) ?_
  hlo_run

set_option maxHeartbeats 1600000 in
theorem algebraic_Z : Cert.algebraic_KernelZIdeal_ReferenceZIdeal := by
  pair_intro
  · run_from Cert.KernelZIdeal.Gen.run_main m g
    all_goals first | exact Cert.KernelZIdeal.Gen.V_main_arg0 m c | exact Cert.KernelZIdeal.Gen.V_main_arg1 m c | exact Cert.KernelZIdeal.Gen.V_main_arg2 m c | exact Cert.KernelZIdeal.Gen.V_main_arg3 m c
  · hlo_run
    try rw [(hagree c).2.2.2]
    exact (Cert.KernelZIdeal.Value.final m c).symm

end Cert.Proof

end
-- ==== Proof.RunFfn.lean ====
module

public import proofs.«01_k».proof.Proof.Gen.KernelFfnIdeal.Frame
public import proofs.«01_k».proof.Proof.Gen.KernelFfnIdeal.Loops

@[expose] public section

set_option maxRecDepth 16384

noncomputable section

namespace Cert.KernelFfnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelFfnIdeal.Gen

/-- The word test for the first column block of a row tile, where the kernel norms its rows. -/
abbrev First (i : grid0.Coords) : Prop := k0_cond1 i = 1#1

/-- The word test for the row tile that holds the edge between context and latent rows. -/
abbrev Edge (i : grid0.Coords) : Prop :=
  (Scalar.cmpi .ne (Scalar.extui (Scalar.cmpi .eq (BitVec.ofNat 32 (i 1).val) 0#32)) 0#32) = 1#1

set_option maxHeartbeats 1000000 in
/-- The body at the first column block of the tile with the edge: the pieces its stores leave in the output's buffer and in the buffer of normed rows, found by the run. -/
def runA (c : Dev nD) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (h0 : First i) (h1 : Edge i)
    (s : Vec F S800x2048 .bf16) (x0 : Vec F S1x768x2048 .f32) (x1 : Vec F S1x16x2048 .f32) (x2 : Vec F S1x16x2048 .f32) (x3 : Vec F S1x4x2048 .f32) (x4 : Vec F S1x2048 .f32) (x5 : Vec F S2048x512 .bf16) (x6 : Vec F S2048x512 .bf16) (x7 : Vec F S3x512 .f32) (x8 : Vec F S3x512 .f32) :
    Σ' (L : List (View.Piece (Elt F) S1x768x512 .bf16)), { LS : List (View.Piece (Elt F) S800x2048 .bf16) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare s ∗ (∃ d, owns (c : Thread nD τ) arg14 fullShare d) ∗ (∃ d, owns (c : Thread nD τ) arg15 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L) ∗ (arg13.view.loc (c : Thread nD τ) ↦[arg13.view.set]{fullShare} arg13.view.writes (Elt F) (harg13.unread s) LS) ∗ (∃ d, owns (c : Thread nD τ) arg14 fullShare d) ∗ (∃ d, owns (c : Thread nD τ) arg15 fullShare d)) -∗ K ⟨⟩))
        ⊢ wp frame (wpE (defs₀ (F := F)) Variants.none c none) E (cc0_norm_proj_ffn i arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_norm_proj_ffn_eq_skeleton]; unfold cc0_norm_proj_ffn_skel
    simp only [k0_part7_eq_skeleton, k0_part1_eq_skeleton, k0_part2_eq_skeleton, k0_part3_eq_skeleton, k0_part8_eq_skeleton, k0_part9_eq_skeleton, k0_part10_eq_skeleton, k0_part11_eq_skeleton, k0_part12_eq_skeleton, k0_part13_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, S0⟩, ⟨%ds1, %fs1, -, S1⟩, ⟨%ds2, %fs2, -, S2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg13.eq_unread hfs
    sl_exec (disch := first | sl_exact h0 | sl_exact h1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; iexact H9
    isplitl [S0]
    · iexact S0
    isplitl [S1]
    · iexists _, _; isplitr; swap; · iexact S1
      ipureintro; rfl
    iexists _, _; isplitr; swap; · iexact S2
    ipureintro; rfl

set_option maxHeartbeats 1000000 in
/-- The body at a later column block of the tile with the edge: the pieces its stores leave in the output's buffer, found by the run. -/
def runB (c : Dev nD) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (h0 : ¬First i) (h1 : Edge i)
    (s : Vec F S800x2048 .bf16) (x0 : Vec F S1x768x2048 .f32) (x1 : Vec F S1x16x2048 .f32) (x2 : Vec F S1x16x2048 .f32) (x3 : Vec F S1x4x2048 .f32) (x4 : Vec F S1x2048 .f32) (x5 : Vec F S2048x512 .bf16) (x6 : Vec F S2048x512 .bf16) (x7 : Vec F S3x512 .f32) (x8 : Vec F S3x512 .f32) :
    { L : List (View.Piece (Elt F) S1x768x512 .bf16) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare s ∗ (∃ d, owns (c : Thread nD τ) arg14 fullShare d) ∗ (∃ d, owns (c : Thread nD τ) arg15 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L) ∗ owns (c : Thread nD τ) arg13 fullShare s ∗ (∃ d, owns (c : Thread nD τ) arg14 fullShare d) ∗ (∃ d, owns (c : Thread nD τ) arg15 fullShare d)) -∗ K ⟨⟩))
        ⊢ wp frame (wpE (defs₀ (F := F)) Variants.none c none) E (cc0_norm_proj_ffn i arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_norm_proj_ffn_eq_skeleton]; unfold cc0_norm_proj_ffn_skel
    simp only [k0_part7_eq_skeleton, k0_part1_eq_skeleton, k0_part2_eq_skeleton, k0_part3_eq_skeleton, k0_part8_eq_skeleton, k0_part9_eq_skeleton, k0_part10_eq_skeleton, k0_part11_eq_skeleton, k0_part12_eq_skeleton, k0_part13_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, S0⟩, ⟨%ds1, %fs1, -, S1⟩, ⟨%ds2, %fs2, -, S2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg13.eq_unread hfs
    sl_exec (disch := first | sl_exact h0 | sl_exact h1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; iexact H9
    isplitl [S0]
    · iexists _; isplitr; · ipureintro; exact harg13.read_unread _
      iexact S0
    isplitl [S1]
    · iexists _, _; isplitr; swap; · iexact S1
      ipureintro; rfl
    iexists _, _; isplitr; swap; · iexact S2
    ipureintro; rfl

set_option maxHeartbeats 1000000 in
/-- The body at the first column block of another tile: the pieces its stores leave in the output's buffer and in the buffer of normed rows, found by the run. -/
def runC (c : Dev nD) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (h0 : First i) (h1 : ¬Edge i)
    (s : Vec F S800x2048 .bf16) (x0 : Vec F S1x768x2048 .f32) (x1 : Vec F S1x16x2048 .f32) (x2 : Vec F S1x16x2048 .f32) (x3 : Vec F S1x4x2048 .f32) (x4 : Vec F S1x2048 .f32) (x5 : Vec F S2048x512 .bf16) (x6 : Vec F S2048x512 .bf16) (x7 : Vec F S3x512 .f32) (x8 : Vec F S3x512 .f32) :
    Σ' (L : List (View.Piece (Elt F) S1x768x512 .bf16)), { LS : List (View.Piece (Elt F) S800x2048 .bf16) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare s ∗ (∃ d, owns (c : Thread nD τ) arg14 fullShare d) ∗ (∃ d, owns (c : Thread nD τ) arg15 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L) ∗ (arg13.view.loc (c : Thread nD τ) ↦[arg13.view.set]{fullShare} arg13.view.writes (Elt F) (harg13.unread s) LS) ∗ (∃ d, owns (c : Thread nD τ) arg14 fullShare d) ∗ (∃ d, owns (c : Thread nD τ) arg15 fullShare d)) -∗ K ⟨⟩))
        ⊢ wp frame (wpE (defs₀ (F := F)) Variants.none c none) E (cc0_norm_proj_ffn i arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_norm_proj_ffn_eq_skeleton]; unfold cc0_norm_proj_ffn_skel
    simp only [k0_part7_eq_skeleton, k0_part1_eq_skeleton, k0_part2_eq_skeleton, k0_part3_eq_skeleton, k0_part8_eq_skeleton, k0_part9_eq_skeleton, k0_part10_eq_skeleton, k0_part11_eq_skeleton, k0_part12_eq_skeleton, k0_part13_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, S0⟩, ⟨%ds1, %fs1, -, S1⟩, ⟨%ds2, %fs2, -, S2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg13.eq_unread hfs
    sl_exec (disch := first | sl_exact h0 | sl_exact h1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; iexact H9
    isplitl [S0]
    · iexact S0
    isplitl [S1]
    · iexists _, _; isplitr; swap; · iexact S1
      ipureintro; rfl
    iexists _, _; isplitr; swap; · iexact S2
    ipureintro; rfl

set_option maxHeartbeats 1000000 in
/-- The body at a later column block of another tile: the pieces its stores leave in the output's buffer, found by the run. -/
def runD (c : Dev nD) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (h0 : ¬First i) (h1 : ¬Edge i)
    (s : Vec F S800x2048 .bf16) (x0 : Vec F S1x768x2048 .f32) (x1 : Vec F S1x16x2048 .f32) (x2 : Vec F S1x16x2048 .f32) (x3 : Vec F S1x4x2048 .f32) (x4 : Vec F S1x2048 .f32) (x5 : Vec F S2048x512 .bf16) (x6 : Vec F S2048x512 .bf16) (x7 : Vec F S3x512 .f32) (x8 : Vec F S3x512 .f32) :
    { L : List (View.Piece (Elt F) S1x768x512 .bf16) // ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare s ∗ (∃ d, owns (c : Thread nD τ) arg14 fullShare d) ∗ (∃ d, owns (c : Thread nD τ) arg15 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L) ∗ owns (c : Thread nD τ) arg13 fullShare s ∗ (∃ d, owns (c : Thread nD τ) arg14 fullShare d) ∗ (∃ d, owns (c : Thread nD τ) arg15 fullShare d)) -∗ K ⟨⟩))
        ⊢ wp frame (wpE (defs₀ (F := F)) Variants.none c none) E (cc0_norm_proj_ffn i arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_norm_proj_ffn_eq_skeleton]; unfold cc0_norm_proj_ffn_skel
    simp only [k0_part7_eq_skeleton, k0_part1_eq_skeleton, k0_part2_eq_skeleton, k0_part3_eq_skeleton, k0_part8_eq_skeleton, k0_part9_eq_skeleton, k0_part10_eq_skeleton, k0_part11_eq_skeleton, k0_part12_eq_skeleton, k0_part13_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, S0⟩, ⟨%ds1, %fs1, -, S1⟩, ⟨%ds2, %fs2, -, S2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg13.eq_unread hfs
    sl_exec (disch := first | sl_exact h0 | sl_exact h1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; iexact H9
    isplitl [S0]
    · iexists _; isplitr; · ipureintro; exact harg13.read_unread _
      iexact S0
    isplitl [S1]
    · iexists _, _; isplitr; swap; · iexact S1
      ipureintro; rfl
    iexists _, _; isplitr; swap; · iexact S2
    ipureintro; rfl

end Cert.KernelFfnIdeal.Body

end
-- ==== Proof.BodyFfn.lean ====
module

public import proofs.«01_k».proof.Proof.RunFfn
public import Idealize.ShloMosaic.Lib.Claim

@[expose] public section

set_option maxRecDepth 16384

noncomputable section

namespace Cert.KernelFfnIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelFfnIdeal.Gen

variable (m : (ℓ : Loc nD τ sig) → Buf (Elt F) ℓ) (ρ : Dev nD → PrngReg)

/-- The first column blocks, by the number of the grid point. -/
theorem first_iff (t : Fin cfg0.N) : First (grid0.coords t) ↔ t.val % 11 = 0 := by
  have ht : t.val < 264 := Nat.lt_of_lt_of_eq t.isLt N_0
  have e1 : (grid0.coords t 1).val = t.val / 11 % 3 := Pipeline.Grid.coords_val t 1 (by decide) rfl
  have e2 : (grid0.coords t 2).val = t.val / 1 % 11 := Pipeline.Grid.coords_val t 2 (by decide) rfl
  simp only [First, k0_cond1, e1, e2]
  word_cmp

/-- The buffers between grid points: the rows normed, the two products, and the generator's register. -/
theorem rest_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- The buffer of normed rows, and the output block, claimed after each grid point: what the pieces of the runs read. -/
structure Holds (tile : Dev nD → Fin cfg0.N → Vec F S800x2048 .bf16) (blk : Dev nD → Fin cfg0.N → Vec F S1x768x512 .bf16) : Prop where
  outA : ∀ (c : Dev nD) (t : Fin cfg0.N) (h0 : First (grid0.coords t)) (h1 : Edge (grid0.coords t)) (s : Vec F S800x2048 .bf16) (f),
    ((win0_9.stage (cfg0.slots t 9)).view).read (Elt F) (((win0_9.stage (cfg0.slots t 9)).view).writes (Elt F) f (runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole cc0_scratch0) (Memref.whole cc0_scratch1) (Memref.isWhole_whole cc0_scratch1) (Memref.whole cc0_scratch2) (Memref.isWhole_whole cc0_scratch2) h0 h1 s (iblk m c 0 t) (iblk m c 1 t) (iblk m c 2 t) (iblk m c 3 t) (iblk m c 4 t) (iblk m c 5 t) (iblk m c 6 t) (iblk m c 7 t) (iblk m c 8 t)).1) = blk c t
  rowsA : ∀ (c : Dev nD) (t : Fin cfg0.N) (h0 : First (grid0.coords t)) (h1 : Edge (grid0.coords t)) (s : Vec F S800x2048 .bf16),
    ((Memref.whole cc0_scratch0).view).read (Elt F) (((Memref.whole cc0_scratch0).view).writes (Elt F) ((Memref.isWhole_whole cc0_scratch0).unread s) (runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole cc0_scratch0) (Memref.whole cc0_scratch1) (Memref.isWhole_whole cc0_scratch1) (Memref.whole cc0_scratch2) (Memref.isWhole_whole cc0_scratch2) h0 h1 s (iblk m c 0 t) (iblk m c 1 t) (iblk m c 2 t) (iblk m c 3 t) (iblk m c 4 t) (iblk m c 5 t) (iblk m c 6 t) (iblk m c 7 t) (iblk m c 8 t)).2.1) = tile c t
  outC : ∀ (c : Dev nD) (t : Fin cfg0.N) (h0 : First (grid0.coords t)) (h1 : ¬Edge (grid0.coords t)) (s : Vec F S800x2048 .bf16) (f),
    ((win0_9.stage (cfg0.slots t 9)).view).read (Elt F) (((win0_9.stage (cfg0.slots t 9)).view).writes (Elt F) f (runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole cc0_scratch0) (Memref.whole cc0_scratch1) (Memref.isWhole_whole cc0_scratch1) (Memref.whole cc0_scratch2) (Memref.isWhole_whole cc0_scratch2) h0 h1 s (iblk m c 0 t) (iblk m c 1 t) (iblk m c 2 t) (iblk m c 3 t) (iblk m c 4 t) (iblk m c 5 t) (iblk m c 6 t) (iblk m c 7 t) (iblk m c 8 t)).1) = blk c t
  rowsC : ∀ (c : Dev nD) (t : Fin cfg0.N) (h0 : First (grid0.coords t)) (h1 : ¬Edge (grid0.coords t)) (s : Vec F S800x2048 .bf16),
    ((Memref.whole cc0_scratch0).view).read (Elt F) (((Memref.whole cc0_scratch0).view).writes (Elt F) ((Memref.isWhole_whole cc0_scratch0).unread s) (runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole cc0_scratch0) (Memref.whole cc0_scratch1) (Memref.isWhole_whole cc0_scratch1) (Memref.whole cc0_scratch2) (Memref.isWhole_whole cc0_scratch2) h0 h1 s (iblk m c 0 t) (iblk m c 1 t) (iblk m c 2 t) (iblk m c 3 t) (iblk m c 4 t) (iblk m c 5 t) (iblk m c 6 t) (iblk m c 7 t) (iblk m c 8 t)).2.1) = tile c t
  outB : ∀ (c : Dev nD) (t : Fin cfg0.N) (h0 : ¬First (grid0.coords t)) (h1 : Edge (grid0.coords t)) (f),
    ((win0_9.stage (cfg0.slots t 9)).view).read (Elt F) (((win0_9.stage (cfg0.slots t 9)).view).writes (Elt F) f (runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole cc0_scratch0) (Memref.whole cc0_scratch1) (Memref.isWhole_whole cc0_scratch1) (Memref.whole cc0_scratch2) (Memref.isWhole_whole cc0_scratch2) h0 h1 (tile c t) (iblk m c 0 t) (iblk m c 1 t) (iblk m c 2 t) (iblk m c 3 t) (iblk m c 4 t) (iblk m c 5 t) (iblk m c 6 t) (iblk m c 7 t) (iblk m c 8 t)).1) = blk c t
  outD : ∀ (c : Dev nD) (t : Fin cfg0.N) (h0 : ¬First (grid0.coords t)) (h1 : ¬Edge (grid0.coords t)) (f),
    ((win0_9.stage (cfg0.slots t 9)).view).read (Elt F) (((win0_9.stage (cfg0.slots t 9)).view).writes (Elt F) f (runD c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole cc0_scratch0) (Memref.whole cc0_scratch1) (Memref.isWhole_whole cc0_scratch1) (Memref.whole cc0_scratch2) (Memref.isWhole_whole cc0_scratch2) h0 h1 (tile c t) (iblk m c 0 t) (iblk m c 1 t) (iblk m c 2 t) (iblk m c 3 t) (iblk m c 4 t) (iblk m c 5 t) (iblk m c 6 t) (iblk m c 7 t) (iblk m c 8 t)).1) = blk c t
  keep : ∀ (c : Dev nD) (t : Fin cfg0.N) (h : t.val % 11 ≠ 0), tile c ⟨t.val - 1, by omega⟩ = tile c t

variable (tile : Dev nD → Fin cfg0.N → Vec F S800x2048 .bf16) (blk : Dev nD → Fin cfg0.N → Vec F S1x768x512 .bf16)

/-- The kernel's own buffers with the normed rows named. -/
def held (c : Dev nD) (d : Vec F S800x2048 .bf16) : sProp 𝕄 :=
  iprop(iprop(owns (c : Thread nD τ) (Memref.whole cc0_scratch0) fullShare d
          ∗ (∃ d, owns (c : Thread nD τ) (Memref.whole cc0_scratch1) fullShare d)
          ∗ (∃ d, owns (c : Thread nD τ) (Memref.whole cc0_scratch2) fullShare d)) ∗ (∃ r, prngReg c r))

/-- Between grid points: at the start anything, later the rows of the tile of the point before. -/
def inv (c : Dev nD) : (n : ℕ) → n ≤ cfg0.N → sProp 𝕄
  | 0, _ => Pipeline.ΦA spec0 c
  | n + 1, hn => held c (tile c ⟨n, hn⟩)

theorem inv_pos (c : Dev nD) (n : ℕ) (h : n ≤ cfg0.N) (hz : n ≠ 0) : inv tile c n h = held c (tile c ⟨n - 1, by omega⟩) := by
  cases n with
  | zero => exact absurd rfl hz
  | succ n => rfl

theorem held_any (c : Dev nD) (d : Vec F S800x2048 .bf16) : (held c d : sProp 𝕄) ⊢ Pipeline.ΦA spec0 c := by
  rw [rest_eq]; unfold held
  iintro ⟨⟨S0, S1, S2⟩, Hg⟩
  isplitl [S0 S1 S2]
  · isplitl [S0]; · iexists _; iexact S0
    isplitl [S1]; · iexact S1
    iexact S2
  iexact Hg

theorem inv_any (c : Dev nD) (n : ℕ) (h : n ≤ cfg0.N) : (inv tile c n h : sProp 𝕄) ⊢ Pipeline.ΦA spec0 c := by
  cases n with
  | zero => exact .rfl
  | succ n => exact held_any c _

/-- The proof data: inputs keep their blocks, the output's buffer holds `blk`. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => blk c t
  Φ t := inv tile c t.val (Nat.le_of_lt_succ t.isLt)
  q w := Pipeline.shareOf spec0 w
  owed _ := 0

theorem after_0 (c : Dev nD) (t : Fin cfg0.N) : (dat m tile blk c).after 0 t = iblk m c 0 t := by dsimp only [dat]
theorem after_1 (c : Dev nD) (t : Fin cfg0.N) : (dat m tile blk c).after 1 t = iblk m c 1 t := by dsimp only [dat]
theorem after_2 (c : Dev nD) (t : Fin cfg0.N) : (dat m tile blk c).after 2 t = iblk m c 2 t := by dsimp only [dat]
theorem after_3 (c : Dev nD) (t : Fin cfg0.N) : (dat m tile blk c).after 3 t = iblk m c 3 t := by dsimp only [dat]
theorem after_4 (c : Dev nD) (t : Fin cfg0.N) : (dat m tile blk c).after 4 t = iblk m c 4 t := by dsimp only [dat]
theorem after_5 (c : Dev nD) (t : Fin cfg0.N) : (dat m tile blk c).after 5 t = iblk m c 5 t := by dsimp only [dat]
theorem after_6 (c : Dev nD) (t : Fin cfg0.N) : (dat m tile blk c).after 6 t = iblk m c 6 t := by dsimp only [dat]
theorem after_7 (c : Dev nD) (t : Fin cfg0.N) : (dat m tile blk c).after 7 t = iblk m c 7 t := by dsimp only [dat]
theorem after_8 (c : Dev nD) (t : Fin cfg0.N) : (dat m tile blk c).after 8 t = iblk m c 8 t := by dsimp only [dat]
theorem after_9 (c : Dev nD) (t : Fin cfg0.N) : (dat m tile blk c).after 9 t = blk c t := by dsimp only [dat]

theorem start (c : Dev nD) (w : Fin cfg0.W) : (dat m tile blk c).A w = V m c (Pipeline.arrRef spec0 w) := by dsimp only [dat]

theorem before_0 (c : Dev nD) (t : Fin cfg0.N) (d) : (dat m tile blk c).before 0 t d = iblk m c 0 t :=
  before0_0_of m (dat m tile blk c) (start m tile blk c 0) (after_0 m tile blk c) t d
theorem before_1 (c : Dev nD) (t : Fin cfg0.N) (d) : (dat m tile blk c).before 1 t d = iblk m c 1 t :=
  before0_1_of m (dat m tile blk c) (start m tile blk c 1) (after_1 m tile blk c) t d
theorem before_2 (c : Dev nD) (t : Fin cfg0.N) (d) : (dat m tile blk c).before 2 t d = iblk m c 2 t :=
  before0_2_of m (dat m tile blk c) (start m tile blk c 2) (after_2 m tile blk c) t d
theorem before_3 (c : Dev nD) (t : Fin cfg0.N) (d) : (dat m tile blk c).before 3 t d = iblk m c 3 t :=
  before0_3_of m (dat m tile blk c) (start m tile blk c 3) (after_3 m tile blk c) t d
theorem before_4 (c : Dev nD) (t : Fin cfg0.N) (d) : (dat m tile blk c).before 4 t d = iblk m c 4 t :=
  before0_4_of m (dat m tile blk c) (start m tile blk c 4) (after_4 m tile blk c) t d
theorem before_5 (c : Dev nD) (t : Fin cfg0.N) (d) : (dat m tile blk c).before 5 t d = iblk m c 5 t :=
  before0_5_of m (dat m tile blk c) (start m tile blk c 5) (after_5 m tile blk c) t d
theorem before_6 (c : Dev nD) (t : Fin cfg0.N) (d) : (dat m tile blk c).before 6 t d = iblk m c 6 t :=
  before0_6_of m (dat m tile blk c) (start m tile blk c 6) (after_6 m tile blk c) t d
theorem before_7 (c : Dev nD) (t : Fin cfg0.N) (d) : (dat m tile blk c).before 7 t d = iblk m c 7 t :=
  before0_7_of m (dat m tile blk c) (start m tile blk c 7) (after_7 m tile blk c) t d
theorem before_8 (c : Dev nD) (t : Fin cfg0.N) (d) : (dat m tile blk c).before 8 t d = iblk m c 8 t :=
  before0_8_of m (dat m tile blk c) (start m tile blk c 8) (after_8 m tile blk c) t d

variable {tile blk}

set_option maxHeartbeats 4000000 in
/-- The body at any grid point. -/
theorem body_at (hold : Holds m tile blk) (c : Dev nD) (t : Fin cfg0.N) :
    iprop((dat m tile blk c).Φ t.castSucc ∗ (dat m tile blk c).owesAt () t.castSucc ∗ (∃ d, owns (c : Thread nD τ) (win0_0.stage (cfg0.slots t 0)) fullShare ((dat m tile blk c).before 0 t d)) ∗ (∃ d, owns (c : Thread nD τ) (win0_1.stage (cfg0.slots t 1)) fullShare ((dat m tile blk c).before 1 t d)) ∗ (∃ d, owns (c : Thread nD τ) (win0_2.stage (cfg0.slots t 2)) fullShare ((dat m tile blk c).before 2 t d)) ∗ (∃ d, owns (c : Thread nD τ) (win0_3.stage (cfg0.slots t 3)) fullShare ((dat m tile blk c).before 3 t d)) ∗ (∃ d, owns (c : Thread nD τ) (win0_4.stage (cfg0.slots t 4)) fullShare ((dat m tile blk c).before 4 t d)) ∗ (∃ d, owns (c : Thread nD τ) (win0_5.stage (cfg0.slots t 5)) fullShare ((dat m tile blk c).before 5 t d)) ∗ (∃ d, owns (c : Thread nD τ) (win0_6.stage (cfg0.slots t 6)) fullShare ((dat m tile blk c).before 6 t d)) ∗ (∃ d, owns (c : Thread nD τ) (win0_7.stage (cfg0.slots t 7)) fullShare ((dat m tile blk c).before 7 t d)) ∗ (∃ d, owns (c : Thread nD τ) (win0_8.stage (cfg0.slots t 8)) fullShare ((dat m tile blk c).before 8 t d)) ∗ (∃ d, owns (c : Thread nD τ) (win0_9.stage (cfg0.slots t 9)) fullShare ((dat m tile blk c).before 9 t d)))
      ⊢ wp frame (wpE (defs₀ (F := F)) Variants.none c none) Set.univ (bodyAt0 t) (fun _ =>
        iprop((dat m tile blk c).Φ t.succ ∗ (dat m tile blk c).owesAt () t.succ ∗ owns (c : Thread nD τ) (win0_0.stage (cfg0.slots t 0)) fullShare ((dat m tile blk c).after 0 t) ∗ owns (c : Thread nD τ) (win0_1.stage (cfg0.slots t 1)) fullShare ((dat m tile blk c).after 1 t) ∗ owns (c : Thread nD τ) (win0_2.stage (cfg0.slots t 2)) fullShare ((dat m tile blk c).after 2 t) ∗ owns (c : Thread nD τ) (win0_3.stage (cfg0.slots t 3)) fullShare ((dat m tile blk c).after 3 t) ∗ owns (c : Thread nD τ) (win0_4.stage (cfg0.slots t 4)) fullShare ((dat m tile blk c).after 4 t) ∗ owns (c : Thread nD τ) (win0_5.stage (cfg0.slots t 5)) fullShare ((dat m tile blk c).after 5 t) ∗ owns (c : Thread nD τ) (win0_6.stage (cfg0.slots t 6)) fullShare ((dat m tile blk c).after 6 t) ∗ owns (c : Thread nD τ) (win0_7.stage (cfg0.slots t 7)) fullShare ((dat m tile blk c).after 7 t) ∗ owns (c : Thread nD τ) (win0_8.stage (cfg0.slots t 8)) fullShare ((dat m tile blk c).after 8 t) ∗ owns (c : Thread nD τ) (win0_9.stage (cfg0.slots t 9)) fullShare ((dat m tile blk c).after 9 t))) := by
  unfold bodyAt0
  simp only [before_0, before_1, before_2, before_3, before_4, before_5, before_6, before_7, before_8]
  rw [show (dat m tile blk c).owesAt () t.succ = (dat m tile blk c).owesAt () t.castSucc from rfl, after_0, after_1, after_2, after_3, after_4, after_5, after_6, after_7, after_8, after_9]
  rw [show (dat m tile blk c).Φ t.succ = held c (tile c t) from rfl,
    show (dat m tile blk c).Φ t.castSucc = inv tile c t.val (Nat.le_of_lt t.isLt) from rfl]
  by_cases h0 : First (grid0.coords t) <;> by_cases h1 : Edge (grid0.coords t)
  · refine BIBase.Entails.trans (sep_mono (inv_any tile c _ _) .rfl) ?_
    rw [rest_eq]; unfold held
    iintro ⟨⟨⟨⟨%s, S0⟩, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c (grid0.coords t) _ _ _ _ _ _ _ _ _ _ _ _ _ _ _ _ _ _ _ _ _ _ _ _ _ _ h0 h1 s (iblk m c 0 t) (iblk m c 1 t) (iblk m c 2 t) (iblk m c 3 t) (iblk m c 4 t) (iblk m c 5 t) (iblk m c 6 t) (iblk m c 7 t) (iblk m c 8 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [S0]; · iexact S0
    isplitl [S1]; · iexact S1
    isplitl [S2]; · iexact S2
    iintro ⟨H0, H1, H2, H3, H4, H5, H6, H7, H8, ⟨%f, H9⟩, S0, S1, S2⟩
    isplitl [S0 S1 S2 Hg]
    · isplitl [S0 S1 S2]
      · isplitl [S0]
        · unfold owns; iexists _; isplitr; swap; · iexact S0
          ipureintro; exact hold.rowsA c t h0 h1 s
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr; swap; · iexact H9
    ipureintro; exact hold.outA c t h0 h1 s f
  · refine BIBase.Entails.trans (sep_mono (inv_any tile c _ _) .rfl) ?_
    rw [rest_eq]; unfold held
    iintro ⟨⟨⟨⟨%s, S0⟩, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runC c (grid0.coords t) _ _ _ _ _ _ _ _ _ _ _ _ _ _ _ _ _ _ _ _ _ _ _ _ _ _ h0 h1 s (iblk m c 0 t) (iblk m c 1 t) (iblk m c 2 t) (iblk m c 3 t) (iblk m c 4 t) (iblk m c 5 t) (iblk m c 6 t) (iblk m c 7 t) (iblk m c 8 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [S0]; · iexact S0
    isplitl [S1]; · iexact S1
    isplitl [S2]; · iexact S2
    iintro ⟨H0, H1, H2, H3, H4, H5, H6, H7, H8, ⟨%f, H9⟩, S0, S1, S2⟩
    isplitl [S0 S1 S2 Hg]
    · isplitl [S0 S1 S2]
      · isplitl [S0]
        · unfold owns; iexists _; isplitr; swap; · iexact S0
          ipureintro; exact hold.rowsC c t h0 h1 s
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr; swap; · iexact H9
    ipureintro; exact hold.outC c t h0 h1 s f
  · have h11 : t.val % 11 ≠ 0 := fun h => h0 ((first_iff t).mpr h)
    rw [inv_pos tile c t.val _ (fun h => h11 (by rw [h])), hold.keep c t h11]; unfold held
    iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB c (grid0.coords t) _ _ _ _ _ _ _ _ _ _ _ _ _ _ _ _ _ _ _ _ _ _ _ _ _ _ h0 h1 (tile c t) (iblk m c 0 t) (iblk m c 1 t) (iblk m c 2 t) (iblk m c 3 t) (iblk m c 4 t) (iblk m c 5 t) (iblk m c 6 t) (iblk m c 7 t) (iblk m c 8 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [S0]; · iexact S0
    isplitl [S1]; · iexact S1
    isplitl [S2]; · iexact S2
    iintro ⟨H0, H1, H2, H3, H4, H5, H6, H7, H8, ⟨%f, H9⟩, S0, S1, S2⟩
    isplitl [S0 S1 S2 Hg]
    · isplitl [S0 S1 S2]
      · isplitl [S0]
        · iexact S0

        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr; swap; · iexact H9
    ipureintro; exact hold.outB c t h0 h1 f
  · have h11 : t.val % 11 ≠ 0 := fun h => h0 ((first_iff t).mpr h)
    rw [inv_pos tile c t.val _ (fun h => h11 (by rw [h])), hold.keep c t h11]; unfold held
    iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runD c (grid0.coords t) _ _ _ _ _ _ _ _ _ _ _ _ _ _ _ _ _ _ _ _ _ _ _ _ _ _ h0 h1 (tile c t) (iblk m c 0 t) (iblk m c 1 t) (iblk m c 2 t) (iblk m c 3 t) (iblk m c 4 t) (iblk m c 5 t) (iblk m c 6 t) (iblk m c 7 t) (iblk m c 8 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [S0]; · iexact S0
    isplitl [S1]; · iexact S1
    isplitl [S2]; · iexact S2
    iintro ⟨H0, H1, H2, H3, H4, H5, H6, H7, H8, ⟨%f, H9⟩, S0, S1, S2⟩
    isplitl [S0 S1 S2 Hg]
    · isplitl [S0 S1 S2]
      · isplitl [S0]
        · iexact S0

        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr; swap; · iexact H9
    ipureintro; exact hold.outD c t h0 h1 f

theorem row (t : Fin cfg0.N) :
    defs₀ (F := F) .tc cfg0.body (cfg0.bodyArgs t (cfg0.slots t)) = bodyAt0 t := by
  unfold defs₀; rw [Defs.onTc_tc]

/-- What the library asks of the body. -/
theorem obligation (hold : Holds m tile blk) (c : Dev nD) :
    BodyObligation (dat m tile blk c) (defs₀ (F := F)) Variants.none () Set.univ := fun t => by
  rw [bigSep_W0, bigSep_W0, row]
  exact triple_restated (body_at m hold c t) rfl .rfl fun _ => .rfl

set_option backward.isDefEq.respectTransparency.types false in
/-- The run of the whole program. -/
theorem run_all (hold : Holds m tile blk) : θ_run defs (onTc (τ := τ) (main (F := F))) (s₀ m ρ)
    (fun r => (Pipeline.FramePost cfgs (fun _ => dat m tile blk) 0 (V m)) r ∧ r.2.sem = fun _ => 0) :=
  Pipeline.θ_run_frame_track_shared (Q' := _) cfgs (fun _ => dat m tile blk) (0 : Fin 1) launch₀0 defs₀ Variants.none m ρ main
    (hbody := fun c => (obligation m hold c).loose) (hq := fun _ _ _ => rfl)
    (howed := fun _ _ => rfl) (V := V m) (hmain := hmain m Variants.none) (hA := start m tile blk) (hin := fun _ => .rfl)
    (hout := fun c => by
      rw [show (dat m tile blk c).Φ (Fin.last cfg0.N) = inv tile c cfg0.N (le_refl _) from rfl]; exact inv_any tile c _ _)

/-- The run without the counters. -/
theorem run_main (hold : Holds m tile blk) : θ_run defs (onTc (τ := τ) (main (F := F))) (s₀ m ρ)
    (Pipeline.FramePost cfgs (fun _ => dat m tile blk) 0 (V m)) :=
  (θ_run defs _ _).mono (fun _ h => h.1) (run_all m ρ hold)

/-- The frame: the arguments end as they began, and every semaphore at zero. -/
theorem frame_all (hold : Holds m tile blk) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (frame_of m ρ (fun _ => dat m tile blk) (start m tile blk) (run_main m ρ hold))
    ((θ_run defs _ _).mono (fun _ h => h.2) (run_all m ρ hold))

end Cert.KernelFfnIdeal.Body

end
-- ==== Proof.OutFfn.lean ====
module

public import proofs.«01_k».proof.Proof.BodyFfn
public import proofs.«01_k».proof.Proof.Rows
public import Idealize.ShloMosaic.Lib.WholeRead
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelFfnIdeal.Value

open Cert.KernelFfnIdeal Cert.KernelFfnIdeal.Gen Cert.KernelFfnIdeal.Body

/-- The gated unit: the sigmoid-weighted gate times the value. -/
def act (g v : EReal) : EReal := g * Ideal.logistic g * v

/-- Three neighbouring rows, each times its tap. -/
def conv (a b c w0 w1 w2 : EReal) : EReal := a * w0 + b * w1 + c * w2

section
variable (a b c p q r : Vec Ideal S128x512 .f32) (u0 u1 u2 w0 w1 w2 : Vec Ideal S1x512 .f32) (k : Fin 128) (n : Fin 512)

theorem pay_0 : k0_pay23 (k0_pay22 a u0 b u1) c u2 p w0 q w1 r w2 (ix3 0 k n)
    = act (conv (a (ix2 k n)) (b (ix2 k n)) (c (ix2 k n)) (u0 (ix2 0 n)) (u1 (ix2 0 n)) (u2 (ix2 0 n)))
        (conv (p (ix2 k n)) (q (ix2 k n)) (r (ix2 k n)) (w0 (ix2 0 n)) (w1 (ix2 0 n)) (w2 (ix2 0 n))) := by
  pointwise [k0_pay23, k0_pay22]
  rfl

theorem pay_1 : k0_pay25 (k0_pay24 a u0) b u1 c u2 p w0 q w1 r w2 (ix3 0 k n)
    = act (conv (a (ix2 k n)) (b (ix2 k n)) (c (ix2 k n)) (u0 (ix2 0 n)) (u1 (ix2 0 n)) (u2 (ix2 0 n)))
        (conv (p (ix2 k n)) (q (ix2 k n)) (r (ix2 k n)) (w0 (ix2 0 n)) (w1 (ix2 0 n)) (w2 (ix2 0 n))) := by
  pointwise [k0_pay25, k0_pay24]
  rfl

theorem pay_2 : k0_pay27 (k0_pay26 a u0 b u1 c u2 p w0 q w1 r w2) (ix3 0 k n)
    = act (conv (a (ix2 k n)) (b (ix2 k n)) (c (ix2 k n)) (u0 (ix2 0 n)) (u1 (ix2 0 n)) (u2 (ix2 0 n)))
        (conv (p (ix2 k n)) (q (ix2 k n)) (r (ix2 k n)) (w0 (ix2 0 n)) (w1 (ix2 0 n)) (w2 (ix2 0 n))) := by
  pointwise [k0_pay27, k0_pay26]
  rfl

theorem pay_3 : k0_pay30 (k0_pay28 a u0 b u1 c u2) (k0_pay29 p w0 q w1) r w2 (ix3 0 k n)
    = act (conv (a (ix2 k n)) (b (ix2 k n)) (c (ix2 k n)) (u0 (ix2 0 n)) (u1 (ix2 0 n)) (u2 (ix2 0 n)))
        (conv (p (ix2 k n)) (q (ix2 k n)) (r (ix2 k n)) (w0 (ix2 0 n)) (w1 (ix2 0 n)) (w2 (ix2 0 n))) := by
  pointwise [k0_pay30, k0_pay28, k0_pay29]
  rfl

theorem pay_4 : k0_pay34 (k0_pay31 a u0 b u1 c u2) (k0_pay32 p w0) q (k0_pay33 w1) r w2 (ix3 0 k n)
    = act (conv (a (ix2 k n)) (b (ix2 k n)) (c (ix2 k n)) (u0 (ix2 0 n)) (u1 (ix2 0 n)) (u2 (ix2 0 n)))
        (conv (p (ix2 k n)) (q (ix2 k n)) (r (ix2 k n)) (w0 (ix2 0 n)) (w1 (ix2 0 n)) (w2 (ix2 0 n))) := by
  pointwise [k0_pay34, k0_pay31, k0_pay32, k0_pay33]
  rfl

theorem pay_5 : k0_pay1 (k0_pay35 a u0 b u1 c u2) p (k0_pay36 w0) q w1 r w2 (ix3 0 k n)
    = act (conv (a (ix2 k n)) (b (ix2 k n)) (c (ix2 k n)) (u0 (ix2 0 n)) (u1 (ix2 0 n)) (u2 (ix2 0 n)))
        (conv (p (ix2 k n)) (q (ix2 k n)) (r (ix2 k n)) (w0 (ix2 0 n)) (w1 (ix2 0 n)) (w2 (ix2 0 n))) := by
  pointwise [k0_pay1, k0_pay35, k0_pay36]
  rfl
end

/-- The mask of the tap above: row `240 + k` and the row before it lie on one side of row 256. -/
theorem same_up (k : Fin 32) (x y : EReal) :
    Scalar.select (IntOp.ori (IntOp.andi (IntOp.cmpi .sge (IntOp.addi 240#32 (BitVec.ofNat 32 k.val)) 256#32)
        (IntOp.cmpi .sge (IntOp.addi (IntOp.addi 240#32 (BitVec.ofNat 32 k.val)) 4294967295#32) 256#32))
      (IntOp.andi (IntOp.cmpi .slt (IntOp.addi 240#32 (BitVec.ofNat 32 k.val)) 256#32)
        (IntOp.cmpi .slt (IntOp.addi (IntOp.addi 240#32 (BitVec.ofNat 32 k.val)) 4294967295#32) 256#32))) x y
      = if k.val = 16 then y else x := by
  fin_cases k <;> rfl

/-- The mask of the tap below: row `240 + k` and the row after it lie on one side of row 256. -/
theorem same_down (k : Fin 32) (x y : EReal) :
    Scalar.select (IntOp.ori (IntOp.andi (IntOp.cmpi .sge (IntOp.addi 240#32 (BitVec.ofNat 32 k.val)) 256#32)
        (IntOp.cmpi .sge (IntOp.addi (IntOp.addi 240#32 (BitVec.ofNat 32 k.val)) 1#32) 256#32))
      (IntOp.andi (IntOp.cmpi .slt (IntOp.addi 240#32 (BitVec.ofNat 32 k.val)) 256#32)
        (IntOp.cmpi .slt (IntOp.addi (IntOp.addi 240#32 (BitVec.ofNat 32 k.val)) 1#32) 256#32))) x y
      = if k.val = 15 then y else x := by
  fin_cases k <;> rfl

theorem pay_e (a b c p q r : Vec Ideal S32x512 .f32) (u0 u1 u2 w0 w1 w2 : Vec Ideal S1x512 .f32) (k : Fin 32) (n : Fin 512) :
    k0_pay2 (k0_pay17 p (Scalar.ofBits .f32 0x00000000#32) k0_pay16 w0 q w1 r w2) (k0_pay18 (k0_pay15 (k0_pay12 a u0 b u1) c k0_pay13 k0_pay14 1#32 u2)) (ix3 0 k n)
    = act (conv (if k.val = 16 then 0 else a (ix2 k n)) (b (ix2 k n)) (if k.val = 15 then 0 else c (ix2 k n)) (u0 (ix2 0 n)) (u1 (ix2 0 n)) (u2 (ix2 0 n)))
        (conv (if k.val = 16 then 0 else p (ix2 k n)) (q (ix2 k n)) (if k.val = 15 then 0 else r (ix2 k n)) (w0 (ix2 0 n)) (w1 (ix2 0 n)) (w2 (ix2 0 n))) := by
  pointwise [k0_pay2, k0_pay17, k0_pay16, k0_pay18, k0_pay15, k0_pay12, k0_pay13, k0_pay14]
  simp only [same_up, same_down]
  unfold act conv
  simp only [ite_mul, zero_mul]

/-- The three taps of a row of the output tile, on the rows of the buffer `G`. -/
def half (G : Vec Ideal S800x512 .f32) (C : Vec Ideal S3x512 .f32) (r : Fin 768) (n : Fin 512) : EReal :=
  conv (G (ix2 ⟨r.val + 15, by omega⟩ n)) (G (ix2 ⟨r.val + 16, by omega⟩ n)) (G (ix2 ⟨r.val + 17, by omega⟩ n)) (C (ix2 0 n)) (C (ix2 1 n)) (C (ix2 2 n))

/-- The three taps where those across row 256 are absent. -/
def halfE (G : Vec Ideal S800x512 .f32) (C : Vec Ideal S3x512 .f32) (r : Fin 768) (n : Fin 512) : EReal :=
  conv (if r.val = 256 then 0 else G (ix2 ⟨r.val + 15, by omega⟩ n)) (G (ix2 ⟨r.val + 16, by omega⟩ n)) (if r.val = 255 then 0 else G (ix2 ⟨r.val + 17, by omega⟩ n))
    (C (ix2 0 n)) (C (ix2 1 n)) (C (ix2 2 n))

/-- The output tile without an edge inside. -/
def plain (G V : Vec Ideal S800x512 .f32) (C D : Vec Ideal S3x512 .f32) (y : S1x768x512.Idx) : EReal :=
  act (half G C (y 1) (y 2)) (half V D (y 1) (y 2))

/-- The output tile with the edge at row 256. -/
def edged (G V : Vec Ideal S800x512 .f32) (C D : Vec Ideal S3x512 .f32) (y : S1x768x512.Idx) : EReal :=
  act (halfE G C (y 1) (y 2)) (halfE V D (y 1) (y 2))

theorem conv_congr {a b c u v w a' b' c' u' v' w' : EReal} (h1 : a = a') (h2 : b = b') (h3 : c = c') (h4 : u = u') (h5 : v = v') (h6 : w = w') :
    conv a b c u v w = conv a' b' c' u' v' w' := by rw [h1, h2, h3, h4, h5, h6]

theorem at_of {m n : ℕ} (G : (⟨2, ![m, n]⟩ : Shape).Idx → EReal) {i j : (⟨2, ![m, n]⟩ : Shape).Idx} (h0 : (i 0).val = (j 0).val) (h1 : (i 1).val = (j 1).val) : G i = G j := by
  congr 1
  funext d
  fin_cases d
  · exact Fin.ext h0
  · exact Fin.ext h1

theorem row_idx {k n : ℕ} (x : (⟨3, ![1, k, n]⟩ : Shape).Idx) : ∃ (a : Fin k) (b : Fin n), x = ix3 0 a b := by
  refine ⟨x 1, x 2, ?_⟩
  funext d
  fin_cases d
  · exact Subsingleton.elim (α := Fin 1) _ _
  · rfl
  · rfl

theorem half_of {o a b c : ℕ} (ia : ∀ d, (![a, 0] : Fin 2 → ℕ) d + S128x512.size d ≤ S800x512.size d) (ib : ∀ d, (![b, 0] : Fin 2 → ℕ) d + S128x512.size d ≤ S800x512.size d)
    (ic : ∀ d, (![c, 0] : Fin 2 → ℕ) d + S128x512.size d ≤ S800x512.size d) (io : ∀ d, (![0, o, 0] : Fin 3 → ℕ) d + (![1, 128, 512] : Fin 3 → ℕ) d ≤ S1x768x512.size d)
    (ha : a = o + 15) (hb : b = o + 16) (hc : c = o + 17) (G : Vec Ideal S800x512 .f32) (C : Vec Ideal S3x512 .f32) (k : Fin 128) (n : Fin 512) :
    conv (View.ld G (Rect.unit (s := S800x512) ![a, 0] S128x512.size ia) (ix2 k n)) (View.ld G (Rect.unit (s := S800x512) ![b, 0] S128x512.size ib) (ix2 k n)) (View.ld G (Rect.unit (s := S800x512) ![c, 0] S128x512.size ic) (ix2 k n))
      (View.ld C (Rect.unit (s := S3x512) ![0, 0] S1x512.size inb_S3x512_S1x512_0_0) (ix2 0 n)) (View.ld C (Rect.unit (s := S3x512) ![1, 0] S1x512.size inb_S3x512_S1x512_1_0) (ix2 0 n)) (View.ld C (Rect.unit (s := S3x512) ![2, 0] S1x512.size inb_S3x512_S1x512_2_0) (ix2 0 n))
    = half G C ((Rect.unit (s := S1x768x512) ![0, o, 0] ![1, 128, 512] io).emb (ix3 0 k n) 1) ((Rect.unit (s := S1x768x512) ![0, o, 0] ![1, 128, 512] io).emb (ix3 0 k n) 2) := by
  subst ha hb hc
  refine conv_congr (at_of G ?_ ?_) (at_of G ?_ ?_) (at_of G ?_ ?_) (at_of C ?_ ?_) (at_of C ?_ ?_) (at_of C ?_ ?_) <;>
    simp [Rect.emb, Rect.unit, View.ld, LoadRect.idx, Rect.toLoadRect, ix3, ix2] <;> omega

theorem halfE_of (io : ∀ d, (![0, 240, 0] : Fin 3 → ℕ) d + (![1, 32, 512] : Fin 3 → ℕ) d ≤ S1x768x512.size d) (G : Vec Ideal S800x512 .f32) (C : Vec Ideal S3x512 .f32) (k : Fin 32) (n : Fin 512) :
    conv (if k.val = 16 then 0 else View.ld G (Rect.unit (s := S800x512) ![255, 0] S32x512.size inb_S800x512_S32x512_255_0) (ix2 k n)) (View.ld G (Rect.unit (s := S800x512) ![256, 0] S32x512.size inb_S800x512_S32x512_256_0) (ix2 k n)) (if k.val = 15 then 0 else View.ld G (Rect.unit (s := S800x512) ![257, 0] S32x512.size inb_S800x512_S32x512_257_0) (ix2 k n))
      (View.ld C (Rect.unit (s := S3x512) ![0, 0] S1x512.size inb_S3x512_S1x512_0_0) (ix2 0 n)) (View.ld C (Rect.unit (s := S3x512) ![1, 0] S1x512.size inb_S3x512_S1x512_1_0) (ix2 0 n)) (View.ld C (Rect.unit (s := S3x512) ![2, 0] S1x512.size inb_S3x512_S1x512_2_0) (ix2 0 n))
    = halfE G C ((Rect.unit (s := S1x768x512) ![0, 240, 0] ![1, 32, 512] io).emb (ix3 0 k n) 1) ((Rect.unit (s := S1x768x512) ![0, 240, 0] ![1, 32, 512] io).emb (ix3 0 k n) 2) := by
  have e : ((Rect.unit (s := S1x768x512) ![0, 240, 0] ![1, 32, 512] io).emb (ix3 0 k n) 1).val = 240 + k.val := by simp [Rect.emb, Rect.unit, View.ld, LoadRect.idx, Rect.toLoadRect, ix3]
  unfold halfE
  refine conv_congr (if_congr (by omega) rfl (at_of G ?_ ?_)) (at_of G ?_ ?_) (if_congr (by omega) rfl (at_of G ?_ ?_)) (at_of C ?_ ?_) (at_of C ?_ ?_) (at_of C ?_ ?_) <;>
    simp [Rect.emb, Rect.unit, View.ld, LoadRect.idx, Rect.toLoadRect, ix3, ix2] <;> omega

theorem fill_read {κ sp} (v : View sig κ sp S800x512 .f32) (r : Rect S800x512) (G : Vec Ideal S800x512 .f32) :
    v.readCov [⟨Rect.unit (s := S800x512) ![0, 0] S800x512.size inb_S800x512_S800x512_0_0, G⟩] r.toLoadRect = View.ld G r :=
  View.readCov_fill _ _ _ _ _ (by decide)

theorem tap_read {κ sp} {a : Memref sig κ sp S3x512 .f32} (ha : a.IsWhole) (r : Rect S3x512) (C : Vec Ideal S3x512 .f32) :
    View.readAt (Elt Ideal) a.view r.toLoadRect (ha.unread C) = View.ld C r := funext (ha.readAt_unread _ _)

/-- The six stores of 128 rows, last first. -/
def mids (arg10 : Memref sig .tc .vmem S3x512 .f32) (harg10 : arg10.IsWhole) (arg11 : Memref sig .tc .vmem S3x512 .f32) (harg11 : arg11.IsWhole) (arg14 arg15 : Memref sig .tc .vmem S800x512 .f32) (SG SV : List (View.Piece (Elt Ideal) S800x512 .f32)) (x7 x8 : Vec Ideal S3x512 .f32) : List (View.Piece (Elt Ideal) S1x768x512 .bf16) := [
  ⟨Rect.unit (s := S1x768x512) ![0, 640, 0] ![1, 128, 512] inb_S1x768x512_S1x128x512_0_640_0, k0_pay1 (k0_pay35 (View.readCov arg14.view SG (Rect.unit (s := S800x512) ![655, 0] S128x512.size inb_S800x512_S128x512_655_0).toLoadRect) (View.readAt (Elt Ideal) arg10.view (Rect.unit (s := S3x512) ![0, 0] S1x512.size inb_S3x512_S1x512_0_0).toLoadRect (harg10.unread x7)) (View.readCov arg14.view SG (Rect.unit (s := S800x512) ![656, 0] S128x512.size inb_S800x512_S128x512_656_0).toLoadRect) (View.readAt (Elt Ideal) arg10.view (Rect.unit (s := S3x512) ![1, 0] S1x512.size inb_S3x512_S1x512_1_0).toLoadRect (harg10.unread x7)) (View.readCov arg14.view SG (Rect.unit (s := S800x512) ![657, 0] S128x512.size inb_S800x512_S128x512_657_0).toLoadRect) (View.readAt (Elt Ideal) arg10.view (Rect.unit (s := S3x512) ![2, 0] S1x512.size inb_S3x512_S1x512_2_0).toLoadRect (harg10.unread x7))) (View.readCov arg15.view SV (Rect.unit (s := S800x512) ![655, 0] S128x512.size inb_S800x512_S128x512_655_0).toLoadRect) (k0_pay36 (View.readAt (Elt Ideal) arg11.view (Rect.unit (s := S3x512) ![0, 0] S1x512.size inb_S3x512_S1x512_0_0).toLoadRect (harg11.unread x8))) (View.readCov arg15.view SV (Rect.unit (s := S800x512) ![656, 0] S128x512.size inb_S800x512_S128x512_656_0).toLoadRect) (View.readAt (Elt Ideal) arg11.view (Rect.unit (s := S3x512) ![1, 0] S1x512.size inb_S3x512_S1x512_1_0).toLoadRect (harg11.unread x8)) (View.readCov arg15.view SV (Rect.unit (s := S800x512) ![657, 0] S128x512.size inb_S800x512_S128x512_657_0).toLoadRect) (View.readAt (Elt Ideal) arg11.view (Rect.unit (s := S3x512) ![2, 0] S1x512.size inb_S3x512_S1x512_2_0).toLoadRect (harg11.unread x8))⟩,
  ⟨Rect.unit (s := S1x768x512) ![0, 512, 0] ![1, 128, 512] inb_S1x768x512_S1x128x512_0_512_0, k0_pay34 (k0_pay31 (View.readCov arg14.view SG (Rect.unit (s := S800x512) ![527, 0] S128x512.size inb_S800x512_S128x512_527_0).toLoadRect) (View.readAt (Elt Ideal) arg10.view (Rect.unit (s := S3x512) ![0, 0] S1x512.size inb_S3x512_S1x512_0_0).toLoadRect (harg10.unread x7)) (View.readCov arg14.view SG (Rect.unit (s := S800x512) ![528, 0] S128x512.size inb_S800x512_S128x512_528_0).toLoadRect) (View.readAt (Elt Ideal) arg10.view (Rect.unit (s := S3x512) ![1, 0] S1x512.size inb_S3x512_S1x512_1_0).toLoadRect (harg10.unread x7)) (View.readCov arg14.view SG (Rect.unit (s := S800x512) ![529, 0] S128x512.size inb_S800x512_S128x512_529_0).toLoadRect) (View.readAt (Elt Ideal) arg10.view (Rect.unit (s := S3x512) ![2, 0] S1x512.size inb_S3x512_S1x512_2_0).toLoadRect (harg10.unread x7))) (k0_pay32 (View.readCov arg15.view SV (Rect.unit (s := S800x512) ![527, 0] S128x512.size inb_S800x512_S128x512_527_0).toLoadRect) (View.readAt (Elt Ideal) arg11.view (Rect.unit (s := S3x512) ![0, 0] S1x512.size inb_S3x512_S1x512_0_0).toLoadRect (harg11.unread x8))) (View.readCov arg15.view SV (Rect.unit (s := S800x512) ![528, 0] S128x512.size inb_S800x512_S128x512_528_0).toLoadRect) (k0_pay33 (View.readAt (Elt Ideal) arg11.view (Rect.unit (s := S3x512) ![1, 0] S1x512.size inb_S3x512_S1x512_1_0).toLoadRect (harg11.unread x8))) (View.readCov arg15.view SV (Rect.unit (s := S800x512) ![529, 0] S128x512.size inb_S800x512_S128x512_529_0).toLoadRect) (View.readAt (Elt Ideal) arg11.view (Rect.unit (s := S3x512) ![2, 0] S1x512.size inb_S3x512_S1x512_2_0).toLoadRect (harg11.unread x8))⟩,
  ⟨Rect.unit (s := S1x768x512) ![0, 384, 0] ![1, 128, 512] inb_S1x768x512_S1x128x512_0_384_0, k0_pay30 (k0_pay28 (View.readCov arg14.view SG (Rect.unit (s := S800x512) ![399, 0] S128x512.size inb_S800x512_S128x512_399_0).toLoadRect) (View.readAt (Elt Ideal) arg10.view (Rect.unit (s := S3x512) ![0, 0] S1x512.size inb_S3x512_S1x512_0_0).toLoadRect (harg10.unread x7)) (View.readCov arg14.view SG (Rect.unit (s := S800x512) ![400, 0] S128x512.size inb_S800x512_S128x512_400_0).toLoadRect) (View.readAt (Elt Ideal) arg10.view (Rect.unit (s := S3x512) ![1, 0] S1x512.size inb_S3x512_S1x512_1_0).toLoadRect (harg10.unread x7)) (View.readCov arg14.view SG (Rect.unit (s := S800x512) ![401, 0] S128x512.size inb_S800x512_S128x512_401_0).toLoadRect) (View.readAt (Elt Ideal) arg10.view (Rect.unit (s := S3x512) ![2, 0] S1x512.size inb_S3x512_S1x512_2_0).toLoadRect (harg10.unread x7))) (k0_pay29 (View.readCov arg15.view SV (Rect.unit (s := S800x512) ![399, 0] S128x512.size inb_S800x512_S128x512_399_0).toLoadRect) (View.readAt (Elt Ideal) arg11.view (Rect.unit (s := S3x512) ![0, 0] S1x512.size inb_S3x512_S1x512_0_0).toLoadRect (harg11.unread x8)) (View.readCov arg15.view SV (Rect.unit (s := S800x512) ![400, 0] S128x512.size inb_S800x512_S128x512_400_0).toLoadRect) (View.readAt (Elt Ideal) arg11.view (Rect.unit (s := S3x512) ![1, 0] S1x512.size inb_S3x512_S1x512_1_0).toLoadRect (harg11.unread x8))) (View.readCov arg15.view SV (Rect.unit (s := S800x512) ![401, 0] S128x512.size inb_S800x512_S128x512_401_0).toLoadRect) (View.readAt (Elt Ideal) arg11.view (Rect.unit (s := S3x512) ![2, 0] S1x512.size inb_S3x512_S1x512_2_0).toLoadRect (harg11.unread x8))⟩,
  ⟨Rect.unit (s := S1x768x512) ![0, 256, 0] ![1, 128, 512] inb_S1x768x512_S1x128x512_0_256_0, k0_pay27 (k0_pay26 (View.readCov arg14.view SG (Rect.unit (s := S800x512) ![271, 0] S128x512.size inb_S800x512_S128x512_271_0).toLoadRect) (View.readAt (Elt Ideal) arg10.view (Rect.unit (s := S3x512) ![0, 0] S1x512.size inb_S3x512_S1x512_0_0).toLoadRect (harg10.unread x7)) (View.readCov arg14.view SG (Rect.unit (s := S800x512) ![272, 0] S128x512.size inb_S800x512_S128x512_272_0).toLoadRect) (View.readAt (Elt Ideal) arg10.view (Rect.unit (s := S3x512) ![1, 0] S1x512.size inb_S3x512_S1x512_1_0).toLoadRect (harg10.unread x7)) (View.readCov arg14.view SG (Rect.unit (s := S800x512) ![273, 0] S128x512.size inb_S800x512_S128x512_273_0).toLoadRect) (View.readAt (Elt Ideal) arg10.view (Rect.unit (s := S3x512) ![2, 0] S1x512.size inb_S3x512_S1x512_2_0).toLoadRect (harg10.unread x7)) (View.readCov arg15.view SV (Rect.unit (s := S800x512) ![271, 0] S128x512.size inb_S800x512_S128x512_271_0).toLoadRect) (View.readAt (Elt Ideal) arg11.view (Rect.unit (s := S3x512) ![0, 0] S1x512.size inb_S3x512_S1x512_0_0).toLoadRect (harg11.unread x8)) (View.readCov arg15.view SV (Rect.unit (s := S800x512) ![272, 0] S128x512.size inb_S800x512_S128x512_272_0).toLoadRect) (View.readAt (Elt Ideal) arg11.view (Rect.unit (s := S3x512) ![1, 0] S1x512.size inb_S3x512_S1x512_1_0).toLoadRect (harg11.unread x8)) (View.readCov arg15.view SV (Rect.unit (s := S800x512) ![273, 0] S128x512.size inb_S800x512_S128x512_273_0).toLoadRect) (View.readAt (Elt Ideal) arg11.view (Rect.unit (s := S3x512) ![2, 0] S1x512.size inb_S3x512_S1x512_2_0).toLoadRect (harg11.unread x8)))⟩,
  ⟨Rect.unit (s := S1x768x512) ![0, 128, 0] ![1, 128, 512] inb_S1x768x512_S1x128x512_0_128_0, k0_pay25 (k0_pay24 (View.readCov arg14.view SG (Rect.unit (s := S800x512) ![143, 0] S128x512.size inb_S800x512_S128x512_143_0).toLoadRect) (View.readAt (Elt Ideal) arg10.view (Rect.unit (s := S3x512) ![0, 0] S1x512.size inb_S3x512_S1x512_0_0).toLoadRect (harg10.unread x7))) (View.readCov arg14.view SG (Rect.unit (s := S800x512) ![144, 0] S128x512.size inb_S800x512_S128x512_144_0).toLoadRect) (View.readAt (Elt Ideal) arg10.view (Rect.unit (s := S3x512) ![1, 0] S1x512.size inb_S3x512_S1x512_1_0).toLoadRect (harg10.unread x7)) (View.readCov arg14.view SG (Rect.unit (s := S800x512) ![145, 0] S128x512.size inb_S800x512_S128x512_145_0).toLoadRect) (View.readAt (Elt Ideal) arg10.view (Rect.unit (s := S3x512) ![2, 0] S1x512.size inb_S3x512_S1x512_2_0).toLoadRect (harg10.unread x7)) (View.readCov arg15.view SV (Rect.unit (s := S800x512) ![143, 0] S128x512.size inb_S800x512_S128x512_143_0).toLoadRect) (View.readAt (Elt Ideal) arg11.view (Rect.unit (s := S3x512) ![0, 0] S1x512.size inb_S3x512_S1x512_0_0).toLoadRect (harg11.unread x8)) (View.readCov arg15.view SV (Rect.unit (s := S800x512) ![144, 0] S128x512.size inb_S800x512_S128x512_144_0).toLoadRect) (View.readAt (Elt Ideal) arg11.view (Rect.unit (s := S3x512) ![1, 0] S1x512.size inb_S3x512_S1x512_1_0).toLoadRect (harg11.unread x8)) (View.readCov arg15.view SV (Rect.unit (s := S800x512) ![145, 0] S128x512.size inb_S800x512_S128x512_145_0).toLoadRect) (View.readAt (Elt Ideal) arg11.view (Rect.unit (s := S3x512) ![2, 0] S1x512.size inb_S3x512_S1x512_2_0).toLoadRect (harg11.unread x8))⟩,
  ⟨Rect.unit (s := S1x768x512) ![0, 0, 0] ![1, 128, 512] inb_S1x768x512_S1x128x512_0_0_0, k0_pay23 (k0_pay22 (View.readCov arg14.view SG (Rect.unit (s := S800x512) ![15, 0] S128x512.size inb_S800x512_S128x512_15_0).toLoadRect) (View.readAt (Elt Ideal) arg10.view (Rect.unit (s := S3x512) ![0, 0] S1x512.size inb_S3x512_S1x512_0_0).toLoadRect (harg10.unread x7)) (View.readCov arg14.view SG (Rect.unit (s := S800x512) ![16, 0] S128x512.size inb_S800x512_S128x512_16_0).toLoadRect) (View.readAt (Elt Ideal) arg10.view (Rect.unit (s := S3x512) ![1, 0] S1x512.size inb_S3x512_S1x512_1_0).toLoadRect (harg10.unread x7))) (View.readCov arg14.view SG (Rect.unit (s := S800x512) ![17, 0] S128x512.size inb_S800x512_S128x512_17_0).toLoadRect) (View.readAt (Elt Ideal) arg10.view (Rect.unit (s := S3x512) ![2, 0] S1x512.size inb_S3x512_S1x512_2_0).toLoadRect (harg10.unread x7)) (View.readCov arg15.view SV (Rect.unit (s := S800x512) ![15, 0] S128x512.size inb_S800x512_S128x512_15_0).toLoadRect) (View.readAt (Elt Ideal) arg11.view (Rect.unit (s := S3x512) ![0, 0] S1x512.size inb_S3x512_S1x512_0_0).toLoadRect (harg11.unread x8)) (View.readCov arg15.view SV (Rect.unit (s := S800x512) ![16, 0] S128x512.size inb_S800x512_S128x512_16_0).toLoadRect) (View.readAt (Elt Ideal) arg11.view (Rect.unit (s := S3x512) ![1, 0] S1x512.size inb_S3x512_S1x512_1_0).toLoadRect (harg11.unread x8)) (View.readCov arg15.view SV (Rect.unit (s := S800x512) ![17, 0] S128x512.size inb_S800x512_S128x512_17_0).toLoadRect) (View.readAt (Elt Ideal) arg11.view (Rect.unit (s := S3x512) ![2, 0] S1x512.size inb_S3x512_S1x512_2_0).toLoadRect (harg11.unread x8))⟩]

/-- The store of the 32 rows around the edge. -/
def mide (arg10 : Memref sig .tc .vmem S3x512 .f32) (harg10 : arg10.IsWhole) (arg11 : Memref sig .tc .vmem S3x512 .f32) (harg11 : arg11.IsWhole) (arg14 arg15 : Memref sig .tc .vmem S800x512 .f32) (SG SV : List (View.Piece (Elt Ideal) S800x512 .f32)) (x7 x8 : Vec Ideal S3x512 .f32) : View.Piece (Elt Ideal) S1x768x512 .bf16 :=
  ⟨Rect.unit (s := S1x768x512) ![0, 240, 0] ![1, 32, 512] inb_S1x768x512_S1x32x512_0_240_0, k0_pay2 (k0_pay17 (View.readCov arg15.view SV (Rect.unit (s := S800x512) ![255, 0] S32x512.size inb_S800x512_S32x512_255_0).toLoadRect) (Scalar.ofBits .f32 0x00000000#32) k0_pay16 (View.readAt (Elt Ideal) arg11.view (Rect.unit (s := S3x512) ![0, 0] S1x512.size inb_S3x512_S1x512_0_0).toLoadRect (harg11.unread x8)) (View.readCov arg15.view SV (Rect.unit (s := S800x512) ![256, 0] S32x512.size inb_S800x512_S32x512_256_0).toLoadRect) (View.readAt (Elt Ideal) arg11.view (Rect.unit (s := S3x512) ![1, 0] S1x512.size inb_S3x512_S1x512_1_0).toLoadRect (harg11.unread x8)) (View.readCov arg15.view SV (Rect.unit (s := S800x512) ![257, 0] S32x512.size inb_S800x512_S32x512_257_0).toLoadRect) (View.readAt (Elt Ideal) arg11.view (Rect.unit (s := S3x512) ![2, 0] S1x512.size inb_S3x512_S1x512_2_0).toLoadRect (harg11.unread x8))) (k0_pay18 (k0_pay15 (k0_pay12 (View.readCov arg14.view SG (Rect.unit (s := S800x512) ![255, 0] S32x512.size inb_S800x512_S32x512_255_0).toLoadRect) (View.readAt (Elt Ideal) arg10.view (Rect.unit (s := S3x512) ![0, 0] S1x512.size inb_S3x512_S1x512_0_0).toLoadRect (harg10.unread x7)) (View.readCov arg14.view SG (Rect.unit (s := S800x512) ![256, 0] S32x512.size inb_S800x512_S32x512_256_0).toLoadRect) (View.readAt (Elt Ideal) arg10.view (Rect.unit (s := S3x512) ![1, 0] S1x512.size inb_S3x512_S1x512_1_0).toLoadRect (harg10.unread x7))) (View.readCov arg14.view SG (Rect.unit (s := S800x512) ![257, 0] S32x512.size inb_S800x512_S32x512_257_0).toLoadRect) k0_pay13 k0_pay14 1#32 (View.readAt (Elt Ideal) arg10.view (Rect.unit (s := S3x512) ![2, 0] S1x512.size inb_S3x512_S1x512_2_0).toLoadRect (harg10.unread x7))))⟩

section
variable (arg10 : Memref sig .tc .vmem S3x512 .f32) (harg10 : arg10.IsWhole) (arg11 : Memref sig .tc .vmem S3x512 .f32) (harg11 : arg11.IsWhole) (arg14 arg15 : Memref sig .tc .vmem S800x512 .f32) (SG SV : List (View.Piece (Elt Ideal) S800x512 .f32)) (x7 x8 : Vec Ideal S3x512 .f32) (G V : Vec Ideal S800x512 .f32)
  (hG : SG = [⟨Rect.unit (s := S800x512) ![0, 0] S800x512.size inb_S800x512_S800x512_0_0, G⟩])
  (hV : SV = [⟨Rect.unit (s := S800x512) ![0, 0] S800x512.size inb_S800x512_S800x512_0_0, V⟩])

include hG hV

theorem mids_of : ∀ p ∈ mids arg10 harg10 arg11 harg11 arg14 arg15 SG SV x7 x8, ∀ x : p.1.shape.Idx, p.2 x = plain G V x7 x8 (p.1.emb x) := by
  subst hG hV
  intro p hp
  simp only [mids, List.mem_cons, List.not_mem_nil, or_false] at hp
  rcases hp with rfl | rfl | rfl | rfl | rfl | rfl
  · intro x
    obtain ⟨k, n, rfl⟩ : ∃ (k : Fin 128) (n : Fin 512), x = ix3 0 k n := row_idx x
    refine (pay_5 _ _ _ _ _ _ _ _ _ _ _ _ k n).trans ?_
    exact congrArg₂ act ((conv_congr (congrFun (fill_read _ _ _) _) (congrFun (fill_read _ _ _) _) (congrFun (fill_read _ _ _) _) (congrFun (tap_read harg10 _ _) _) (congrFun (tap_read harg10 _ _) _) (congrFun (tap_read harg10 _ _) _)).trans (half_of _ _ _ inb_S1x768x512_S1x128x512_0_640_0 rfl rfl rfl _ _ k n)) ((conv_congr (congrFun (fill_read _ _ _) _) (congrFun (fill_read _ _ _) _) (congrFun (fill_read _ _ _) _) (congrFun (tap_read harg11 _ _) _) (congrFun (tap_read harg11 _ _) _) (congrFun (tap_read harg11 _ _) _)).trans (half_of _ _ _ inb_S1x768x512_S1x128x512_0_640_0 rfl rfl rfl _ _ k n))
  · intro x
    obtain ⟨k, n, rfl⟩ : ∃ (k : Fin 128) (n : Fin 512), x = ix3 0 k n := row_idx x
    refine (pay_4 _ _ _ _ _ _ _ _ _ _ _ _ k n).trans ?_
    exact congrArg₂ act ((conv_congr (congrFun (fill_read _ _ _) _) (congrFun (fill_read _ _ _) _) (congrFun (fill_read _ _ _) _) (congrFun (tap_read harg10 _ _) _) (congrFun (tap_read harg10 _ _) _) (congrFun (tap_read harg10 _ _) _)).trans (half_of _ _ _ inb_S1x768x512_S1x128x512_0_512_0 rfl rfl rfl _ _ k n)) ((conv_congr (congrFun (fill_read _ _ _) _) (congrFun (fill_read _ _ _) _) (congrFun (fill_read _ _ _) _) (congrFun (tap_read harg11 _ _) _) (congrFun (tap_read harg11 _ _) _) (congrFun (tap_read harg11 _ _) _)).trans (half_of _ _ _ inb_S1x768x512_S1x128x512_0_512_0 rfl rfl rfl _ _ k n))
  · intro x
    obtain ⟨k, n, rfl⟩ : ∃ (k : Fin 128) (n : Fin 512), x = ix3 0 k n := row_idx x
    refine (pay_3 _ _ _ _ _ _ _ _ _ _ _ _ k n).trans ?_
    exact congrArg₂ act ((conv_congr (congrFun (fill_read _ _ _) _) (congrFun (fill_read _ _ _) _) (congrFun (fill_read _ _ _) _) (congrFun (tap_read harg10 _ _) _) (congrFun (tap_read harg10 _ _) _) (congrFun (tap_read harg10 _ _) _)).trans (half_of _ _ _ inb_S1x768x512_S1x128x512_0_384_0 rfl rfl rfl _ _ k n)) ((conv_congr (congrFun (fill_read _ _ _) _) (congrFun (fill_read _ _ _) _) (congrFun (fill_read _ _ _) _) (congrFun (tap_read harg11 _ _) _) (congrFun (tap_read harg11 _ _) _) (congrFun (tap_read harg11 _ _) _)).trans (half_of _ _ _ inb_S1x768x512_S1x128x512_0_384_0 rfl rfl rfl _ _ k n))
  · intro x
    obtain ⟨k, n, rfl⟩ : ∃ (k : Fin 128) (n : Fin 512), x = ix3 0 k n := row_idx x
    refine (pay_2 _ _ _ _ _ _ _ _ _ _ _ _ k n).trans ?_
    exact congrArg₂ act ((conv_congr (congrFun (fill_read _ _ _) _) (congrFun (fill_read _ _ _) _) (congrFun (fill_read _ _ _) _) (congrFun (tap_read harg10 _ _) _) (congrFun (tap_read harg10 _ _) _) (congrFun (tap_read harg10 _ _) _)).trans (half_of _ _ _ inb_S1x768x512_S1x128x512_0_256_0 rfl rfl rfl _ _ k n)) ((conv_congr (congrFun (fill_read _ _ _) _) (congrFun (fill_read _ _ _) _) (congrFun (fill_read _ _ _) _) (congrFun (tap_read harg11 _ _) _) (congrFun (tap_read harg11 _ _) _) (congrFun (tap_read harg11 _ _) _)).trans (half_of _ _ _ inb_S1x768x512_S1x128x512_0_256_0 rfl rfl rfl _ _ k n))
  · intro x
    obtain ⟨k, n, rfl⟩ : ∃ (k : Fin 128) (n : Fin 512), x = ix3 0 k n := row_idx x
    refine (pay_1 _ _ _ _ _ _ _ _ _ _ _ _ k n).trans ?_
    exact congrArg₂ act ((conv_congr (congrFun (fill_read _ _ _) _) (congrFun (fill_read _ _ _) _) (congrFun (fill_read _ _ _) _) (congrFun (tap_read harg10 _ _) _) (congrFun (tap_read harg10 _ _) _) (congrFun (tap_read harg10 _ _) _)).trans (half_of _ _ _ inb_S1x768x512_S1x128x512_0_128_0 rfl rfl rfl _ _ k n)) ((conv_congr (congrFun (fill_read _ _ _) _) (congrFun (fill_read _ _ _) _) (congrFun (fill_read _ _ _) _) (congrFun (tap_read harg11 _ _) _) (congrFun (tap_read harg11 _ _) _) (congrFun (tap_read harg11 _ _) _)).trans (half_of _ _ _ inb_S1x768x512_S1x128x512_0_128_0 rfl rfl rfl _ _ k n))
  · intro x
    obtain ⟨k, n, rfl⟩ : ∃ (k : Fin 128) (n : Fin 512), x = ix3 0 k n := row_idx x
    refine (pay_0 _ _ _ _ _ _ _ _ _ _ _ _ k n).trans ?_
    exact congrArg₂ act ((conv_congr (congrFun (fill_read _ _ _) _) (congrFun (fill_read _ _ _) _) (congrFun (fill_read _ _ _) _) (congrFun (tap_read harg10 _ _) _) (congrFun (tap_read harg10 _ _) _) (congrFun (tap_read harg10 _ _) _)).trans (half_of _ _ _ inb_S1x768x512_S1x128x512_0_0_0 rfl rfl rfl _ _ k n)) ((conv_congr (congrFun (fill_read _ _ _) _) (congrFun (fill_read _ _ _) _) (congrFun (fill_read _ _ _) _) (congrFun (tap_read harg11 _ _) _) (congrFun (tap_read harg11 _ _) _) (congrFun (tap_read harg11 _ _) _)).trans (half_of _ _ _ inb_S1x768x512_S1x128x512_0_0_0 rfl rfl rfl _ _ k n))

theorem mide_of (x : (mide arg10 harg10 arg11 harg11 arg14 arg15 SG SV x7 x8).1.shape.Idx) : (mide arg10 harg10 arg11 harg11 arg14 arg15 SG SV x7 x8).2 x = edged G V x7 x8 ((mide arg10 harg10 arg11 harg11 arg14 arg15 SG SV x7 x8).1.emb x) := by
  subst hG hV
  obtain ⟨k, n, rfl⟩ : ∃ (k : Fin 32) (n : Fin 512), x = (ix3 0 k n : S1x32x512.Idx) := row_idx x
  refine (pay_e _ _ _ _ _ _ _ _ _ _ _ _ k n).trans ?_
  exact congrArg₂ act ((conv_congr (if_congr Iff.rfl rfl (congrFun (fill_read _ _ _) _)) (congrFun (fill_read _ _ _) _) (if_congr Iff.rfl rfl (congrFun (fill_read _ _ _) _)) (congrFun (tap_read harg10 _ _) _) (congrFun (tap_read harg10 _ _) _) (congrFun (tap_read harg10 _ _) _)).trans (halfE_of inb_S1x768x512_S1x32x512_0_240_0 _ _ k n)) ((conv_congr (if_congr Iff.rfl rfl (congrFun (fill_read _ _ _) _)) (congrFun (fill_read _ _ _) _) (if_congr Iff.rfl rfl (congrFun (fill_read _ _ _) _)) (congrFun (tap_read harg11 _ _) _) (congrFun (tap_read harg11 _ _) _) (congrFun (tap_read harg11 _ _) _)).trans (halfE_of inb_S1x768x512_S1x32x512_0_240_0 _ _ k n))

theorem mids_read {κ sp} (v : View sig κ sp S1x768x512 .bf16) (f) : v.read (Elt Ideal) (v.writes (Elt Ideal) f (mids arg10 harg10 arg11 harg11 arg14 arg15 SG SV x7 x8)) = plain G V x7 x8 := by
  funext y
  refine View.read_writes_apply_of_pieces _ _ _ _ (mids_of arg10 harg10 arg11 harg11 arg14 arg15 SG SV x7 x8 G V hG hV) y ?_
  have h1 := (y 1).isLt
  have h2 := (y 2).isLt
  have h0 := (y 0).isLt
  simp at h0 h1 h2
  simp only [mids, List.exists_mem_cons_iff, List.not_mem_nil, Rect.mem_set_unit, false_and, exists_false, or_false, exists_eq_or_imp, List.mem_cons, exists_eq_left, Fin.forall_fin_succ]
  simp
  omega

theorem mide_read {κ sp} (v : View sig κ sp S1x768x512 .bf16) (f) : v.read (Elt Ideal) (v.writes (Elt Ideal) f (mide arg10 harg10 arg11 harg11 arg14 arg15 SG SV x7 x8 :: mids arg10 harg10 arg11 harg11 arg14 arg15 SG SV x7 x8)) = edged G V x7 x8 := by
  funext y
  by_cases hy : y ∈ (mide arg10 harg10 arg11 harg11 arg14 arg15 SG SV x7 x8).1.set
  · obtain ⟨x, rfl⟩ := (mide arg10 harg10 arg11 harg11 arg14 arg15 SG SV x7 x8).1.exists_idx_of_mem hy
    refine (View.read_writes_cons_emb _ _ _ _ _ x).trans (mide_of arg10 harg10 arg11 harg11 arg14 arg15 SG SV x7 x8 G V hG hV x)
  · rw [View.read_writes_cons_miss _ _ _ _ _ hy, mids_read arg10 harg10 arg11 harg11 arg14 arg15 SG SV x7 x8 G V hG hV]
    have h1 := (y 1).isLt
    have h2 := (y 2).isLt
    have h0 := (y 0).isLt
    simp at h0 h1 h2
    have hn : (y 1).val < 240 ∨ 272 ≤ (y 1).val := by
      by_contra hc
      refine hy ?_
      rw [mide, Rect.mem_set_unit]
      simp only [Fin.forall_fin_succ]
      simp
      omega
    unfold plain edged half halfE
    rw [if_neg (by omega), if_neg (by omega), if_neg (by omega), if_neg (by omega)]
end

theorem runB_pieces (c : Dev nD) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (h0 : ¬First i) (h1 : Edge i) (s : Vec Ideal S800x2048 .bf16) (x0 : Vec Ideal S1x768x2048 .f32) (x1 : Vec Ideal S1x16x2048 .f32) (x2 : Vec Ideal S1x16x2048 .f32) (x3 : Vec Ideal S1x4x2048 .f32) (x4 : Vec Ideal S1x2048 .f32) (x5 : Vec Ideal S2048x512 .bf16) (x6 : Vec Ideal S2048x512 .bf16) (x7 : Vec Ideal S3x512 .f32) (x8 : Vec Ideal S3x512 .f32) :
  (runB c i arg3 harg3 arg4 harg4 arg5 harg5 arg6 harg6 arg7 harg7 arg8 harg8 arg9 harg9 arg10 harg10 arg11 harg11 arg12 harg12 arg13 harg13 arg14 harg14 arg15 harg15 h0 h1 s x0 x1 x2 x3 x4 x5 x6 x7 x8).1 = mide arg10 harg10 arg11 harg11 arg14 arg15 [⟨Rect.unit (s := S800x512) ![0, 0] S800x512.size inb_S800x512_S800x512_0_0, k0_pay20 (View.readAt (Elt Ideal) arg13.view (Rect.unit (s := S800x2048) ![0, 0] S800x2048.size inb_S800x2048_S800x2048_0_0).toLoadRect (harg13.unread s)) (View.readAt (Elt Ideal) arg8.view (Rect.unit (s := S2048x512) ![0, 0] S2048x512.size inb_S2048x512_S2048x512_0_0).toLoadRect (harg8.unread x5))⟩] [⟨Rect.unit (s := S800x512) ![0, 0] S800x512.size inb_S800x512_S800x512_0_0, k0_pay21 (View.readAt (Elt Ideal) arg13.view (Rect.unit (s := S800x2048) ![0, 0] S800x2048.size inb_S800x2048_S800x2048_0_0).toLoadRect (harg13.unread s)) (View.readAt (Elt Ideal) arg9.view (Rect.unit (s := S2048x512) ![0, 0] S2048x512.size inb_S2048x512_S2048x512_0_0).toLoadRect (harg9.unread x6))⟩] x7 x8 :: mids arg10 harg10 arg11 harg11 arg14 arg15 [⟨Rect.unit (s := S800x512) ![0, 0] S800x512.size inb_S800x512_S800x512_0_0, k0_pay20 (View.readAt (Elt Ideal) arg13.view (Rect.unit (s := S800x2048) ![0, 0] S800x2048.size inb_S800x2048_S800x2048_0_0).toLoadRect (harg13.unread s)) (View.readAt (Elt Ideal) arg8.view (Rect.unit (s := S2048x512) ![0, 0] S2048x512.size inb_S2048x512_S2048x512_0_0).toLoadRect (harg8.unread x5))⟩] [⟨Rect.unit (s := S800x512) ![0, 0] S800x512.size inb_S800x512_S800x512_0_0, k0_pay21 (View.readAt (Elt Ideal) arg13.view (Rect.unit (s := S800x2048) ![0, 0] S800x2048.size inb_S800x2048_S800x2048_0_0).toLoadRect (harg13.unread s)) (View.readAt (Elt Ideal) arg9.view (Rect.unit (s := S2048x512) ![0, 0] S2048x512.size inb_S2048x512_S2048x512_0_0).toLoadRect (harg9.unread x6))⟩] x7 x8 := by
  unfold runB
  rfl

theorem runD_pieces (c : Dev nD) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (h0 : ¬First i) (h1 : ¬Edge i) (s : Vec Ideal S800x2048 .bf16) (x0 : Vec Ideal S1x768x2048 .f32) (x1 : Vec Ideal S1x16x2048 .f32) (x2 : Vec Ideal S1x16x2048 .f32) (x3 : Vec Ideal S1x4x2048 .f32) (x4 : Vec Ideal S1x2048 .f32) (x5 : Vec Ideal S2048x512 .bf16) (x6 : Vec Ideal S2048x512 .bf16) (x7 : Vec Ideal S3x512 .f32) (x8 : Vec Ideal S3x512 .f32) :
  (runD c i arg3 harg3 arg4 harg4 arg5 harg5 arg6 harg6 arg7 harg7 arg8 harg8 arg9 harg9 arg10 harg10 arg11 harg11 arg12 harg12 arg13 harg13 arg14 harg14 arg15 harg15 h0 h1 s x0 x1 x2 x3 x4 x5 x6 x7 x8).1 = mids arg10 harg10 arg11 harg11 arg14 arg15 [⟨Rect.unit (s := S800x512) ![0, 0] S800x512.size inb_S800x512_S800x512_0_0, k0_pay20 (View.readAt (Elt Ideal) arg13.view (Rect.unit (s := S800x2048) ![0, 0] S800x2048.size inb_S800x2048_S800x2048_0_0).toLoadRect (harg13.unread s)) (View.readAt (Elt Ideal) arg8.view (Rect.unit (s := S2048x512) ![0, 0] S2048x512.size inb_S2048x512_S2048x512_0_0).toLoadRect (harg8.unread x5))⟩] [⟨Rect.unit (s := S800x512) ![0, 0] S800x512.size inb_S800x512_S800x512_0_0, k0_pay21 (View.readAt (Elt Ideal) arg13.view (Rect.unit (s := S800x2048) ![0, 0] S800x2048.size inb_S800x2048_S800x2048_0_0).toLoadRect (harg13.unread s)) (View.readAt (Elt Ideal) arg9.view (Rect.unit (s := S2048x512) ![0, 0] S2048x512.size inb_S2048x512_S2048x512_0_0).toLoadRect (harg9.unread x6))⟩] x7 x8 := by
  unfold runD
  rfl

end Cert.KernelFfnIdeal.Value

end
-- ==== Proof.RowsFfn.lean ====
module

public import proofs.«01_k».proof.Proof.BodyFfn
public import proofs.«01_k».proof.Proof.OutFfn
public import proofs.«01_k».proof.Proof.Rows
public import Idealize.ShloMosaic.Lib.WholeRead
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelFfnIdeal.Value

open Cert.KernelFfnIdeal Cert.KernelFfnIdeal.Gen Cert.KernelFfnIdeal.Body

/-- The rows of one tile in the buffer: sixteen before it, its 768, sixteen after it; those outside the array are zero. -/
def rows (p : ℕ) (w : Vec Ideal S1x2048 .f32) (s0 s1 b0 b1 : Vec Ideal S1x1x2048 .f32) (X : Vec Ideal S1x768x2048 .f32) (Y Z : Vec Ideal S1x16x2048 .f32)
    (r : Fin 800) (k : Fin 2048) : EReal :=
  if h : r.val < 16 then
    (if p = 0 then 0 else Rows.out (fun k => Y (ix3 0 ⟨r.val, h⟩ k)) (Y (ix3 0 ⟨r.val, h⟩ k)) (w (ix2 0 k)) (s0 (ix3 0 0 k)) (b0 (ix3 0 0 k)))
  else if h' : r.val < 784 then
    (if p * 768 + (r.val - 16) < 256 then
      Rows.out (fun k => X (ix3 0 ⟨r.val - 16, by omega⟩ k)) (X (ix3 0 ⟨r.val - 16, by omega⟩ k)) (w (ix2 0 k)) (s1 (ix3 0 0 k)) (b1 (ix3 0 0 k))
    else
      Rows.out (fun k => X (ix3 0 ⟨r.val - 16, by omega⟩ k)) (X (ix3 0 ⟨r.val - 16, by omega⟩ k)) (w (ix2 0 k)) (s0 (ix3 0 0 k)) (b0 (ix3 0 0 k)))
  else (if p = 2 then 0 else Rows.out (fun k => Z (ix3 0 ⟨r.val - 784, by omega⟩ k)) (Z (ix3 0 ⟨r.val - 784, by omega⟩ k)) (w (ix2 0 k)) (s0 (ix3 0 0 k)) (b0 (ix3 0 0 k)))

theorem rows_hi (p : ℕ) (w : Vec Ideal S1x2048 .f32) (s0 s1 b0 b1 : Vec Ideal S1x1x2048 .f32) (X : Vec Ideal S1x768x2048 .f32) (Y Z : Vec Ideal S1x16x2048 .f32)
    (a : Fin 16) (h : 784 + a.val < 800) (k : Fin 2048) : rows p w s0 s1 b0 b1 X Y Z ⟨784 + a.val, h⟩ k
      = if p = 2 then 0 else Rows.out (fun k => Z (ix3 0 a k)) (Z (ix3 0 a k)) (w (ix2 0 k)) (s0 (ix3 0 0 k)) (b0 (ix3 0 0 k)) := by
  unfold rows
  rw [dif_neg (show ¬ 784 + a.val < 16 by omega), dif_neg (show ¬ 784 + a.val < 784 by omega)]
  simp only [Nat.add_sub_cancel_left]

theorem rows_lo (p : ℕ) (w : Vec Ideal S1x2048 .f32) (s0 s1 b0 b1 : Vec Ideal S1x1x2048 .f32) (X : Vec Ideal S1x768x2048 .f32) (Y Z : Vec Ideal S1x16x2048 .f32)
    (a : Fin 16) (h : a.val < 800) (k : Fin 2048) : rows p w s0 s1 b0 b1 X Y Z ⟨a.val, h⟩ k
      = if p = 0 then 0 else Rows.out (fun k => Y (ix3 0 a k)) (Y (ix3 0 a k)) (w (ix2 0 k)) (s0 (ix3 0 0 k)) (b0 (ix3 0 0 k)) := by
  unfold rows
  rw [dif_pos (show a.val < 16 by omega)]

theorem off1_val : ∀ k : Fin k0_t1_loop.trips, k0_off1 k = ![0, 16 * k.val, 0] := by decide +kernel

theorem off2_val : ∀ k : Fin k0_t1_loop.trips, k0_off2 k = ![16 + 16 * k.val, 0] := by decide +kernel

/-- A choice by whether row `16 k + j` of tile `p` of 768 rows lies before row 256. -/
theorem sel (p k j : ℕ) (hp : p < 3) (hk : k < 48) (hj : j < 16) (a b : EReal) :
    Scalar.select (IntOp.cmpi .slt
      (IntOp.addi (Scalar.addi (Scalar.muli (BitVec.ofNat 32 p) 768#32) (Scalar.muli (Scf.iv 0#32 1#32 k) 16#32))
        (BitVec.ofNat 32 j)) 256#32) a b
      = if p * 768 + (16 * k + j) < 256 then a else b := by
  rw [← Words.sel_lt p 768 (16 * k + j) 256 (by omega) (by norm_num)]
  congr 2
  refine (BitVec.add_assoc _ _ _).trans (congrArg (fun z : BitVec 32 => Scalar.muli (BitVec.ofNat 32 p) 768#32 + z) ?_)
  rw [BitVec.ofNat_add, BitVec.ofNat_mul]
  refine congrArg (fun z : BitVec 32 => z + BitVec.ofNat 32 j) ?_
  show (0#32 + BitVec.ofNat 32 k * 1#32) * 16#32 = _
  rw [BitVec.zero_add, BitVec.mul_one, BitVec.mul_comm]

/-- The rows before the tile: kept unless the tile is the first, and then all of them lie behind row 256. -/
theorem sel_prev (p j : ℕ) (hp : p < 3) (hj : j < 16) (g a b a' b' z : EReal) :
    Scalar.select (Scalar.andi (Scalar.cmpi .ne (Scalar.muli (BitVec.ofNat 32 p) 768#32) 0#32) (Scalar.cmpi .ne (Scalar.muli (BitVec.ofNat 32 p) 768#32) 256#32))
      (g * Scalar.select (IntOp.cmpi .slt (IntOp.addi (Scalar.addi (Scalar.subi (Scalar.muli (BitVec.ofNat 32 p) 768#32) 16#32) (Scalar.muli 0#32 16#32)) (BitVec.ofNat 32 j)) 256#32) a b
        + Scalar.select (IntOp.cmpi .slt (IntOp.addi (Scalar.addi (Scalar.subi (Scalar.muli (BitVec.ofNat 32 p) 768#32) 16#32) (Scalar.muli 0#32 16#32)) (BitVec.ofNat 32 j)) 256#32) a' b') z
      = if p = 0 then z else g * b + b' := by
  interval_cases p
  · rfl
  · interval_cases j <;> rfl
  · interval_cases j <;> rfl

/-- The rows behind the tile: kept unless the tile is the last, and all of them lie behind row 256. -/
theorem sel_next (p j : ℕ) (hp : p < 3) (hj : j < 16) (g a b a' b' z : EReal) :
    Scalar.select (Scalar.andi (Scalar.cmpi .ne (Scalar.addi (Scalar.muli (BitVec.ofNat 32 p) 768#32) 768#32) 2304#32) (Scalar.cmpi .ne (Scalar.addi (Scalar.muli (BitVec.ofNat 32 p) 768#32) 768#32) 256#32))
      (g * Scalar.select (IntOp.cmpi .slt (IntOp.addi (Scalar.addi (Scalar.addi (Scalar.muli (BitVec.ofNat 32 p) 768#32) 768#32) (Scalar.muli 0#32 16#32)) (BitVec.ofNat 32 j)) 256#32) a b
        + Scalar.select (IntOp.cmpi .slt (IntOp.addi (Scalar.addi (Scalar.addi (Scalar.muli (BitVec.ofNat 32 p) 768#32) 768#32) (Scalar.muli 0#32 16#32)) (BitVec.ofNat 32 j)) 256#32) a' b') z
      = if p = 2 then z else g * b + b' := by
  interval_cases p
  · interval_cases j <;> rfl
  · interval_cases j <;> rfl
  · rfl

theorem prev_val (i : grid0.Coords) (w : Vec Ideal S1x2048 .f32) (s0 s1 b0 b1 : Vec Ideal S1x1x2048 .f32) (Y : Vec Ideal S1x16x2048 .f32) (a : Fin 16) (b : Fin 2048) :
    k0_pay10 (k0_pay9 (BitVec.ofNat 32 (i 1).val) (k0_pay4 w s0) (k0_pay5 w s1) (k0_pay6 b0) (k0_pay7 b1) (Scalar.andi (Scalar.cmpi .ne (Scalar.muli (BitVec.ofNat 32 (i 1).val) 768#32) 0#32) (Scalar.cmpi .ne (Scalar.muli (BitVec.ofNat 32 (i 1).val) 768#32) 256#32)) Y) (ix2 a b)
      = if (i 1).val = 0 then 0 else Rows.out (fun k => Y (ix3 0 a k)) (Y (ix3 0 a b)) (w (ix2 0 b)) (s0 (ix3 0 0 b)) (b0 (ix3 0 0 b)) := by
  pointwise [k0_pay10, k0_pay9, k0_pay3, k0_pay4, k0_pay5, k0_pay6, k0_pay7]
  refine (sel_prev _ _ (i 1).isLt a.isLt _ _ _ _ _ _).trans ?_
  rfl

theorem next_val (i : grid0.Coords) (w : Vec Ideal S1x2048 .f32) (s0 s1 b0 b1 : Vec Ideal S1x1x2048 .f32) (Y : Vec Ideal S1x16x2048 .f32) (a : Fin 16) (b : Fin 2048) :
    k0_pay19 (k0_pay11 (BitVec.ofNat 32 (i 1).val) (k0_pay4 w s0) (k0_pay5 w s1) (k0_pay6 b0) (k0_pay7 b1) (Scalar.andi (Scalar.cmpi .ne (Scalar.addi (Scalar.muli (BitVec.ofNat 32 (i 1).val) 768#32) 768#32) 2304#32) (Scalar.cmpi .ne (Scalar.addi (Scalar.muli (BitVec.ofNat 32 (i 1).val) 768#32) 768#32) 256#32)) Y) (ix2 a b)
      = if (i 1).val = 2 then 0 else Rows.out (fun k => Y (ix3 0 a k)) (Y (ix3 0 a b)) (w (ix2 0 b)) (s0 (ix3 0 0 b)) (b0 (ix3 0 0 b)) := by
  pointwise [k0_pay19, k0_pay11, k0_pay3, k0_pay4, k0_pay5, k0_pay6, k0_pay7]
  refine (sel_next _ _ (i 1).isLt a.isLt _ _ _ _ _ _).trans ?_
  rfl

theorem trip_pieces (𝒱 : Variants) (c : Dev nD) (bd : Option 𝒱.V) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (k0_h1 : k0_cond1 i = 1#1) (v266 : Vec Ideal S1x2048 .f32) (v268 v273 v278 v280 : Vec Ideal S1x1x2048 .f32) (X : Vec Ideal S1x768x2048 .f32) (k : Fin k0_t1_loop.trips) :
    tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 (BitVec.ofNat 32 (i 1).val) k0_h1 v266 v268 v273 v278 v280 (harg3.unread X) k = [⟨Rect.unit (s := S800x2048) (k0_off2 k) S16x2048.size (k0_off2_inb i k k0_h1), k0_pay8 (BitVec.ofNat 32 (i 1).val) v266 v268 v273 v278 v280 k (View.readAt (Elt Ideal) arg3.view (Rect.unit (s := S1x768x2048) (k0_off1 k) S1x16x2048.size (k0_off1_inb i k k0_h1)).toLoadRect (harg3.unread X))⟩] := by
  unfold tripL_k0_t1 trip_k0_t1
  rfl

theorem trip_val (𝒱 : Variants) (c : Dev nD) (bd : Option 𝒱.V) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (k0_h1 : k0_cond1 i = 1#1) (v266 : Vec Ideal S1x2048 .f32) (v268 v273 v278 v280 : Vec Ideal S1x1x2048 .f32) (X : Vec Ideal S1x768x2048 .f32) (Y Z : Vec Ideal S1x16x2048 .f32) (k : Fin k0_t1_loop.trips) (j : S16x2048.Idx) :
   k0_pay8 (BitVec.ofNat 32 (i 1).val) v266 v268 v273 v278 v280 k (View.readAt (Elt Ideal) arg3.view (Rect.unit (s := S1x768x2048) (k0_off1 k) S1x16x2048.size (k0_off1_inb i k k0_h1)).toLoadRect (harg3.unread X)) j = rows (i 1).val v266 v268 v273 v278 v280 X Y Z ⟨16 + 16 * k.val + (j 0).val, by
     have := k.isLt; have := (j 0).isLt; simp at this; have h72 : k0_t1_loop.trips = 48 := by decide
     omega⟩ (j 1) := by
  have h72 : k0_t1_loop.trips = 48 := by decide
  have hk : k.val < 48 := lt_of_lt_of_eq k.isLt h72
  obtain ⟨a, b, rfl⟩ : ∃ (a : Fin 16) (b : Fin 2048), j = ix2 a b := ⟨j 0, j 1, by funext d; fin_cases d <;> rfl⟩
  have hj := a.isLt
  have e (a : Fin 16) (b : Fin 2048) (h) : (View.readAt (Elt Ideal) arg3.view (Rect.unit (s := S1x768x2048) (k0_off1 k) S1x16x2048.size (k0_off1_inb i k k0_h1)).toLoadRect (harg3.unread X)) (ix3 0 a b) = X (ix3 0 ⟨16 * k.val + a.val, h⟩ b) := by
    rw [harg3.readAt_unread]
    congr 1
    funext d
    apply Fin.ext
    fin_cases d <;> simp [Rect.unit, LoadRect.idx, Rect.toLoadRect, off1_val, ix3]
  generalize (View.readAt (Elt Ideal) arg3.view (Rect.unit (s := S1x768x2048) (k0_off1 k) S1x16x2048.size (k0_off1_inb i k k0_h1)).toLoadRect (harg3.unread X)) = w at e ⊢
  pointwise [k0_pay8, k0_pay3, k0_pay4, k0_pay5, k0_pay6, k0_pay7]
  rw [sel _ _ _ (i 1).isLt hk hj, sel _ _ _ (i 1).isLt hk hj]
  have hl (a : Fin 16) : 16 * k.val + a.val < 768 := by omega
  simp only [fun a b => e a b (hl a)]
  have ex (h) : (⟨16 + 16 * k.val + a.val - 16, h⟩ : Fin 768) = ⟨16 * k.val + a.val, hl a⟩ := Fin.ext (by simp only []; omega)
  unfold rows
  rw [dif_neg (by simp only []; show ¬ 16 + 16 * k.val + a.val < 16; omega), dif_pos (show 16 + 16 * k.val + a.val < 784 by omega)]
  unfold Rows.out Rows.inv
  have en : 16 + 16 * k.val + a.val - 16 = 16 * k.val + a.val := by omega
  simp only [ix2, Matrix.cons_val_zero, Matrix.cons_val_one] at *
  by_cases h : (i 1).val * 768 + (16 * k.val + a.val) < 256
  · rw [if_pos h, if_pos h]
    simp only [en]
    rw [if_pos h]
  · rw [if_neg h, if_neg h]
    simp only [en]
    rw [if_neg h]

theorem pieces (𝒱 : Variants) (c : Dev nD) (bd : Option 𝒱.V) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (k0_h1 : k0_cond1 i = 1#1) (v266 : Vec Ideal S1x2048 .f32) (v268 v273 v278 v280 : Vec Ideal S1x1x2048 .f32) (X : Vec Ideal S1x768x2048 .f32) (Y Z : Vec Ideal S1x16x2048 .f32) : ∀ n ≤ 48,
    (∀ p ∈ pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 (BitVec.ofNat 32 (i 1).val) k0_h1 v266 v268 v273 v278 v280 (harg3.unread X) n, ∀ x : p.1.shape.Idx, p.2 x = (fun y : S800x2048.Idx => rows (i 1).val v266 v268 v273 v278 v280 X Y Z (y 0) (y 1)) (p.1.emb x))
    ∧ ∀ y : S800x2048.Idx, 16 ≤ (y 0).val → (y 0).val < 16 + 16 * n → ∃ p ∈ pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 (BitVec.ofNat 32 (i 1).val) k0_h1 v266 v268 v273 v278 v280 (harg3.unread X) n, y ∈ p.1.set := by
  intro n
  induction n with
  | zero =>
    intro _
    refine ⟨fun p hp => ?_, fun y hl hy => absurd hy (by omega)⟩
    simp [pb_k0_t1] at hp
  | succ n ih =>
    intro hn
    obtain ⟨ih1, ih2⟩ := ih (by omega)
    have h72 : k0_t1_loop.trips = 48 := by decide
    have e := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 (BitVec.ofNat 32 (i 1).val) k0_h1 v266 v268 v273 v278 v280 (harg3.unread X) ⟨n, by omega⟩
    rw [trip_pieces] at e
    simp only at e
    rw [e]
    refine ⟨fun p hp => ?_, fun y hl hy => ?_⟩
    · rcases List.mem_append.mp hp with hp | hp
      · rcases List.mem_singleton.mp hp with rfl
        intro x
        refine (trip_val 𝒱 c bd i arg3 harg3 arg4 harg4 arg5 harg5 arg6 harg6 arg7 harg7 arg8 harg8 arg9 harg9 arg10 harg10 arg11 harg11 arg12 harg12 arg13 harg13 arg14 harg14 arg15 harg15 k0_h1 v266 v268 v273 v278 v280 X Y Z ⟨n, by omega⟩ x).trans ?_
        simp only
        congr 1
        · apply Fin.ext
          simp [Rect.emb, Rect.unit, off2_val]
        · apply Fin.ext
          simp [Rect.emb, Rect.unit, off2_val]
      · exact ih1 p hp
    · by_cases h : (y 0).val < 16 + 16 * n
      · obtain ⟨p, hp, hy'⟩ := ih2 y hl h
        exact ⟨p, List.mem_append_right _ hp, hy'⟩
      · refine ⟨_, List.mem_append_left _ (List.mem_singleton_self _), ?_⟩
        rw [Rect.mem_set_unit]
        simp only [off2_val]
        intro a
        fin_cases a
        · simp; omega
        · have := (y 1).isLt; simp at this ⊢; omega

/-- The stores into the rows buffer at a tile's first point, last first. -/
def rowsL (c : Dev nD) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (h0 : First i) (x0 : Vec Ideal S1x768x2048 .f32) (x1 : Vec Ideal S1x16x2048 .f32) (x2 : Vec Ideal S1x16x2048 .f32) (x3 : Vec Ideal S1x4x2048 .f32) (x4 : Vec Ideal S1x2048 .f32) : List (View.Piece (Elt Ideal) S800x2048 .bf16) :=
  ⟨Rect.unit (s := S800x2048) (k0_off4 784#32) S16x2048.size (k0_off4_inb i h0 1), k0_pay19 (k0_pay11 (BitVec.ofNat 32 (i 1).val) (k0_pay4 (View.readAt (Elt Ideal) arg7.view (Rect.unit (s := S1x2048) ![0, 0] S1x2048.size inb_S1x2048_S1x2048_0_0).toLoadRect (harg7.unread x4)) (View.readAt (Elt Ideal) arg6.view (Rect.unit (s := S1x4x2048) ![0, 1, 0] S1x1x2048.size inb_S1x4x2048_S1x1x2048_0_1_0).toLoadRect (harg6.unread x3))) (k0_pay5 (View.readAt (Elt Ideal) arg7.view (Rect.unit (s := S1x2048) ![0, 0] S1x2048.size inb_S1x2048_S1x2048_0_0).toLoadRect (harg7.unread x4)) (View.readAt (Elt Ideal) arg6.view (Rect.unit (s := S1x4x2048) ![0, 3, 0] S1x1x2048.size inb_S1x4x2048_S1x1x2048_0_3_0).toLoadRect (harg6.unread x3))) (k0_pay6 (View.readAt (Elt Ideal) arg6.view (Rect.unit (s := S1x4x2048) ![0, 0, 0] S1x1x2048.size inb_S1x4x2048_S1x1x2048_0_0_0).toLoadRect (harg6.unread x3))) (k0_pay7 (View.readAt (Elt Ideal) arg6.view (Rect.unit (s := S1x4x2048) ![0, 2, 0] S1x1x2048.size inb_S1x4x2048_S1x1x2048_0_2_0).toLoadRect (harg6.unread x3))) (Scalar.andi (Scalar.cmpi .ne (Scalar.addi (Scalar.muli (BitVec.ofNat 32 (i 1).val) 768#32) 768#32) 2304#32) (Scalar.cmpi .ne (Scalar.addi (Scalar.muli (BitVec.ofNat 32 (i 1).val) 768#32) 768#32) 256#32)) (View.readAt (Elt Ideal) arg5.view (Rect.unit (s := S1x16x2048) k0_off3 S1x16x2048.size (k0_off3_inb i h0)).toLoadRect (harg5.unread x2)))⟩ ::
  ⟨Rect.unit (s := S800x2048) (k0_off4 0#32) S16x2048.size (k0_off4_inb i h0 0), k0_pay10 (k0_pay9 (BitVec.ofNat 32 (i 1).val) (k0_pay4 (View.readAt (Elt Ideal) arg7.view (Rect.unit (s := S1x2048) ![0, 0] S1x2048.size inb_S1x2048_S1x2048_0_0).toLoadRect (harg7.unread x4)) (View.readAt (Elt Ideal) arg6.view (Rect.unit (s := S1x4x2048) ![0, 1, 0] S1x1x2048.size inb_S1x4x2048_S1x1x2048_0_1_0).toLoadRect (harg6.unread x3))) (k0_pay5 (View.readAt (Elt Ideal) arg7.view (Rect.unit (s := S1x2048) ![0, 0] S1x2048.size inb_S1x2048_S1x2048_0_0).toLoadRect (harg7.unread x4)) (View.readAt (Elt Ideal) arg6.view (Rect.unit (s := S1x4x2048) ![0, 3, 0] S1x1x2048.size inb_S1x4x2048_S1x1x2048_0_3_0).toLoadRect (harg6.unread x3))) (k0_pay6 (View.readAt (Elt Ideal) arg6.view (Rect.unit (s := S1x4x2048) ![0, 0, 0] S1x1x2048.size inb_S1x4x2048_S1x1x2048_0_0_0).toLoadRect (harg6.unread x3))) (k0_pay7 (View.readAt (Elt Ideal) arg6.view (Rect.unit (s := S1x4x2048) ![0, 2, 0] S1x1x2048.size inb_S1x4x2048_S1x1x2048_0_2_0).toLoadRect (harg6.unread x3))) (Scalar.andi (Scalar.cmpi .ne (Scalar.muli (BitVec.ofNat 32 (i 1).val) 768#32) 0#32) (Scalar.cmpi .ne (Scalar.muli (BitVec.ofNat 32 (i 1).val) 768#32) 256#32)) (View.readAt (Elt Ideal) arg4.view (Rect.unit (s := S1x16x2048) k0_off3 S1x16x2048.size (k0_off3_inb i h0)).toLoadRect (harg4.unread x1)))⟩ ::
  pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 1).val) h0 (View.readAt (Elt Ideal) arg7.view (Rect.unit (s := S1x2048) ![0, 0] S1x2048.size inb_S1x2048_S1x2048_0_0).toLoadRect (harg7.unread x4)) (View.readAt (Elt Ideal) arg6.view (Rect.unit (s := S1x4x2048) ![0, 1, 0] S1x1x2048.size inb_S1x4x2048_S1x1x2048_0_1_0).toLoadRect (harg6.unread x3)) (View.readAt (Elt Ideal) arg6.view (Rect.unit (s := S1x4x2048) ![0, 3, 0] S1x1x2048.size inb_S1x4x2048_S1x1x2048_0_3_0).toLoadRect (harg6.unread x3)) (View.readAt (Elt Ideal) arg6.view (Rect.unit (s := S1x4x2048) ![0, 0, 0] S1x1x2048.size inb_S1x4x2048_S1x1x2048_0_0_0).toLoadRect (harg6.unread x3)) (View.readAt (Elt Ideal) arg6.view (Rect.unit (s := S1x4x2048) ![0, 2, 0] S1x1x2048.size inb_S1x4x2048_S1x1x2048_0_2_0).toLoadRect (harg6.unread x3)) (harg3.unread x0) (Scf.trips k0_t1_loop.lb k0_t1_loop.ub k0_t1_loop.st)

/-- The rows of the tile, from the blocks. -/
def tileOf (p : ℕ) (x0 : Vec Ideal S1x768x2048 .f32) (x1 : Vec Ideal S1x16x2048 .f32) (x2 : Vec Ideal S1x16x2048 .f32) (x3 : Vec Ideal S1x4x2048 .f32) (x4 : Vec Ideal S1x2048 .f32) : Vec Ideal S800x2048 .bf16 :=
  fun y => rows p x4 (View.ld x3 (Rect.unit (s := S1x4x2048) ![0, 1, 0] S1x1x2048.size inb_S1x4x2048_S1x1x2048_0_1_0)) (View.ld x3 (Rect.unit (s := S1x4x2048) ![0, 3, 0] S1x1x2048.size inb_S1x4x2048_S1x1x2048_0_3_0))
    (View.ld x3 (Rect.unit (s := S1x4x2048) ![0, 0, 0] S1x1x2048.size inb_S1x4x2048_S1x1x2048_0_0_0)) (View.ld x3 (Rect.unit (s := S1x4x2048) ![0, 2, 0] S1x1x2048.size inb_S1x4x2048_S1x1x2048_0_2_0)) x0 x1 x2 (y 0) (y 1)

theorem read_w {arg7 : Memref sig .tc .vmem S1x2048 .f32} (harg7 : arg7.IsWhole) (x4 : Vec Ideal S1x2048 .f32) : (View.readAt (Elt Ideal) arg7.view (Rect.unit (s := S1x2048) ![0, 0] S1x2048.size inb_S1x2048_S1x2048_0_0).toLoadRect (harg7.unread x4)) = x4 := by
  funext j
  rw [harg7.readAt_unread]
  congr 1
  funext d; fin_cases d <;> exact Fin.ext (by simp [LoadRect.idx, Rect.unit, Rect.toLoadRect])

theorem read_m {arg6 : Memref sig .tc .vmem S1x4x2048 .f32} (harg6 : arg6.IsWhole) (r : Rect S1x4x2048) (x3 : Vec Ideal S1x4x2048 .f32) :
    View.readAt (Elt Ideal) arg6.view r.toLoadRect (harg6.unread x3) = View.ld x3 r := funext (harg6.readAt_unread _ _)

theorem read_h {arg4 : Memref sig .tc .vmem S1x16x2048 .f32} (harg4 : arg4.IsWhole) (i : grid0.Coords) (h0 : First i) (x1 : Vec Ideal S1x16x2048 .f32) : (View.readAt (Elt Ideal) arg4.view (Rect.unit (s := S1x16x2048) k0_off3 S1x16x2048.size (k0_off3_inb i h0)).toLoadRect (harg4.unread x1)) = x1 := by
  funext j
  rw [harg4.readAt_unread]
  congr 1
  have e : k0_off3 = ![0, 0, 0] := by decide +kernel
  funext d; fin_cases d <;> exact Fin.ext (by simp [LoadRect.idx, Rect.unit, Rect.toLoadRect, e])

theorem rowsL_ok (c : Dev nD) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (h0 : First i) (x0 : Vec Ideal S1x768x2048 .f32) (x1 : Vec Ideal S1x16x2048 .f32) (x2 : Vec Ideal S1x16x2048 .f32) (x3 : Vec Ideal S1x4x2048 .f32) (x4 : Vec Ideal S1x2048 .f32) :
    (∀ p ∈ rowsL c i arg3 harg3 arg4 harg4 arg5 harg5 arg6 harg6 arg7 harg7 arg8 harg8 arg9 harg9 arg10 harg10 arg11 harg11 arg12 harg12 arg13 harg13 arg14 harg14 arg15 harg15 h0 x0 x1 x2 x3 x4, ∀ x : p.1.shape.Idx, p.2 x = tileOf (i 1).val x0 x1 x2 x3 x4 (p.1.emb x))
    ∧ ∀ y : S800x2048.Idx, ∃ p ∈ rowsL c i arg3 harg3 arg4 harg4 arg5 harg5 arg6 harg6 arg7 harg7 arg8 harg8 arg9 harg9 arg10 harg10 arg11 harg11 arg12 harg12 arg13 harg13 arg14 harg14 arg15 harg15 h0 x0 x1 x2 x3 x4, y ∈ p.1.set := by
  have ht : Scf.trips k0_t1_loop.lb k0_t1_loop.ub k0_t1_loop.st = 48 := by decide +kernel
  unfold rowsL
  rw [ht, read_w, read_m, read_m, read_m, read_m, read_h harg4 i h0 x1, read_h harg5 i h0 x2]
  have hp := pieces Variants.none c none i arg3 harg3 arg4 harg4 arg5 harg5 arg6 harg6 arg7 harg7 arg8 harg8 arg9 harg9 arg10 harg10 arg11 harg11 arg12 harg12 arg13 harg13 arg14 harg14 arg15 harg15 h0 x4 (View.ld x3 (Rect.unit (s := S1x4x2048) ![0, 1, 0] S1x1x2048.size inb_S1x4x2048_S1x1x2048_0_1_0)) (View.ld x3 (Rect.unit (s := S1x4x2048) ![0, 3, 0] S1x1x2048.size inb_S1x4x2048_S1x1x2048_0_3_0))
    (View.ld x3 (Rect.unit (s := S1x4x2048) ![0, 0, 0] S1x1x2048.size inb_S1x4x2048_S1x1x2048_0_0_0)) (View.ld x3 (Rect.unit (s := S1x4x2048) ![0, 2, 0] S1x1x2048.size inb_S1x4x2048_S1x1x2048_0_2_0)) x0 x1 x2 48 (le_refl 48)
  have e0 : k0_off4 0#32 = ![0, 0] := by decide +kernel
  have e1 : k0_off4 784#32 = ![784, 0] := by decide +kernel
  constructor
  · intro p hq
    rcases List.mem_cons.mp hq with rfl | hq
    · intro x
      obtain ⟨a, b, rfl⟩ : ∃ (a : Fin 16) (b : Fin 2048), x = (ix2 a b : S16x2048.Idx) := ⟨x 0, x 1, by funext d; fin_cases d <;> rfl⟩
      refine (next_val i _ _ _ _ _ _ a b).trans ?_
      have h : ((Rect.unit (s := S800x2048) (k0_off4 784#32) S16x2048.size (k0_off4_inb i h0 1)).emb (ix2 a b : S16x2048.Idx)) = ix2 ⟨784 + a.val, by omega⟩ b := by
        funext d; fin_cases d <;> exact Fin.ext (by simp [Rect.emb, Rect.unit, e1, ix2])
      refine Eq.trans ?_ (congrArg (tileOf (i 1).val x0 x1 x2 x3 x4) h.symm)
      exact (rows_hi _ _ _ _ _ _ _ _ _ a _ b).symm
    rcases List.mem_cons.mp hq with rfl | hq
    · intro x
      obtain ⟨a, b, rfl⟩ : ∃ (a : Fin 16) (b : Fin 2048), x = (ix2 a b : S16x2048.Idx) := ⟨x 0, x 1, by funext d; fin_cases d <;> rfl⟩
      refine (prev_val i _ _ _ _ _ _ a b).trans ?_
      have h : ((Rect.unit (s := S800x2048) (k0_off4 0#32) S16x2048.size (k0_off4_inb i h0 0)).emb (ix2 a b : S16x2048.Idx)) = ix2 ⟨a.val, by omega⟩ b := by
        funext d; fin_cases d <;> exact Fin.ext (by simp [Rect.emb, Rect.unit, e0, ix2])
      refine Eq.trans ?_ (congrArg (tileOf (i 1).val x0 x1 x2 x3 x4) h.symm)
      exact (rows_lo _ _ _ _ _ _ _ _ _ a _ b).symm
    · exact hp.1 p hq
  · intro y
    have y0 := (y 0).isLt
    have y1 := (y 1).isLt
    simp at y0 y1
    by_cases h : (y 0).val < 16
    · refine ⟨_, List.mem_cons_of_mem _ (List.mem_cons_self), ?_⟩
      rw [Rect.mem_set_unit]
      simp only [e0]
      intro a
      fin_cases a
      · simp; omega
      · simp; omega
    by_cases h' : (y 0).val < 784
    · obtain ⟨p, hq, hy⟩ := hp.2 y (by omega) (by omega)
      exact ⟨p, List.mem_cons_of_mem _ (List.mem_cons_of_mem _ hq), hy⟩
    · refine ⟨_, List.mem_cons_self, ?_⟩
      rw [Rect.mem_set_unit]
      simp only [e1]
      intro a
      fin_cases a
      · simp; omega
      · simp; omega

end Cert.KernelFfnIdeal.Value

end
-- ==== Proof.PiecesFfn.lean ====
module

public import proofs.«01_k».proof.Proof.BodyFfn
public import proofs.«01_k».proof.Proof.RowsFfn
public import proofs.«01_k».proof.Proof.Rows
public import Idealize.ShloMosaic.Lib.WholeRead
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelFfnIdeal.Value

open Cert.KernelFfnIdeal Cert.KernelFfnIdeal.Gen Cert.KernelFfnIdeal.Body

set_option maxHeartbeats 2000000 in
theorem runA_rows (c : Dev nD) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (h0 : First i) (h1 : Edge i) (s : Vec Ideal S800x2048 .bf16) (x0 : Vec Ideal S1x768x2048 .f32) (x1 : Vec Ideal S1x16x2048 .f32) (x2 : Vec Ideal S1x16x2048 .f32) (x3 : Vec Ideal S1x4x2048 .f32) (x4 : Vec Ideal S1x2048 .f32) (x5 : Vec Ideal S2048x512 .bf16) (x6 : Vec Ideal S2048x512 .bf16) (x7 : Vec Ideal S3x512 .f32) (x8 : Vec Ideal S3x512 .f32) :
  (runA c i arg3 harg3 arg4 harg4 arg5 harg5 arg6 harg6 arg7 harg7 arg8 harg8 arg9 harg9 arg10 harg10 arg11 harg11 arg12 harg12 arg13 harg13 arg14 harg14 arg15 harg15 h0 h1 s x0 x1 x2 x3 x4 x5 x6 x7 x8).2.1 = rowsL c i arg3 harg3 arg4 harg4 arg5 harg5 arg6 harg6 arg7 harg7 arg8 harg8 arg9 harg9 arg10 harg10 arg11 harg11 arg12 harg12 arg13 harg13 arg14 harg14 arg15 harg15 h0 x0 x1 x2 x3 x4 := by
  unfold runA
  rfl

set_option maxHeartbeats 2000000 in
theorem runA_pieces (c : Dev nD) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (h0 : First i) (h1 : Edge i) (s : Vec Ideal S800x2048 .bf16) (x0 : Vec Ideal S1x768x2048 .f32) (x1 : Vec Ideal S1x16x2048 .f32) (x2 : Vec Ideal S1x16x2048 .f32) (x3 : Vec Ideal S1x4x2048 .f32) (x4 : Vec Ideal S1x2048 .f32) (x5 : Vec Ideal S2048x512 .bf16) (x6 : Vec Ideal S2048x512 .bf16) (x7 : Vec Ideal S3x512 .f32) (x8 : Vec Ideal S3x512 .f32) :
  (runA c i arg3 harg3 arg4 harg4 arg5 harg5 arg6 harg6 arg7 harg7 arg8 harg8 arg9 harg9 arg10 harg10 arg11 harg11 arg12 harg12 arg13 harg13 arg14 harg14 arg15 harg15 h0 h1 s x0 x1 x2 x3 x4 x5 x6 x7 x8).1 = mide arg10 harg10 arg11 harg11 arg14 arg15 [⟨Rect.unit (s := S800x512) ![0, 0] S800x512.size inb_S800x512_S800x512_0_0, k0_pay20 (View.readAt (Elt Ideal) arg13.view (Rect.unit (s := S800x2048) ![0, 0] S800x2048.size inb_S800x2048_S800x2048_0_0).toLoadRect (arg13.view.writes (Elt Ideal) (harg13.unread s) (runA c i arg3 harg3 arg4 harg4 arg5 harg5 arg6 harg6 arg7 harg7 arg8 harg8 arg9 harg9 arg10 harg10 arg11 harg11 arg12 harg12 arg13 harg13 arg14 harg14 arg15 harg15 h0 h1 s x0 x1 x2 x3 x4 x5 x6 x7 x8).2.1)) (View.readAt (Elt Ideal) arg8.view (Rect.unit (s := S2048x512) ![0, 0] S2048x512.size inb_S2048x512_S2048x512_0_0).toLoadRect (harg8.unread x5))⟩] [⟨Rect.unit (s := S800x512) ![0, 0] S800x512.size inb_S800x512_S800x512_0_0, k0_pay21 (View.readAt (Elt Ideal) arg13.view (Rect.unit (s := S800x2048) ![0, 0] S800x2048.size inb_S800x2048_S800x2048_0_0).toLoadRect (arg13.view.writes (Elt Ideal) (harg13.unread s) (runA c i arg3 harg3 arg4 harg4 arg5 harg5 arg6 harg6 arg7 harg7 arg8 harg8 arg9 harg9 arg10 harg10 arg11 harg11 arg12 harg12 arg13 harg13 arg14 harg14 arg15 harg15 h0 h1 s x0 x1 x2 x3 x4 x5 x6 x7 x8).2.1)) (View.readAt (Elt Ideal) arg9.view (Rect.unit (s := S2048x512) ![0, 0] S2048x512.size inb_S2048x512_S2048x512_0_0).toLoadRect (harg9.unread x6))⟩] x7 x8 :: mids arg10 harg10 arg11 harg11 arg14 arg15 [⟨Rect.unit (s := S800x512) ![0, 0] S800x512.size inb_S800x512_S800x512_0_0, k0_pay20 (View.readAt (Elt Ideal) arg13.view (Rect.unit (s := S800x2048) ![0, 0] S800x2048.size inb_S800x2048_S800x2048_0_0).toLoadRect (arg13.view.writes (Elt Ideal) (harg13.unread s) (runA c i arg3 harg3 arg4 harg4 arg5 harg5 arg6 harg6 arg7 harg7 arg8 harg8 arg9 harg9 arg10 harg10 arg11 harg11 arg12 harg12 arg13 harg13 arg14 harg14 arg15 harg15 h0 h1 s x0 x1 x2 x3 x4 x5 x6 x7 x8).2.1)) (View.readAt (Elt Ideal) arg8.view (Rect.unit (s := S2048x512) ![0, 0] S2048x512.size inb_S2048x512_S2048x512_0_0).toLoadRect (harg8.unread x5))⟩] [⟨Rect.unit (s := S800x512) ![0, 0] S800x512.size inb_S800x512_S800x512_0_0, k0_pay21 (View.readAt (Elt Ideal) arg13.view (Rect.unit (s := S800x2048) ![0, 0] S800x2048.size inb_S800x2048_S800x2048_0_0).toLoadRect (arg13.view.writes (Elt Ideal) (harg13.unread s) (runA c i arg3 harg3 arg4 harg4 arg5 harg5 arg6 harg6 arg7 harg7 arg8 harg8 arg9 harg9 arg10 harg10 arg11 harg11 arg12 harg12 arg13 harg13 arg14 harg14 arg15 harg15 h0 h1 s x0 x1 x2 x3 x4 x5 x6 x7 x8).2.1)) (View.readAt (Elt Ideal) arg9.view (Rect.unit (s := S2048x512) ![0, 0] S2048x512.size inb_S2048x512_S2048x512_0_0).toLoadRect (harg9.unread x6))⟩] x7 x8 := by
  unfold runA
  rfl

set_option maxHeartbeats 2000000 in
theorem runC_rows (c : Dev nD) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (h0 : First i) (h1 : ¬Edge i) (s : Vec Ideal S800x2048 .bf16) (x0 : Vec Ideal S1x768x2048 .f32) (x1 : Vec Ideal S1x16x2048 .f32) (x2 : Vec Ideal S1x16x2048 .f32) (x3 : Vec Ideal S1x4x2048 .f32) (x4 : Vec Ideal S1x2048 .f32) (x5 : Vec Ideal S2048x512 .bf16) (x6 : Vec Ideal S2048x512 .bf16) (x7 : Vec Ideal S3x512 .f32) (x8 : Vec Ideal S3x512 .f32) :
  (runC c i arg3 harg3 arg4 harg4 arg5 harg5 arg6 harg6 arg7 harg7 arg8 harg8 arg9 harg9 arg10 harg10 arg11 harg11 arg12 harg12 arg13 harg13 arg14 harg14 arg15 harg15 h0 h1 s x0 x1 x2 x3 x4 x5 x6 x7 x8).2.1 = rowsL c i arg3 harg3 arg4 harg4 arg5 harg5 arg6 harg6 arg7 harg7 arg8 harg8 arg9 harg9 arg10 harg10 arg11 harg11 arg12 harg12 arg13 harg13 arg14 harg14 arg15 harg15 h0 x0 x1 x2 x3 x4 := by
  unfold runC
  rfl

set_option maxHeartbeats 2000000 in
theorem runC_pieces (c : Dev nD) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (h0 : First i) (h1 : ¬Edge i) (s : Vec Ideal S800x2048 .bf16) (x0 : Vec Ideal S1x768x2048 .f32) (x1 : Vec Ideal S1x16x2048 .f32) (x2 : Vec Ideal S1x16x2048 .f32) (x3 : Vec Ideal S1x4x2048 .f32) (x4 : Vec Ideal S1x2048 .f32) (x5 : Vec Ideal S2048x512 .bf16) (x6 : Vec Ideal S2048x512 .bf16) (x7 : Vec Ideal S3x512 .f32) (x8 : Vec Ideal S3x512 .f32) :
  (runC c i arg3 harg3 arg4 harg4 arg5 harg5 arg6 harg6 arg7 harg7 arg8 harg8 arg9 harg9 arg10 harg10 arg11 harg11 arg12 harg12 arg13 harg13 arg14 harg14 arg15 harg15 h0 h1 s x0 x1 x2 x3 x4 x5 x6 x7 x8).1 = mids arg10 harg10 arg11 harg11 arg14 arg15 [⟨Rect.unit (s := S800x512) ![0, 0] S800x512.size inb_S800x512_S800x512_0_0, k0_pay20 (View.readAt (Elt Ideal) arg13.view (Rect.unit (s := S800x2048) ![0, 0] S800x2048.size inb_S800x2048_S800x2048_0_0).toLoadRect (arg13.view.writes (Elt Ideal) (harg13.unread s) (runC c i arg3 harg3 arg4 harg4 arg5 harg5 arg6 harg6 arg7 harg7 arg8 harg8 arg9 harg9 arg10 harg10 arg11 harg11 arg12 harg12 arg13 harg13 arg14 harg14 arg15 harg15 h0 h1 s x0 x1 x2 x3 x4 x5 x6 x7 x8).2.1)) (View.readAt (Elt Ideal) arg8.view (Rect.unit (s := S2048x512) ![0, 0] S2048x512.size inb_S2048x512_S2048x512_0_0).toLoadRect (harg8.unread x5))⟩] [⟨Rect.unit (s := S800x512) ![0, 0] S800x512.size inb_S800x512_S800x512_0_0, k0_pay21 (View.readAt (Elt Ideal) arg13.view (Rect.unit (s := S800x2048) ![0, 0] S800x2048.size inb_S800x2048_S800x2048_0_0).toLoadRect (arg13.view.writes (Elt Ideal) (harg13.unread s) (runC c i arg3 harg3 arg4 harg4 arg5 harg5 arg6 harg6 arg7 harg7 arg8 harg8 arg9 harg9 arg10 harg10 arg11 harg11 arg12 harg12 arg13 harg13 arg14 harg14 arg15 harg15 h0 h1 s x0 x1 x2 x3 x4 x5 x6 x7 x8).2.1)) (View.readAt (Elt Ideal) arg9.view (Rect.unit (s := S2048x512) ![0, 0] S2048x512.size inb_S2048x512_S2048x512_0_0).toLoadRect (harg9.unread x6))⟩] x7 x8 := by
  unfold runC
  rfl

end Cert.KernelFfnIdeal.Value

end
-- ==== Proof.CaseFfn.lean ====
module

public import proofs.«01_k».proof.Proof.BodyFfn
public import proofs.«01_k».proof.Proof.PiecesFfn
public import Idealize.ShloMosaic.Lib.VecWindow
public import proofs.«01_k».proof.Proof.Rows
public import Idealize.ShloMosaic.Lib.WholeRead
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelFfnIdeal.Value

open Cert.KernelFfnIdeal Cert.KernelFfnIdeal.Gen Cert.KernelFfnIdeal.Body

/-- The buffer of rows, read back after a tile's first point. -/
theorem rows_read (c : Dev nD) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (h0 : First i) (x0 : Vec Ideal S1x768x2048 .f32) (x1 : Vec Ideal S1x16x2048 .f32) (x2 : Vec Ideal S1x16x2048 .f32) (x3 : Vec Ideal S1x4x2048 .f32) (x4 : Vec Ideal S1x2048 .f32) {κ sp} (v : View sig κ sp S800x2048 .bf16) (f) :
    v.read (Elt Ideal) (v.writes (Elt Ideal) f (rowsL c i arg3 harg3 arg4 harg4 arg5 harg5 arg6 harg6 arg7 harg7 arg8 harg8 arg9 harg9 arg10 harg10 arg11 harg11 arg12 harg12 arg13 harg13 arg14 harg14 arg15 harg15 h0 x0 x1 x2 x3 x4)) = tileOf (i 1).val x0 x1 x2 x3 x4 := by
  funext y
  exact View.read_writes_apply_of_pieces _ _ _ _ (rowsL_ok c i arg3 harg3 arg4 harg4 arg5 harg5 arg6 harg6 arg7 harg7 arg8 harg8 arg9 harg9 arg10 harg10 arg11 harg11 arg12 harg12 arg13 harg13 arg14 harg14 arg15 harg15 h0 x0 x1 x2 x3 x4).1 y ((rowsL_ok c i arg3 harg3 arg4 harg4 arg5 harg5 arg6 harg6 arg7 harg7 arg8 harg8 arg9 harg9 arg10 harg10 arg11 harg11 arg12 harg12 arg13 harg13 arg14 harg14 arg15 harg15 h0 x0 x1 x2 x3 x4).2 y)

/-- The tile a point stores. -/
theorem runA_out (c : Dev nD) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (h0 : First i) (h1 : Edge i) (s : Vec Ideal S800x2048 .bf16) (x0 : Vec Ideal S1x768x2048 .f32) (x1 : Vec Ideal S1x16x2048 .f32) (x2 : Vec Ideal S1x16x2048 .f32) (x3 : Vec Ideal S1x4x2048 .f32) (x4 : Vec Ideal S1x2048 .f32) (x5 : Vec Ideal S2048x512 .bf16) (x6 : Vec Ideal S2048x512 .bf16) (x7 : Vec Ideal S3x512 .f32) (x8 : Vec Ideal S3x512 .f32) {κ sp} (v : View sig κ sp S1x768x512 .bf16) (f) :
    v.read (Elt Ideal) (v.writes (Elt Ideal) f (runA c i arg3 harg3 arg4 harg4 arg5 harg5 arg6 harg6 arg7 harg7 arg8 harg8 arg9 harg9 arg10 harg10 arg11 harg11 arg12 harg12 arg13 harg13 arg14 harg14 arg15 harg15 h0 h1 s x0 x1 x2 x3 x4 x5 x6 x7 x8).1) = edged (k0_pay20 (tileOf (i 1).val x0 x1 x2 x3 x4) x5) (k0_pay21 (tileOf (i 1).val x0 x1 x2 x3 x4) x6) x7 x8 := by
  rw [runA_pieces, View.readAt_full, View.readAt_full, View.readAt_full, runA_rows, rows_read, harg8.read_unread, harg9.read_unread]
  exact mide_read arg10 harg10 arg11 harg11 arg14 arg15 _ _ x7 x8 _ _ rfl rfl v f

/-- The tile a point stores. -/
theorem runC_out (c : Dev nD) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (h0 : First i) (h1 : ¬Edge i) (s : Vec Ideal S800x2048 .bf16) (x0 : Vec Ideal S1x768x2048 .f32) (x1 : Vec Ideal S1x16x2048 .f32) (x2 : Vec Ideal S1x16x2048 .f32) (x3 : Vec Ideal S1x4x2048 .f32) (x4 : Vec Ideal S1x2048 .f32) (x5 : Vec Ideal S2048x512 .bf16) (x6 : Vec Ideal S2048x512 .bf16) (x7 : Vec Ideal S3x512 .f32) (x8 : Vec Ideal S3x512 .f32) {κ sp} (v : View sig κ sp S1x768x512 .bf16) (f) :
    v.read (Elt Ideal) (v.writes (Elt Ideal) f (runC c i arg3 harg3 arg4 harg4 arg5 harg5 arg6 harg6 arg7 harg7 arg8 harg8 arg9 harg9 arg10 harg10 arg11 harg11 arg12 harg12 arg13 harg13 arg14 harg14 arg15 harg15 h0 h1 s x0 x1 x2 x3 x4 x5 x6 x7 x8).1) = plain (k0_pay20 (tileOf (i 1).val x0 x1 x2 x3 x4) x5) (k0_pay21 (tileOf (i 1).val x0 x1 x2 x3 x4) x6) x7 x8 := by
  rw [runC_pieces, View.readAt_full, View.readAt_full, View.readAt_full, runC_rows, rows_read, harg8.read_unread, harg9.read_unread]
  exact mids_read arg10 harg10 arg11 harg11 arg14 arg15 _ _ x7 x8 _ _ rfl rfl v f

/-- The tile a point stores. -/
theorem runB_out (c : Dev nD) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (h0 : ¬First i) (h1 : Edge i) (s : Vec Ideal S800x2048 .bf16) (x0 : Vec Ideal S1x768x2048 .f32) (x1 : Vec Ideal S1x16x2048 .f32) (x2 : Vec Ideal S1x16x2048 .f32) (x3 : Vec Ideal S1x4x2048 .f32) (x4 : Vec Ideal S1x2048 .f32) (x5 : Vec Ideal S2048x512 .bf16) (x6 : Vec Ideal S2048x512 .bf16) (x7 : Vec Ideal S3x512 .f32) (x8 : Vec Ideal S3x512 .f32) {κ sp} (v : View sig κ sp S1x768x512 .bf16) (f) :
    v.read (Elt Ideal) (v.writes (Elt Ideal) f (runB c i arg3 harg3 arg4 harg4 arg5 harg5 arg6 harg6 arg7 harg7 arg8 harg8 arg9 harg9 arg10 harg10 arg11 harg11 arg12 harg12 arg13 harg13 arg14 harg14 arg15 harg15 h0 h1 s x0 x1 x2 x3 x4 x5 x6 x7 x8).1) = edged (k0_pay20 s x5) (k0_pay21 s x6) x7 x8 := by
  rw [runB_pieces, View.readAt_full, View.readAt_full, View.readAt_full, harg13.read_unread, harg8.read_unread, harg9.read_unread]
  exact mide_read arg10 harg10 arg11 harg11 arg14 arg15 _ _ x7 x8 _ _ rfl rfl v f

/-- The tile a point stores. -/
theorem runD_out (c : Dev nD) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (h0 : ¬First i) (h1 : ¬Edge i) (s : Vec Ideal S800x2048 .bf16) (x0 : Vec Ideal S1x768x2048 .f32) (x1 : Vec Ideal S1x16x2048 .f32) (x2 : Vec Ideal S1x16x2048 .f32) (x3 : Vec Ideal S1x4x2048 .f32) (x4 : Vec Ideal S1x2048 .f32) (x5 : Vec Ideal S2048x512 .bf16) (x6 : Vec Ideal S2048x512 .bf16) (x7 : Vec Ideal S3x512 .f32) (x8 : Vec Ideal S3x512 .f32) {κ sp} (v : View sig κ sp S1x768x512 .bf16) (f) :
    v.read (Elt Ideal) (v.writes (Elt Ideal) f (runD c i arg3 harg3 arg4 harg4 arg5 harg5 arg6 harg6 arg7 harg7 arg8 harg8 arg9 harg9 arg10 harg10 arg11 harg11 arg12 harg12 arg13 harg13 arg14 harg14 arg15 harg15 h0 h1 s x0 x1 x2 x3 x4 x5 x6 x7 x8).1) = plain (k0_pay20 s x5) (k0_pay21 s x6) x7 x8 := by
  rw [runD_pieces, View.readAt_full, View.readAt_full, View.readAt_full, harg13.read_unread, harg8.read_unread, harg9.read_unread]
  exact mids_read arg10 harg10 arg11 harg11 arg14 arg15 _ _ x7 x8 _ _ rfl rfl v f

end Cert.KernelFfnIdeal.Value

end
-- ==== Proof.RefFfn.lean ====
module

public import proofs.«01_k».proof.Proof.Gen.ReferenceFfnIdeal
public import Idealize.ShloMosaic.Lib.Pointwise

@[expose] public section

set_option maxRecDepth 16384

noncomputable section

open Idealize.ShloMosaic Idealize.ShloMosaic.TcCoe Idealize.SL.Sem

/-! The values of the reference's operations, one by one, as functions of its arguments. -/
namespace Cert.ReferenceFfnIdeal.Val

open Cert.ReferenceFfnIdeal Cert.ReferenceFfnIdeal.Gen

def v0 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x2048 .f32 :=
  ((extractStridedSlice S8x256x2048 ![0, 0, 0] · slices_S8x2304x2048_S8x256x2048_0_0_0) : FVec Ideal S8x2304x2048 .f32 → FVec Ideal S8x256x2048 .f32) a0

def v1 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x2048 .f32 :=
  ((extractStridedSlice S8x2048x2048 ![0, 256, 0] · slices_S8x2304x2048_S8x2048x2048_0_256_0) : FVec Ideal S8x2304x2048 .f32 → FVec Ideal S8x2048x2048 .f32) a0

def v2 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x2048 .f32 :=
  (mulf : FVec Ideal S8x2048x2048 .f32 → FVec Ideal S8x2048x2048 .f32 → FVec Ideal S8x2048x2048 .f32) (v1 a0 a1 a2 a3 a4) (v1 a0 a1 a2 a3 a4)

def cst (a0 : FVec Ideal S8x2304x2048 .f32) (a1 : FVec Ideal S8x4x2048 .f32) (a2 : FVec Ideal S2048 .f32) (a3 : FVec Ideal S2048x11008 .f32) (a4 : FVec Ideal S3x11008 .f32) : FVec Ideal S_ .f32 :=
  (constant S_ .f32 0x00000000#32)

def v3 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048 .f32 :=
  ((fun x v => Host.reduceAdd x v reducesTo_S8x2048x2048_S8x2048_d2 h_S_) : FVec Ideal S8x2048x2048 .f32 → FVec Ideal S_ .f32 → FVec Ideal S8x2048 .f32) (v2 a0 a1 a2 a3 a4) (cst a0 a1 a2 a3 a4)

def v4 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x1 .f32 :=
  (broadcastInDim S8x2048x1 ![0, 1] bcast_S8x2048_S8x2048x1_0_1 : FVec Ideal S8x2048 .f32 → FVec Ideal S8x2048x1 .f32) (v3 a0 a1 a2 a3 a4)

def cst_0 (a0 : FVec Ideal S8x2304x2048 .f32) (a1 : FVec Ideal S8x4x2048 .f32) (a2 : FVec Ideal S2048 .f32) (a3 : FVec Ideal S2048x11008 .f32) (a4 : FVec Ideal S3x11008 .f32) : FVec Ideal S_ .f32 :=
  (constant S_ .f32 0x45000000#32)

def v5 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x1 .f32 :=
  (broadcastInDim S8x2048x1 ![] bcast_S_S8x2048x1 : FVec Ideal S_ .f32 → FVec Ideal S8x2048x1 .f32) (cst_0 a0 a1 a2 a3 a4)

def v6 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x1 .f32 :=
  (Host.divf : FVec Ideal S8x2048x1 .f32 → FVec Ideal S8x2048x1 .f32 → FVec Ideal S8x2048x1 .f32) (v4 a0 a1 a2 a3 a4) (v5 a0 a1 a2 a3 a4)

def cst_1 (a0 : FVec Ideal S8x2304x2048 .f32) (a1 : FVec Ideal S8x4x2048 .f32) (a2 : FVec Ideal S2048 .f32) (a3 : FVec Ideal S2048x11008 .f32) (a4 : FVec Ideal S3x11008 .f32) : FVec Ideal S_ .f32 :=
  (constant S_ .f32 0x358637BD#32)

def v7 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x1 .f32 :=
  (broadcastInDim S8x2048x1 ![] bcast_S_S8x2048x1 : FVec Ideal S_ .f32 → FVec Ideal S8x2048x1 .f32) (cst_1 a0 a1 a2 a3 a4)

def v8 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x1 .f32 :=
  (addf : FVec Ideal S8x2048x1 .f32 → FVec Ideal S8x2048x1 .f32 → FVec Ideal S8x2048x1 .f32) (v6 a0 a1 a2 a3 a4) (v7 a0 a1 a2 a3 a4)

def v9 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x1 .f32 :=
  (Host.rsqrt : FVec Ideal S8x2048x1 .f32 → FVec Ideal S8x2048x1 .f32) (v8 a0 a1 a2 a3 a4)

def v10 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x2048 .f32 :=
  (broadcastInDim S8x2048x2048 ![0, 1, 2] bcast_S8x2048x1_S8x2048x2048_0_1_2 : FVec Ideal S8x2048x1 .f32 → FVec Ideal S8x2048x2048 .f32) (v9 a0 a1 a2 a3 a4)

def v11 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x2048 .f32 :=
  (mulf : FVec Ideal S8x2048x2048 .f32 → FVec Ideal S8x2048x2048 .f32 → FVec Ideal S8x2048x2048 .f32) (v1 a0 a1 a2 a3 a4) (v10 a0 a1 a2 a3 a4)

def v12 (a0 : FVec Ideal S8x2304x2048 .f32) (a1 : FVec Ideal S8x4x2048 .f32) (a2 : FVec Ideal S2048 .f32) (a3 : FVec Ideal S2048x11008 .f32) (a4 : FVec Ideal S3x11008 .f32) : FVec Ideal S1x1x2048 .f32 :=
  (broadcastInDim S1x1x2048 ![2] bcast_S2048_S1x1x2048_2 : FVec Ideal S2048 .f32 → FVec Ideal S1x1x2048 .f32) a2

def v13 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x2048 .f32 :=
  (broadcastInDim S8x2048x2048 ![0, 1, 2] bcast_S1x1x2048_S8x2048x2048_0_1_2 : FVec Ideal S1x1x2048 .f32 → FVec Ideal S8x2048x2048 .f32) (v12 a0 a1 a2 a3 a4)

def v14 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x2048 .f32 :=
  (mulf : FVec Ideal S8x2048x2048 .f32 → FVec Ideal S8x2048x2048 .f32 → FVec Ideal S8x2048x2048 .f32) (v11 a0 a1 a2 a3 a4) (v13 a0 a1 a2 a3 a4)

def v15 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x1x2048 .f32 :=
  ((extractStridedSlice S8x1x2048 ![0, 1, 0] · slices_S8x4x2048_S8x1x2048_0_1_0) : FVec Ideal S8x4x2048 .f32 → FVec Ideal S8x1x2048 .f32) a1

def cst_2 (a0 : FVec Ideal S8x2304x2048 .f32) (a1 : FVec Ideal S8x4x2048 .f32) (a2 : FVec Ideal S2048 .f32) (a3 : FVec Ideal S2048x11008 .f32) (a4 : FVec Ideal S3x11008 .f32) : FVec Ideal S_ .f32 :=
  (constant S_ .f32 0x3F800000#32)

def v16 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x1x2048 .f32 :=
  (broadcastInDim S8x1x2048 ![] bcast_S_S8x1x2048 : FVec Ideal S_ .f32 → FVec Ideal S8x1x2048 .f32) (cst_2 a0 a1 a2 a3 a4)

def v17 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x1x2048 .f32 :=
  (addf : FVec Ideal S8x1x2048 .f32 → FVec Ideal S8x1x2048 .f32 → FVec Ideal S8x1x2048 .f32) (v16 a0 a1 a2 a3 a4) (v15 a0 a1 a2 a3 a4)

def v18 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x2048 .f32 :=
  (broadcastInDim S8x2048x2048 ![0, 1, 2] bcast_S8x1x2048_S8x2048x2048_0_1_2 : FVec Ideal S8x1x2048 .f32 → FVec Ideal S8x2048x2048 .f32) (v17 a0 a1 a2 a3 a4)

def v19 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x2048 .f32 :=
  (mulf : FVec Ideal S8x2048x2048 .f32 → FVec Ideal S8x2048x2048 .f32 → FVec Ideal S8x2048x2048 .f32) (v14 a0 a1 a2 a3 a4) (v18 a0 a1 a2 a3 a4)

def v20 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x1x2048 .f32 :=
  ((extractStridedSlice S8x1x2048 ![0, 0, 0] · slices_S8x4x2048_S8x1x2048_0_0_0) : FVec Ideal S8x4x2048 .f32 → FVec Ideal S8x1x2048 .f32) a1

def v21 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x2048 .f32 :=
  (broadcastInDim S8x2048x2048 ![0, 1, 2] bcast_S8x1x2048_S8x2048x2048_0_1_2 : FVec Ideal S8x1x2048 .f32 → FVec Ideal S8x2048x2048 .f32) (v20 a0 a1 a2 a3 a4)

def v22 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x2048 .f32 :=
  (addf : FVec Ideal S8x2048x2048 .f32 → FVec Ideal S8x2048x2048 .f32 → FVec Ideal S8x2048x2048 .f32) (v19 a0 a1 a2 a3 a4) (v21 a0 a1 a2 a3 a4)

def v23 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x2048 .f32 :=
  (mulf : FVec Ideal S8x256x2048 .f32 → FVec Ideal S8x256x2048 .f32 → FVec Ideal S8x256x2048 .f32) (v0 a0 a1 a2 a3 a4) (v0 a0 a1 a2 a3 a4)

def cst_3 (a0 : FVec Ideal S8x2304x2048 .f32) (a1 : FVec Ideal S8x4x2048 .f32) (a2 : FVec Ideal S2048 .f32) (a3 : FVec Ideal S2048x11008 .f32) (a4 : FVec Ideal S3x11008 .f32) : FVec Ideal S_ .f32 :=
  (constant S_ .f32 0x00000000#32)

def v24 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256 .f32 :=
  ((fun x v => Host.reduceAdd x v reducesTo_S8x256x2048_S8x256_d2 h_S_) : FVec Ideal S8x256x2048 .f32 → FVec Ideal S_ .f32 → FVec Ideal S8x256 .f32) (v23 a0 a1 a2 a3 a4) (cst_3 a0 a1 a2 a3 a4)

def v25 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x1 .f32 :=
  (broadcastInDim S8x256x1 ![0, 1] bcast_S8x256_S8x256x1_0_1 : FVec Ideal S8x256 .f32 → FVec Ideal S8x256x1 .f32) (v24 a0 a1 a2 a3 a4)

def cst_4 (a0 : FVec Ideal S8x2304x2048 .f32) (a1 : FVec Ideal S8x4x2048 .f32) (a2 : FVec Ideal S2048 .f32) (a3 : FVec Ideal S2048x11008 .f32) (a4 : FVec Ideal S3x11008 .f32) : FVec Ideal S_ .f32 :=
  (constant S_ .f32 0x45000000#32)

def v26 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x1 .f32 :=
  (broadcastInDim S8x256x1 ![] bcast_S_S8x256x1 : FVec Ideal S_ .f32 → FVec Ideal S8x256x1 .f32) (cst_4 a0 a1 a2 a3 a4)

def v27 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x1 .f32 :=
  (Host.divf : FVec Ideal S8x256x1 .f32 → FVec Ideal S8x256x1 .f32 → FVec Ideal S8x256x1 .f32) (v25 a0 a1 a2 a3 a4) (v26 a0 a1 a2 a3 a4)

def cst_5 (a0 : FVec Ideal S8x2304x2048 .f32) (a1 : FVec Ideal S8x4x2048 .f32) (a2 : FVec Ideal S2048 .f32) (a3 : FVec Ideal S2048x11008 .f32) (a4 : FVec Ideal S3x11008 .f32) : FVec Ideal S_ .f32 :=
  (constant S_ .f32 0x358637BD#32)

def v28 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x1 .f32 :=
  (broadcastInDim S8x256x1 ![] bcast_S_S8x256x1 : FVec Ideal S_ .f32 → FVec Ideal S8x256x1 .f32) (cst_5 a0 a1 a2 a3 a4)

def v29 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x1 .f32 :=
  (addf : FVec Ideal S8x256x1 .f32 → FVec Ideal S8x256x1 .f32 → FVec Ideal S8x256x1 .f32) (v27 a0 a1 a2 a3 a4) (v28 a0 a1 a2 a3 a4)

def v30 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x1 .f32 :=
  (Host.rsqrt : FVec Ideal S8x256x1 .f32 → FVec Ideal S8x256x1 .f32) (v29 a0 a1 a2 a3 a4)

def v31 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x2048 .f32 :=
  (broadcastInDim S8x256x2048 ![0, 1, 2] bcast_S8x256x1_S8x256x2048_0_1_2 : FVec Ideal S8x256x1 .f32 → FVec Ideal S8x256x2048 .f32) (v30 a0 a1 a2 a3 a4)

def v32 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x2048 .f32 :=
  (mulf : FVec Ideal S8x256x2048 .f32 → FVec Ideal S8x256x2048 .f32 → FVec Ideal S8x256x2048 .f32) (v0 a0 a1 a2 a3 a4) (v31 a0 a1 a2 a3 a4)

def v33 (a0 : FVec Ideal S8x2304x2048 .f32) (a1 : FVec Ideal S8x4x2048 .f32) (a2 : FVec Ideal S2048 .f32) (a3 : FVec Ideal S2048x11008 .f32) (a4 : FVec Ideal S3x11008 .f32) : FVec Ideal S1x1x2048 .f32 :=
  (broadcastInDim S1x1x2048 ![2] bcast_S2048_S1x1x2048_2 : FVec Ideal S2048 .f32 → FVec Ideal S1x1x2048 .f32) a2

def v34 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x2048 .f32 :=
  (broadcastInDim S8x256x2048 ![0, 1, 2] bcast_S1x1x2048_S8x256x2048_0_1_2 : FVec Ideal S1x1x2048 .f32 → FVec Ideal S8x256x2048 .f32) (v33 a0 a1 a2 a3 a4)

def v35 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x2048 .f32 :=
  (mulf : FVec Ideal S8x256x2048 .f32 → FVec Ideal S8x256x2048 .f32 → FVec Ideal S8x256x2048 .f32) (v32 a0 a1 a2 a3 a4) (v34 a0 a1 a2 a3 a4)

def v36 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x1x2048 .f32 :=
  ((extractStridedSlice S8x1x2048 ![0, 3, 0] · slices_S8x4x2048_S8x1x2048_0_3_0) : FVec Ideal S8x4x2048 .f32 → FVec Ideal S8x1x2048 .f32) a1

def cst_6 (a0 : FVec Ideal S8x2304x2048 .f32) (a1 : FVec Ideal S8x4x2048 .f32) (a2 : FVec Ideal S2048 .f32) (a3 : FVec Ideal S2048x11008 .f32) (a4 : FVec Ideal S3x11008 .f32) : FVec Ideal S_ .f32 :=
  (constant S_ .f32 0x3F800000#32)

def v37 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x1x2048 .f32 :=
  (broadcastInDim S8x1x2048 ![] bcast_S_S8x1x2048 : FVec Ideal S_ .f32 → FVec Ideal S8x1x2048 .f32) (cst_6 a0 a1 a2 a3 a4)

def v38 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x1x2048 .f32 :=
  (addf : FVec Ideal S8x1x2048 .f32 → FVec Ideal S8x1x2048 .f32 → FVec Ideal S8x1x2048 .f32) (v37 a0 a1 a2 a3 a4) (v36 a0 a1 a2 a3 a4)

def v39 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x2048 .f32 :=
  (broadcastInDim S8x256x2048 ![0, 1, 2] bcast_S8x1x2048_S8x256x2048_0_1_2 : FVec Ideal S8x1x2048 .f32 → FVec Ideal S8x256x2048 .f32) (v38 a0 a1 a2 a3 a4)

def v40 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x2048 .f32 :=
  (mulf : FVec Ideal S8x256x2048 .f32 → FVec Ideal S8x256x2048 .f32 → FVec Ideal S8x256x2048 .f32) (v35 a0 a1 a2 a3 a4) (v39 a0 a1 a2 a3 a4)

def v41 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x1x2048 .f32 :=
  ((extractStridedSlice S8x1x2048 ![0, 2, 0] · slices_S8x4x2048_S8x1x2048_0_2_0) : FVec Ideal S8x4x2048 .f32 → FVec Ideal S8x1x2048 .f32) a1

def v42 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x2048 .f32 :=
  (broadcastInDim S8x256x2048 ![0, 1, 2] bcast_S8x1x2048_S8x256x2048_0_1_2 : FVec Ideal S8x1x2048 .f32 → FVec Ideal S8x256x2048 .f32) (v41 a0 a1 a2 a3 a4)

def v43 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x2048 .f32 :=
  (addf : FVec Ideal S8x256x2048 .f32 → FVec Ideal S8x256x2048 .f32 → FVec Ideal S8x256x2048 .f32) (v40 a0 a1 a2 a3 a4) (v42 a0 a1 a2 a3 a4)

def v44 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x11008 .f32 :=
  ((fun l r => Host.dotGeneral dot_S8x256x2048_S2048x11008_S8x256x11008_2_0_01_1_n_n none l r) : FVec Ideal S8x256x2048 .f32 → FVec Ideal S2048x11008 .f32 → FVec Ideal S8x256x11008 .f32) (v43 a0 a1 a2 a3 a4) a3

def c (a0 : FVec Ideal S8x2304x2048 .f32) (a1 : FVec Ideal S8x4x2048 .f32) (a2 : FVec Ideal S2048 .f32) (a3 : FVec Ideal S2048x11008 .f32) (a4 : FVec Ideal S3x11008 .f32) : IVec S_ 32 :=
  (constantI S_ 32 0#32)

def call0_v0 (a0 : FVec Ideal S8x2304x2048 .f32) (a1 : FVec Ideal S8x4x2048 .f32) (a2 : FVec Ideal S2048 .f32) (a3 : FVec Ideal S2048x11008 .f32) (a4 : FVec Ideal S3x11008 .f32) : FVec Ideal S_ .f32 :=
  ((sitofp .f32) : IVec S_ 32 → FVec Ideal S_ .f32) (c a0 a1 a2 a3 a4)

def v45 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x258x11008 .f32 :=
  ((fun x v => pad S8x258x11008 ![0, 1, 0] ![0, 1, 0] ![0, 0, 0] x v pads_S8x256x11008_S8x258x11008_000_110_000 h_S_) : FVec Ideal S8x256x11008 .f32 → FVec Ideal S_ .f32 → FVec Ideal S8x258x11008 .f32) (v44 a0 a1 a2 a3 a4) (call0_v0 a0 a1 a2 a3 a4)

def v46 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x11008 .f32 :=
  ((extractStridedSlice S8x256x11008 ![0, 0, 0] · slices_S8x258x11008_S8x256x11008_0_0_0) : FVec Ideal S8x258x11008 .f32 → FVec Ideal S8x256x11008 .f32) (v45 a0 a1 a2 a3 a4)

def v47 (a0 : FVec Ideal S8x2304x2048 .f32) (a1 : FVec Ideal S8x4x2048 .f32) (a2 : FVec Ideal S2048 .f32) (a3 : FVec Ideal S2048x11008 .f32) (a4 : FVec Ideal S3x11008 .f32) : FVec Ideal S1x11008 .f32 :=
  ((extractStridedSlice S1x11008 ![0, 0] · slices_S3x11008_S1x11008_0_0) : FVec Ideal S3x11008 .f32 → FVec Ideal S1x11008 .f32) a4

def v48 (a0 : FVec Ideal S8x2304x2048 .f32) (a1 : FVec Ideal S8x4x2048 .f32) (a2 : FVec Ideal S2048 .f32) (a3 : FVec Ideal S2048x11008 .f32) (a4 : FVec Ideal S3x11008 .f32) : FVec Ideal S11008 .f32 :=
  ((fun x => shapeCast _ x shapeCasts_S1x11008_S11008) : FVec Ideal S1x11008 .f32 → FVec Ideal S11008 .f32) (v47 a0 a1 a2 a3 a4)

def v49 (a0 : FVec Ideal S8x2304x2048 .f32) (a1 : FVec Ideal S8x4x2048 .f32) (a2 : FVec Ideal S2048 .f32) (a3 : FVec Ideal S2048x11008 .f32) (a4 : FVec Ideal S3x11008 .f32) : FVec Ideal S1x1x11008 .f32 :=
  (broadcastInDim S1x1x11008 ![2] bcast_S11008_S1x1x11008_2 : FVec Ideal S11008 .f32 → FVec Ideal S1x1x11008 .f32) (v48 a0 a1 a2 a3 a4)

def v50 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x11008 .f32 :=
  (broadcastInDim S8x256x11008 ![0, 1, 2] bcast_S1x1x11008_S8x256x11008_0_1_2 : FVec Ideal S1x1x11008 .f32 → FVec Ideal S8x256x11008 .f32) (v49 a0 a1 a2 a3 a4)

def v51 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x11008 .f32 :=
  (mulf : FVec Ideal S8x256x11008 .f32 → FVec Ideal S8x256x11008 .f32 → FVec Ideal S8x256x11008 .f32) (v46 a0 a1 a2 a3 a4) (v50 a0 a1 a2 a3 a4)

def v52 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x11008 .f32 :=
  ((extractStridedSlice S8x256x11008 ![0, 1, 0] · slices_S8x258x11008_S8x256x11008_0_1_0) : FVec Ideal S8x258x11008 .f32 → FVec Ideal S8x256x11008 .f32) (v45 a0 a1 a2 a3 a4)

def v53 (a0 : FVec Ideal S8x2304x2048 .f32) (a1 : FVec Ideal S8x4x2048 .f32) (a2 : FVec Ideal S2048 .f32) (a3 : FVec Ideal S2048x11008 .f32) (a4 : FVec Ideal S3x11008 .f32) : FVec Ideal S1x11008 .f32 :=
  ((extractStridedSlice S1x11008 ![1, 0] · slices_S3x11008_S1x11008_1_0) : FVec Ideal S3x11008 .f32 → FVec Ideal S1x11008 .f32) a4

def v54 (a0 : FVec Ideal S8x2304x2048 .f32) (a1 : FVec Ideal S8x4x2048 .f32) (a2 : FVec Ideal S2048 .f32) (a3 : FVec Ideal S2048x11008 .f32) (a4 : FVec Ideal S3x11008 .f32) : FVec Ideal S11008 .f32 :=
  ((fun x => shapeCast _ x shapeCasts_S1x11008_S11008) : FVec Ideal S1x11008 .f32 → FVec Ideal S11008 .f32) (v53 a0 a1 a2 a3 a4)

def v55 (a0 : FVec Ideal S8x2304x2048 .f32) (a1 : FVec Ideal S8x4x2048 .f32) (a2 : FVec Ideal S2048 .f32) (a3 : FVec Ideal S2048x11008 .f32) (a4 : FVec Ideal S3x11008 .f32) : FVec Ideal S1x1x11008 .f32 :=
  (broadcastInDim S1x1x11008 ![2] bcast_S11008_S1x1x11008_2 : FVec Ideal S11008 .f32 → FVec Ideal S1x1x11008 .f32) (v54 a0 a1 a2 a3 a4)

def v56 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x11008 .f32 :=
  (broadcastInDim S8x256x11008 ![0, 1, 2] bcast_S1x1x11008_S8x256x11008_0_1_2 : FVec Ideal S1x1x11008 .f32 → FVec Ideal S8x256x11008 .f32) (v55 a0 a1 a2 a3 a4)

def v57 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x11008 .f32 :=
  (mulf : FVec Ideal S8x256x11008 .f32 → FVec Ideal S8x256x11008 .f32 → FVec Ideal S8x256x11008 .f32) (v52 a0 a1 a2 a3 a4) (v56 a0 a1 a2 a3 a4)

def v58 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x11008 .f32 :=
  (addf : FVec Ideal S8x256x11008 .f32 → FVec Ideal S8x256x11008 .f32 → FVec Ideal S8x256x11008 .f32) (v51 a0 a1 a2 a3 a4) (v57 a0 a1 a2 a3 a4)

def v59 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x11008 .f32 :=
  ((extractStridedSlice S8x256x11008 ![0, 2, 0] · slices_S8x258x11008_S8x256x11008_0_2_0) : FVec Ideal S8x258x11008 .f32 → FVec Ideal S8x256x11008 .f32) (v45 a0 a1 a2 a3 a4)

def v60 (a0 : FVec Ideal S8x2304x2048 .f32) (a1 : FVec Ideal S8x4x2048 .f32) (a2 : FVec Ideal S2048 .f32) (a3 : FVec Ideal S2048x11008 .f32) (a4 : FVec Ideal S3x11008 .f32) : FVec Ideal S1x11008 .f32 :=
  ((extractStridedSlice S1x11008 ![2, 0] · slices_S3x11008_S1x11008_2_0) : FVec Ideal S3x11008 .f32 → FVec Ideal S1x11008 .f32) a4

def v61 (a0 : FVec Ideal S8x2304x2048 .f32) (a1 : FVec Ideal S8x4x2048 .f32) (a2 : FVec Ideal S2048 .f32) (a3 : FVec Ideal S2048x11008 .f32) (a4 : FVec Ideal S3x11008 .f32) : FVec Ideal S11008 .f32 :=
  ((fun x => shapeCast _ x shapeCasts_S1x11008_S11008) : FVec Ideal S1x11008 .f32 → FVec Ideal S11008 .f32) (v60 a0 a1 a2 a3 a4)

def v62 (a0 : FVec Ideal S8x2304x2048 .f32) (a1 : FVec Ideal S8x4x2048 .f32) (a2 : FVec Ideal S2048 .f32) (a3 : FVec Ideal S2048x11008 .f32) (a4 : FVec Ideal S3x11008 .f32) : FVec Ideal S1x1x11008 .f32 :=
  (broadcastInDim S1x1x11008 ![2] bcast_S11008_S1x1x11008_2 : FVec Ideal S11008 .f32 → FVec Ideal S1x1x11008 .f32) (v61 a0 a1 a2 a3 a4)

def v63 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x11008 .f32 :=
  (broadcastInDim S8x256x11008 ![0, 1, 2] bcast_S1x1x11008_S8x256x11008_0_1_2 : FVec Ideal S1x1x11008 .f32 → FVec Ideal S8x256x11008 .f32) (v62 a0 a1 a2 a3 a4)

def v64 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x11008 .f32 :=
  (mulf : FVec Ideal S8x256x11008 .f32 → FVec Ideal S8x256x11008 .f32 → FVec Ideal S8x256x11008 .f32) (v59 a0 a1 a2 a3 a4) (v63 a0 a1 a2 a3 a4)

def v65 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x11008 .f32 :=
  (addf : FVec Ideal S8x256x11008 .f32 → FVec Ideal S8x256x11008 .f32 → FVec Ideal S8x256x11008 .f32) (v58 a0 a1 a2 a3 a4) (v64 a0 a1 a2 a3 a4)

def v66 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x5504 .f32 :=
  ((extractStridedSlice S8x256x5504 ![0, 0, 0] · slices_S8x256x11008_S8x256x5504_0_0_0) : FVec Ideal S8x256x11008 .f32 → FVec Ideal S8x256x5504 .f32) (v65 a0 a1 a2 a3 a4)

def v67 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x5504 .f32 :=
  ((extractStridedSlice S8x256x5504 ![0, 0, 5504] · slices_S8x256x11008_S8x256x5504_0_0_5504) : FVec Ideal S8x256x11008 .f32 → FVec Ideal S8x256x5504 .f32) (v65 a0 a1 a2 a3 a4)

def call1_v0 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x5504 .f32 :=
  (Host.negf : FVec Ideal S8x256x5504 .f32 → FVec Ideal S8x256x5504 .f32) (v66 a0 a1 a2 a3 a4)

def call1_v1 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x5504 .f32 :=
  (Host.exp : FVec Ideal S8x256x5504 .f32 → FVec Ideal S8x256x5504 .f32) (call1_v0 a0 a1 a2 a3 a4)

def call1_cst (a0 : FVec Ideal S8x2304x2048 .f32) (a1 : FVec Ideal S8x4x2048 .f32) (a2 : FVec Ideal S2048 .f32) (a3 : FVec Ideal S2048x11008 .f32) (a4 : FVec Ideal S3x11008 .f32) : FVec Ideal S_ .f32 :=
  (constant S_ .f32 0x3F800000#32)

def call1_v2 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x5504 .f32 :=
  ((broadcastInDim S8x256x5504 ![] bcast_S_S8x256x5504) : FVec Ideal S_ .f32 → FVec Ideal S8x256x5504 .f32) (call1_cst a0 a1 a2 a3 a4)

def call1_v3 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x5504 .f32 :=
  (addf : FVec Ideal S8x256x5504 .f32 → FVec Ideal S8x256x5504 .f32 → FVec Ideal S8x256x5504 .f32) (call1_v2 a0 a1 a2 a3 a4) (call1_v1 a0 a1 a2 a3 a4)

def call1_cst_0 (a0 : FVec Ideal S8x2304x2048 .f32) (a1 : FVec Ideal S8x4x2048 .f32) (a2 : FVec Ideal S2048 .f32) (a3 : FVec Ideal S2048x11008 .f32) (a4 : FVec Ideal S3x11008 .f32) : FVec Ideal S_ .f32 :=
  (constant S_ .f32 0x3F800000#32)

def call1_v4 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x5504 .f32 :=
  ((broadcastInDim S8x256x5504 ![] bcast_S_S8x256x5504) : FVec Ideal S_ .f32 → FVec Ideal S8x256x5504 .f32) (call1_cst_0 a0 a1 a2 a3 a4)

def call1_v5 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x5504 .f32 :=
  (Host.divf : FVec Ideal S8x256x5504 .f32 → FVec Ideal S8x256x5504 .f32 → FVec Ideal S8x256x5504 .f32) (call1_v4 a0 a1 a2 a3 a4) (call1_v3 a0 a1 a2 a3 a4)

def v68 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x5504 .f32 :=
  (mulf : FVec Ideal S8x256x5504 .f32 → FVec Ideal S8x256x5504 .f32 → FVec Ideal S8x256x5504 .f32) (v66 a0 a1 a2 a3 a4) (call1_v5 a0 a1 a2 a3 a4)

def v69 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x256x5504 .f32 :=
  (mulf : FVec Ideal S8x256x5504 .f32 → FVec Ideal S8x256x5504 .f32 → FVec Ideal S8x256x5504 .f32) (v68 a0 a1 a2 a3 a4) (v67 a0 a1 a2 a3 a4)

def v70 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x11008 .f32 :=
  ((fun l r => Host.dotGeneral dot_S8x2048x2048_S2048x11008_S8x2048x11008_2_0_01_1_n_n none l r) : FVec Ideal S8x2048x2048 .f32 → FVec Ideal S2048x11008 .f32 → FVec Ideal S8x2048x11008 .f32) (v22 a0 a1 a2 a3 a4) a3

def c_7 (a0 : FVec Ideal S8x2304x2048 .f32) (a1 : FVec Ideal S8x4x2048 .f32) (a2 : FVec Ideal S2048 .f32) (a3 : FVec Ideal S2048x11008 .f32) (a4 : FVec Ideal S3x11008 .f32) : IVec S_ 32 :=
  (constantI S_ 32 0#32)

def call2_v0 (a0 : FVec Ideal S8x2304x2048 .f32) (a1 : FVec Ideal S8x4x2048 .f32) (a2 : FVec Ideal S2048 .f32) (a3 : FVec Ideal S2048x11008 .f32) (a4 : FVec Ideal S3x11008 .f32) : FVec Ideal S_ .f32 :=
  ((sitofp .f32) : IVec S_ 32 → FVec Ideal S_ .f32) (c_7 a0 a1 a2 a3 a4)

def v71 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2050x11008 .f32 :=
  ((fun x v => pad S8x2050x11008 ![0, 1, 0] ![0, 1, 0] ![0, 0, 0] x v pads_S8x2048x11008_S8x2050x11008_000_110_000 h_S_) : FVec Ideal S8x2048x11008 .f32 → FVec Ideal S_ .f32 → FVec Ideal S8x2050x11008 .f32) (v70 a0 a1 a2 a3 a4) (call2_v0 a0 a1 a2 a3 a4)

def v72 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x11008 .f32 :=
  ((extractStridedSlice S8x2048x11008 ![0, 0, 0] · slices_S8x2050x11008_S8x2048x11008_0_0_0) : FVec Ideal S8x2050x11008 .f32 → FVec Ideal S8x2048x11008 .f32) (v71 a0 a1 a2 a3 a4)

def v73 (a0 : FVec Ideal S8x2304x2048 .f32) (a1 : FVec Ideal S8x4x2048 .f32) (a2 : FVec Ideal S2048 .f32) (a3 : FVec Ideal S2048x11008 .f32) (a4 : FVec Ideal S3x11008 .f32) : FVec Ideal S1x11008 .f32 :=
  ((extractStridedSlice S1x11008 ![0, 0] · slices_S3x11008_S1x11008_0_0) : FVec Ideal S3x11008 .f32 → FVec Ideal S1x11008 .f32) a4

def v74 (a0 : FVec Ideal S8x2304x2048 .f32) (a1 : FVec Ideal S8x4x2048 .f32) (a2 : FVec Ideal S2048 .f32) (a3 : FVec Ideal S2048x11008 .f32) (a4 : FVec Ideal S3x11008 .f32) : FVec Ideal S11008 .f32 :=
  ((fun x => shapeCast _ x shapeCasts_S1x11008_S11008) : FVec Ideal S1x11008 .f32 → FVec Ideal S11008 .f32) (v73 a0 a1 a2 a3 a4)

def v75 (a0 : FVec Ideal S8x2304x2048 .f32) (a1 : FVec Ideal S8x4x2048 .f32) (a2 : FVec Ideal S2048 .f32) (a3 : FVec Ideal S2048x11008 .f32) (a4 : FVec Ideal S3x11008 .f32) : FVec Ideal S1x1x11008 .f32 :=
  (broadcastInDim S1x1x11008 ![2] bcast_S11008_S1x1x11008_2 : FVec Ideal S11008 .f32 → FVec Ideal S1x1x11008 .f32) (v74 a0 a1 a2 a3 a4)

def v76 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x11008 .f32 :=
  (broadcastInDim S8x2048x11008 ![0, 1, 2] bcast_S1x1x11008_S8x2048x11008_0_1_2 : FVec Ideal S1x1x11008 .f32 → FVec Ideal S8x2048x11008 .f32) (v75 a0 a1 a2 a3 a4)

def v77 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x11008 .f32 :=
  (mulf : FVec Ideal S8x2048x11008 .f32 → FVec Ideal S8x2048x11008 .f32 → FVec Ideal S8x2048x11008 .f32) (v72 a0 a1 a2 a3 a4) (v76 a0 a1 a2 a3 a4)

def v78 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x11008 .f32 :=
  ((extractStridedSlice S8x2048x11008 ![0, 1, 0] · slices_S8x2050x11008_S8x2048x11008_0_1_0) : FVec Ideal S8x2050x11008 .f32 → FVec Ideal S8x2048x11008 .f32) (v71 a0 a1 a2 a3 a4)

def v79 (a0 : FVec Ideal S8x2304x2048 .f32) (a1 : FVec Ideal S8x4x2048 .f32) (a2 : FVec Ideal S2048 .f32) (a3 : FVec Ideal S2048x11008 .f32) (a4 : FVec Ideal S3x11008 .f32) : FVec Ideal S1x11008 .f32 :=
  ((extractStridedSlice S1x11008 ![1, 0] · slices_S3x11008_S1x11008_1_0) : FVec Ideal S3x11008 .f32 → FVec Ideal S1x11008 .f32) a4

def v80 (a0 : FVec Ideal S8x2304x2048 .f32) (a1 : FVec Ideal S8x4x2048 .f32) (a2 : FVec Ideal S2048 .f32) (a3 : FVec Ideal S2048x11008 .f32) (a4 : FVec Ideal S3x11008 .f32) : FVec Ideal S11008 .f32 :=
  ((fun x => shapeCast _ x shapeCasts_S1x11008_S11008) : FVec Ideal S1x11008 .f32 → FVec Ideal S11008 .f32) (v79 a0 a1 a2 a3 a4)

def v81 (a0 : FVec Ideal S8x2304x2048 .f32) (a1 : FVec Ideal S8x4x2048 .f32) (a2 : FVec Ideal S2048 .f32) (a3 : FVec Ideal S2048x11008 .f32) (a4 : FVec Ideal S3x11008 .f32) : FVec Ideal S1x1x11008 .f32 :=
  (broadcastInDim S1x1x11008 ![2] bcast_S11008_S1x1x11008_2 : FVec Ideal S11008 .f32 → FVec Ideal S1x1x11008 .f32) (v80 a0 a1 a2 a3 a4)

def v82 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x11008 .f32 :=
  (broadcastInDim S8x2048x11008 ![0, 1, 2] bcast_S1x1x11008_S8x2048x11008_0_1_2 : FVec Ideal S1x1x11008 .f32 → FVec Ideal S8x2048x11008 .f32) (v81 a0 a1 a2 a3 a4)

def v83 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x11008 .f32 :=
  (mulf : FVec Ideal S8x2048x11008 .f32 → FVec Ideal S8x2048x11008 .f32 → FVec Ideal S8x2048x11008 .f32) (v78 a0 a1 a2 a3 a4) (v82 a0 a1 a2 a3 a4)

def v84 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x11008 .f32 :=
  (addf : FVec Ideal S8x2048x11008 .f32 → FVec Ideal S8x2048x11008 .f32 → FVec Ideal S8x2048x11008 .f32) (v77 a0 a1 a2 a3 a4) (v83 a0 a1 a2 a3 a4)

def v85 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x11008 .f32 :=
  ((extractStridedSlice S8x2048x11008 ![0, 2, 0] · slices_S8x2050x11008_S8x2048x11008_0_2_0) : FVec Ideal S8x2050x11008 .f32 → FVec Ideal S8x2048x11008 .f32) (v71 a0 a1 a2 a3 a4)

def v86 (a0 : FVec Ideal S8x2304x2048 .f32) (a1 : FVec Ideal S8x4x2048 .f32) (a2 : FVec Ideal S2048 .f32) (a3 : FVec Ideal S2048x11008 .f32) (a4 : FVec Ideal S3x11008 .f32) : FVec Ideal S1x11008 .f32 :=
  ((extractStridedSlice S1x11008 ![2, 0] · slices_S3x11008_S1x11008_2_0) : FVec Ideal S3x11008 .f32 → FVec Ideal S1x11008 .f32) a4

def v87 (a0 : FVec Ideal S8x2304x2048 .f32) (a1 : FVec Ideal S8x4x2048 .f32) (a2 : FVec Ideal S2048 .f32) (a3 : FVec Ideal S2048x11008 .f32) (a4 : FVec Ideal S3x11008 .f32) : FVec Ideal S11008 .f32 :=
  ((fun x => shapeCast _ x shapeCasts_S1x11008_S11008) : FVec Ideal S1x11008 .f32 → FVec Ideal S11008 .f32) (v86 a0 a1 a2 a3 a4)

def v88 (a0 : FVec Ideal S8x2304x2048 .f32) (a1 : FVec Ideal S8x4x2048 .f32) (a2 : FVec Ideal S2048 .f32) (a3 : FVec Ideal S2048x11008 .f32) (a4 : FVec Ideal S3x11008 .f32) : FVec Ideal S1x1x11008 .f32 :=
  (broadcastInDim S1x1x11008 ![2] bcast_S11008_S1x1x11008_2 : FVec Ideal S11008 .f32 → FVec Ideal S1x1x11008 .f32) (v87 a0 a1 a2 a3 a4)

def v89 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x11008 .f32 :=
  (broadcastInDim S8x2048x11008 ![0, 1, 2] bcast_S1x1x11008_S8x2048x11008_0_1_2 : FVec Ideal S1x1x11008 .f32 → FVec Ideal S8x2048x11008 .f32) (v88 a0 a1 a2 a3 a4)

def v90 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x11008 .f32 :=
  (mulf : FVec Ideal S8x2048x11008 .f32 → FVec Ideal S8x2048x11008 .f32 → FVec Ideal S8x2048x11008 .f32) (v85 a0 a1 a2 a3 a4) (v89 a0 a1 a2 a3 a4)

def v91 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x11008 .f32 :=
  (addf : FVec Ideal S8x2048x11008 .f32 → FVec Ideal S8x2048x11008 .f32 → FVec Ideal S8x2048x11008 .f32) (v84 a0 a1 a2 a3 a4) (v90 a0 a1 a2 a3 a4)

def v92 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x5504 .f32 :=
  ((extractStridedSlice S8x2048x5504 ![0, 0, 0] · slices_S8x2048x11008_S8x2048x5504_0_0_0) : FVec Ideal S8x2048x11008 .f32 → FVec Ideal S8x2048x5504 .f32) (v91 a0 a1 a2 a3 a4)

def v93 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x5504 .f32 :=
  ((extractStridedSlice S8x2048x5504 ![0, 0, 5504] · slices_S8x2048x11008_S8x2048x5504_0_0_5504) : FVec Ideal S8x2048x11008 .f32 → FVec Ideal S8x2048x5504 .f32) (v91 a0 a1 a2 a3 a4)

def call3_v0 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x5504 .f32 :=
  (Host.negf : FVec Ideal S8x2048x5504 .f32 → FVec Ideal S8x2048x5504 .f32) (v92 a0 a1 a2 a3 a4)

def call3_v1 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x5504 .f32 :=
  (Host.exp : FVec Ideal S8x2048x5504 .f32 → FVec Ideal S8x2048x5504 .f32) (call3_v0 a0 a1 a2 a3 a4)

def call3_cst (a0 : FVec Ideal S8x2304x2048 .f32) (a1 : FVec Ideal S8x4x2048 .f32) (a2 : FVec Ideal S2048 .f32) (a3 : FVec Ideal S2048x11008 .f32) (a4 : FVec Ideal S3x11008 .f32) : FVec Ideal S_ .f32 :=
  (constant S_ .f32 0x3F800000#32)

def call3_v2 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x5504 .f32 :=
  ((broadcastInDim S8x2048x5504 ![] bcast_S_S8x2048x5504) : FVec Ideal S_ .f32 → FVec Ideal S8x2048x5504 .f32) (call3_cst a0 a1 a2 a3 a4)

def call3_v3 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x5504 .f32 :=
  (addf : FVec Ideal S8x2048x5504 .f32 → FVec Ideal S8x2048x5504 .f32 → FVec Ideal S8x2048x5504 .f32) (call3_v2 a0 a1 a2 a3 a4) (call3_v1 a0 a1 a2 a3 a4)

def call3_cst_0 (a0 : FVec Ideal S8x2304x2048 .f32) (a1 : FVec Ideal S8x4x2048 .f32) (a2 : FVec Ideal S2048 .f32) (a3 : FVec Ideal S2048x11008 .f32) (a4 : FVec Ideal S3x11008 .f32) : FVec Ideal S_ .f32 :=
  (constant S_ .f32 0x3F800000#32)

def call3_v4 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x5504 .f32 :=
  ((broadcastInDim S8x2048x5504 ![] bcast_S_S8x2048x5504) : FVec Ideal S_ .f32 → FVec Ideal S8x2048x5504 .f32) (call3_cst_0 a0 a1 a2 a3 a4)

def call3_v5 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x5504 .f32 :=
  (Host.divf : FVec Ideal S8x2048x5504 .f32 → FVec Ideal S8x2048x5504 .f32 → FVec Ideal S8x2048x5504 .f32) (call3_v4 a0 a1 a2 a3 a4) (call3_v3 a0 a1 a2 a3 a4)

def v94 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x5504 .f32 :=
  (mulf : FVec Ideal S8x2048x5504 .f32 → FVec Ideal S8x2048x5504 .f32 → FVec Ideal S8x2048x5504 .f32) (v92 a0 a1 a2 a3 a4) (call3_v5 a0 a1 a2 a3 a4)

def v95 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2048x5504 .f32 :=
  (mulf : FVec Ideal S8x2048x5504 .f32 → FVec Ideal S8x2048x5504 .f32 → FVec Ideal S8x2048x5504 .f32) (v94 a0 a1 a2 a3 a4) (v93 a0 a1 a2 a3 a4)

def v96 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2304x5504 .f32 :=
  ((fun a b => concatenate S8x2304x5504 1 [⟨S8x256x5504, a⟩, ⟨S8x2048x5504, b⟩] concatenates_S8x256x5504_S8x2048x5504_S8x2304x5504_d1) : FVec Ideal S8x256x5504 .f32 → FVec Ideal S8x2048x5504 .f32 → FVec Ideal S8x2304x5504 .f32) (v69 a0 a1 a2 a3 a4) (v95 a0 a1 a2 a3 a4)

def c_8 (a0 : FVec Ideal S8x2304x2048 .f32) (a1 : FVec Ideal S8x4x2048 .f32) (a2 : FVec Ideal S2048 .f32) (a3 : FVec Ideal S2048x11008 .f32) (a4 : FVec Ideal S3x11008 .f32) : IVec S_ 32 :=
  (constantI S_ 32 0#32)

def call4_v0 (a0 : FVec Ideal S8x2304x2048 .f32) (a1 : FVec Ideal S8x4x2048 .f32) (a2 : FVec Ideal S2048 .f32) (a3 : FVec Ideal S2048x11008 .f32) (a4 : FVec Ideal S3x11008 .f32) : FVec Ideal S_ .f32 :=
  ((sitofp .f32) : IVec S_ 32 → FVec Ideal S_ .f32) (c_8 a0 a1 a2 a3 a4)

def v97 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2304x5632 .f32 :=
  ((fun x v => pad S8x2304x5632 ![0, 0, 0] ![0, 0, 128] ![0, 0, 0] x v pads_S8x2304x5504_S8x2304x5632_000_000_01280 h_S_) : FVec Ideal S8x2304x5504 .f32 → FVec Ideal S_ .f32 → FVec Ideal S8x2304x5632 .f32) (v96 a0 a1 a2 a3 a4) (call4_v0 a0 a1 a2 a3 a4)

def v98 (a0 : FVec Ideal S8x2304x2048 .f32) (a1 : FVec Ideal S8x4x2048 .f32) (a2 : FVec Ideal S2048 .f32) (a3 : FVec Ideal S2048x11008 .f32) (a4 : FVec Ideal S3x11008 .f32) : FVec Ideal S8x2304x5632 .bf16 :=
  ((truncf .bf16 · bitsLt_bf16_f32) : FVec Ideal S8x2304x5632 .f32 → FVec Ideal S8x2304x5632 .bf16) (v97 a0 a1 a2 a3 a4)

end Cert.ReferenceFfnIdeal.Val

end
-- ==== Proof.RvalFfn.lean ====
module

public import proofs.«01_k».proof.Proof.OutFfn
public import proofs.«01_k».proof.Proof.RefFfn
public import proofs.«01_k».proof.Proof.Rows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! The reference's result, entry by entry: normed rows, their product with the weights, three taps within each of the two
segments, the gated unit. -/
namespace Cert.ReferenceFfnIdeal.Val

open Cert.ReferenceFfnIdeal Cert.ReferenceFfnIdeal.Gen
open Cert.KernelFfnIdeal.Value (act conv)

/-- A normed row times a column of the weights. -/
def U (x : Fin 8 → Fin 2304 → Fin 2048 → EReal) (mv : Fin 8 → Fin 4 → Fin 2048 → EReal) (w : Fin 2048 → EReal) (W : Fin 2048 → Fin 11008 → EReal)
    (b : Fin 8) (r : Fin 2304) (n : Fin 11008) : EReal := ∑ k, Rows.H x mv w b r k * W k n

/-- Three taps down a column: rows 0 to 255 and 256 to 2303 are two segments with zeros around each. -/
def taps (u : Fin 2304 → EReal) (c : Fin 3 → EReal) (r : Fin 2304) : EReal :=
  conv (if h : r.val = 0 ∨ r.val = 256 then 0 else u ⟨r.val - 1, by omega⟩) (u r)
    (if h : r.val = 255 ∨ r.val = 2303 then 0 else u ⟨r.val + 1, by omega⟩) (c 0) (c 1) (c 2)

theorem zero_word : (FloatOps.sitofp (F := Ideal) FTy.f32 (0#32) : EReal) = 0 := by
  show (((0#32 : BitVec 32).toInt : ℝ) : EReal) = 0
  simp

theorem logistic_eq (x : EReal) : Ideal.div 1 (1 + Ideal.exp (-x)) = Ideal.logistic x := rfl

theorem ctx_val (a0 : FVec Ideal S8x2304x2048 .f32) (a1 : FVec Ideal S8x4x2048 .f32) (a2 : FVec Ideal S2048 .f32) (a3 : FVec Ideal S2048x11008 .f32) (a4 : FVec Ideal S3x11008 .f32) (b : Fin 8) (r : Fin 256) (k : Fin 2048) :
    v43 a0 a1 a2 a3 a4 (ix3 b r k) = Rows.H (fun b r k => a0 (ix3 b r k)) (fun b r k => a1 (ix3 b r k)) (fun k => a2 (ix1 k)) b ⟨r.val, by omega⟩ k := by
  rw [Rows.H_lo _ _ _ _ _ _ r.isLt, Rows.out, Rows.inv]
  pointwise [v43, v42, v41, v40, v39, v38, v37, cst_6, v36, v35, v34, v33, v32, v31, v30, v29, v28, cst_5, v27, v26, cst_4, v25, v24, cst_3, v23, v0]
  rw [mul_assoc _ (a2 (ix1 k)) _]

theorem lat_val (a0 : FVec Ideal S8x2304x2048 .f32) (a1 : FVec Ideal S8x4x2048 .f32) (a2 : FVec Ideal S2048 .f32) (a3 : FVec Ideal S2048x11008 .f32) (a4 : FVec Ideal S3x11008 .f32) (b : Fin 8) (r : Fin 2048) (k : Fin 2048) :
    v22 a0 a1 a2 a3 a4 (ix3 b r k) = Rows.H (fun b r k => a0 (ix3 b r k)) (fun b r k => a1 (ix3 b r k)) (fun k => a2 (ix1 k)) b ⟨256 + r.val, by omega⟩ k := by
  rw [Rows.H_hi _ _ _ _ _ _ (by simp), Rows.out, Rows.inv]
  pointwise [v22, v21, v20, v19, v18, v17, v16, cst_2, v15, v14, v13, v12, v11, v10, v9, v8, v7, cst_1, v6, v5, cst_0, v4, v3, cst, v2, v1]
  rw [mul_assoc _ (a2 (ix1 k)) _]

theorem uctx (a0 : FVec Ideal S8x2304x2048 .f32) (a1 : FVec Ideal S8x4x2048 .f32) (a2 : FVec Ideal S2048 .f32) (a3 : FVec Ideal S2048x11008 .f32) (a4 : FVec Ideal S3x11008 .f32) (b : Fin 8) (r : Fin 256) (n : Fin 11008) :
    v44 a0 a1 a2 a3 a4 (ix3 b r n) = U (fun b r k => a0 (ix3 b r k)) (fun b r k => a1 (ix3 b r k)) (fun k => a2 (ix1 k)) (fun k n => a3 (ix2 k n)) b ⟨r.val, by omega⟩ n := by
  unfold U
  pointwise [v44]
  simp only [ctx_val]

theorem pad_ctx (a0 : FVec Ideal S8x2304x2048 .f32) (a1 : FVec Ideal S8x4x2048 .f32) (a2 : FVec Ideal S2048 .f32) (a3 : FVec Ideal S2048x11008 .f32) (a4 : FVec Ideal S3x11008 .f32) (b : Fin 8) (r : Fin 258) (n : Fin 11008) :
    v45 a0 a1 a2 a3 a4 (ix3 b r n) = if h : 1 ≤ r.val ∧ r.val < 257 then v44 a0 a1 a2 a3 a4 (ix3 b ⟨r.val - 1, by omega⟩ n) else 0 := by
  pointwise [v45, call0_v0, c]
  by_cases h : 1 ≤ r.val ∧ r.val < 257
  · rw [dif_pos h, dif_pos (show 1 ≤ r.val ∧ r.val - 1 < 256 by omega)]
  · rw [dif_neg h, dif_neg (show ¬ (1 ≤ r.val ∧ r.val - 1 < 256) by omega), zero_word]

theorem conv_ctx (a0 : FVec Ideal S8x2304x2048 .f32) (a1 : FVec Ideal S8x4x2048 .f32) (a2 : FVec Ideal S2048 .f32) (a3 : FVec Ideal S2048x11008 .f32) (a4 : FVec Ideal S3x11008 .f32) (b : Fin 8) (r : Fin 256) (n : Fin 11008) :
    v65 a0 a1 a2 a3 a4 (ix3 b r n) = conv (v45 a0 a1 a2 a3 a4 (ix3 b ⟨r.val, by omega⟩ n)) (v45 a0 a1 a2 a3 a4 (ix3 b ⟨1 + r.val, by omega⟩ n)) (v45 a0 a1 a2 a3 a4 (ix3 b ⟨2 + r.val, by omega⟩ n)) (a4 (ix2 0 n)) (a4 (ix2 1 n)) (a4 (ix2 2 n)) := by
  unfold conv
  pointwise [v65, v64, v63, v62, v61, v60, v59, v58, v57, v56, v55, v54, v53, v52, v51, v50, v49, v48, v47, v46]

theorem ulat (a0 : FVec Ideal S8x2304x2048 .f32) (a1 : FVec Ideal S8x4x2048 .f32) (a2 : FVec Ideal S2048 .f32) (a3 : FVec Ideal S2048x11008 .f32) (a4 : FVec Ideal S3x11008 .f32) (b : Fin 8) (r : Fin 2048) (n : Fin 11008) :
    v70 a0 a1 a2 a3 a4 (ix3 b r n) = U (fun b r k => a0 (ix3 b r k)) (fun b r k => a1 (ix3 b r k)) (fun k => a2 (ix1 k)) (fun k n => a3 (ix2 k n)) b ⟨256 + r.val, by omega⟩ n := by
  unfold U
  pointwise [v70]
  simp only [lat_val]

theorem pad_lat (a0 : FVec Ideal S8x2304x2048 .f32) (a1 : FVec Ideal S8x4x2048 .f32) (a2 : FVec Ideal S2048 .f32) (a3 : FVec Ideal S2048x11008 .f32) (a4 : FVec Ideal S3x11008 .f32) (b : Fin 8) (r : Fin 2050) (n : Fin 11008) :
    v71 a0 a1 a2 a3 a4 (ix3 b r n) = if h : 1 ≤ r.val ∧ r.val < 2049 then v70 a0 a1 a2 a3 a4 (ix3 b ⟨r.val - 1, by omega⟩ n) else 0 := by
  pointwise [v71, call2_v0, c_7]
  by_cases h : 1 ≤ r.val ∧ r.val < 2049
  · rw [dif_pos h, dif_pos (show 1 ≤ r.val ∧ r.val - 1 < 2048 by omega)]
  · rw [dif_neg h, dif_neg (show ¬ (1 ≤ r.val ∧ r.val - 1 < 2048) by omega), zero_word]

theorem conv_lat (a0 : FVec Ideal S8x2304x2048 .f32) (a1 : FVec Ideal S8x4x2048 .f32) (a2 : FVec Ideal S2048 .f32) (a3 : FVec Ideal S2048x11008 .f32) (a4 : FVec Ideal S3x11008 .f32) (b : Fin 8) (r : Fin 2048) (n : Fin 11008) :
    v91 a0 a1 a2 a3 a4 (ix3 b r n) = conv (v71 a0 a1 a2 a3 a4 (ix3 b ⟨r.val, by omega⟩ n)) (v71 a0 a1 a2 a3 a4 (ix3 b ⟨1 + r.val, by omega⟩ n)) (v71 a0 a1 a2 a3 a4 (ix3 b ⟨2 + r.val, by omega⟩ n)) (a4 (ix2 0 n)) (a4 (ix2 1 n)) (a4 (ix2 2 n)) := by
  unfold conv
  pointwise [v91, v90, v89, v88, v87, v86, v85, v84, v83, v82, v81, v80, v79, v78, v77, v76, v75, v74, v73, v72]

theorem act_ctx (a0 : FVec Ideal S8x2304x2048 .f32) (a1 : FVec Ideal S8x4x2048 .f32) (a2 : FVec Ideal S2048 .f32) (a3 : FVec Ideal S2048x11008 .f32) (a4 : FVec Ideal S3x11008 .f32) (b : Fin 8) (r : Fin 256) (n : Fin 5504) :
    v69 a0 a1 a2 a3 a4 (ix3 b r n) = act (v65 a0 a1 a2 a3 a4 (ix3 b r ⟨n.val, by omega⟩)) (v65 a0 a1 a2 a3 a4 (ix3 b r ⟨5504 + n.val, by omega⟩)) := by
  unfold act
  pointwise [v69, v68, call1_v5, call1_v4, call1_cst_0, call1_v3, call1_v2, call1_cst, call1_v1, call1_v0, v67, v66]
  rw [logistic_eq]

theorem act_lat (a0 : FVec Ideal S8x2304x2048 .f32) (a1 : FVec Ideal S8x4x2048 .f32) (a2 : FVec Ideal S2048 .f32) (a3 : FVec Ideal S2048x11008 .f32) (a4 : FVec Ideal S3x11008 .f32) (b : Fin 8) (r : Fin 2048) (n : Fin 5504) :
    v95 a0 a1 a2 a3 a4 (ix3 b r n) = act (v91 a0 a1 a2 a3 a4 (ix3 b r ⟨n.val, by omega⟩)) (v91 a0 a1 a2 a3 a4 (ix3 b r ⟨5504 + n.val, by omega⟩)) := by
  unfold act
  pointwise [v95, v94, call3_v5, call3_v4, call3_cst_0, call3_v3, call3_v2, call3_cst, call3_v1, call3_v0, v93, v92]
  rw [logistic_eq]

theorem all_val (a0 : FVec Ideal S8x2304x2048 .f32) (a1 : FVec Ideal S8x4x2048 .f32) (a2 : FVec Ideal S2048 .f32) (a3 : FVec Ideal S2048x11008 .f32) (a4 : FVec Ideal S3x11008 .f32) (b : Fin 8) (r : Fin 2304) (n : Fin 5632) :
    v98 a0 a1 a2 a3 a4 (ix3 b r n) = if h : n.val < 5504 then (if h' : r.val < 256 then v69 a0 a1 a2 a3 a4 (ix3 b ⟨r.val, h'⟩ ⟨n.val, h⟩) else v95 a0 a1 a2 a3 a4 (ix3 b ⟨r.val - 256, by omega⟩ ⟨n.val, h⟩)) else 0 := by
  pointwise [v98, v97, v96, call4_v0, c_8]
  rw [zero_word]

theorem taps_ctx (a0 : FVec Ideal S8x2304x2048 .f32) (a1 : FVec Ideal S8x4x2048 .f32) (a2 : FVec Ideal S2048 .f32) (a3 : FVec Ideal S2048x11008 .f32) (a4 : FVec Ideal S3x11008 .f32) (b : Fin 8) (r : Fin 256) (n : Fin 11008) :
    v65 a0 a1 a2 a3 a4 (ix3 b r n) = taps (fun r => U (fun b r k => a0 (ix3 b r k)) (fun b r k => a1 (ix3 b r k)) (fun k => a2 (ix1 k)) (fun k n => a3 (ix2 k n)) b r n) (fun j => a4 (ix2 j n)) ⟨r.val, by omega⟩ := by
  rw [conv_ctx, pad_ctx, pad_ctx, pad_ctx]
  simp only [uctx]
  unfold taps
  have hr := r.isLt
  refine Cert.KernelFfnIdeal.Value.conv_congr ?_ ?_ ?_ rfl rfl rfl
  · by_cases h : r.val = 0
    · rw [dif_neg (by first | omega | (simp; omega)), dif_pos (by first | omega | (simp; omega))]
    · rw [dif_pos (by first | omega | (simp; omega)), dif_neg (by first | omega | (simp; omega))]
  · rw [dif_pos (by first | omega | (simp; omega))]
    exact congrArg (fun r => U (fun b r k => a0 (ix3 b r k)) (fun b r k => a1 (ix3 b r k)) (fun k => a2 (ix1 k)) (fun k n => a3 (ix2 k n)) b r n) (Fin.ext (by simp))
  · by_cases h : r.val = 255
    · rw [dif_neg (by first | omega | (simp; omega)), dif_pos (by first | omega | (simp; omega))]
    · rw [dif_pos (by first | omega | (simp; omega)), dif_neg (by first | omega | (simp; omega))]
      exact congrArg (fun r => U (fun b r k => a0 (ix3 b r k)) (fun b r k => a1 (ix3 b r k)) (fun k => a2 (ix1 k)) (fun k n => a3 (ix2 k n)) b r n) (Fin.ext (by simp; omega))

theorem taps_lat (a0 : FVec Ideal S8x2304x2048 .f32) (a1 : FVec Ideal S8x4x2048 .f32) (a2 : FVec Ideal S2048 .f32) (a3 : FVec Ideal S2048x11008 .f32) (a4 : FVec Ideal S3x11008 .f32) (b : Fin 8) (r : Fin 2048) (n : Fin 11008) :
    v91 a0 a1 a2 a3 a4 (ix3 b r n) = taps (fun r => U (fun b r k => a0 (ix3 b r k)) (fun b r k => a1 (ix3 b r k)) (fun k => a2 (ix1 k)) (fun k n => a3 (ix2 k n)) b r n) (fun j => a4 (ix2 j n)) ⟨256 + r.val, by omega⟩ := by
  rw [conv_lat, pad_lat, pad_lat, pad_lat]
  simp only [ulat]
  unfold taps
  have hr := r.isLt
  refine Cert.KernelFfnIdeal.Value.conv_congr ?_ ?_ ?_ rfl rfl rfl
  · by_cases h : r.val = 0
    · rw [dif_neg (by first | omega | (simp; omega)), dif_pos (by first | omega | (simp; omega))]
    · rw [dif_pos (by first | omega | (simp; omega)), dif_neg (by first | omega | (simp; omega))]
      exact congrArg (fun r => U (fun b r k => a0 (ix3 b r k)) (fun b r k => a1 (ix3 b r k)) (fun k => a2 (ix1 k)) (fun k n => a3 (ix2 k n)) b r n) (Fin.ext (by simp; omega))
  · rw [dif_pos (by first | omega | (simp; omega))]
    exact congrArg (fun r => U (fun b r k => a0 (ix3 b r k)) (fun b r k => a1 (ix3 b r k)) (fun k => a2 (ix1 k)) (fun k n => a3 (ix2 k n)) b r n) (Fin.ext (by simp))
  · by_cases h : r.val = 2047
    · rw [dif_neg (by first | omega | (simp; omega)), dif_pos (by first | omega | (simp; omega))]
    · rw [dif_pos (by first | omega | (simp; omega)), dif_neg (by first | omega | (simp; omega))]
      exact congrArg (fun r => U (fun b r k => a0 (ix3 b r k)) (fun b r k => a1 (ix3 b r k)) (fun k => a2 (ix1 k)) (fun k n => a3 (ix2 k n)) b r n) (Fin.ext (by simp; omega))

/-- An entry of the reference's result. -/
theorem ref_val (a0 : FVec Ideal S8x2304x2048 .f32) (a1 : FVec Ideal S8x4x2048 .f32) (a2 : FVec Ideal S2048 .f32) (a3 : FVec Ideal S2048x11008 .f32) (a4 : FVec Ideal S3x11008 .f32) (b : Fin 8) (r : Fin 2304) (n : Fin 5632) :
    v98 a0 a1 a2 a3 a4 (ix3 b r n) = if h : n.val < 5504 then
      act (taps (fun r => U (fun b r k => a0 (ix3 b r k)) (fun b r k => a1 (ix3 b r k)) (fun k => a2 (ix1 k)) (fun k n => a3 (ix2 k n)) b r ⟨n.val, by omega⟩) (fun j => a4 (ix2 j ⟨n.val, by omega⟩)) r)
        (taps (fun r => U (fun b r k => a0 (ix3 b r k)) (fun b r k => a1 (ix3 b r k)) (fun k => a2 (ix1 k)) (fun k n => a3 (ix2 k n)) b r ⟨5504 + n.val, by omega⟩) (fun j => a4 (ix2 j ⟨5504 + n.val, by omega⟩)) r)
      else 0 := by
  rw [all_val]
  by_cases h : n.val < 5504
  · rw [dif_pos h, dif_pos h]
    by_cases h' : r.val < 256
    · rw [dif_pos h', act_ctx, taps_ctx, taps_ctx]
    · rw [dif_neg h', act_lat, taps_lat, taps_lat]
      have e : ∀ h', (⟨256 + (r.val - 256), h'⟩ : Fin 2304) = r := fun h' => Fin.ext (by simp; omega)
      simp only [e]
  · rw [dif_neg h, dif_neg h]

end Cert.ReferenceFfnIdeal.Val

end
-- ==== Proof.ValFfn.lean ====
module

public import proofs.«01_k».proof.Proof.BodyFfn
public import proofs.«01_k».proof.Proof.CaseFfn
public import proofs.«01_k».proof.Proof.RvalFfn
public import Idealize.ShloMosaic.Lib.VecWindow
public import proofs.«01_k».proof.Proof.Rows
public import Idealize.ShloMosaic.Lib.WholeRead
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelFfnIdeal.Value

open Cert.KernelFfnIdeal Cert.KernelFfnIdeal.Gen Cert.KernelFfnIdeal.Body

variable (m : (ℓ : Loc nD τ sig) → Buf (Elt Ideal) ℓ)

theorem idx_val : ∀ t : Fin cfg0.N, win0_0.index t = ![t.val / 33, t.val / 11 % 3, 0]
    ∧ win0_1.index t = ![t.val / 33, t.val / 11 % 3 * 48 - 1, 0]
    ∧ win0_2.index t = ![t.val / 33, min ((t.val / 11 % 3 + 1) * 48) 143, 0]
    ∧ win0_3.index t = ![t.val / 33, 0, 0]
    ∧ win0_4.index t = ![0, 0]
    ∧ win0_5.index t = ![0, t.val % 11]
    ∧ win0_6.index t = ![0, 11 + t.val % 11]
    ∧ win0_7.index t = ![0, t.val % 11]
    ∧ win0_8.index t = ![0, 11 + t.val % 11]
    ∧ win0_9.index t = ![t.val / 33, t.val / 11 % 3, t.val % 11] :=
  (by decide +kernel : ∀ t : Fin grid0.N, _)

theorem coord : ∀ t : Fin cfg0.N, (grid0.coords t 1).val = t.val / 11 % 3 :=
  (by decide +kernel : ∀ t : Fin grid0.N, _)

theorem edge_iff : ∀ t : Fin cfg0.N, Edge (grid0.coords t) ↔ t.val / 11 % 3 = 0 :=
  (by decide +kernel : ∀ t : Fin grid0.N, _)

/-- The batch a grid point works on. -/
def batch (t : Fin cfg0.N) : Fin 8 := ⟨t.val / 33, by
  have := t.isLt
  have e : cfg0.N = 264 := by decide
  omega⟩

set_option maxHeartbeats 1000000 in
theorem four_w (A B : FVec Ideal S2048x5504 .bf16) (Z : FVec Ideal S2048x128 .bf16) (k : Fin 2048) (n : Fin 11264) :
    concatenate S2048x11264 1 [⟨S2048x5504, A⟩, ⟨S2048x128, Z⟩, ⟨S2048x5504, B⟩, ⟨S2048x128, Z⟩] concatenates_S2048x5504_S2048x128_S2048x5504_S2048x128_S2048x11264_d1 (ix2 k n) = if h : n.val < 5504 then A (ix2 k ⟨n.val, h⟩) else if h : n.val - 5504 < 128 then Z (ix2 k ⟨n.val - 5504, h⟩)
      else if h : n.val - 5504 - 128 < 5504 then B (ix2 k ⟨n.val - 5504 - 128, h⟩) else Z (ix2 k ⟨n.val - 5504 - 128 - 5504, by omega⟩) := by
  pointwise []

set_option maxHeartbeats 400000 in
theorem V_w (c : Dev nD) : V m c main_v5 = (concatenate S2048x11264 1 [⟨S2048x5504, (V m c main_v2 : FVec Ideal S2048x5504 .bf16)⟩, ⟨S2048x128, (V m c main_v0 : FVec Ideal S2048x128 .bf16)⟩, ⟨S2048x5504, (V m c main_v4 : FVec Ideal S2048x5504 .bf16)⟩, ⟨S2048x128, (V m c main_v0 : FVec Ideal S2048x128 .bf16)⟩] concatenates_S2048x5504_S2048x128_S2048x5504_S2048x128_S2048x11264_d1 : FVec Ideal S2048x11264 .bf16) := rfl

theorem gate_w (c : Dev nD) (k : Fin 2048) (n : Fin 5504) : V m c main_v2 (ix2 k n) = m ((c : Thread nD τ).loc main_arg3) (ix2 k ⟨n.val, by omega⟩) := by
  entry_read
  pointwise []

theorem val_w (c : Dev nD) (k : Fin 2048) (n : Fin 5504) : V m c main_v4 (ix2 k n) = m ((c : Thread nD τ).loc main_arg3) (ix2 k ⟨5504 + n.val, by omega⟩) := by
  entry_read
  pointwise []

theorem zero_w (c : Dev nD) (k : Fin 2048) (n : Fin 128) : V m c main_v0 (ix2 k n) = (0 : EReal) := by
  entry_read
  pointwise []

/-- A column of the padded array: the first half, zeros, the second half, zeros. -/
def col_w (c : Dev nD) (k : Fin 2048) (n : ℕ) : EReal :=
  if h : n < 5504 then m ((c : Thread nD τ).loc main_arg3) (ix2 k ⟨n, by omega⟩)
  else if h : 5632 ≤ n ∧ n < 11136 then m ((c : Thread nD τ).loc main_arg3) (ix2 k ⟨n - 128, by omega⟩) else 0

theorem entry_w (c : Dev nD) (k : Fin 2048) (n : Fin 11264) : V m c main_v5 (ix2 k n) = col_w m c k n.val := by
  refine (congrFun (V_w m c) _).trans ((four_w _ _ _ k n).trans ?_)
  unfold col_w
  by_cases h1 : n.val < 5504
  · rw [dif_pos h1, dif_pos h1]; exact gate_w m c k _
  · rw [dif_neg h1, dif_neg h1]
    by_cases h2 : n.val - 5504 < 128
    · rw [dif_pos h2, dif_neg (by omega)]; exact zero_w m c k _
    · rw [dif_neg h2]
      by_cases h3 : n.val - 5504 - 128 < 5504
      · rw [dif_pos h3, dif_pos (by omega)]
        refine (val_w m c k _).trans (congrArg (fun n => m ((c : Thread nD τ).loc main_arg3) (ix2 k n)) (Fin.ext ?_))
        simp; omega
      · rw [dif_neg h3, dif_neg (by omega)]; exact zero_w m c k _

set_option maxHeartbeats 1000000 in
theorem four_t (A B : FVec Ideal S3x5504 .f32) (Z : FVec Ideal S3x128 .f32) (k : Fin 3) (n : Fin 11264) :
    concatenate S3x11264 1 [⟨S3x5504, A⟩, ⟨S3x128, Z⟩, ⟨S3x5504, B⟩, ⟨S3x128, Z⟩] concatenates_S3x5504_S3x128_S3x5504_S3x128_S3x11264_d1 (ix2 k n) = if h : n.val < 5504 then A (ix2 k ⟨n.val, h⟩) else if h : n.val - 5504 < 128 then Z (ix2 k ⟨n.val - 5504, h⟩)
      else if h : n.val - 5504 - 128 < 5504 then B (ix2 k ⟨n.val - 5504 - 128, h⟩) else Z (ix2 k ⟨n.val - 5504 - 128 - 5504, by omega⟩) := by
  pointwise []

set_option maxHeartbeats 400000 in
theorem V_t (c : Dev nD) : V m c main_v9 = (concatenate S3x11264 1 [⟨S3x5504, (V m c main_v7 : FVec Ideal S3x5504 .f32)⟩, ⟨S3x128, (V m c main_v6 : FVec Ideal S3x128 .f32)⟩, ⟨S3x5504, (V m c main_v8 : FVec Ideal S3x5504 .f32)⟩, ⟨S3x128, (V m c main_v6 : FVec Ideal S3x128 .f32)⟩] concatenates_S3x5504_S3x128_S3x5504_S3x128_S3x11264_d1 : FVec Ideal S3x11264 .f32) := rfl

theorem gate_t (c : Dev nD) (k : Fin 3) (n : Fin 5504) : V m c main_v7 (ix2 k n) = m ((c : Thread nD τ).loc main_arg4) (ix2 k ⟨n.val, by omega⟩) := by
  entry_read
  pointwise []

theorem val_t (c : Dev nD) (k : Fin 3) (n : Fin 5504) : V m c main_v8 (ix2 k n) = m ((c : Thread nD τ).loc main_arg4) (ix2 k ⟨5504 + n.val, by omega⟩) := by
  entry_read
  pointwise []

theorem zero_t (c : Dev nD) (k : Fin 3) (n : Fin 128) : V m c main_v6 (ix2 k n) = (0 : EReal) := by
  entry_read
  pointwise []

/-- A column of the padded array: the first half, zeros, the second half, zeros. -/
def col_t (c : Dev nD) (k : Fin 3) (n : ℕ) : EReal :=
  if h : n < 5504 then m ((c : Thread nD τ).loc main_arg4) (ix2 k ⟨n, by omega⟩)
  else if h : 5632 ≤ n ∧ n < 11136 then m ((c : Thread nD τ).loc main_arg4) (ix2 k ⟨n - 128, by omega⟩) else 0

theorem entry_t (c : Dev nD) (k : Fin 3) (n : Fin 11264) : V m c main_v9 (ix2 k n) = col_t m c k n.val := by
  refine (congrFun (V_t m c) _).trans ((four_t _ _ _ k n).trans ?_)
  unfold col_t
  by_cases h1 : n.val < 5504
  · rw [dif_pos h1, dif_pos h1]; exact gate_t m c k _
  · rw [dif_neg h1, dif_neg h1]
    by_cases h2 : n.val - 5504 < 128
    · rw [dif_pos h2, dif_neg (by omega)]; exact zero_t m c k _
    · rw [dif_neg h2]
      by_cases h3 : n.val - 5504 - 128 < 5504
      · rw [dif_pos h3, dif_pos (by omega)]
        refine (val_t m c k _).trans (congrArg (fun n => m ((c : Thread nD τ).loc main_arg4) (ix2 k n)) (Fin.ext ?_))
        simp; omega
      · rw [dif_neg h3, dif_neg (by omega)]; exact zero_t m c k _

theorem entry_n (c : Dev nD) (k : Fin 2048) :
    V m c main_v10 (ix2 0 k) = m ((c : Thread nD τ).loc main_arg2) (ix1 k) := by
  entry_read
  pointwise []

/-- The rows of a point's tile, from the blocks it reads. -/
def tile (c : Dev nD) (t : Fin cfg0.N) : Vec Ideal S800x2048 .bf16 :=
  tileOf (grid0.coords t 1).val (iblk m c 0 t) (iblk m c 1 t) (iblk m c 2 t) (iblk m c 3 t) (iblk m c 4 t)

/-- What a point stores. -/
def blk (c : Dev nD) (t : Fin cfg0.N) : Vec Ideal S1x768x512 .bf16 :=
  if Edge (grid0.coords t) then edged (k0_pay20 (tile m c t) (iblk m c 5 t)) (k0_pay21 (tile m c t) (iblk m c 6 t)) (iblk m c 7 t) (iblk m c 8 t)
  else plain (k0_pay20 (tile m c t) (iblk m c 5 t)) (k0_pay21 (tile m c t) (iblk m c 6 t)) (iblk m c 7 t) (iblk m c 8 t)

/-- The normed rows with zeros outside the array; row `q` here is row `q - 16` of the array. -/
def HH (c : Dev nD) (b : Fin 8) (q : ℕ) (k : Fin 2048) : EReal :=
  if h : 16 ≤ q ∧ q < 2320 then Rows.H (fun b r k => m ((c : Thread nD τ).loc main_arg0) (ix3 b r k)) (fun b r k => m ((c : Thread nD τ).loc main_arg1) (ix3 b r k)) (fun k => m ((c : Thread nD τ).loc main_arg2) (ix1 k)) b ⟨q - 16, by omega⟩ k else 0

theorem tile_val (c : Dev nD) (t : Fin cfg0.N) (r : Fin 800) (k : Fin 2048) :
    tile m c t (ix2 r k) = HH m c (batch t) (t.val / 11 % 3 * 768 + r.val) k := by
  have ht : t.val / 11 % 3 < 3 := Nat.mod_lt _ (by norm_num)
  have x (r : Fin 768) (k : Fin 2048) : iblk m c 0 t (ix3 0 r k) = m ((c : Thread nD τ).loc main_arg0) (ix3 (batch t) ⟨t.val / 11 % 3 * 768 + r.val, by omega⟩ k) := by
    blk_point [iblk, V_main_arg0, idx_val t]
    rfl
  have x1 (r : Fin 16) (k : Fin 2048) : iblk m c 1 t (ix3 0 r k) = m ((c : Thread nD τ).loc main_arg0) (ix3 (batch t) ⟨(t.val / 11 % 3 * 48 - 1) * 16 + r.val, by omega⟩ k) := by
    blk_point [iblk, V_main_arg0, idx_val t]
    rfl
  have x2 (r : Fin 16) (k : Fin 2048) : iblk m c 2 t (ix3 0 r k) = m ((c : Thread nD τ).loc main_arg0) (ix3 (batch t) ⟨min ((t.val / 11 % 3 + 1) * 48) 143 * 16 + r.val, by omega⟩ k) := by
    blk_point [iblk, V_main_arg0, idx_val t]
    rfl
  have w (k : Fin 2048) : iblk m c 4 t (ix2 0 k) = m ((c : Thread nD τ).loc main_arg2) (ix1 k) := by
    refine Eq.trans ?_ (entry_n m c _)
    blk_point [iblk, idx_val t]
  have mv (n : Fin 4) (k : Fin 2048) : iblk m c 3 t (ix3 0 n k) = m ((c : Thread nD τ).loc main_arg1) (ix3 (batch t) n k) := by
    blk_point [iblk, V_main_arg1, idx_val t]
    rfl
  unfold tile tileOf rows HH
  rw [coord t]
  pointwise []
  simp only [x, x1, x2, w, mv]
  have hi (q : ℕ) (h : q < 2304) (h' : 256 ≤ q) : Rows.H (fun b r k => m ((c : Thread nD τ).loc main_arg0) (ix3 b r k)) (fun b r k => m ((c : Thread nD τ).loc main_arg1) (ix3 b r k)) (fun k => m ((c : Thread nD τ).loc main_arg2) (ix1 k)) (batch t) ⟨q, h⟩ k = Rows.out (fun k => m ((c : Thread nD τ).loc main_arg0) (ix3 (batch t) ⟨q, h⟩ k)) (m ((c : Thread nD τ).loc main_arg0) (ix3 (batch t) ⟨q, h⟩ k)) (m ((c : Thread nD τ).loc main_arg2) (ix1 k)) (m ((c : Thread nD τ).loc main_arg1) (ix3 (batch t) 1 k)) (m ((c : Thread nD τ).loc main_arg1) (ix3 (batch t) 0 k)) :=
    Rows.H_hi _ _ _ _ _ _ (by simp; omega)
  have lo (q : ℕ) (h : q < 2304) (h' : q < 256) : Rows.H (fun b r k => m ((c : Thread nD τ).loc main_arg0) (ix3 b r k)) (fun b r k => m ((c : Thread nD τ).loc main_arg1) (ix3 b r k)) (fun k => m ((c : Thread nD τ).loc main_arg2) (ix1 k)) (batch t) ⟨q, h⟩ k = Rows.out (fun k => m ((c : Thread nD τ).loc main_arg0) (ix3 (batch t) ⟨q, h⟩ k)) (m ((c : Thread nD τ).loc main_arg0) (ix3 (batch t) ⟨q, h⟩ k)) (m ((c : Thread nD τ).loc main_arg2) (ix1 k)) (m ((c : Thread nD τ).loc main_arg1) (ix3 (batch t) 3 k)) (m ((c : Thread nD τ).loc main_arg1) (ix3 (batch t) 2 k)) :=
    Rows.H_lo _ _ _ _ _ _ h'
  have hr := r.isLt
  by_cases h1 : r.val < 16
  · rw [dif_pos h1]
    by_cases h2 : t.val / 11 % 3 = 0
    · rw [if_pos h2, dif_neg (by omega)]
    · rw [if_neg h2, dif_pos (by omega), hi _ _ (by omega)]
      simp only [show (t.val / 11 % 3 * 48 - 1) * 16 + r.val = t.val / 11 % 3 * 768 + r.val - 16 by omega]
  · rw [dif_neg h1]
    by_cases h2 : r.val < 784
    · rw [dif_pos h2, dif_pos (by omega)]
      by_cases h3 : t.val / 11 % 3 * 768 + (r.val - 16) < 256
      · rw [if_pos h3, lo _ _ (by omega)]
        simp only [show t.val / 11 % 3 * 768 + (r.val - 16) = t.val / 11 % 3 * 768 + r.val - 16 by omega]
      · rw [if_neg h3, hi _ _ (by omega)]
        simp only [show t.val / 11 % 3 * 768 + (r.val - 16) = t.val / 11 % 3 * 768 + r.val - 16 by omega]
    · rw [dif_neg h2]
      by_cases h3 : t.val / 11 % 3 = 2
      · rw [if_pos h3, dif_neg (by omega)]
      · rw [if_neg h3, dif_pos (by omega), hi _ _ (by omega)]
        simp only [show min ((t.val / 11 % 3 + 1) * 48) 143 * 16 + (r.val - 784) = t.val / 11 % 3 * 768 + r.val - 16 by omega]

/-- The tile's rows are the same at every point of the tile. -/
theorem keep (c : Dev nD) (t : Fin cfg0.N) (h : t.val % 11 ≠ 0) : tile m c ⟨t.val - 1, by omega⟩ = tile m c t := by
  funext y
  obtain ⟨r, k, rfl⟩ : ∃ (r : Fin 800) (k : Fin 2048), y = ix2 r k := ⟨y 0, y 1, by funext d; fin_cases d <;> rfl⟩
  rw [tile_val, tile_val]
  have e1 : batch ⟨t.val - 1, by omega⟩ = batch t := Fin.ext (by simp only [batch]; omega)
  have e2 : (t.val - 1) / 11 % 3 = t.val / 11 % 3 := by omega
  simp only [e1, e2]

theorem holds : Holds m (tile m) (blk m) where
  outA c t h0 h1 s f := by rw [runA_out]; exact (if_pos h1).symm
  rowsA c t h0 h1 s := by rw [runA_rows, rows_read]; rfl
  outC c t h0 h1 s f := by rw [runC_out]; exact (if_neg h1).symm
  rowsC c t h0 h1 s := by rw [runC_rows, rows_read]; rfl
  outB c t h0 h1 f := by rw [runB_out]; exact (if_pos h1).symm
  outD c t h0 h1 f := by rw [runD_out]; exact (if_neg h1).symm
  keep c t h := keep m c t h

end Cert.KernelFfnIdeal.Value

end
-- ==== Proof.FinFfn.lean ====
module

public import proofs.«01_k».proof.Proof.ValFfn

@[expose] public section

set_option maxRecDepth 16384

noncomputable section

open Idealize.ShloMosaic Idealize.ShloMosaic.TcCoe Idealize.SL.Sem
open Idealize.ShloMosaic.Pipeline (Dat)

/-! The array the up projection ends with is the reference's. -/
namespace Cert.KernelFfnIdeal.Value

open Cert.KernelFfnIdeal Cert.KernelFfnIdeal.Gen Cert.KernelFfnIdeal.Body
open Cert.ReferenceFfnIdeal.Val (U taps ref_val)

/-- Rows `q` of a column: row `q - 16` of the array, and zero outside it. -/
def ext (u : Fin 2304 → EReal) (q : ℕ) : EReal := if h : 16 ≤ q ∧ q < 2320 then u ⟨q - 16, by omega⟩ else 0

section
variable (G : Vec Ideal S800x512 .f32) (C : Vec Ideal S3x512 .f32) (u : Fin 2304 → EReal) (w : Fin 3 → EReal) (s : ℕ) (hs : s < 3) (r : Fin 768) (n : Fin 512)

/-- Away from the first tile no tap crosses row 256. -/
theorem half_taps (h0 : s ≠ 0) (hG : ∀ k : Fin 800, G (ix2 k n) = ext u (s * 768 + k.val)) (hC : ∀ j, C (ix2 j n) = w j) :
    half G C r n = taps u w ⟨s * 768 + r.val, by omega⟩ := by
  have hr := r.isLt
  unfold half taps
  refine conv_congr ?_ ?_ ?_ (hC 0) (hC 1) (hC 2)
  · rw [hG, dif_neg (by simp only []; omega)]
    unfold ext
    rw [dif_pos (by simp only []; omega)]
    exact congrArg u (Fin.ext (by simp only []; omega))
  · rw [hG]
    unfold ext
    rw [dif_pos (by simp only []; omega)]
    exact congrArg u (Fin.ext (by simp only []; omega))
  · rw [hG]
    unfold ext
    by_cases h : s * 768 + r.val = 2303
    · rw [dif_neg (by simp only []; omega), dif_pos (by simp only []; omega)]
    · rw [dif_pos (by simp only []; omega), dif_neg (by simp only []; omega)]
      exact congrArg u (Fin.ext (by simp only []; omega))

/-- In the first tile the taps across row 256 are masked. -/
theorem halfE_taps (h0 : s = 0) (hG : ∀ k : Fin 800, G (ix2 k n) = ext u (s * 768 + k.val)) (hC : ∀ j, C (ix2 j n) = w j) :
    halfE G C r n = taps u w ⟨s * 768 + r.val, by omega⟩ := by
  have hr := r.isLt
  unfold halfE taps
  refine conv_congr ?_ ?_ ?_ (hC 0) (hC 1) (hC 2)
  · by_cases h : r.val = 256
    · rw [if_pos h, dif_pos (by simp only []; omega)]
    · rw [if_neg h, hG]
      unfold ext
      by_cases h' : r.val = 0
      · rw [dif_neg (by simp only []; omega), dif_pos (by simp only []; omega)]
      · rw [dif_pos (by simp only []; omega), dif_neg (by simp only []; omega)]
        exact congrArg u (Fin.ext (by simp only []; omega))
  · rw [hG]
    unfold ext
    rw [dif_pos (by simp only []; omega)]
    exact congrArg u (Fin.ext (by simp only []; omega))
  · by_cases h : r.val = 255
    · rw [if_pos h, dif_pos (by simp only []; omega)]
    · rw [if_neg h, hG]
      unfold ext
      rw [dif_pos (by simp only []; omega), dif_neg (by simp only []; omega)]
      exact congrArg u (Fin.ext (by simp only []; omega))

theorem conv_zero (a b c : EReal) : conv 0 0 0 a b c = 0 := by
  unfold conv
  rw [zero_mul, zero_mul, zero_mul, add_zero, add_zero]

theorem act_zero (v : EReal) : act 0 v = 0 := by
  unfold act
  rw [zero_mul, zero_mul]

theorem half_zero (hG : ∀ k : Fin 800, G (ix2 k n) = (0 : EReal)) : half G C r n = 0 := by
  unfold half
  rw [hG, hG, hG]
  exact conv_zero _ _ _

theorem halfE_zero (hG : ∀ k : Fin 800, G (ix2 k n) = (0 : EReal)) : halfE G C r n = 0 := by
  unfold halfE
  rw [hG, hG, hG, ite_self, ite_self]
  exact conv_zero _ _ _
end

theorem prod_g (S : Vec Ideal S800x2048 .bf16) (W : Vec Ideal S2048x512 .bf16) (r : Fin 800) (n : Fin 512) :
    k0_pay20 S W (ix2 r n) = ∑ k : Fin 2048, S (ix2 r k) * W (ix2 k n) := by
  pointwise [k0_pay20]

theorem prod_v (S : Vec Ideal S800x2048 .bf16) (W : Vec Ideal S2048x512 .bf16) (r : Fin 800) (n : Fin 512) :
    k0_pay21 S W (ix2 r n) = ∑ k : Fin 2048, S (ix2 r k) * W (ix2 k n) := by
  pointwise [k0_pay21]

variable (m : (ℓ : Loc nD τ sig) → Buf (Elt Ideal) ℓ)

theorem block_g (c : Dev nD) (t : Fin cfg0.N) (k : Fin 2048) (n : Fin 512) : iblk m c 5 t (ix2 k n) = col_w m c k (t.val % 11 * 512 + n.val) := by
  refine Eq.trans ?_ (entry_w m c k ⟨t.val % 11 * 512 + n.val, by omega⟩)
  blk_point [iblk, idx_val t]

theorem block_v (c : Dev nD) (t : Fin cfg0.N) (k : Fin 2048) (n : Fin 512) : iblk m c 6 t (ix2 k n) = col_w m c k ((11 + t.val % 11) * 512 + n.val) := by
  refine Eq.trans ?_ (entry_w m c k ⟨(11 + t.val % 11) * 512 + n.val, by omega⟩)
  blk_point [iblk, idx_val t]

theorem block_c (c : Dev nD) (t : Fin cfg0.N) (k : Fin 3) (n : Fin 512) : iblk m c 7 t (ix2 k n) = col_t m c k (t.val % 11 * 512 + n.val) := by
  refine Eq.trans ?_ (entry_t m c k ⟨t.val % 11 * 512 + n.val, by omega⟩)
  blk_point [iblk, idx_val t]

theorem block_d (c : Dev nD) (t : Fin cfg0.N) (k : Fin 3) (n : Fin 512) : iblk m c 8 t (ix2 k n) = col_t m c k ((11 + t.val % 11) * 512 + n.val) := by
  refine Eq.trans ?_ (entry_t m c k ⟨(11 + t.val % 11) * 512 + n.val, by omega⟩)
  blk_point [iblk, idx_val t]

/-- A column of the products, with zeros above and below the array. -/
theorem column (c : Dev nD) (b : Fin 8) (q : ℕ) (N : Fin 11008) (W : Fin 2048 → EReal) (hW : ∀ k, W k = m ((c : Thread nD τ).loc main_arg3) (ix2 k N)) :
    ∑ k : Fin 2048, HH m c b q k * W k = ext (fun r => U (fun b r k => m ((c : Thread nD τ).loc main_arg0) (ix3 b r k)) (fun b r k => m ((c : Thread nD τ).loc main_arg1) (ix3 b r k)) (fun k => m ((c : Thread nD τ).loc main_arg2) (ix1 k)) (fun k n => m ((c : Thread nD τ).loc main_arg3) (ix2 k n)) b r N) q := by
  unfold ext
  by_cases h : 16 ≤ q ∧ q < 2320
  · rw [dif_pos h]
    unfold U
    refine Finset.sum_congr rfl fun k _ => ?_
    unfold HH
    rw [dif_pos h, hW]
  · rw [dif_neg h]
    refine Finset.sum_eq_zero fun k _ => ?_
    unfold HH
    rw [dif_neg h, zero_mul]

theorem gate (c : Dev nD) (t : Fin cfg0.N) (n : Fin 512) (h : t.val % 11 * 512 + n.val < 5504) (k : Fin 800) :
    k0_pay20 (tile m c t) (iblk m c 5 t) (ix2 k n) = ext (fun r => U (fun b r k => m ((c : Thread nD τ).loc main_arg0) (ix3 b r k)) (fun b r k => m ((c : Thread nD τ).loc main_arg1) (ix3 b r k)) (fun k => m ((c : Thread nD τ).loc main_arg2) (ix1 k)) (fun k n => m ((c : Thread nD τ).loc main_arg3) (ix2 k n)) (batch t) r ⟨t.val % 11 * 512 + n.val, by omega⟩) (t.val / 11 % 3 * 768 + k.val) := by
  rw [prod_g]
  refine (Finset.sum_congr rfl fun j _ => congrArg (fun a : EReal => a * iblk m c 5 t (ix2 j n)) (tile_val m c t k j)).trans (column m c _ _ _ _ fun j => ?_)
  refine (block_g m c t j n).trans ?_
  unfold col_w
  rw [dif_pos h]

theorem gate_zero (c : Dev nD) (t : Fin cfg0.N) (n : Fin 512) (h : ¬ t.val % 11 * 512 + n.val < 5504) (k : Fin 800) :
    k0_pay20 (tile m c t) (iblk m c 5 t) (ix2 k n) = (0 : EReal) := by
  rw [prod_g]
  refine Finset.sum_eq_zero fun j _ => ?_
  have e : iblk m c 5 t (ix2 j n) = (0 : EReal) := by
    refine (block_g m c t j n).trans ?_
    unfold col_w
    rw [dif_neg h, dif_neg (by omega)]
  rw [e]
  exact mul_zero _

theorem value (c : Dev nD) (t : Fin cfg0.N) (n : Fin 512) (h : t.val % 11 * 512 + n.val < 5504) (k : Fin 800) :
    k0_pay21 (tile m c t) (iblk m c 6 t) (ix2 k n) = ext (fun r => U (fun b r k => m ((c : Thread nD τ).loc main_arg0) (ix3 b r k)) (fun b r k => m ((c : Thread nD τ).loc main_arg1) (ix3 b r k)) (fun k => m ((c : Thread nD τ).loc main_arg2) (ix1 k)) (fun k n => m ((c : Thread nD τ).loc main_arg3) (ix2 k n)) (batch t) r ⟨5504 + (t.val % 11 * 512 + n.val), by omega⟩) (t.val / 11 % 3 * 768 + k.val) := by
  rw [prod_v]
  refine (Finset.sum_congr rfl fun j _ => congrArg (fun a : EReal => a * iblk m c 6 t (ix2 j n)) (tile_val m c t k j)).trans (column m c _ _ _ _ fun j => ?_)
  refine (block_v m c t j n).trans ?_
  unfold col_w
  rw [dif_neg (by omega), dif_pos (by omega)]
  refine congrArg (fun i => m ((c : Thread nD τ).loc main_arg3) (ix2 j i)) (Fin.ext ?_)
  simp only []
  omega

theorem taps_g (c : Dev nD) (t : Fin cfg0.N) (n : Fin 512) (h : t.val % 11 * 512 + n.val < 5504) (j : Fin 3) :
    iblk m c 7 t (ix2 j n) = m ((c : Thread nD τ).loc main_arg4) (ix2 j ⟨t.val % 11 * 512 + n.val, by omega⟩) := by
  refine (block_c m c t j n).trans ?_
  unfold col_t
  rw [dif_pos h]

theorem taps_v (c : Dev nD) (t : Fin cfg0.N) (n : Fin 512) (h : t.val % 11 * 512 + n.val < 5504) (j : Fin 3) :
    iblk m c 8 t (ix2 j n) = m ((c : Thread nD τ).loc main_arg4) (ix2 j ⟨5504 + (t.val % 11 * 512 + n.val), by omega⟩) := by
  refine (block_d m c t j n).trans ?_
  unfold col_t
  rw [dif_neg (by omega), dif_pos (by omega)]
  refine congrArg (fun i => m ((c : Thread nD τ).loc main_arg4) (ix2 j i)) (Fin.ext ?_)
  simp only []
  omega

/-- What a point stores, at the rows and columns of the whole array. -/
theorem stored (c : Dev nD) (t : Fin cfg0.N) (y : S1x768x512.Idx) (r : Fin 768) (n : Fin 512) (hr : y 1 = r) (hn : y 2 = n) :
    blk m c t y = Cert.ReferenceFfnIdeal.Val.v98 (m ((c : Thread nD τ).loc main_arg0)) (m ((c : Thread nD τ).loc main_arg1)) (m ((c : Thread nD τ).loc main_arg2)) (m ((c : Thread nD τ).loc main_arg3)) (m ((c : Thread nD τ).loc main_arg4)) (ix3 (batch t) ⟨t.val / 11 % 3 * 768 + r.val, by omega⟩ ⟨t.val % 11 * 512 + n.val, by omega⟩) := by
  have ht : t.val / 11 % 3 < 3 := Nat.mod_lt _ (by norm_num)
  rw [ref_val]
  unfold blk
  by_cases h : t.val % 11 * 512 + n.val < 5504
  · rw [dif_pos h]
    by_cases h0 : t.val / 11 % 3 = 0
    · rw [if_pos ((edge_iff t).2 h0)]
      unfold edged
      rw [hr, hn]
      exact congrArg₂ act (halfE_taps _ _ _ _ _ r n h0 (gate m c t n h) (taps_g m c t n h)) (halfE_taps _ _ _ _ _ r n h0 (value m c t n h) (taps_v m c t n h))
    · rw [if_neg (fun e => h0 ((edge_iff t).1 e))]
      unfold plain
      rw [hr, hn]
      exact congrArg₂ act (half_taps _ _ _ _ _ ht r n h0 (gate m c t n h) (taps_g m c t n h)) (half_taps _ _ _ _ _ ht r n h0 (value m c t n h) (taps_v m c t n h))
  · rw [dif_neg h]
    by_cases h0 : t.val / 11 % 3 = 0
    · rw [if_pos ((edge_iff t).2 h0)]
      unfold edged
      rw [hr, hn, halfE_zero _ _ r n (gate_zero m c t n h)]
      exact act_zero _
    · rw [if_neg (fun e => h0 ((edge_iff t).1 e))]
      unfold plain
      rw [hr, hn, half_zero _ _ r n (gate_zero m c t n h)]
      exact act_zero _

theorem final (c : Dev nD) : (dat m (tile m) (blk m) c).arrAt 9 cfg0.N = Cert.ReferenceFfnIdeal.Val.v98 (m ((c : Thread nD τ).loc main_arg0)) (m ((c : Thread nD τ).loc main_arg1)) (m ((c : Thread nD τ).loc main_arg2)) (m ((c : Thread nD τ).loc main_arg3)) (m ((c : Thread nD τ).loc main_arg4)) := by
  refine (dat m (tile m) (blk m) c).arrAt_eq_of_covers 9 _ (by decide +kernel) fun t hf y => ?_
  have e : ((cfg0.win 9).blk t).view.emb y = (ix3 (batch t) ⟨t.val / 11 % 3 * 768 + (y 1).val, by have := (y 1).isLt; simp at this; omega⟩ ⟨t.val % 11 * 512 + (y 2).val, by have := (y 2).isLt; simp at this; omega⟩ : S8x2304x5632.Idx) := by
    blk_ext [idx_val t]
    rfl
  blk_simp; rw [after_9]
  exact (stored m c t y (y 1) (y 2) rfl rfl).trans (congrArg _ e.symm)

end Cert.KernelFfnIdeal.Value

end
-- ==== Proof.FrameFfn.lean ====
module

public import proofs.«01_k».proof.Proof.Gen.KernelFfn.Frame
public import proofs.«01_k».proof.Proof.Gen.KernelFfn.Loops

@[expose] public section

set_option maxRecDepth 16384

noncomputable section

namespace Cert.KernelFfn.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelFfn.Gen

/-- The word test for the first column block of a row tile, where the kernel norms its rows. -/
abbrev First (i : grid0.Coords) : Prop := k0_cond1 i = 1#1

/-- The word test for the row tile that holds the edge between context and latent rows. -/
abbrev Edge (i : grid0.Coords) : Prop :=
  (Scalar.cmpi .ne (Scalar.extui (Scalar.cmpi .eq (BitVec.ofNat 32 (i 1).val) 0#32)) 0#32) = 1#1

set_option maxHeartbeats 1000000 in
/-- The body at the first column block of the tile with the edge: it runs and hands every buffer back. -/
theorem runA (c : Dev nD) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (h0 : First i) (h1 : Edge i)
    (x0 : Vec F S1x768x2048 .f32) (x1 : Vec F S1x16x2048 .f32) (x2 : Vec F S1x16x2048 .f32) (x3 : Vec F S1x4x2048 .f32) (x4 : Vec F S1x2048 .f32) (x5 : Vec F S2048x512 .bf16) (x6 : Vec F S2048x512 .bf16) (x7 : Vec F S3x512 .f32) (x8 : Vec F S3x512 .f32) :
     ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
        ⊢ wp frame (wpE (defs₀ (F := F)) Variants.none c none) E (cc0_norm_proj_ffn i arg3 harg3 arg4 harg4 arg5 harg5 arg6 harg6 arg7 harg7 arg8 harg8 arg9 harg9 arg10 harg10 arg11 harg11 arg12 harg12 arg13 harg13 arg14 harg14 arg15 harg15) K := by
  intro E K
  simp only [cc0_norm_proj_ffn_eq_skeleton]; unfold cc0_norm_proj_ffn_skel
  simp only [k0_part7_eq_skeleton, k0_part1_eq_skeleton, k0_part2_eq_skeleton, k0_part3_eq_skeleton, k0_part8_eq_skeleton, k0_part9_eq_skeleton, k0_part10_eq_skeleton, k0_part11_eq_skeleton, k0_part12_eq_skeleton, k0_part13_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, S0⟩, ⟨%ds1, %fs1, -, S1⟩, ⟨%ds2, %fs2, -, S2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
  sl_exec (disch := first | sl_exact h0 | sl_exact h1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _, _; isplitr; swap; · iexact H9
    ipureintro; rfl
  isplitl [S0]
  · iexists _, _; isplitr; swap; · iexact S0
    ipureintro; rfl
  isplitl [S1]
  · iexists _, _; isplitr; swap; · iexact S1
    ipureintro; rfl
  iexists _, _; isplitr; swap; · iexact S2
  ipureintro; rfl

set_option maxHeartbeats 1000000 in
/-- The body at a later column block of the tile with the edge: it runs and hands every buffer back. -/
theorem runB (c : Dev nD) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (h0 : ¬First i) (h1 : Edge i)
    (x0 : Vec F S1x768x2048 .f32) (x1 : Vec F S1x16x2048 .f32) (x2 : Vec F S1x16x2048 .f32) (x3 : Vec F S1x4x2048 .f32) (x4 : Vec F S1x2048 .f32) (x5 : Vec F S2048x512 .bf16) (x6 : Vec F S2048x512 .bf16) (x7 : Vec F S3x512 .f32) (x8 : Vec F S3x512 .f32) :
     ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
        ⊢ wp frame (wpE (defs₀ (F := F)) Variants.none c none) E (cc0_norm_proj_ffn i arg3 harg3 arg4 harg4 arg5 harg5 arg6 harg6 arg7 harg7 arg8 harg8 arg9 harg9 arg10 harg10 arg11 harg11 arg12 harg12 arg13 harg13 arg14 harg14 arg15 harg15) K := by
  intro E K
  simp only [cc0_norm_proj_ffn_eq_skeleton]; unfold cc0_norm_proj_ffn_skel
  simp only [k0_part7_eq_skeleton, k0_part1_eq_skeleton, k0_part2_eq_skeleton, k0_part3_eq_skeleton, k0_part8_eq_skeleton, k0_part9_eq_skeleton, k0_part10_eq_skeleton, k0_part11_eq_skeleton, k0_part12_eq_skeleton, k0_part13_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, S0⟩, ⟨%ds1, %fs1, -, S1⟩, ⟨%ds2, %fs2, -, S2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
  sl_exec (disch := first | sl_exact h0 | sl_exact h1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _, _; isplitr; swap; · iexact H9
    ipureintro; rfl
  isplitl [S0]
  · iexists _, _; isplitr; swap; · iexact S0
    ipureintro; rfl
  isplitl [S1]
  · iexists _, _; isplitr; swap; · iexact S1
    ipureintro; rfl
  iexists _, _; isplitr; swap; · iexact S2
  ipureintro; rfl

set_option maxHeartbeats 1000000 in
/-- The body at the first column block of another tile: it runs and hands every buffer back. -/
theorem runC (c : Dev nD) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (h0 : First i) (h1 : ¬Edge i)
    (x0 : Vec F S1x768x2048 .f32) (x1 : Vec F S1x16x2048 .f32) (x2 : Vec F S1x16x2048 .f32) (x3 : Vec F S1x4x2048 .f32) (x4 : Vec F S1x2048 .f32) (x5 : Vec F S2048x512 .bf16) (x6 : Vec F S2048x512 .bf16) (x7 : Vec F S3x512 .f32) (x8 : Vec F S3x512 .f32) :
     ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
        ⊢ wp frame (wpE (defs₀ (F := F)) Variants.none c none) E (cc0_norm_proj_ffn i arg3 harg3 arg4 harg4 arg5 harg5 arg6 harg6 arg7 harg7 arg8 harg8 arg9 harg9 arg10 harg10 arg11 harg11 arg12 harg12 arg13 harg13 arg14 harg14 arg15 harg15) K := by
  intro E K
  simp only [cc0_norm_proj_ffn_eq_skeleton]; unfold cc0_norm_proj_ffn_skel
  simp only [k0_part7_eq_skeleton, k0_part1_eq_skeleton, k0_part2_eq_skeleton, k0_part3_eq_skeleton, k0_part8_eq_skeleton, k0_part9_eq_skeleton, k0_part10_eq_skeleton, k0_part11_eq_skeleton, k0_part12_eq_skeleton, k0_part13_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, S0⟩, ⟨%ds1, %fs1, -, S1⟩, ⟨%ds2, %fs2, -, S2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
  sl_exec (disch := first | sl_exact h0 | sl_exact h1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _, _; isplitr; swap; · iexact H9
    ipureintro; rfl
  isplitl [S0]
  · iexists _, _; isplitr; swap; · iexact S0
    ipureintro; rfl
  isplitl [S1]
  · iexists _, _; isplitr; swap; · iexact S1
    ipureintro; rfl
  iexists _, _; isplitr; swap; · iexact S2
  ipureintro; rfl

set_option maxHeartbeats 1000000 in
/-- The body at a later column block of another tile: it runs and hands every buffer back. -/
theorem runD (c : Dev nD) (i : grid0.Coords) (arg3 : Memref sig .tc .vmem S1x768x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x4x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S3x512 .f32) (harg10 : arg10.IsWhole) (arg11 : Memref sig .tc .vmem S3x512 .f32) (harg11 : arg11.IsWhole) (arg12 : Memref sig .tc .vmem S1x768x512 .bf16) (harg12 : arg12.IsWhole) (arg13 : Memref sig .tc .vmem S800x2048 .bf16) (harg13 : arg13.IsWhole) (arg14 : Memref sig .tc .vmem S800x512 .f32) (harg14 : arg14.IsWhole) (arg15 : Memref sig .tc .vmem S800x512 .f32) (harg15 : arg15.IsWhole) (h0 : ¬First i) (h1 : ¬Edge i)
    (x0 : Vec F S1x768x2048 .f32) (x1 : Vec F S1x16x2048 .f32) (x2 : Vec F S1x16x2048 .f32) (x3 : Vec F S1x4x2048 .f32) (x4 : Vec F S1x2048 .f32) (x5 : Vec F S2048x512 .bf16) (x6 : Vec F S2048x512 .bf16) (x7 : Vec F S3x512 .f32) (x8 : Vec F S3x512 .f32) :
     ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
        ⊢ wp frame (wpE (defs₀ (F := F)) Variants.none c none) E (cc0_norm_proj_ffn i arg3 harg3 arg4 harg4 arg5 harg5 arg6 harg6 arg7 harg7 arg8 harg8 arg9 harg9 arg10 harg10 arg11 harg11 arg12 harg12 arg13 harg13 arg14 harg14 arg15 harg15) K := by
  intro E K
  simp only [cc0_norm_proj_ffn_eq_skeleton]; unfold cc0_norm_proj_ffn_skel
  simp only [k0_part7_eq_skeleton, k0_part1_eq_skeleton, k0_part2_eq_skeleton, k0_part3_eq_skeleton, k0_part8_eq_skeleton, k0_part9_eq_skeleton, k0_part10_eq_skeleton, k0_part11_eq_skeleton, k0_part12_eq_skeleton, k0_part13_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, S0⟩, ⟨%ds1, %fs1, -, S1⟩, ⟨%ds2, %fs2, -, S2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
  sl_exec (disch := first | sl_exact h0 | sl_exact h1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _, _; isplitr; swap; · iexact H9
    ipureintro; rfl
  isplitl [S0]
  · iexists _, _; isplitr; swap; · iexact S0
    ipureintro; rfl
  isplitl [S1]
  · iexists _, _; isplitr; swap; · iexact S1
    ipureintro; rfl
  iexists _, _; isplitr; swap; · iexact S2
  ipureintro; rfl

variable (m : (ℓ : Loc nD τ sig) → Buf (Elt F) ℓ) (ρ : Dev nD → PrngReg)

/-- The first column blocks, by the number of the grid point. -/
theorem first_iff (t : Fin cfg0.N) : First (grid0.coords t) ↔ t.val % 11 = 0 := by
  have ht : t.val < 264 := Nat.lt_of_lt_of_eq t.isLt N_0
  have e1 : (grid0.coords t 1).val = t.val / 11 % 3 := Pipeline.Grid.coords_val t 1 (by decide) rfl
  have e2 : (grid0.coords t 2).val = t.val / 1 % 11 := Pipeline.Grid.coords_val t 2 (by decide) rfl
  simp only [First, k0_cond1, e1, e2]
  word_cmp

/-- The buffers between grid points: the rows normed, the two products, and the generator's register. -/
theorem rest_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What the frame forgets: the output. -/
def out9 : Fin 10 → Bool := fun w => w.val == 9

/-- The proof data of the frame: inputs keep their blocks, the output and the kernel's own buffers are not named. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
  Φ _ := Pipeline.ΦA spec0 c
  q w := Pipeline.shareOf spec0 w
  owed _ := 0

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = iblk m c 6 t := by dsimp only [dat]
theorem after_7 (c : Dev nD) (t : Fin cfg0.N) : (dat m c).after 7 t = iblk m c 7 t := by dsimp only [dat]
theorem after_8 (c : Dev nD) (t : Fin cfg0.N) : (dat m c).after 8 t = iblk m c 8 t := by dsimp only [dat]

theorem start (c : Dev nD) (w : Fin cfg0.W) : (dat m c).A w = V m c (Pipeline.arrRef spec0 w) := by dsimp only [dat]

theorem before_0 (c : Dev nD) (t : Fin cfg0.N) (d) : (dat m c).before 0 t d = iblk m c 0 t :=
  before0_0_of m (dat m c) (start m c 0) (after_0 m c) t d
theorem before_1 (c : Dev nD) (t : Fin cfg0.N) (d) : (dat m c).before 1 t d = iblk m c 1 t :=
  before0_1_of m (dat m c) (start m c 1) (after_1 m c) t d
theorem before_2 (c : Dev nD) (t : Fin cfg0.N) (d) : (dat m c).before 2 t d = iblk m c 2 t :=
  before0_2_of m (dat m c) (start m c 2) (after_2 m c) t d
theorem before_3 (c : Dev nD) (t : Fin cfg0.N) (d) : (dat m c).before 3 t d = iblk m c 3 t :=
  before0_3_of m (dat m c) (start m c 3) (after_3 m c) t d
theorem before_4 (c : Dev nD) (t : Fin cfg0.N) (d) : (dat m c).before 4 t d = iblk m c 4 t :=
  before0_4_of m (dat m c) (start m c 4) (after_4 m c) t d
theorem before_5 (c : Dev nD) (t : Fin cfg0.N) (d) : (dat m c).before 5 t d = iblk m c 5 t :=
  before0_5_of m (dat m c) (start m c 5) (after_5 m c) t d
theorem before_6 (c : Dev nD) (t : Fin cfg0.N) (d) : (dat m c).before 6 t d = iblk m c 6 t :=
  before0_6_of m (dat m c) (start m c 6) (after_6 m c) t d
theorem before_7 (c : Dev nD) (t : Fin cfg0.N) (d) : (dat m c).before 7 t d = iblk m c 7 t :=
  before0_7_of m (dat m c) (start m c 7) (after_7 m c) t d
theorem before_8 (c : Dev nD) (t : Fin cfg0.N) (d) : (dat m c).before 8 t d = iblk m c 8 t :=
  before0_8_of m (dat m c) (start m c 8) (after_8 m c) t d

set_option maxHeartbeats 4000000 in
/-- The body at any grid point. -/
theorem body_at (c : Dev nD) (t : Fin cfg0.N) :
    iprop((dat m c).Φ t.castSucc ∗ (dat m c).owesAt () t.castSucc ∗ (∃ d, owns (c : Thread nD τ) (win0_0.stage (cfg0.slots t 0)) fullShare ((dat m c).before 0 t d)) ∗ (∃ d, owns (c : Thread nD τ) (win0_1.stage (cfg0.slots t 1)) fullShare ((dat m c).before 1 t d)) ∗ (∃ d, owns (c : Thread nD τ) (win0_2.stage (cfg0.slots t 2)) fullShare ((dat m c).before 2 t d)) ∗ (∃ d, owns (c : Thread nD τ) (win0_3.stage (cfg0.slots t 3)) fullShare ((dat m c).before 3 t d)) ∗ (∃ d, owns (c : Thread nD τ) (win0_4.stage (cfg0.slots t 4)) fullShare ((dat m c).before 4 t d)) ∗ (∃ d, owns (c : Thread nD τ) (win0_5.stage (cfg0.slots t 5)) fullShare ((dat m c).before 5 t d)) ∗ (∃ d, owns (c : Thread nD τ) (win0_6.stage (cfg0.slots t 6)) fullShare ((dat m c).before 6 t d)) ∗ (∃ d, owns (c : Thread nD τ) (win0_7.stage (cfg0.slots t 7)) fullShare ((dat m c).before 7 t d)) ∗ (∃ d, owns (c : Thread nD τ) (win0_8.stage (cfg0.slots t 8)) fullShare ((dat m c).before 8 t d)) ∗ (∃ d, owns (c : Thread nD τ) (win0_9.stage (cfg0.slots t 9)) fullShare d))
      ⊢ wp frame (wpE (defs₀ (F := F)) Variants.none c none) Set.univ (bodyAt0 t) (fun _ =>
        iprop((dat m c).Φ t.succ ∗ (dat m c).owesAt () t.succ ∗ owns (c : Thread nD τ) (win0_0.stage (cfg0.slots t 0)) fullShare ((dat m c).after 0 t) ∗ owns (c : Thread nD τ) (win0_1.stage (cfg0.slots t 1)) fullShare ((dat m c).after 1 t) ∗ owns (c : Thread nD τ) (win0_2.stage (cfg0.slots t 2)) fullShare ((dat m c).after 2 t) ∗ owns (c : Thread nD τ) (win0_3.stage (cfg0.slots t 3)) fullShare ((dat m c).after 3 t) ∗ owns (c : Thread nD τ) (win0_4.stage (cfg0.slots t 4)) fullShare ((dat m c).after 4 t) ∗ owns (c : Thread nD τ) (win0_5.stage (cfg0.slots t 5)) fullShare ((dat m c).after 5 t) ∗ owns (c : Thread nD τ) (win0_6.stage (cfg0.slots t 6)) fullShare ((dat m c).after 6 t) ∗ owns (c : Thread nD τ) (win0_7.stage (cfg0.slots t 7)) fullShare ((dat m c).after 7 t) ∗ owns (c : Thread nD τ) (win0_8.stage (cfg0.slots t 8)) fullShare ((dat m c).after 8 t) ∗ (∃ d, owns (c : Thread nD τ) (win0_9.stage (cfg0.slots t 9)) fullShare d))) := by
  unfold bodyAt0
  simp only [before_0, before_1, before_2, before_3, before_4, before_5, before_6, before_7, before_8]
  rw [show (dat m c).owesAt () t.succ = (dat m c).owesAt () t.castSucc from rfl, after_0, after_1, after_2, after_3, after_4, after_5, after_6, after_7, after_8]
  rw [show (dat m c).Φ t.succ = Pipeline.ΦA spec0 c from rfl, show (dat m c).Φ t.castSucc = Pipeline.ΦA spec0 c from rfl, rest_eq]
  by_cases h0 : First (grid0.coords t) <;> by_cases h1 : Edge (grid0.coords t)
  · iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
    iapply (runA c (grid0.coords t) _ _ _ _ _ _ _ _ _ _ _ _ _ _ _ _ _ _ _ _ _ _ _ _ _ _ h0 h1 (iblk m c 0 t) (iblk m c 1 t) (iblk m c 2 t) (iblk m c 3 t) (iblk m c 4 t) (iblk m c 5 t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iintro ⟨H0, H1, H2, H3, H4, H5, H6, H7, H8, H9, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
    iapply (runC c (grid0.coords t) _ _ _ _ _ _ _ _ _ _ _ _ _ _ _ _ _ _ _ _ _ _ _ _ _ _ h0 h1 (iblk m c 0 t) (iblk m c 1 t) (iblk m c 2 t) (iblk m c 3 t) (iblk m c 4 t) (iblk m c 5 t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iintro ⟨H0, H1, H2, H3, H4, H5, H6, H7, H8, H9, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
    iapply (runB c (grid0.coords t) _ _ _ _ _ _ _ _ _ _ _ _ _ _ _ _ _ _ _ _ _ _ _ _ _ _ h0 h1 (iblk m c 0 t) (iblk m c 1 t) (iblk m c 2 t) (iblk m c 3 t) (iblk m c 4 t) (iblk m c 5 t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iintro ⟨H0, H1, H2, H3, H4, H5, H6, H7, H8, H9, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
    iapply (runD c (grid0.coords t) _ _ _ _ _ _ _ _ _ _ _ _ _ _ _ _ _ _ _ _ _ _ _ _ _ _ h0 h1 (iblk m c 0 t) (iblk m c 1 t) (iblk m c 2 t) (iblk m c 3 t) (iblk m c 4 t) (iblk m c 5 t) (iblk m c 6 t) (iblk m c 7 t) (iblk m c 8 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iintro ⟨H0, H1, H2, H3, H4, H5, H6, H7, H8, H9, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem row (t : Fin cfg0.N) :
    defs₀ (F := F) .tc cfg0.body (cfg0.bodyArgs t (cfg0.slots t)) = bodyAt0 t := by
  unfold defs₀; rw [Defs.onTc_tc]

/-- What the library asks of the body. -/
theorem obligation (c : Dev nD) : BodyObligation (dat (F := F) m c) (defs₀ (F := F)) Variants.none () Set.univ out9 := fun t => by
  rw [bigSep_W0, bigSep_W0, row]
  exact triple_restated (body_at m c t) rfl .rfl fun _ => .rfl

set_option backward.isDefEq.respectTransparency.types false in
/-- The run of the whole program, the output forgotten. -/
theorem run_all : θ_run defs (onTc (τ := τ) (main (F := F))) (s₀ m ρ) (fun r => (Pipeline.RDat.FramePost (cfgs 0) (fun c => (dat m c).toRForget out9) (V m)) r ∧ r.2.sem = fun _ => 0) :=
  Pipeline.θ_run_frame_track_forget_shared (Q' := _) cfgs (fun _ => dat m) (0 : Fin 1) launch₀0 defs₀ Variants.none out9 m ρ main
    (hbody := fun c => (obligation m c).loose) (hq := fun _ _ _ => rfl)
    (howed := fun _ _ => rfl) (V := V m) (hmain := hmain m Variants.none) (hA := start m) (hin := fun _ => .rfl) (hout := fun _ => .rfl)

/-- The frame: the arguments end as they began, and every semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r hr => ⟨fun c =>
    ⟨(Pipeline.RDat.FramePost.arr_in hr.1 c 2 rfl).trans ((start m c 2).trans (V_main_arg0 m c)),
      (Pipeline.RDat.FramePost.arr_in hr.1 c 3 rfl).trans ((start m c 3).trans (V_main_arg1 m c)),
      ((hr.1 c).2 main_arg2 (Pipeline.mem_restRefs_of main_arg2 (by decide) (by decide))).trans (V_main_arg2 m c),
      ((hr.1 c).2 main_arg3 (Pipeline.mem_restRefs_of main_arg3 (by decide) (by decide))).trans (V_main_arg3 m c),
      ((hr.1 c).2 main_arg4 (Pipeline.mem_restRefs_of main_arg4 (by decide) (by decide))).trans (V_main_arg4 m c)⟩, hr.2⟩) (run_all m ρ)

end Cert.KernelFfn.Body

end
-- ==== Proof.AlgFfn.lean ====
module

public import proofs.«01_k».proof.Defs
public import proofs.«01_k».proof.Proof.FinFfn
public import proofs.«01_k».proof.Proof.Gen.KernelFfnIdeal.Frame
public import proofs.«01_k».proof.Proof.FrameFfn
public import proofs.«01_k».proof.Proof.Gen.ReferenceFfnIdeal
public import Idealize.ShloMosaic.Lib.Claim

@[expose] public section

set_option maxRecDepth 16384

noncomputable section

open Idealize.ShloMosaic Idealize.SL.Sem

/-! The claims about the up projection of the feed-forward at the exact numbers. -/
namespace Cert.Proof

set_option maxHeartbeats 1600000 in
theorem quiescent_ReferenceFfnIdeal : Cert.quiescent_ReferenceFfnIdeal := by
  intro m g _
  refine (θ_run _ _ _).mono (fun r h => ⟨h, sem_eq_zero_of_no_sems (by decide) r.2⟩) ?_
  hlo_run

set_option maxHeartbeats 1600000 in
theorem algebraic_Ffn : Cert.algebraic_KernelFfnIdeal_ReferenceFfnIdeal := by
  pair_intro
  · run_from Cert.KernelFfnIdeal.Body.run_main m g (Cert.KernelFfnIdeal.Value.holds m)
    all_goals first | exact Cert.KernelFfnIdeal.Gen.V_main_arg0 m c | exact Cert.KernelFfnIdeal.Gen.V_main_arg1 m c | exact Cert.KernelFfnIdeal.Gen.V_main_arg2 m c | exact Cert.KernelFfnIdeal.Gen.V_main_arg3 m c | exact Cert.KernelFfnIdeal.Gen.V_main_arg4 m c
  · hlo_run
    try rw [(hagree c).2.2.2.2]
    exact (Cert.KernelFfnIdeal.Value.final m c).symm

end Cert.Proof

end
-- ==== Proof.AlgRope.lean ====
module

public import proofs.«01_k».proof.Defs
public import proofs.«01_k».proof.Proof.Gen.ReferenceRopeIdeal
public import Idealize.ShloMosaic.Lib.Claim

@[expose] public section

set_option maxRecDepth 16384

noncomputable section

open Idealize.ShloMosaic Idealize.SL.Sem

/-! The run of the reference of the projection with rotary positions. -/
namespace Cert.Proof

set_option maxHeartbeats 1600000 in
theorem quiescent_ReferenceRopeIdeal : Cert.quiescent_ReferenceRopeIdeal := by
  intro m g _
  refine (θ_run _ _ _).mono (fun r h => ⟨h, sem_eq_zero_of_no_sems (by decide) r.2⟩) ?_
  hlo_run

end Cert.Proof

end
-- ==== Proof.lean ====
/- The proof of every claim: the runs of the programs, and the value claims of the modules Alg…. -/
module

public import proofs.«01_k».proof.Defs
public import proofs.«01_k».proof.Proof.Gen.KernelFin
public import proofs.«01_k».proof.Proof.Gen.KernelFin.Skeleton
public import proofs.«01_k».proof.Proof.Gen.KernelFin.Launch
public import proofs.«01_k».proof.Proof.Gen.KernelFin.Points
public import proofs.«01_k».proof.Proof.Gen.KernelFin.Frame
public import proofs.«01_k».proof.Proof.Gen.KernelFinIdeal
public import proofs.«01_k».proof.Proof.Gen.KernelFinIdeal.Skeleton
public import proofs.«01_k».proof.Proof.Gen.KernelFinIdeal.Launch
public import proofs.«01_k».proof.Proof.Gen.KernelFinIdeal.Points
public import proofs.«01_k».proof.Proof.Gen.KernelFinIdeal.Frame
public import proofs.«01_k».proof.Proof.Gen.ReferenceFinIdeal
public import proofs.«01_k».proof.Proof.Gen.KernelOpa
public import proofs.«01_k».proof.Proof.Gen.KernelOpa.Skeleton
public import proofs.«01_k».proof.Proof.Gen.KernelOpa.Launch
public import proofs.«01_k».proof.Proof.Gen.KernelOpa.Points
public import proofs.«01_k».proof.Proof.Gen.KernelOpa.Frame
public import proofs.«01_k».proof.Proof.Gen.KernelOpaIdeal
public import proofs.«01_k».proof.Proof.Gen.KernelOpaIdeal.Skeleton
public import proofs.«01_k».proof.Proof.Gen.KernelOpaIdeal.Launch
public import proofs.«01_k».proof.Proof.Gen.KernelOpaIdeal.Points
public import proofs.«01_k».proof.Proof.Gen.KernelOpaIdeal.Frame
public import proofs.«01_k».proof.Proof.Gen.ReferenceOpaIdeal
public import proofs.«01_k».proof.Proof.Gen.KernelOpg
public import proofs.«01_k».proof.Proof.Gen.KernelOpg.Skeleton
public import proofs.«01_k».proof.Proof.Gen.KernelOpg.Launch
public import proofs.«01_k».proof.Proof.Gen.KernelOpg.Points
public import proofs.«01_k».proof.Proof.Gen.KernelOpg.Frame
public import proofs.«01_k».proof.Proof.Gen.KernelOpgIdeal
public import proofs.«01_k».proof.Proof.Gen.KernelOpgIdeal.Skeleton
public import proofs.«01_k».proof.Proof.Gen.KernelOpgIdeal.Launch
public import proofs.«01_k».proof.Proof.Gen.KernelOpgIdeal.Points
public import proofs.«01_k».proof.Proof.Gen.KernelOpgIdeal.Frame
public import proofs.«01_k».proof.Proof.Gen.ReferenceOpgIdeal
public import proofs.«01_k».proof.Proof.Gen.KernelOpf
public import proofs.«01_k».proof.Proof.Gen.KernelOpf.Skeleton
public import proofs.«01_k».proof.Proof.Gen.KernelOpf.Launch
public import proofs.«01_k».proof.Proof.Gen.KernelOpf.Points
public import proofs.«01_k».proof.Proof.Gen.KernelOpf.Frame
public import proofs.«01_k».proof.Proof.Gen.KernelOpfIdeal
public import proofs.«01_k».proof.Proof.Gen.KernelOpfIdeal.Skeleton
public import proofs.«01_k».proof.Proof.Gen.KernelOpfIdeal.Launch
public import proofs.«01_k».proof.Proof.Gen.KernelOpfIdeal.Points
public import proofs.«01_k».proof.Proof.Gen.KernelOpfIdeal.Frame
public import proofs.«01_k».proof.Proof.Gen.ReferenceOpfIdeal
public import proofs.«01_k».proof.Proof.Gen.KernelZ
public import proofs.«01_k».proof.Proof.Gen.KernelZ.Skeleton
public import proofs.«01_k».proof.Proof.Gen.KernelZ.Loops
public import proofs.«01_k».proof.Proof.Gen.KernelZ.Launch
public import proofs.«01_k».proof.Proof.Gen.KernelZ.Points
public import proofs.«01_k».proof.Proof.Gen.KernelZ.Frame
public import proofs.«01_k».proof.Proof.Gen.KernelZIdeal
public import proofs.«01_k».proof.Proof.Gen.KernelZIdeal.Skeleton
public import proofs.«01_k».proof.Proof.Gen.KernelZIdeal.Loops
public import proofs.«01_k».proof.Proof.Gen.KernelZIdeal.Launch
public import proofs.«01_k».proof.Proof.Gen.KernelZIdeal.Points
public import proofs.«01_k».proof.Proof.Gen.KernelZIdeal.Frame
public import proofs.«01_k».proof.Proof.Gen.ReferenceZIdeal
public import proofs.«01_k».proof.Proof.Gen.KernelFfn
public import proofs.«01_k».proof.Proof.Gen.KernelFfn.Skeleton
public import proofs.«01_k».proof.Proof.Gen.KernelFfn.Loops
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Loops
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.ReferenceFfnIdeal
public import proofs.«01_k».proof.Proof.Gen.KernelRope
public import proofs.«01_k».proof.Proof.Gen.KernelRope.Skeleton
public import proofs.«01_k».proof.Proof.Gen.KernelRope.Loops
public import proofs.«01_k».proof.Proof.Gen.KernelRope.Launch
public import proofs.«01_k».proof.Proof.Gen.KernelRope.Points
public import proofs.«01_k».proof.Proof.FrameRopeP
public import proofs.«01_k».proof.Proof.Gen.KernelRopeIdeal
public import proofs.«01_k».proof.Proof.Gen.KernelRopeIdeal.Skeleton
public import proofs.«01_k».proof.Proof.Gen.KernelRopeIdeal.Loops
public import proofs.«01_k».proof.Proof.Gen.KernelRopeIdeal.Launch
public import proofs.«01_k».proof.Proof.Gen.KernelRopeIdeal.Points
public import proofs.«01_k».proof.Proof.FrameRope
public import proofs.«01_k».proof.Proof.Gen.ReferenceRopeIdeal
public import proofs.«01_k».proof.Proof.AlgFin
public import proofs.«01_k».proof.Proof.AlgOpa
public import proofs.«01_k».proof.Proof.AlgOpg
public import proofs.«01_k».proof.Proof.AlgOpf
public import proofs.«01_k».proof.Proof.AlgZ
public import proofs.«01_k».proof.Proof.AlgFfn
public import proofs.«01_k».proof.Proof.AlgRope
public import Idealize.ShloMosaic.Adequacy
public import Idealize.ShloMosaic.Init

@[expose] public section

noncomputable section

namespace Cert.Proof

open Idealize.ShloMosaic Idealize.SL.Sem Cert.KernelFin

theorem claim : Cert.Claim := ⟨Cert.KernelFin.Gen.facts, Cert.KernelFinIdeal.Gen.facts, Cert.ReferenceFinIdeal.Gen.facts, Cert.KernelOpa.Gen.facts, Cert.KernelOpaIdeal.Gen.facts, Cert.ReferenceOpaIdeal.Gen.facts, Cert.KernelOpg.Gen.facts, Cert.KernelOpgIdeal.Gen.facts, Cert.ReferenceOpgIdeal.Gen.facts, Cert.KernelOpf.Gen.facts, Cert.KernelOpfIdeal.Gen.facts, Cert.ReferenceOpfIdeal.Gen.facts, Cert.KernelZ.Gen.facts, Cert.KernelZIdeal.Gen.facts, Cert.ReferenceZIdeal.Gen.facts, Cert.KernelFfn.Gen.facts, Cert.KernelFfnIdeal.Gen.facts, Cert.ReferenceFfnIdeal.Gen.facts, Cert.KernelRope.Gen.facts, Cert.KernelRopeIdeal.Gen.facts, Cert.ReferenceRopeIdeal.Gen.facts,
  fun m g _ => Cert.KernelFin.Gen.frame m g,
  fun m g _ => Cert.KernelFinIdeal.Gen.frame m g,
  quiescent_ReferenceFinIdeal,
  fun m g _ => Cert.KernelOpa.Gen.frame m g,
  fun m g _ => Cert.KernelOpaIdeal.Gen.frame m g,
  quiescent_ReferenceOpaIdeal,
  fun m g _ => Cert.KernelOpg.Gen.frame m g,
  fun m g _ => Cert.KernelOpgIdeal.Gen.frame m g,
  quiescent_ReferenceOpgIdeal,
  fun m g _ => Cert.KernelOpf.Gen.frame m g,
  fun m g _ => Cert.KernelOpfIdeal.Gen.frame m g,
  quiescent_ReferenceOpfIdeal,
  fun m g _ => Cert.KernelZ.Gen.frame m g,
  fun m g _ => Cert.KernelZIdeal.Gen.frame m g,
  quiescent_ReferenceZIdeal,
  fun m g _ => Cert.KernelFfn.Body.frame_all m g,
  fun m g _ => Cert.KernelFfnIdeal.Body.frame_all m g (Cert.KernelFfnIdeal.Value.holds m),
  quiescent_ReferenceFfnIdeal,
  fun m g _ => Cert.KernelRope.Body.frame m g,
  fun m g _ => Cert.KernelRopeIdeal.Body.frame m g,
  quiescent_ReferenceRopeIdeal,
  trivial,
  algebraic_Fin,
  trivial,
  algebraic_Opa,
  trivial,
  algebraic_Opg,
  trivial,
  algebraic_Opf,
  trivial,
  algebraic_Z,
  trivial,
  algebraic_Ffn,
  trivial⟩

end Cert.Proof

end
